-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v205_0)) (v1 : (c : Dev Cert.KernelIdeal.nD) → Buf (Elt Ideal) ((c.tc : Thread Cert.KernelIdeal.nD Cert.KernelIdeal.τ).loc Cert.KernelIdeal.main_v205_1)) (v2 : (c : Dev Cert.KernelIdeal.nD) → Buf (Elt Ideal) ((c.tc : Thread Cert.KernelIdeal.nD Cert.KernelIdeal.τ).loc Cert.KernelIdeal.main_v205_2)) (v3 : (c : Dev Cert.KernelIdeal.nD) → Buf (Elt Ideal) ((c.tc : Thread Cert.KernelIdeal.nD Cert.KernelIdeal.τ).loc Cert.KernelIdeal.main_v205_3)) (v4 : (c : Dev Cert.KernelIdeal.nD) → Buf (Elt Ideal) ((c.tc : Thread Cert.KernelIdeal.nD Cert.KernelIdeal.τ).loc Cert.KernelIdeal.main_v205_4)) (v5 : (c : Dev Cert.KernelIdeal.nD) → Buf (Elt Ideal) ((c.tc : Thread Cert.KernelIdeal.nD Cert.KernelIdeal.τ).loc Cert.KernelIdeal.main_v205_5)) (v6 : (c : Dev Cert.KernelIdeal.nD) → Buf (Elt Ideal) ((c.tc : Thread Cert.KernelIdeal.nD Cert.KernelIdeal.τ).loc Cert.KernelIdeal.main_v205_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205_0) = v0 c
          ∧ r.2.mem ((c.tc : Thread Cert.KernelIdeal.nD Cert.KernelIdeal.τ).loc Cert.KernelIdeal.main_v205_1) = v1 c
          ∧ r.2.mem ((c.tc : Thread Cert.KernelIdeal.nD Cert.KernelIdeal.τ).loc Cert.KernelIdeal.main_v205_2) = v2 c
          ∧ r.2.mem ((c.tc : Thread Cert.KernelIdeal.nD Cert.KernelIdeal.τ).loc Cert.KernelIdeal.main_v205_3) = v3 c
          ∧ r.2.mem ((c.tc : Thread Cert.KernelIdeal.nD Cert.KernelIdeal.τ).loc Cert.KernelIdeal.main_v205_4) = v4 c
          ∧ r.2.mem ((c.tc : Thread Cert.KernelIdeal.nD Cert.KernelIdeal.τ).loc Cert.KernelIdeal.main_v205_5) = v5 c
          ∧ r.2.mem ((c.tc : Thread Cert.KernelIdeal.nD Cert.KernelIdeal.τ).loc Cert.KernelIdeal.main_v205_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v251) = v1 c
          ∧ r.2.mem ((c.tc : Thread Cert.ReferenceIdeal.nD Cert.ReferenceIdeal.τ).loc Cert.ReferenceIdeal.main_v253) = v2 c
          ∧ r.2.mem ((c.tc : Thread Cert.ReferenceIdeal.nD Cert.ReferenceIdeal.τ).loc Cert.ReferenceIdeal.main_v255) = v3 c
          ∧ r.2.mem ((c.tc : Thread Cert.ReferenceIdeal.nD Cert.ReferenceIdeal.τ).loc Cert.ReferenceIdeal.main_v257) = v4 c
          ∧ r.2.mem ((c.tc : Thread Cert.ReferenceIdeal.nD Cert.ReferenceIdeal.τ).loc Cert.ReferenceIdeal.main_v258) = v5 c
          ∧ r.2.mem ((c.tc : Thread Cert.ReferenceIdeal.nD Cert.ReferenceIdeal.τ).loc Cert.ReferenceIdeal.main_v260) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v71_0)) (v1 : (c : Dev Cert.Kernel2Ideal.nD) → Buf (Elt Ideal) ((c.tc : Thread Cert.Kernel2Ideal.nD Cert.Kernel2Ideal.τ).loc Cert.Kernel2Ideal.main_v71_1)) (v2 : (c : Dev Cert.Kernel2Ideal.nD) → Buf (Elt Ideal) ((c.tc : Thread Cert.Kernel2Ideal.nD Cert.Kernel2Ideal.τ).loc Cert.Kernel2Ideal.main_v71_2)) (v3 : (c : Dev Cert.Kernel2Ideal.nD) → Buf (Elt Ideal) ((c.tc : Thread Cert.Kernel2Ideal.nD Cert.Kernel2Ideal.τ).loc Cert.Kernel2Ideal.main_v71_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v71_0) = v0 c
          ∧ r.2.mem ((c.tc : Thread Cert.Kernel2Ideal.nD Cert.Kernel2Ideal.τ).loc Cert.Kernel2Ideal.main_v71_1) = v1 c
          ∧ r.2.mem ((c.tc : Thread Cert.Kernel2Ideal.nD Cert.Kernel2Ideal.τ).loc Cert.Kernel2Ideal.main_v71_2) = v2 c
          ∧ r.2.mem ((c.tc : Thread Cert.Kernel2Ideal.nD Cert.Kernel2Ideal.τ).loc Cert.Kernel2Ideal.main_v71_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v135) = v0 c
          ∧ r.2.mem ((c.tc : Thread Cert.Reference2Ideal.nD Cert.Reference2Ideal.τ).loc Cert.Reference2Ideal.main_v136) = v1 c
          ∧ r.2.mem ((c.tc : Thread Cert.Reference2Ideal.nD Cert.Reference2Ideal.τ).loc Cert.Reference2Ideal.main_v138) = v2 c
          ∧ r.2.mem ((c.tc : Thread Cert.Reference2Ideal.nD Cert.Reference2Ideal.τ).loc Cert.Reference2Ideal.main_v140) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2x2048x8x192 : Shape := ⟨4, ![2, 2048, 8, 192]⟩
abbrev S128 : Shape := ⟨1, ![128]⟩
abbrev S64 : Shape := ⟨1, ![64]⟩
abbrev S2x2304x8x192 : Shape := ⟨4, ![2, 2304, 8, 192]⟩
abbrev S2x2304x8x128 : Shape := ⟨4, ![2, 2304, 8, 128]⟩
abbrev S2x2048x1024 : Shape := ⟨3, ![2, 2048, 1024]⟩
abbrev S_ : Shape := ⟨0, ![]⟩

class Facts : Prop where
  bcast_S_S128 : S_.BroadcastsInDim S128 (![] : Fin 0 → Fin S128.rank)
  bcast_S_S64 : S_.BroadcastsInDim S64 (![] : Fin 0 → Fin S64.rank)
  bcast_S_S2x2304x8x192 : S_.BroadcastsInDim S2x2304x8x192 (![] : Fin 0 → Fin S2x2304x8x192.rank)
  bcast_S_S2x2304x8x128 : S_.BroadcastsInDim S2x2304x8x128 (![] : Fin 0 → Fin S2x2304x8x128.rank)
  bcast_S_S2x2048x1024 : S_.BroadcastsInDim S2x2048x1024 (![] : Fin 0 → Fin S2x2048x1024.rank)

variable [Facts]

def fn {F : FTy → Type} [FloatOps F] (main_arg0 : FVec F S2x2048x8x192 .f32) (main_arg1 : FVec F S128 .f32) (main_arg2 : FVec F S64 .f32) (main_arg3 : FVec F S2x2304x8x192 .f32) (main_arg4 : FVec F S2x2304x8x128 .f32) (main_arg5 : FVec F S2x2048x1024 .f32) : IVec S128 1 × IVec S64 1 × IVec S2x2304x8x192 1 × IVec S2x2304x8x128 1 × IVec S2x2048x1024 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S2x2304x8x192 .f32 := Host.absf main_arg3
  let main_cst_1 : FVec F S_ .f32 := constant S_ .f32 0x7F800000#32
  let main_v7 : FVec F S2x2304x8x192 .f32 := broadcastInDim S2x2304x8x192 ![] bcast_S_S2x2304x8x192 main_cst_1
  let main_v8 : IVec S2x2304x8x192 1 := cmpf .olt main_v6 main_v7
  let main_v9 : FVec F S2x2304x8x128 .f32 := Host.absf main_arg4
  let main_cst_2 : FVec F S_ .f32 := constant S_ .f32 0x7F800000#32
  let main_v10 : FVec F S2x2304x8x128 .f32 := broadcastInDim S2x2304x8x128 ![] bcast_S_S2x2304x8x128 main_cst_2
  let main_v11 : IVec S2x2304x8x128 1 := cmpf .olt main_v9 main_v10
  let main_v12 : FVec F S2x2048x1024 .f32 := Host.absf main_arg5
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_finite2.lean ====
abbrev S2x2048x8x192 : Shape := ⟨4, ![2, 2048, 8, 192]⟩
abbrev S128 : Shape := ⟨1, ![128]⟩
abbrev S64 : Shape := ⟨1, ![64]⟩
abbrev S2x2304x8x192 : Shape := ⟨4, ![2, 2304, 8, 192]⟩
abbrev S2x2304x8x128 : Shape := ⟨4, ![2, 2304, 8, 128]⟩
abbrev S2x2048x1024 : Shape := ⟨3, ![2, 2048, 1024]⟩
abbrev S_ : Shape := ⟨0, ![]⟩

class Facts : Prop where
  bcast_S_S128 : S_.BroadcastsInDim S128 (![] : Fin 0 → Fin S128.rank)
  bcast_S_S64 : S_.BroadcastsInDim S64 (![] : Fin 0 → Fin S64.rank)
  bcast_S_S2x2304x8x192 : S_.BroadcastsInDim S2x2304x8x192 (![] : Fin 0 → Fin S2x2304x8x192.rank)

variable [Facts]

def fn {F : FTy → Type} [FloatOps F] (main_arg0 : FVec F S2x2048x8x192 .f32) (main_arg1 : FVec F S128 .f32) (main_arg2 : FVec F S64 .f32) (main_arg3 : FVec F S2x2304x8x192 .f32) (main_arg4 : FVec F S2x2304x8x128 .f32) (main_arg5 : FVec F S2x2048x1024 .f32) : IVec S128 1 × IVec S64 1 × IVec S2x2304x8x192 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S2x2304x8x192 .f32 := Host.absf main_arg3
  let main_cst_1 : FVec F S_ .f32 := constant S_ .f32 0x7F800000#32
  let main_v7 : FVec F S2x2304x8x192 .f32 := broadcastInDim S2x2304x8x192 ![] bcast_S_S2x2304x8x192 main_cst_1
  let main_v8 : IVec S2x2304x8x192 1 := cmpf .olt main_v6 main_v7
  (main_v2, main_v5, main_v8)
-- ==== Pre_finite3.lean ====
abbrev S4608x1024 : Shape := ⟨2, ![4608, 1024]⟩
abbrev S4x256x256 : Shape := ⟨3, ![4, 256, 256]⟩
abbrev S1024 : Shape := ⟨1, ![1024]⟩
abbrev S4608x2048 : Shape := ⟨2, ![4608, 2048]⟩
abbrev S_ : Shape := ⟨0, ![]⟩

class Facts : Prop where
  bcast_S_S4608x1024 : S_.BroadcastsInDim S4608x1024 (![] : Fin 0 → Fin S4608x1024.rank)
  bcast_S_S4x256x256 : S_.BroadcastsInDim S4x256x256 (![] : Fin 0 → Fin S4x256x256.rank)
  bcast_S_S1024 : S_.BroadcastsInDim S1024 (![] : Fin 0 → Fin S1024.rank)

variable [Facts]

def fn {F : FTy → Type} [FloatOps F] (main_arg0 : FVec F S4608x1024 .f32) (main_arg1 : FVec F S4x256x256 .f32) (main_arg2 : FVec F S1024 .f32) (main_arg3 : FVec F S4608x2048 .f32) (main_arg4 : FVec F S4608x1024 .f32) : IVec S4608x1024 1 × IVec S4x256x256 1 × IVec S1024 1 × IVec S4608x1024 1 :=
  let main_v0 : FVec F S4608x1024 .f32 := Host.absf main_arg0
  let main_cst : FVec F S_ .f32 := constant S_ .f32 0x7F800000#32
  let main_v1 : FVec F S4608x1024 .f32 := broadcastInDim S4608x1024 ![] bcast_S_S4608x1024 main_cst
  let main_v2 : IVec S4608x1024 1 := cmpf .olt main_v0 main_v1
  let main_v3 : FVec F S4x256x256 .f32 := Host.absf main_arg1
  let main_cst_0 : FVec F S_ .f32 := constant S_ .f32 0x7F800000#32
  let main_v4 : FVec F S4x256x256 .f32 := broadcastInDim S4x256x256 ![] bcast_S_S4x256x256 main_cst_0
  let main_v5 : IVec S4x256x256 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4608x1024 .f32 := Host.absf main_arg4
  let main_cst_2 : FVec F S_ .f32 := constant S_ .f32 0x7F800000#32
  let main_v10 : FVec F S4608x1024 .f32 := broadcastInDim S4608x1024 ![] bcast_S_S4608x1024 main_cst_2
  let main_v11 : IVec S4608x1024 1 := cmpf .olt main_v9 main_v10
  (main_v2, main_v5, main_v8, main_v11)
-- ==== Kernel.lean ====
abbrev S2x2048x8x192 : Shape := ⟨4, ![2, 2048, 8, 192]⟩
abbrev S128 : Shape := ⟨1, ![128]⟩
abbrev S64 : Shape := ⟨1, ![64]⟩
abbrev S2x2304x8x192 : Shape := ⟨4, ![2, 2304, 8, 192]⟩
abbrev S2x2304x8x128 : Shape := ⟨4, ![2, 2304, 8, 128]⟩
abbrev S2x2048x1024 : Shape := ⟨3, ![2, 2048, 1024]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S4096x1024 : Shape := ⟨2, ![4096, 1024]⟩
abbrev S2x256x8x192 : Shape := ⟨4, ![2, 256, 8, 192]⟩
abbrev S2x256x8x128 : Shape := ⟨4, ![2, 256, 8, 128]⟩
abbrev S1x128 : Shape := ⟨2, ![1, 128]⟩
abbrev S2x2048x8x128 : Shape := ⟨4, ![2, 2048, 8, 128]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S1x1x1x64 : Shape := ⟨4, ![1, 1, 1, 64]⟩
abbrev S2048x1x16 : Shape := ⟨3, ![2048, 1, 16]⟩
abbrev S2x2048x8x32 : Shape := ⟨4, ![2, 2048, 8, 32]⟩
abbrev S2x2048x8x16 : Shape := ⟨4, ![2, 2048, 8, 16]⟩
abbrev S1x2048x1x16 : Shape := ⟨4, ![1, 2048, 1, 16]⟩
abbrev S2x2304x8x64 : Shape := ⟨4, ![2, 2304, 8, 64]⟩
abbrev S2x8x2048x2304 : Shape := ⟨4, ![2, 8, 2048, 2304]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2048x64 : Shape := ⟨2, ![2048, 64]⟩
abbrev S2048x128 : Shape := ⟨2, ![2048, 128]⟩
abbrev S1x2048x1x128 : Shape := ⟨4, ![1, 2048, 1, 128]⟩
abbrev S2x2048x1x128 : Shape := ⟨4, ![2, 2048, 1, 128]⟩
abbrev S4096x128 : Shape := ⟨2, ![4096, 128]⟩
abbrev S512x128 : Shape := ⟨2, ![512, 128]⟩
abbrev S4608x128 : Shape := ⟨2, ![4608, 128]⟩
abbrev S2x2048x8x256 : Shape := ⟨4, ![2, 2048, 8, 256]⟩
abbrev S4096x2048 : Shape := ⟨2, ![4096, 2048]⟩
abbrev S2x256x8x256 : Shape := ⟨4, ![2, 256, 8, 256]⟩
abbrev S512x2048 : Shape := ⟨2, ![512, 2048]⟩
abbrev S4608x2048 : Shape := ⟨2, ![4608, 2048]⟩
abbrev S512x1024 : Shape := ⟨2, ![512, 1024]⟩
abbrev S4608x1024 : Shape := ⟨2, ![4608, 1024]⟩
abbrev S1024x128 : Shape := ⟨2, ![1024, 128]⟩
abbrev S1024x256 : Shape := ⟨2, ![1024, 256]⟩
abbrev S2048x256 : Shape := ⟨2, ![2048, 256]⟩
abbrev S256x256 : Shape := ⟨2, ![256, 256]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 296
  | .vmem => 36
  | .smem => 0
  | _ => 0

abbrev hbmTy0_0 (i : Nat) : BufTy := match i % 128 with
  | 0 => ⟨S2x2048x8x192, .f32⟩
  | 1 => ⟨S128, .f32⟩
  | 2 => ⟨S64, .f32⟩
  | 3 => ⟨S2x2304x8x192, .f32⟩
  | 4 => ⟨S2x2304x8x128, .f32⟩
  | 5 => ⟨S2x2048x1024, .f32⟩
  | 6 => ⟨S32, .i32⟩
  | 7 => ⟨S32x64, .i32⟩
  | 8 => ⟨S2048, .i32⟩
  | 9 => ⟨S2048, .f32⟩
  | 10 => ⟨S64, .i32⟩
  | 11 => ⟨S1x64, .i32⟩
  | 12 => ⟨S32x64, .i32⟩
  | 13 => ⟨S2048, .i32⟩
  | 14 => ⟨S2048, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x1, .f32⟩
  | 35 => ⟨S1x16, .f32⟩
  | 36 => ⟨S2048x16, .f32⟩
  | 37 => ⟨S2048x16, .f32⟩
  | 38 => ⟨S2048x16, .f32⟩
  | 39 => ⟨S2048x16, .f32⟩
  | 40 => ⟨S2048x16, .f32⟩
  | 41 => ⟨S2048x16, .f32⟩
  | 42 => ⟨S2048x16, .f32⟩
  | 43 => ⟨S4096x1024, .f32⟩
  | 44 => ⟨S2x256x8x192, .f32⟩
  | 45 => ⟨S2x256x8x128, .f32⟩
  | 46 => ⟨S1x128, .f32⟩
  | 47 => ⟨S1x64, .f32⟩
  | 48 => ⟨S_, .i32⟩
  | 49 => ⟨S_, .f32⟩
  | 50 => ⟨S1x128, .f32⟩
  | 51 => ⟨S2x2048x8x128, .f32⟩
  | 52 => ⟨S2x2048x8x64, .f32⟩
  | 53 => ⟨S2x2048x8x128, .f32⟩
  | 54 => ⟨S_, .f32⟩
  | 55 => ⟨S2x2048x8, .f32⟩
  | 56 => ⟨S2x2048x8x1, .f32⟩
  | 57 => ⟨S_, .f32⟩
  | 58 => ⟨S2x2048x8x1, .f32⟩
  | 59 => ⟨S2x2048x8x1, .f32⟩
  | 60 => ⟨S_, .f32⟩
  | 61 => ⟨S2x2048x8x1, .f32⟩
  | 62 => ⟨S2x2048x8x1, .f32⟩
  | 63 => ⟨S2x2048x8x1, .f32⟩
  | 64 => ⟨S2x2048x8x128, .f32⟩
  | 65 => ⟨S2x2048x8x128, .f32⟩
  | 66 => ⟨S1x1x1x128, .f32⟩
  | 67 => ⟨S2x2048x8x128, .f32⟩
  | 68 => ⟨S2x2048x8x128, .f32⟩
  | 69 => ⟨S2x2048x8x64, .f32⟩
  | 70 => ⟨S_, .f32⟩
  | 71 => ⟨S2x2048x8, .f32⟩
  | 72 => ⟨S2x2048x8x1, .f32⟩
  | 73 => ⟨S_, .f32⟩
  | 74 => ⟨S2x2048x8x1, .f32⟩
  | 75 => ⟨S2x2048x8x1, .f32⟩
  | 76 => ⟨S_, .f32⟩
  | 77 => ⟨S2x2048x8x1, .f32⟩
  | 78 => ⟨S2x2048x8x1, .f32⟩
  | 79 => ⟨S2x2048x8x1, .f32⟩
  | 80 => ⟨S2x2048x8x64, .f32⟩
  | 81 => ⟨S2x2048x8x64, .f32⟩
  | 82 => ⟨S1x1x1x64, .f32⟩
  | 83 => ⟨S2x2048x8x64, .f32⟩
  | 84 => ⟨S2x2048x8x64, .f32⟩
  | 85 => ⟨S2048x1x16, .f32⟩
  | 86 => ⟨S2048x1x16, .f32⟩
  | 87 => ⟨S2048x1x16, .f32⟩
  | 88 => ⟨S2048x1x16, .f32⟩
  | 89 => ⟨S2x2048x8x32, .f32⟩
  | 90 => ⟨S2x2048x8x32, .f32⟩
  | 91 => ⟨S2x2048x8x16, .f32⟩
  | 92 => ⟨S2x2048x8x16, .f32⟩
  | 93 => ⟨S1x2048x1x16, .f32⟩
  | 94 => ⟨S2x2048x8x16, .f32⟩
  | 95 => ⟨S2x2048x8x16, .f32⟩
  | 96 => ⟨S1x2048x1x16, .f32⟩
  | 97 => ⟨S2x2048x8x16, .f32⟩
  | 98 => ⟨S2x2048x8x16, .f32⟩
  | 99 => ⟨S2x2048x8x16, .f32⟩
  | 100 => ⟨S1x2048x1x16, .f32⟩
  | 101 => ⟨S2x2048x8x16, .f32⟩
  | 102 => ⟨S2x2048x8x16, .f32⟩
  | 103 => ⟨S1x2048x1x16, .f32⟩
  | 104 => ⟨S2x2048x8x16, .f32⟩
  | 105 => ⟨S2x2048x8x16, .f32⟩
  | 106 => ⟨S2x2048x8x16, .f32⟩
  | 107 => ⟨S2x2048x8x32, .f32⟩
  | 108 => ⟨S2x2048x8x16, .f32⟩
  | 109 => ⟨S2x2048x8x16, .f32⟩
  | 110 => ⟨S1x2048x1x16, .f32⟩
  | 111 => ⟨S2x2048x8x16, .f32⟩
  | 112 => ⟨S2x2048x8x16, .f32⟩
  | 113 => ⟨S1x2048x1x16, .f32⟩
  | 114 => ⟨S2x2048x8x16, .f32⟩
  | 115 => ⟨S2x2048x8x16, .f32⟩
  | 116 => ⟨S2x2048x8x16, .f32⟩
  | 117 => ⟨S1x2048x1x16, .f32⟩
  | 118 => ⟨S2x2048x8x16, .f32⟩
  | 119 => ⟨S2x2048x8x16, .f32⟩
  | 120 => ⟨S1x2048x1x16, .f32⟩
  | 121 => ⟨S2x2048x8x16, .f32⟩
  | 122 => ⟨S2x2048x8x16, .f32⟩
  | 123 => ⟨S2x2048x8x16, .f32⟩
  | 124 => ⟨S2x2048x8x32, .f32⟩
  | 125 => ⟨S2x2048x8x64, .f32⟩
  | 126 => ⟨S2x2304x8x128, .f32⟩
  | 127 => ⟨S2x2304x8x64, .f32⟩
  | _ => ⟨S2x2048x8x192, .f32⟩

abbrev hbmTy0_1 (i : Nat) : BufTy := match i % 128 with
  | 0 => ⟨S2x8x2048x2304, .f32⟩
  | 1 => ⟨S2x8x2048x2304, .f32⟩
  | 2 => ⟨S2x8x2048x2304, .f32⟩
  | 3 => ⟨S_, .f32⟩
  | 4 => ⟨S2x8x2048x2304, .f32⟩
  | 5 => ⟨S2x8x2048x2304, .f32⟩
  | 6 => ⟨S_, .f32⟩
  | 7 => ⟨S2x8x2048, .f32⟩
  | 8 => ⟨S2x8x2048x1, .f32⟩
  | 9 => ⟨S2x8x2048x2304, .f32⟩
  | 10 => ⟨S2x8x2048x2304, .f32⟩
  | 11 => ⟨S2x8x2048x2304, .f32⟩
  | 12 => ⟨S_, .f32⟩
  | 13 => ⟨S2x8x2048, .f32⟩
  | 14 => ⟨S2x8x2048x1, .f32⟩
  | 15 => ⟨S2x8x2048x2304, .f32⟩
  | 16 => ⟨S2x8x2048x2304, .f32⟩
  | 17 => ⟨S2x8x128x2048, .f32⟩
  | 18 => ⟨S2x2048x8x128, .f32⟩
  | 19 => ⟨S2x8x2048x1, .f32⟩
  | 20 => ⟨S2x8x2048x1, .f32⟩
  | 21 => ⟨S2x2048x8x1, .f32⟩
  | 22 => ⟨S2x2048x8x128, .f32⟩
  | 23 => ⟨S2x2048x8x192, .f32⟩
  | 24 => ⟨S_, .f32⟩
  | 25 => ⟨S2x2048x8x192, .f32⟩
  | 26 => ⟨S2x2048x8x192, .f32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S2048, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i1⟩
  | 58 => ⟨S_, .i32⟩
  | 59 => ⟨S2048, .i32⟩
  | 60 => ⟨S2048, .i1⟩
  | 61 => ⟨S_, .i32⟩
  | 62 => ⟨S_, .i1⟩
  | 63 => ⟨S2048, .i1⟩
  | 64 => ⟨S2048, .i1⟩
  | 65 => ⟨S2048, .i1⟩
  | 66 => ⟨S2048, .i32⟩
  | 67 => ⟨S2048, .i32⟩
  | 68 => ⟨S2048, .i32⟩
  | 69 => ⟨S2048, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2048x1, .f32⟩
  | 85 => ⟨S1x16, .f32⟩
  | 86 => ⟨S2048x16, .f32⟩
  | 87 => ⟨S2048x16, .f32⟩
  | 88 => ⟨S2048x16, .f32⟩
  | 89 => ⟨S2048x1, .f32⟩
  | 90 => ⟨S1x16, .f32⟩
  | 91 => ⟨S2048x16, .f32⟩
  | 92 => ⟨S2048x16, .f32⟩
  | 93 => ⟨S2048x16, .f32⟩
  | 94 => ⟨S_, .f32⟩
  | 95 => ⟨S2048x64, .f32⟩
  | 96 => ⟨S_, .f32⟩
  | 97 => ⟨S2048x64, .f32⟩
  | 98 => ⟨S2048x16, .f32⟩
  | 99 => ⟨S2048x16, .f32⟩
  | 100 => ⟨S2048x16, .f32⟩
  | 101 => ⟨S2048x16, .f32⟩
  | 102 => ⟨S2048x128, .f32⟩
  | 103 => ⟨S2048x16, .f32⟩
  | 104 => ⟨S2048x16, .f32⟩
  | 105 => ⟨S2048x16, .f32⟩
  | 106 => ⟨S2048x16, .f32⟩
  | 107 => ⟨S2048x16, .f32⟩
  | 108 => ⟨S2048x16, .f32⟩
  | 109 => ⟨S2048x128, .f32⟩
  | 110 => ⟨S1x2048x1x128, .f32⟩
  | 111 => ⟨S2x2048x1x128, .f32⟩
  | 112 => ⟨S4096x128, .f32⟩
  | 113 => ⟨S_, .f32⟩
  | 114 => ⟨S512x128, .f32⟩
  | 115 => ⟨S4608x128, .f32⟩
  | 116 => ⟨S1x2048x1x128, .f32⟩
  | 117 => ⟨S2x2048x1x128, .f32⟩
  | 118 => ⟨S4096x128, .f32⟩
  | 119 => ⟨S_, .f32⟩
  | 120 => ⟨S512x128, .f32⟩
  | 121 => ⟨S4608x128, .f32⟩
  | 122 => ⟨S_, .i32⟩
  | 123 => ⟨S_, .f32⟩
  | 124 => ⟨S2x2048x8x128, .f32⟩
  | 125 => ⟨S4096x1024, .f32⟩
  | 126 => ⟨S_, .i32⟩
  | 127 => ⟨S_, .f32⟩
  | _ => ⟨S2x2048x8x192, .f32⟩

abbrev hbmTy0_2 (i : Nat) : BufTy := match i % 128 with
  | 0 => ⟨S2x2048x8x128, .f32⟩
  | 1 => ⟨S4096x1024, .f32⟩
  | 2 => ⟨S_, .i32⟩
  | 3 => ⟨S_, .f32⟩
  | 4 => ⟨S2x2048x8x256, .f32⟩
  | 5 => ⟨S4096x2048, .f32⟩
  | 6 => ⟨S4096x2048, .bf16⟩
  | 7 => ⟨S_, .i32⟩
  | 8 => ⟨S_, .f32⟩
  | 9 => ⟨S2x2048x8x256, .f32⟩
  | 10 => ⟨S4096x2048, .f32⟩
  | 11 => ⟨S2x2048x8x192, .f32⟩
  | 12 => ⟨S_, .i32⟩
  | 13 => ⟨S_, .f32⟩
  | 14 => ⟨S2x2048x8x256, .f32⟩
  | 15 => ⟨S4096x2048, .f32⟩
  | 16 => ⟨S_, .i32⟩
  | 17 => ⟨S_, .f32⟩
  | 18 => ⟨S2x256x8x256, .f32⟩
  | 19 => ⟨S512x2048, .f32⟩
  | 20 => ⟨S4608x2048, .f32⟩
  | 21 => ⟨S4608x2048, .bf16⟩
  | 22 => ⟨S2x2048x8x128, .f32⟩
  | 23 => ⟨S_, .i32⟩
  | 24 => ⟨S_, .f32⟩
  | 25 => ⟨S2x2048x8x128, .f32⟩
  | 26 => ⟨S4096x1024, .f32⟩
  | 27 => ⟨S_, .i32⟩
  | 28 => ⟨S_, .f32⟩
  | 29 => ⟨S2x256x8x128, .f32⟩
  | 30 => ⟨S512x1024, .f32⟩
  | 31 => ⟨S4608x1024, .f32⟩
  | 32 => ⟨S4608x1024, .bf16⟩
  | 33 => ⟨S4096x2048, .bf16⟩
  | 34 => ⟨S4096x2048, .f32⟩
  | 35 => ⟨S512x2048, .f32⟩
  | 36 => ⟨S4096x1024, .f32⟩
  | 37 => ⟨S512x1024, .f32⟩
  | 38 => ⟨S1x128, .f32⟩
  | 39 => ⟨S1x128, .f32⟩
  | _ => ⟨S2x2048x8x192, .f32⟩

abbrev hbmTy (i : Nat) : BufTy := match i / 128 with
  | 0 => hbmTy0_0 i
  | 1 => hbmTy0_1 i
  | 2 => hbmTy0_2 i
  | _ => ⟨S2x2048x8x192, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S2048x256, .bf16⟩
  | .local _ .vmem, ⟨17, _⟩ => ⟨S2048x256, .bf16⟩
  | .local _ .vmem, ⟨18, _⟩ => ⟨S256x256, .bf16⟩
  | .local _ .vmem, ⟨19, _⟩ => ⟨S256x256, .bf16⟩
  | .local _ .vmem, ⟨20, _⟩ => ⟨S2048x128, .bf16⟩
  | .local _ .vmem, ⟨21, _⟩ => ⟨S2048x128, .bf16⟩
  | .local _ .vmem, ⟨22, _⟩ => ⟨S256x128, .bf16⟩
  | .local _ .vmem, ⟨23, _⟩ => ⟨S256x128, .bf16⟩
  | .local _ .vmem, ⟨24, _⟩ => ⟨S1024x256, .bf16⟩
  | .local _ .vmem, ⟨25, _⟩ => ⟨S1024x256, .bf16⟩
  | .local _ .vmem, ⟨26, _⟩ => ⟨S2048x256, .f32⟩
  | .local _ .vmem, ⟨27, _⟩ => ⟨S2048x256, .f32⟩
  | .local _ .vmem, ⟨28, _⟩ => ⟨S256x256, .f32⟩
  | .local _ .vmem, ⟨29, _⟩ => ⟨S256x256, .f32⟩
  | .local _ .vmem, ⟨30, _⟩ => ⟨S2048x128, .f32⟩
  | .local _ .vmem, ⟨31, _⟩ => ⟨S2048x128, .f32⟩
  | .local _ .vmem, ⟨32, _⟩ => ⟨S256x128, .f32⟩
  | .local _ .vmem, ⟨33, _⟩ => ⟨S256x128, .f32⟩
  | .local _ .vmem, ⟨34, _⟩ => ⟨S1x128, .f32⟩
  | .local _ .vmem, ⟨35, _⟩ => ⟨S1x128, .f32⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_9 : Ref sig .tc := ⟨.hbm, 131, rfl⟩
abbrev main_v113 : Ref sig .tc := ⟨.hbm, 132, rfl⟩
abbrev main_v114 : Ref sig .tc := ⟨.hbm, 133, rfl⟩
abbrev main_cst_10 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_11 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_12 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_c_13 : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_call1_v5 : Ref sig .tc := ⟨.hbm, 162, rfl⟩
abbrev main_call1_v6 : Ref sig .tc := ⟨.hbm, 163, rfl⟩
abbrev main_call1_v7 : Ref sig .tc := ⟨.hbm, 164, rfl⟩
abbrev main_call1_v8 : Ref sig .tc := ⟨.hbm, 165, rfl⟩
abbrev main_call1_c : Ref sig .tc := ⟨.hbm, 166, rfl⟩
abbrev main_call1_v9 : Ref sig .tc := ⟨.hbm, 167, rfl⟩
abbrev main_call1_v10 : Ref sig .tc := ⟨.hbm, 168, rfl⟩
abbrev main_call1_v11 : Ref sig .tc := ⟨.hbm, 169, rfl⟩
abbrev main_call1_c_0 : Ref sig .tc := ⟨.hbm, 170, rfl⟩
abbrev main_call1_v12 : Ref sig .tc := ⟨.hbm, 171, rfl⟩
abbrev main_call1_v13 : Ref sig .tc := ⟨.hbm, 172, rfl⟩
abbrev main_v134 : Ref sig .tc := ⟨.hbm, 173, rfl⟩
abbrev main_v135 : Ref sig .tc := ⟨.hbm, 174, rfl⟩
abbrev main_c_14 : Ref sig .tc := ⟨.hbm, 175, rfl⟩
abbrev main_call2_v0 : Ref sig .tc := ⟨.hbm, 176, rfl⟩
abbrev main_call2_c : Ref sig .tc := ⟨.hbm, 177, rfl⟩
abbrev main_call2_v1 : Ref sig .tc := ⟨.hbm, 178, rfl⟩
abbrev main_call2_c_0 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_c_1 : Ref sig .tc := ⟨.hbm, 183, rfl⟩
abbrev main_call2_v5 : Ref sig .tc := ⟨.hbm, 184, rfl⟩
abbrev main_call2_v6 : Ref sig .tc := ⟨.hbm, 185, rfl⟩
abbrev main_call2_c_2 : Ref sig .tc := ⟨.hbm, 186, rfl⟩
abbrev main_call2_v7 : Ref sig .tc := ⟨.hbm, 187, rfl⟩
abbrev main_call2_v8 : Ref sig .tc := ⟨.hbm, 188, rfl⟩
abbrev main_call2_c_3 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_v12 : Ref sig .tc := ⟨.hbm, 193, rfl⟩
abbrev main_call2_v13 : Ref sig .tc := ⟨.hbm, 194, rfl⟩
abbrev main_call2_v14 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_15 : Ref sig .tc := ⟨.hbm, 199, rfl⟩
abbrev main_v139 : Ref sig .tc := ⟨.hbm, 200, rfl⟩
abbrev main_v140 : Ref sig .tc := ⟨.hbm, 201, rfl⟩
abbrev main_cst_16 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_17 : Ref sig .tc := ⟨.hbm, 206, rfl⟩
abbrev main_v144 : Ref sig .tc := ⟨.hbm, 207, rfl⟩
abbrev main_v145 : Ref sig .tc := ⟨.hbm, 208, rfl⟩
abbrev main_cst_18 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_19 : Ref sig .tc := ⟨.hbm, 222, rfl⟩
abbrev main_v158 : Ref sig .tc := ⟨.hbm, 223, rfl⟩
abbrev main_cst_20 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_cst_21 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_22 : Ref sig .tc := ⟨.hbm, 247, rfl⟩
abbrev main_v180 : Ref sig .tc := ⟨.hbm, 248, rfl⟩
abbrev main_v181 : Ref sig .tc := ⟨.hbm, 249, rfl⟩
abbrev main_c_23 : Ref sig .tc := ⟨.hbm, 250, rfl⟩
abbrev main_call3_v0 : Ref sig .tc := ⟨.hbm, 251, rfl⟩
abbrev main_v182 : Ref sig .tc := ⟨.hbm, 252, rfl⟩
abbrev main_v183 : Ref sig .tc := ⟨.hbm, 253, rfl⟩
abbrev main_c_24 : Ref sig .tc := ⟨.hbm, 254, rfl⟩
abbrev main_call4_v0 : Ref sig .tc := ⟨.hbm, 255, rfl⟩
abbrev main_v184 : Ref sig .tc := ⟨.hbm, 256, rfl⟩
abbrev main_v185 : Ref sig .tc := ⟨.hbm, 257, rfl⟩
abbrev main_c_25 : Ref sig .tc := ⟨.hbm, 258, rfl⟩
abbrev main_call5_v0 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_c_26 : Ref sig .tc := ⟨.hbm, 263, rfl⟩
abbrev main_call6_v0 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_c_27 : Ref sig .tc := ⟨.hbm, 268, rfl⟩
abbrev main_call7_v0 : Ref sig .tc := ⟨.hbm, 269, rfl⟩
abbrev main_v192 : Ref sig .tc := ⟨.hbm, 270, rfl⟩
abbrev main_v193 : Ref sig .tc := ⟨.hbm, 271, rfl⟩
abbrev main_c_28 : Ref sig .tc := ⟨.hbm, 272, rfl⟩
abbrev main_call8_v0 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_c_29 : Ref sig .tc := ⟨.hbm, 279, rfl⟩
abbrev main_call9_v0 : Ref sig .tc := ⟨.hbm, 280, rfl⟩
abbrev main_v199 : Ref sig .tc := ⟨.hbm, 281, rfl⟩
abbrev main_v200 : Ref sig .tc := ⟨.hbm, 282, rfl⟩
abbrev main_c_30 : Ref sig .tc := ⟨.hbm, 283, rfl⟩
abbrev main_call10_v0 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205_0 : Ref sig .tc := ⟨.hbm, 289, rfl⟩
abbrev main_v205_1 : Ref sig .tc := ⟨.hbm, 290, rfl⟩
abbrev main_v205_2 : Ref sig .tc := ⟨.hbm, 291, rfl⟩
abbrev main_v205_3 : Ref sig .tc := ⟨.hbm, 292, rfl⟩
abbrev main_v205_4 : Ref sig .tc := ⟨.hbm, 293, rfl⟩
abbrev main_v205_5 : Ref sig .tc := ⟨.hbm, 294, rfl⟩
abbrev main_v205_6 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S2048x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false, false]
-- ==== ReferenceIdeal.lean ====
abbrev S2x2048x8x192 : Shape := ⟨4, ![2, 2048, 8, 192]⟩
abbrev S128 : Shape := ⟨1, ![128]⟩
abbrev S64 : Shape := ⟨1, ![64]⟩
abbrev S2x2304x8x192 : Shape := ⟨4, ![2, 2304, 8, 192]⟩
abbrev S2x2304x8x128 : Shape := ⟨4, ![2, 2304, 8, 128]⟩
abbrev S2x2048x1024 : Shape := ⟨3, ![2, 2048, 1024]⟩
abbrev S2x2048x8x128 : Shape := ⟨4, ![2, 2048, 8, 128]⟩
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S1x1x1x64 : Shape := ⟨4, ![1, 1, 1, 64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2x2048x8x32 : Shape := ⟨4, ![2, 2048, 8, 32]⟩
abbrev S2x2048x8x16 : Shape := ⟨4, ![2, 2048, 8, 16]⟩
abbrev S1x2048x1x16 : Shape := ⟨4, ![1, 2048, 1, 16]⟩
abbrev S2x2304x8x64 : Shape := ⟨4, ![2, 2304, 8, 64]⟩
abbrev S2x8x2048x2304 : Shape := ⟨4, ![2, 8, 2048, 2304]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x128x2304 : Shape := ⟨4, ![2, 8, 128, 2304]⟩
abbrev S2x8x2304x64 : Shape := ⟨4, ![2, 8, 2304, 64]⟩
abbrev S2x8x2048x64 : Shape := ⟨4, ![2, 8, 2048, 64]⟩
abbrev S2x8x2304x128 : Shape := ⟨4, ![2, 8, 2304, 128]⟩
abbrev S2x8x2048x128 : Shape := ⟨4, ![2, 8, 2048, 128]⟩
abbrev S2x2048x8x256 : Shape := ⟨4, ![2, 2048, 8, 256]⟩
abbrev S2x2304x8x256 : Shape := ⟨4, ![2, 2304, 8, 256]⟩
abbrev S4096x2048 : Shape := ⟨2, ![4096, 2048]⟩
abbrev S2x256x8x256 : Shape := ⟨4, ![2, 256, 8, 256]⟩
abbrev S512x2048 : Shape := ⟨2, ![512, 2048]⟩
abbrev S4096x1024 : Shape := ⟨2, ![4096, 1024]⟩
abbrev S2x256x8x128 : Shape := ⟨4, ![2, 256, 8, 128]⟩
abbrev S512x1024 : Shape := ⟨2, ![512, 1024]⟩
abbrev S1x128 : Shape := ⟨2, ![1, 128]⟩

abbrev nBuf : Space → Nat
  | .hbm => 309
  | .vmem => 0
  | .smem => 0
  | _ => 0

abbrev hbmTy0_0 (i : Nat) : BufTy := match i % 128 with
  | 0 => ⟨S2x2048x8x192, .f32⟩
  | 1 => ⟨S128, .f32⟩
  | 2 => ⟨S64, .f32⟩
  | 3 => ⟨S2x2304x8x192, .f32⟩
  | 4 => ⟨S2x2304x8x128, .f32⟩
  | 5 => ⟨S2x2048x1024, .f32⟩
  | 6 => ⟨S2x2048x8x128, .f32⟩
  | 7 => ⟨S2x2048x8x64, .f32⟩
  | 8 => ⟨S2x2048x8x128, .f32⟩
  | 9 => ⟨S_, .f32⟩
  | 10 => ⟨S2x2048x8, .f32⟩
  | 11 => ⟨S2x2048x8x1, .f32⟩
  | 12 => ⟨S_, .f32⟩
  | 13 => ⟨S2x2048x8x1, .f32⟩
  | 14 => ⟨S2x2048x8x1, .f32⟩
  | 15 => ⟨S_, .f32⟩
  | 16 => ⟨S2x2048x8x1, .f32⟩
  | 17 => ⟨S2x2048x8x1, .f32⟩
  | 18 => ⟨S2x2048x8x1, .f32⟩
  | 19 => ⟨S2x2048x8x1, .f32⟩
  | 20 => ⟨S_, .f32⟩
  | 21 => ⟨S2x2048x8x1, .f32⟩
  | 22 => ⟨S2x2048x8x1, .f32⟩
  | 23 => ⟨S2x2048x8x128, .f32⟩
  | 24 => ⟨S2x2048x8x128, .f32⟩
  | 25 => ⟨S1x1x1x128, .f32⟩
  | 26 => ⟨S2x2048x8x128, .f32⟩
  | 27 => ⟨S2x2048x8x128, .f32⟩
  | 28 => ⟨S2x2048x8x64, .f32⟩
  | 29 => ⟨S_, .f32⟩
  | 30 => ⟨S2x2048x8, .f32⟩
  | 31 => ⟨S2x2048x8x1, .f32⟩
  | 32 => ⟨S_, .f32⟩
  | 33 => ⟨S2x2048x8x1, .f32⟩
  | 34 => ⟨S2x2048x8x1, .f32⟩
  | 35 => ⟨S_, .f32⟩
  | 36 => ⟨S2x2048x8x1, .f32⟩
  | 37 => ⟨S2x2048x8x1, .f32⟩
  | 38 => ⟨S2x2048x8x1, .f32⟩
  | 39 => ⟨S2x2048x8x1, .f32⟩
  | 40 => ⟨S_, .f32⟩
  | 41 => ⟨S2x2048x8x1, .f32⟩
  | 42 => ⟨S2x2048x8x1, .f32⟩
  | 43 => ⟨S2x2048x8x64, .f32⟩
  | 44 => ⟨S2x2048x8x64, .f32⟩
  | 45 => ⟨S1x1x1x64, .f32⟩
  | 46 => ⟨S2x2048x8x64, .f32⟩
  | 47 => ⟨S2x2048x8x64, .f32⟩
  | 48 => ⟨S32, .i32⟩
  | 49 => ⟨S32x64, .i32⟩
  | 50 => ⟨S2048, .i32⟩
  | 51 => ⟨S2048, .f32⟩
  | 52 => ⟨S64, .i32⟩
  | 53 => ⟨S1x64, .i32⟩
  | 54 => ⟨S32x64, .i32⟩
  | 55 => ⟨S2048, .i32⟩
  | 56 => ⟨S2048, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S2048x1, .f32⟩
  | 72 => ⟨S1x16, .f32⟩
  | 73 => ⟨S2048x16, .f32⟩
  | 74 => ⟨S2048x16, .f32⟩
  | 75 => ⟨S2048x16, .f32⟩
  | 76 => ⟨S2048x1, .f32⟩
  | 77 => ⟨S1x16, .f32⟩
  | 78 => ⟨S2048x16, .f32⟩
  | 79 => ⟨S2048x16, .f32⟩
  | 80 => ⟨S2048x16, .f32⟩
  | 81 => ⟨S2048x16, .f32⟩
  | 82 => ⟨S2048x16, .f32⟩
  | 83 => ⟨S2048x16, .f32⟩
  | 84 => ⟨S2048x16, .f32⟩
  | 85 => ⟨S2048x1x16, .f32⟩
  | 86 => ⟨S2048x1x16, .f32⟩
  | 87 => ⟨S2048x1x16, .f32⟩
  | 88 => ⟨S2048x1x16, .f32⟩
  | 89 => ⟨S2x2048x8x32, .f32⟩
  | 90 => ⟨S2x2048x8x32, .f32⟩
  | 91 => ⟨S2x2048x8x16, .f32⟩
  | 92 => ⟨S2x2048x8x16, .f32⟩
  | 93 => ⟨S1x2048x1x16, .f32⟩
  | 94 => ⟨S2x2048x8x16, .f32⟩
  | 95 => ⟨S2x2048x8x16, .f32⟩
  | 96 => ⟨S1x2048x1x16, .f32⟩
  | 97 => ⟨S2x2048x8x16, .f32⟩
  | 98 => ⟨S2x2048x8x16, .f32⟩
  | 99 => ⟨S2x2048x8x16, .f32⟩
  | 100 => ⟨S1x2048x1x16, .f32⟩
  | 101 => ⟨S2x2048x8x16, .f32⟩
  | 102 => ⟨S2x2048x8x16, .f32⟩
  | 103 => ⟨S1x2048x1x16, .f32⟩
  | 104 => ⟨S2x2048x8x16, .f32⟩
  | 105 => ⟨S2x2048x8x16, .f32⟩
  | 106 => ⟨S2x2048x8x16, .f32⟩
  | 107 => ⟨S2x2048x8x32, .f32⟩
  | 108 => ⟨S2x2048x8x16, .f32⟩
  | 109 => ⟨S2x2048x8x16, .f32⟩
  | 110 => ⟨S1x2048x1x16, .f32⟩
  | 111 => ⟨S2x2048x8x16, .f32⟩
  | 112 => ⟨S2x2048x8x16, .f32⟩
  | 113 => ⟨S1x2048x1x16, .f32⟩
  | 114 => ⟨S2x2048x8x16, .f32⟩
  | 115 => ⟨S2x2048x8x16, .f32⟩
  | 116 => ⟨S2x2048x8x16, .f32⟩
  | 117 => ⟨S1x2048x1x16, .f32⟩
  | 118 => ⟨S2x2048x8x16, .f32⟩
  | 119 => ⟨S2x2048x8x16, .f32⟩
  | 120 => ⟨S1x2048x1x16, .f32⟩
  | 121 => ⟨S2x2048x8x16, .f32⟩
  | 122 => ⟨S2x2048x8x16, .f32⟩
  | 123 => ⟨S2x2048x8x16, .f32⟩
  | 124 => ⟨S2x2048x8x32, .f32⟩
  | 125 => ⟨S2x2048x8x64, .f32⟩
  | 126 => ⟨S2x2304x8x128, .f32⟩
  | 127 => ⟨S2x2304x8x64, .f32⟩
  | _ => ⟨S2x2048x8x192, .f32⟩

abbrev hbmTy0_1 (i : Nat) : BufTy := match i % 128 with
  | 0 => ⟨S2x8x2048x2304, .f32⟩
  | 1 => ⟨S2x8x2048x2304, .f32⟩
  | 2 => ⟨S2x8x2048x2304, .f32⟩
  | 3 => ⟨S_, .f32⟩
  | 4 => ⟨S2x8x2048x2304, .f32⟩
  | 5 => ⟨S2x8x2048x2304, .f32⟩
  | 6 => ⟨S_, .f32⟩
  | 7 => ⟨S2x8x2048, .f32⟩
  | 8 => ⟨S2x8x2048x1, .f32⟩
  | 9 => ⟨S2x8x2048x2304, .f32⟩
  | 10 => ⟨S2x8x2048x2304, .i1⟩
  | 11 => ⟨S2x8x2048x2304, .f32⟩
  | 12 => ⟨S_, .f32⟩
  | 13 => ⟨S2x8x2048, .f32⟩
  | 14 => ⟨S_, .f32⟩
  | 15 => ⟨S2x8x2048, .f32⟩
  | 16 => ⟨S2x8x2048, .f32⟩
  | 17 => ⟨S_, .f32⟩
  | 18 => ⟨S2x8x2048, .f32⟩
  | 19 => ⟨S2x8x2048, .i1⟩
  | 20 => ⟨S_, .f32⟩
  | 21 => ⟨S2x8x2048, .f32⟩
  | 22 => ⟨S2x8x2048, .i1⟩
  | 23 => ⟨S_, .f32⟩
  | 24 => ⟨S2x8x2048, .f32⟩
  | 25 => ⟨S_, .f32⟩
  | 26 => ⟨S2x8x2048, .f32⟩
  | 27 => ⟨S_, .f32⟩
  | 28 => ⟨S2x8x2048, .f32⟩
  | 29 => ⟨S2x8x2048, .f32⟩
  | 30 => ⟨S2x8x2048, .f32⟩
  | 31 => ⟨S2x8x2048x1, .f32⟩
  | 32 => ⟨S2x8x2048x2304, .f32⟩
  | 33 => ⟨S2x8x2048x2304, .f32⟩
  | 34 => ⟨S2x8x2048x2304, .f32⟩
  | 35 => ⟨S_, .f32⟩
  | 36 => ⟨S2x8x2048, .f32⟩
  | 37 => ⟨S2x8x2048x1, .f32⟩
  | 38 => ⟨S2x8x2048x2304, .f32⟩
  | 39 => ⟨S2x8x2048x2304, .f32⟩
  | 40 => ⟨S2x8x2048x1, .f32⟩
  | 41 => ⟨S_, .f32⟩
  | 42 => ⟨S2x8x2048x1, .f32⟩
  | 43 => ⟨S2x8x2048x1, .f32⟩
  | 44 => ⟨S2x8x128x2048, .f32⟩
  | 45 => ⟨S2x2048x8x128, .f32⟩
  | 46 => ⟨S2x2048x1024, .f32⟩
  | 47 => ⟨S2x2048x8x128, .f32⟩
  | 48 => ⟨S2x8x128x2048, .f32⟩
  | 49 => ⟨S2x8x2048x2304, .f32⟩
  | 50 => ⟨S2x8x128x2304, .f32⟩
  | 51 => ⟨S2x2304x8x128, .f32⟩
  | 52 => ⟨S2x8x2048x2304, .f32⟩
  | 53 => ⟨S2x8x2048x2304, .f32⟩
  | 54 => ⟨S2x8x2048x2304, .f32⟩
  | 55 => ⟨S_, .f32⟩
  | 56 => ⟨S2x8x2048, .f32⟩
  | 57 => ⟨S2x8x2048x1, .f32⟩
  | 58 => ⟨S2x8x2048x1, .f32⟩
  | 59 => ⟨S2x8x2048x2304, .f32⟩
  | 60 => ⟨S2x8x2048x2304, .f32⟩
  | 61 => ⟨S_, .f32⟩
  | 62 => ⟨S2x8x2048, .f32⟩
  | 63 => ⟨S2x8x2048x2304, .f32⟩
  | 64 => ⟨S2x8x2048x2304, .f32⟩
  | 65 => ⟨S2x8x2048x2304, .f32⟩
  | 66 => ⟨S_, .f32⟩
  | 67 => ⟨S2x8x2048x2304, .f32⟩
  | 68 => ⟨S2x8x2048x2304, .f32⟩
  | 69 => ⟨S2x8x2304x64, .f32⟩
  | 70 => ⟨S2x2304x8x64, .f32⟩
  | 71 => ⟨S2x8x2048x64, .f32⟩
  | 72 => ⟨S2x2048x8x64, .f32⟩
  | 73 => ⟨S2x8x2304x128, .f32⟩
  | 74 => ⟨S2x2304x8x128, .f32⟩
  | 75 => ⟨S2x8x2048x128, .f32⟩
  | 76 => ⟨S2x2048x8x128, .f32⟩
  | 77 => ⟨S2x2304x8x192, .f32⟩
  | 78 => ⟨S2x2048x8x32, .f32⟩
  | 79 => ⟨S2x2048x8x32, .f32⟩
  | 80 => ⟨S2x2048x8x16, .f32⟩
  | 81 => ⟨S2x2048x8x16, .f32⟩
  | 82 => ⟨S2x2048x8x16, .f32⟩
  | 83 => ⟨S2x2048x8x16, .f32⟩
  | 84 => ⟨S2x2048x8x16, .f32⟩
  | 85 => ⟨S2x2048x8x16, .f32⟩
  | 86 => ⟨S2x2048x8x16, .f32⟩
  | 87 => ⟨S2x2048x8x16, .f32⟩
  | 88 => ⟨S2x2048x8x16, .f32⟩
  | 89 => ⟨S2x2048x8x16, .f32⟩
  | 90 => ⟨S2x2048x8x16, .f32⟩
  | 91 => ⟨S2x2048x8x16, .f32⟩
  | 92 => ⟨S2x2048x8x16, .f32⟩
  | 93 => ⟨S2x2048x8x32, .f32⟩
  | 94 => ⟨S2x2048x8x16, .f32⟩
  | 95 => ⟨S2x2048x8x16, .f32⟩
  | 96 => ⟨S2x2048x8x16, .f32⟩
  | 97 => ⟨S2x2048x8x16, .f32⟩
  | 98 => ⟨S2x2048x8x16, .f32⟩
  | 99 => ⟨S2x2048x8x16, .f32⟩
  | 100 => ⟨S2x2048x8x16, .f32⟩
  | 101 => ⟨S2x2048x8x16, .f32⟩
  | 102 => ⟨S2x2048x8x16, .f32⟩
  | 103 => ⟨S2x2048x8x16, .f32⟩
  | 104 => ⟨S2x2048x8x16, .f32⟩
  | 105 => ⟨S2x2048x8x16, .f32⟩
  | 106 => ⟨S2x2048x8x16, .f32⟩
  | 107 => ⟨S2x2048x8x32, .f32⟩
  | 108 => ⟨S2x2048x8x64, .f32⟩
  | 109 => ⟨S2x2048x8x64, .f32⟩
  | 110 => ⟨S_, .f32⟩
  | 111 => ⟨S64, .f32⟩
  | 112 => ⟨S1x1x1x64, .f32⟩
  | 113 => ⟨S2x2048x8x64, .f32⟩
  | 114 => ⟨S2x2048x8x64, .f32⟩
  | 115 => ⟨S_, .f32⟩
  | 116 => ⟨S64, .f32⟩
  | 117 => ⟨S2x2048x8x64, .f32⟩
  | 118 => ⟨S_, .f32⟩
  | 119 => ⟨S2x2048x8, .f32⟩
  | 120 => ⟨S2x2048x8x1, .f32⟩
  | 121 => ⟨S2x2048x8x64, .f32⟩
  | 122 => ⟨S2x2048x8x64, .f32⟩
  | 123 => ⟨S2x2048x8x1, .f32⟩
  | 124 => ⟨S_, .f32⟩
  | 125 => ⟨S2x2048x8x1, .f32⟩
  | 126 => ⟨S2x2048x8x1, .f32⟩
  | 127 => ⟨S_, .f32⟩
  | _ => ⟨S2x2048x8x192, .f32⟩

abbrev hbmTy0_2 (i : Nat) : BufTy := match i % 128 with
  | 0 => ⟨S2x2048x8, .f32⟩
  | 1 => ⟨S2x2048x8x64, .f32⟩
  | 2 => ⟨S2x2048x8x64, .f32⟩
  | 3 => ⟨S2x2048x8x64, .f32⟩
  | 4 => ⟨S2x2048x8x64, .f32⟩
  | 5 => ⟨S2x2048x8x64, .f32⟩
  | 6 => ⟨S2x2048x8x128, .f32⟩
  | 7 => ⟨S_, .f32⟩
  | 8 => ⟨S128, .f32⟩
  | 9 => ⟨S1x1x1x128, .f32⟩
  | 10 => ⟨S2x2048x8x128, .f32⟩
  | 11 => ⟨S2x2048x8x128, .f32⟩
  | 12 => ⟨S_, .f32⟩
  | 13 => ⟨S128, .f32⟩
  | 14 => ⟨S2x2048x8x128, .f32⟩
  | 15 => ⟨S_, .f32⟩
  | 16 => ⟨S2x2048x8, .f32⟩
  | 17 => ⟨S2x2048x8x1, .f32⟩
  | 18 => ⟨S2x2048x8x128, .f32⟩
  | 19 => ⟨S2x2048x8x128, .f32⟩
  | 20 => ⟨S2x2048x8x1, .f32⟩
  | 21 => ⟨S_, .f32⟩
  | 22 => ⟨S2x2048x8x1, .f32⟩
  | 23 => ⟨S2x2048x8x1, .f32⟩
  | 24 => ⟨S_, .f32⟩
  | 25 => ⟨S2x2048x8, .f32⟩
  | 26 => ⟨S2x2048x8x128, .f32⟩
  | 27 => ⟨S2x2048x8x128, .f32⟩
  | 28 => ⟨S2x2048x8x128, .f32⟩
  | 29 => ⟨S2x2048x8x128, .f32⟩
  | 30 => ⟨S2x2048x8x128, .f32⟩
  | 31 => ⟨S2x2048x8x192, .f32⟩
  | 32 => ⟨S_, .i32⟩
  | 33 => ⟨S_, .f32⟩
  | 34 => ⟨S2x2048x8x256, .f32⟩
  | 35 => ⟨S_, .i32⟩
  | 36 => ⟨S_, .f32⟩
  | 37 => ⟨S2x2304x8x256, .f32⟩
  | 38 => ⟨S4096x2048, .f32⟩
  | 39 => ⟨S4096x2048, .bf16⟩
  | 40 => ⟨S2x2048x8x256, .f32⟩
  | 41 => ⟨S4096x2048, .f32⟩
  | 42 => ⟨S2x256x8x256, .f32⟩
  | 43 => ⟨S512x2048, .f32⟩
  | 44 => ⟨S2x2048x8x128, .f32⟩
  | 45 => ⟨S4096x1024, .f32⟩
  | 46 => ⟨S2x256x8x128, .f32⟩
  | 47 => ⟨S512x1024, .f32⟩
  | 48 => ⟨S1x128, .f32⟩
  | 49 => ⟨S1x64, .f32⟩
  | 50 => ⟨S_, .i32⟩
  | 51 => ⟨S_, .f32⟩
  | 52 => ⟨S1x128, .f32⟩
  | _ => ⟨S2x2048x8x192, .f32⟩

abbrev hbmTy (i : Nat) : BufTy := match i / 128 with
  | 0 => hbmTy0_0 i
  | 1 => hbmTy0_1 i
  | 2 => hbmTy0_2 i
  | _ => ⟨S2x2048x8x192, .f32⟩

abbrev bufTy : (tb : Table) → Fin (tcTables nBuf tb) → BufTy
  | .hbm, ⟨i, _⟩ => hbmTy i
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_11 : Ref sig .tc := ⟨.hbm, 131, rfl⟩
abbrev main_v113 : Ref sig .tc := ⟨.hbm, 132, rfl⟩
abbrev main_v114 : Ref sig .tc := ⟨.hbm, 133, rfl⟩
abbrev main_cst_12 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_13 : Ref sig .tc := ⟨.hbm, 140, rfl⟩
abbrev main_v120 : Ref sig .tc := ⟨.hbm, 141, rfl⟩
abbrev main_cst_14 : Ref sig .tc := ⟨.hbm, 142, rfl⟩
abbrev main_v121 : Ref sig .tc := ⟨.hbm, 143, rfl⟩
abbrev main_v122 : Ref sig .tc := ⟨.hbm, 144, rfl⟩
abbrev main_cst_15 : Ref sig .tc := ⟨.hbm, 145, rfl⟩
abbrev main_v123 : Ref sig .tc := ⟨.hbm, 146, rfl⟩
abbrev main_v124 : Ref sig .tc := ⟨.hbm, 147, rfl⟩
abbrev main_cst_16 : Ref sig .tc := ⟨.hbm, 148, rfl⟩
abbrev main_v125 : Ref sig .tc := ⟨.hbm, 149, rfl⟩
abbrev main_v126 : Ref sig .tc := ⟨.hbm, 150, rfl⟩
abbrev main_cst_17 : Ref sig .tc := ⟨.hbm, 151, rfl⟩
abbrev main_v127 : Ref sig .tc := ⟨.hbm, 152, rfl⟩
abbrev main_cst_18 : Ref sig .tc := ⟨.hbm, 153, rfl⟩
abbrev main_v128 : Ref sig .tc := ⟨.hbm, 154, rfl⟩
abbrev main_cst_19 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_20 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_21 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_22 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_23 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_cst_24 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_cst_25 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_cst_26 : Ref sig .tc := ⟨.hbm, 243, rfl⟩
abbrev main_v210 : Ref sig .tc := ⟨.hbm, 244, rfl⟩
abbrev main_v211 : Ref sig .tc := ⟨.hbm, 245, rfl⟩
abbrev main_cst_27 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_cst_28 : Ref sig .tc := ⟨.hbm, 252, rfl⟩
abbrev main_v217 : Ref sig .tc := ⟨.hbm, 253, rfl⟩
abbrev main_v218 : Ref sig .tc := ⟨.hbm, 254, rfl⟩
abbrev main_cst_29 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_cst_30 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_cst_31 : Ref sig .tc := ⟨.hbm, 268, rfl⟩
abbrev main_v230 : Ref sig .tc := ⟨.hbm, 269, rfl⟩
abbrev main_v231 : Ref sig .tc := ⟨.hbm, 270, rfl⟩
abbrev main_cst_32 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_cst_33 : Ref sig .tc := ⟨.hbm, 277, rfl⟩
abbrev main_v237 : Ref sig .tc := ⟨.hbm, 278, rfl⟩
abbrev main_v238 : Ref sig .tc := ⟨.hbm, 279, rfl⟩
abbrev main_cst_34 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_c : Ref sig .tc := ⟨.hbm, 288, rfl⟩
abbrev main_call0_v0 : Ref sig .tc := ⟨.hbm, 289, rfl⟩
abbrev main_v246 : Ref sig .tc := ⟨.hbm, 290, rfl⟩
abbrev main_c_35 : Ref sig .tc := ⟨.hbm, 291, rfl⟩
abbrev main_call1_v0 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_c_36 : Ref sig .tc := ⟨.hbm, 306, rfl⟩
abbrev main_call2_v0 : Ref sig .tc := ⟨.hbm, 307, rfl⟩
abbrev main_v260 : Ref sig .tc := ⟨.hbm, 308, rfl⟩

abbrev nD : Nat := 1
abbrev τ : Topo := Topo.v7x

variable {F : FTy → Type} [FloatOps F]
-- ==== Kernel2.lean ====
abbrev S2x2048x8x192 : Shape := ⟨4, ![2, 2048, 8, 192]⟩
abbrev S128 : Shape := ⟨1, ![128]⟩
abbrev S64 : Shape := ⟨1, ![64]⟩
abbrev S2x2304x8x192 : Shape := ⟨4, ![2, 2304, 8, 192]⟩
abbrev S2x2304x8x128 : Shape := ⟨4, ![2, 2304, 8, 128]⟩
abbrev S2x2048x1024 : Shape := ⟨3, ![2, 2048, 1024]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S1x2048x1x128 : Shape := ⟨4, ![1, 2048, 1, 128]⟩
abbrev S2x2048x1x128 : Shape := ⟨4, ![2, 2048, 1, 128]⟩
abbrev S4096x128 : Shape := ⟨2, ![4096, 128]⟩
abbrev S512x128 : Shape := ⟨2, ![512, 128]⟩
abbrev S4608x128 : Shape := ⟨2, ![4608, 128]⟩
abbrev S2x256x8x192 : Shape := ⟨4, ![2, 256, 8, 192]⟩
abbrev S2x256x8x128 : Shape := ⟨4, ![2, 256, 8, 128]⟩
abbrev S1x128 : Shape := ⟨2, ![1, 128]⟩
abbrev S1x64 : Shape := ⟨2, ![1, 64]⟩
abbrev S2x2048x8x256 : Shape := ⟨4, ![2, 2048, 8, 256]⟩
abbrev S4096x2048 : Shape := ⟨2, ![4096, 2048]⟩
abbrev S2x256x8x256 : Shape := ⟨4, ![2, 256, 8, 256]⟩
abbrev S512x2048 : Shape := ⟨2, ![512, 2048]⟩
abbrev S4608x2048 : Shape := ⟨2, ![4608, 2048]⟩
abbrev S2x2048x8x128 : Shape := ⟨4, ![2, 2048, 8, 128]⟩
abbrev S4096x1024 : Shape := ⟨2, ![4096, 1024]⟩
abbrev S512x1024 : Shape := ⟨2, ![512, 1024]⟩
abbrev S4608x1024 : Shape := ⟨2, ![4608, 1024]⟩
abbrev S1024x256 : Shape := ⟨2, ![1024, 256]⟩
abbrev S1024x128 : Shape := ⟨2, ![1024, 128]⟩
abbrev S2048x256 : Shape := ⟨2, ![2048, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x2048 : Shape := ⟨2, ![256, 2048]⟩

abbrev nBuf : Space → Nat
  | .hbm => 139
  | .vmem => 26
  | .smem => 0
  | _ => 0

abbrev hbmTy0_0 (i : Nat) : BufTy := match i % 128 with
  | 0 => ⟨S2x2048x8x192, .f32⟩
  | 1 => ⟨S128, .f32⟩
  | 2 => ⟨S64, .f32⟩
  | 3 => ⟨S2x2304x8x192, .f32⟩
  | 4 => ⟨S2x2304x8x128, .f32⟩
  | 5 => ⟨S2x2048x1024, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S2048, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i1⟩
  | 37 => ⟨S_, .i32⟩
  | 38 => ⟨S2048, .i32⟩
  | 39 => ⟨S2048, .i1⟩
  | 40 => ⟨S_, .i32⟩
  | 41 => ⟨S_, .i1⟩
  | 42 => ⟨S2048, .i1⟩
  | 43 => ⟨S2048, .i1⟩
  | 44 => ⟨S2048, .i1⟩
  | 45 => ⟨S2048, .i32⟩
  | 46 => ⟨S2048, .i32⟩
  | 47 => ⟨S2048, .i32⟩
  | 48 => ⟨S2048, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S_, .f32⟩
  | 74 => ⟨S2048x64, .f32⟩
  | 75 => ⟨S_, .f32⟩
  | 76 => ⟨S2048x64, .f32⟩
  | 77 => ⟨S2048x16, .f32⟩
  | 78 => ⟨S2048x16, .f32⟩
  | 79 => ⟨S2048x16, .f32⟩
  | 80 => ⟨S2048x16, .f32⟩
  | 81 => ⟨S2048x128, .f32⟩
  | 82 => ⟨S2048x16, .f32⟩
  | 83 => ⟨S2048x16, .f32⟩
  | 84 => ⟨S2048x16, .f32⟩
  | 85 => ⟨S2048x16, .f32⟩
  | 86 => ⟨S2048x16, .f32⟩
  | 87 => ⟨S2048x16, .f32⟩
  | 88 => ⟨S2048x128, .f32⟩
  | 89 => ⟨S1x2048x1x128, .f32⟩
  | 90 => ⟨S2x2048x1x128, .f32⟩
  | 91 => ⟨S4096x128, .f32⟩
  | 92 => ⟨S_, .f32⟩
  | 93 => ⟨S512x128, .f32⟩
  | 94 => ⟨S4608x128, .f32⟩
  | 95 => ⟨S1x2048x1x128, .f32⟩
  | 96 => ⟨S2x2048x1x128, .f32⟩
  | 97 => ⟨S4096x128, .f32⟩
  | 98 => ⟨S_, .f32⟩
  | 99 => ⟨S512x128, .f32⟩
  | 100 => ⟨S4608x128, .f32⟩
  | 101 => ⟨S2x256x8x192, .f32⟩
  | 102 => ⟨S2x256x8x128, .f32⟩
  | 103 => ⟨S1x128, .f32⟩
  | 104 => ⟨S1x64, .f32⟩
  | 105 => ⟨S_, .i32⟩
  | 106 => ⟨S_, .f32⟩
  | 107 => ⟨S1x128, .f32⟩
  | 108 => ⟨S_, .i32⟩
  | 109 => ⟨S_, .f32⟩
  | 110 => ⟨S2x2048x8x256, .f32⟩
  | 111 => ⟨S4096x2048, .f32⟩
  | 112 => ⟨S2x2048x8x192, .f32⟩
  | 113 => ⟨S_, .i32⟩
  | 114 => ⟨S_, .f32⟩
  | 115 => ⟨S2x2048x8x256, .f32⟩
  | 116 => ⟨S4096x2048, .f32⟩
  | 117 => ⟨S_, .i32⟩
  | 118 => ⟨S_, .f32⟩
  | 119 => ⟨S2x256x8x256, .f32⟩
  | 120 => ⟨S512x2048, .f32⟩
  | 121 => ⟨S4608x2048, .f32⟩
  | 122 => ⟨S4608x2048, .bf16⟩
  | 123 => ⟨S2x2048x8x128, .f32⟩
  | 124 => ⟨S_, .i32⟩
  | 125 => ⟨S_, .f32⟩
  | 126 => ⟨S2x2048x8x128, .f32⟩
  | 127 => ⟨S4096x1024, .f32⟩
  | _ => ⟨S2x2048x8x192, .f32⟩

abbrev hbmTy0_1 (i : Nat) : BufTy := match i % 128 with
  | 0 => ⟨S_, .i32⟩
  | 1 => ⟨S_, .f32⟩
  | 2 => ⟨S2x256x8x128, .f32⟩
  | 3 => ⟨S512x1024, .f32⟩
  | 4 => ⟨S4608x1024, .f32⟩
  | 5 => ⟨S4608x1024, .bf16⟩
  | 6 => ⟨S4096x1024, .f32⟩
  | 7 => ⟨S4096x1024, .f32⟩
  | 8 => ⟨S4096x1024, .f32⟩
  | 9 => ⟨S4096x2048, .bf16⟩
  | 10 => ⟨S4096x1024, .bf16⟩
  | _ => ⟨S2x2048x8x192, .f32⟩

abbrev hbmTy (i : Nat) : BufTy := match i / 128 with
  | 0 => hbmTy0_0 i
  | 1 => hbmTy0_1 i
  | _ => ⟨S2x2048x8x192, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S2048x128, .bf16⟩
  | .local _ .vmem, ⟨13, _⟩ => ⟨S2048x128, .bf16⟩
  | .local _ .vmem, ⟨14, _⟩ => ⟨S256x128, .bf16⟩
  | .local _ .vmem, ⟨15, _⟩ => ⟨S256x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x256, .bf16⟩
  | .local _ .vmem, ⟨23, _⟩ => ⟨S1024x256, .bf16⟩
  | .local _ .vmem, ⟨24, _⟩ => ⟨S1024x128, .bf16⟩
  | .local _ .vmem, ⟨25, _⟩ => ⟨S1024x128, .bf16⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_cst : Ref sig .tc := ⟨.hbm, 50, rfl⟩
abbrev main_v6 : Ref sig .tc := ⟨.hbm, 51, rfl⟩
abbrev main_v7 : Ref sig .tc := ⟨.hbm, 52, rfl⟩
abbrev main_cst_1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_cst_2 : Ref sig .tc := ⟨.hbm, 57, rfl⟩
abbrev main_v11 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_4 : Ref sig .tc := ⟨.hbm, 73, rfl⟩
abbrev main_v25 : Ref sig .tc := ⟨.hbm, 74, rfl⟩
abbrev main_cst_5 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_6 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_7 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_c_8 : Ref sig .tc := ⟨.hbm, 105, rfl⟩
abbrev main_call2_v0 : Ref sig .tc := ⟨.hbm, 106, rfl⟩
abbrev main_v53 : Ref sig .tc := ⟨.hbm, 107, rfl⟩
abbrev main_c_9 : Ref sig .tc := ⟨.hbm, 108, rfl⟩
abbrev main_call3_v0 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_c_10 : Ref sig .tc := ⟨.hbm, 113, rfl⟩
abbrev main_call4_v0 : Ref sig .tc := ⟨.hbm, 114, rfl⟩
abbrev main_v57 : Ref sig .tc := ⟨.hbm, 115, rfl⟩
abbrev main_v58 : Ref sig .tc := ⟨.hbm, 116, rfl⟩
abbrev main_c_11 : Ref sig .tc := ⟨.hbm, 117, rfl⟩
abbrev main_call5_v0 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_12 : Ref sig .tc := ⟨.hbm, 124, rfl⟩
abbrev main_call6_v0 : Ref sig .tc := ⟨.hbm, 125, rfl⟩
abbrev main_v64 : Ref sig .tc := ⟨.hbm, 126, rfl⟩
abbrev main_v65 : Ref sig .tc := ⟨.hbm, 127, rfl⟩
abbrev main_c_13 : Ref sig .tc := ⟨.hbm, 128, rfl⟩
abbrev main_call7_v0 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71_0 : Ref sig .tc := ⟨.hbm, 135, rfl⟩
abbrev main_v71_1 : Ref sig .tc := ⟨.hbm, 136, rfl⟩
abbrev main_v71_2 : Ref sig .tc := ⟨.hbm, 137, rfl⟩
abbrev main_v71_3 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== Reference2Ideal.lean ====
abbrev S2x2048x8x192 : Shape := ⟨4, ![2, 2048, 8, 192]⟩
abbrev S128 : Shape := ⟨1, ![128]⟩
abbrev S64 : Shape := ⟨1, ![64]⟩
abbrev S2x2304x8x192 : Shape := ⟨4, ![2, 2304, 8, 192]⟩
abbrev S2x2304x8x128 : Shape := ⟨4, ![2, 2304, 8, 128]⟩
abbrev S2x2048x1024 : Shape := ⟨3, ![2, 2048, 1024]⟩
abbrev S2x2048x8x128 : Shape := ⟨4, ![2, 2048, 8, 128]⟩
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S1x1x1x64 : Shape := ⟨4, ![1, 1, 1, 64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2x2048x8x32 : Shape := ⟨4, ![2, 2048, 8, 32]⟩
abbrev S2x2048x8x16 : Shape := ⟨4, ![2, 2048, 8, 16]⟩
abbrev S1x2048x1x16 : Shape := ⟨4, ![1, 2048, 1, 16]⟩
abbrev S2x2304x8x64 : Shape := ⟨4, ![2, 2304, 8, 64]⟩
abbrev S2x8x2048x2304 : Shape := ⟨4, ![2, 8, 2048, 2304]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x256 : Shape := ⟨4, ![2, 2048, 8, 256]⟩
abbrev S4096x1024 : Shape := ⟨2, ![4096, 1024]⟩
abbrev S4096x2048 : Shape := ⟨2, ![4096, 2048]⟩

abbrev nBuf : Space → Nat
  | .hbm => 173
  | .vmem => 0
  | .smem => 0
  | _ => 0

abbrev hbmTy0_0 (i : Nat) : BufTy := match i % 128 with
  | 0 => ⟨S2x2048x8x192, .f32⟩
  | 1 => ⟨S128, .f32⟩
  | 2 => ⟨S64, .f32⟩
  | 3 => ⟨S2x2304x8x192, .f32⟩
  | 4 => ⟨S2x2304x8x128, .f32⟩
  | 5 => ⟨S2x2048x1024, .f32⟩
  | 6 => ⟨S2x2048x8x128, .f32⟩
  | 7 => ⟨S2x2048x8x64, .f32⟩
  | 8 => ⟨S2x2048x8x128, .f32⟩
  | 9 => ⟨S_, .f32⟩
  | 10 => ⟨S2x2048x8, .f32⟩
  | 11 => ⟨S2x2048x8x1, .f32⟩
  | 12 => ⟨S_, .f32⟩
  | 13 => ⟨S2x2048x8x1, .f32⟩
  | 14 => ⟨S2x2048x8x1, .f32⟩
  | 15 => ⟨S_, .f32⟩
  | 16 => ⟨S2x2048x8x1, .f32⟩
  | 17 => ⟨S2x2048x8x1, .f32⟩
  | 18 => ⟨S2x2048x8x1, .f32⟩
  | 19 => ⟨S2x2048x8x128, .f32⟩
  | 20 => ⟨S2x2048x8x128, .f32⟩
  | 21 => ⟨S1x1x1x128, .f32⟩
  | 22 => ⟨S2x2048x8x128, .f32⟩
  | 23 => ⟨S2x2048x8x128, .f32⟩
  | 24 => ⟨S2x2048x8x64, .f32⟩
  | 25 => ⟨S_, .f32⟩
  | 26 => ⟨S2x2048x8, .f32⟩
  | 27 => ⟨S2x2048x8x1, .f32⟩
  | 28 => ⟨S_, .f32⟩
  | 29 => ⟨S2x2048x8x1, .f32⟩
  | 30 => ⟨S2x2048x8x1, .f32⟩
  | 31 => ⟨S_, .f32⟩
  | 32 => ⟨S2x2048x8x1, .f32⟩
  | 33 => ⟨S2x2048x8x1, .f32⟩
  | 34 => ⟨S2x2048x8x1, .f32⟩
  | 35 => ⟨S2x2048x8x64, .f32⟩
  | 36 => ⟨S2x2048x8x64, .f32⟩
  | 37 => ⟨S1x1x1x64, .f32⟩
  | 38 => ⟨S2x2048x8x64, .f32⟩
  | 39 => ⟨S2x2048x8x64, .f32⟩
  | 40 => ⟨S32, .i32⟩
  | 41 => ⟨S32x64, .i32⟩
  | 42 => ⟨S2048, .i32⟩
  | 43 => ⟨S2048, .f32⟩
  | 44 => ⟨S64, .i32⟩
  | 45 => ⟨S1x64, .i32⟩
  | 46 => ⟨S32x64, .i32⟩
  | 47 => ⟨S2048, .i32⟩
  | 48 => ⟨S2048, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S2048x16, .f32⟩
  | 74 => ⟨S2048x16, .f32⟩
  | 75 => ⟨S2048x16, .f32⟩
  | 76 => ⟨S2048x16, .f32⟩
  | 77 => ⟨S2048x1x16, .f32⟩
  | 78 => ⟨S2048x1x16, .f32⟩
  | 79 => ⟨S2048x1x16, .f32⟩
  | 80 => ⟨S2048x1x16, .f32⟩
  | 81 => ⟨S2x2048x8x32, .f32⟩
  | 82 => ⟨S2x2048x8x32, .f32⟩
  | 83 => ⟨S2x2048x8x16, .f32⟩
  | 84 => ⟨S2x2048x8x16, .f32⟩
  | 85 => ⟨S1x2048x1x16, .f32⟩
  | 86 => ⟨S2x2048x8x16, .f32⟩
  | 87 => ⟨S2x2048x8x16, .f32⟩
  | 88 => ⟨S1x2048x1x16, .f32⟩
  | 89 => ⟨S2x2048x8x16, .f32⟩
  | 90 => ⟨S2x2048x8x16, .f32⟩
  | 91 => ⟨S2x2048x8x16, .f32⟩
  | 92 => ⟨S1x2048x1x16, .f32⟩
  | 93 => ⟨S2x2048x8x16, .f32⟩
  | 94 => ⟨S2x2048x8x16, .f32⟩
  | 95 => ⟨S1x2048x1x16, .f32⟩
  | 96 => ⟨S2x2048x8x16, .f32⟩
  | 97 => ⟨S2x2048x8x16, .f32⟩
  | 98 => ⟨S2x2048x8x16, .f32⟩
  | 99 => ⟨S2x2048x8x32, .f32⟩
  | 100 => ⟨S2x2048x8x16, .f32⟩
  | 101 => ⟨S2x2048x8x16, .f32⟩
  | 102 => ⟨S1x2048x1x16, .f32⟩
  | 103 => ⟨S2x2048x8x16, .f32⟩
  | 104 => ⟨S2x2048x8x16, .f32⟩
  | 105 => ⟨S1x2048x1x16, .f32⟩
  | 106 => ⟨S2x2048x8x16, .f32⟩
  | 107 => ⟨S2x2048x8x16, .f32⟩
  | 108 => ⟨S2x2048x8x16, .f32⟩
  | 109 => ⟨S1x2048x1x16, .f32⟩
  | 110 => ⟨S2x2048x8x16, .f32⟩
  | 111 => ⟨S2x2048x8x16, .f32⟩
  | 112 => ⟨S1x2048x1x16, .f32⟩
  | 113 => ⟨S2x2048x8x16, .f32⟩
  | 114 => ⟨S2x2048x8x16, .f32⟩
  | 115 => ⟨S2x2048x8x16, .f32⟩
  | 116 => ⟨S2x2048x8x32, .f32⟩
  | 117 => ⟨S2x2048x8x64, .f32⟩
  | 118 => ⟨S2x2304x8x128, .f32⟩
  | 119 => ⟨S2x2304x8x64, .f32⟩
  | 120 => ⟨S2x8x2048x2304, .f32⟩
  | 121 => ⟨S2x8x2048x2304, .f32⟩
  | 122 => ⟨S2x8x2048x2304, .f32⟩
  | 123 => ⟨S_, .f32⟩
  | 124 => ⟨S2x8x2048x2304, .f32⟩
  | 125 => ⟨S2x8x2048x2304, .f32⟩
  | 126 => ⟨S_, .f32⟩
  | 127 => ⟨S2x8x2048, .f32⟩
  | _ => ⟨S2x2048x8x192, .f32⟩

abbrev hbmTy0_1 (i : Nat) : BufTy := match i % 128 with
  | 0 => ⟨S_, .f32⟩
  | 1 => ⟨S2x8x2048, .f32⟩
  | 2 => ⟨S2x8x2048, .f32⟩
  | 3 => ⟨S2x8x2048x1, .f32⟩
  | 4 => ⟨S2x8x2048x2304, .f32⟩
  | 5 => ⟨S2x8x2048x2304, .f32⟩
  | 6 => ⟨S2x8x2048x2304, .f32⟩
  | 7 => ⟨S_, .f32⟩
  | 8 => ⟨S2x8x2048, .f32⟩
  | 9 => ⟨S2x8x2048x1, .f32⟩
  | 10 => ⟨S2x8x2048x2304, .f32⟩
  | 11 => ⟨S2x8x2048x2304, .f32⟩
  | 12 => ⟨S2x8x128x2048, .f32⟩
  | 13 => ⟨S2x2048x8x128, .f32⟩
  | 14 => ⟨S2x2048x1024, .f32⟩
  | 15 => ⟨S2x2048x1024, .f32⟩
  | 16 => ⟨S2x2048x1024, .f32⟩
  | 17 => ⟨S_, .f32⟩
  | 18 => ⟨S2x2048x1024, .f32⟩
  | 19 => ⟨S2x2048x1024, .f32⟩
  | 20 => ⟨S_, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x8x2048x2304, .f32⟩
  | 26 => ⟨S_, .f32⟩
  | 27 => ⟨S2x8x2048, .f32⟩
  | 28 => ⟨S2x8x2048, .f32⟩
  | 29 => ⟨S2x2048x8, .f32⟩
  | 30 => ⟨S2x2048x8x1, .f32⟩
  | 31 => ⟨S2x2048x8x128, .f32⟩
  | 32 => ⟨S2x2048x8x192, .f32⟩
  | 33 => ⟨S_, .f32⟩
  | 34 => ⟨S2x2048x8x192, .f32⟩
  | 35 => ⟨S2x2048x8x192, .f32⟩
  | 36 => ⟨S_, .i32⟩
  | 37 => ⟨S_, .f32⟩
  | 38 => ⟨S2x2048x8x256, .f32⟩
  | 39 => ⟨S4096x1024, .f32⟩
  | 40 => ⟨S4096x1024, .f32⟩
  | 41 => ⟨S4096x2048, .f32⟩
  | 42 => ⟨S4096x2048, .bf16⟩
  | 43 => ⟨S4096x1024, .f32⟩
  | 44 => ⟨S4096x1024, .bf16⟩
  | _ => ⟨S2x2048x8x192, .f32⟩

abbrev hbmTy (i : Nat) : BufTy := match i / 128 with
  | 0 => hbmTy0_0 i
  | 1 => hbmTy0_1 i
  | _ => ⟨S2x2048x8x192, .f32⟩

abbrev bufTy : (tb : Table) → Fin (tcTables nBuf tb) → BufTy
  | .hbm, ⟨i, _⟩ => hbmTy i
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_9 : Ref sig .tc := ⟨.hbm, 123, rfl⟩
abbrev main_v107 : Ref sig .tc := ⟨.hbm, 124, rfl⟩
abbrev main_v108 : Ref sig .tc := ⟨.hbm, 125, rfl⟩
abbrev main_cst_10 : Ref sig .tc := ⟨.hbm, 126, rfl⟩
abbrev main_v109 : Ref sig .tc := ⟨.hbm, 127, rfl⟩
abbrev main_cst_11 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_12 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_call0_v0 : Ref sig .tc := ⟨.hbm, 143, rfl⟩
abbrev main_call0_v1 : Ref sig .tc := ⟨.hbm, 144, rfl⟩
abbrev main_call0_cst : Ref sig .tc := ⟨.hbm, 145, rfl⟩
abbrev main_call0_v2 : Ref sig .tc := ⟨.hbm, 146, rfl⟩
abbrev main_call0_v3 : Ref sig .tc := ⟨.hbm, 147, rfl⟩
abbrev main_call0_cst_0 : Ref sig .tc := ⟨.hbm, 148, rfl⟩
abbrev main_call0_v4 : Ref sig .tc := ⟨.hbm, 149, rfl⟩
abbrev main_call0_v5 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_13 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_14 : Ref sig .tc := ⟨.hbm, 161, rfl⟩
abbrev main_v132 : Ref sig .tc := ⟨.hbm, 162, rfl⟩
abbrev main_v133 : Ref sig .tc := ⟨.hbm, 163, rfl⟩
abbrev main_c : Ref sig .tc := ⟨.hbm, 164, rfl⟩
abbrev main_call1_v0 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩

abbrev nD : Nat := 1
abbrev τ : Topo := Topo.v7x

variable {F : FTy → Type} [FloatOps F]
-- ==== Kernel3.lean ====
abbrev S4608x1024 : Shape := ⟨2, ![4608, 1024]⟩
abbrev S4x256x256 : Shape := ⟨3, ![4, 256, 256]⟩
abbrev S1024 : Shape := ⟨1, ![1024]⟩
abbrev S4608x2048 : Shape := ⟨2, ![4608, 2048]⟩
abbrev S1x1024 : Shape := ⟨2, ![1, 1024]⟩
abbrev S256x1024 : Shape := ⟨2, ![256, 1024]⟩
abbrev S256x256 : Shape := ⟨2, ![256, 256]⟩
abbrev S1x256 : Shape := ⟨2, ![1, 256]⟩
abbrev S1x256x256 : Shape := ⟨3, ![1, 256, 256]⟩
abbrev S256 : Shape := ⟨1, ![256]⟩

abbrev nBuf : Space → Nat
  | .hbm => 12
  | .vmem => 14
  | .smem => 0
  | _ => 0

abbrev bufTy : (tb : Table) → Fin (tcTables nBuf tb) → BufTy
  | .hbm, ⟨0, _⟩ => ⟨S4608x1024, .f32⟩
  | .hbm, ⟨1, _⟩ => ⟨S4x256x256, .f32⟩
  | .hbm, ⟨2, _⟩ => ⟨S1024, .f32⟩
  | .hbm, ⟨3, _⟩ => ⟨S4608x2048, .f32⟩
  | .hbm, ⟨4, _⟩ => ⟨S4608x1024, .f32⟩
  | .hbm, ⟨5, _⟩ => ⟨S4608x1024, .bf16⟩
  | .hbm, ⟨6, _⟩ => ⟨S4x256x256, .bf16⟩
  | .hbm, ⟨7, _⟩ => ⟨S1x1024, .f32⟩
  | .hbm, ⟨8, _⟩ => ⟨S4608x1024, .f32⟩
  | .hbm, ⟨9, _⟩ => ⟨S4608x1024, .bf16⟩
  | .hbm, ⟨10, _⟩ => ⟨S1x1024, .f32⟩
  | .hbm, ⟨11, _⟩ => ⟨S4x256x256, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S4x256x256, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S4x256x256, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4608x1024 : Shape := ⟨2, ![4608, 1024]⟩
abbrev S4x256x256 : Shape := ⟨3, ![4, 256, 256]⟩
abbrev S1024 : Shape := ⟨1, ![1024]⟩
abbrev S4608x2048 : Shape := ⟨2, ![4608, 2048]⟩
abbrev S4608x4x256 : Shape := ⟨3, ![4608, 4, 256]⟩
abbrev S4x256x4608 : Shape := ⟨3, ![4, 256, 4608]⟩
abbrev S1x1024 : Shape := ⟨2, ![1, 1024]⟩
abbrev S_ : Shape := ⟨0, ![]⟩
abbrev S4x4608x256 : Shape := ⟨3, ![4, 4608, 256]⟩

abbrev nBuf : Space → Nat
  | .hbm => 55
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4x256x256, .f32⟩
  | .hbm, ⟨2, _⟩ => ⟨S1024, .f32⟩
  | .hbm, ⟨3, _⟩ => ⟨S4608x2048, .f32⟩
  | .hbm, ⟨4, _⟩ => ⟨S4608x1024, .f32⟩
  | .hbm, ⟨5, _⟩ => ⟨S4608x1024, .f32⟩
  | .hbm, ⟨6, _⟩ => ⟨S4608x1024, .f32⟩
  | .hbm, ⟨7, _⟩ => ⟨S4608x4x256, .f32⟩
  | .hbm, ⟨8, _⟩ => ⟨S4x256x4608, .f32⟩
  | .hbm, ⟨9, _⟩ => ⟨S4608x4x256, .f32⟩
  | .hbm, ⟨10, _⟩ => ⟨S4608x1024, .f32⟩
  | .hbm, ⟨11, _⟩ => ⟨S1x1024, .f32⟩
  | .hbm, ⟨12, _⟩ => ⟨S4608x1024, .f32⟩
  | .hbm, ⟨13, _⟩ => ⟨S4608x1024, .f32⟩
  | .hbm, ⟨14, _⟩ => ⟨S4608x1024, .f32⟩
  | .hbm, ⟨15, _⟩ => ⟨S4608x1024, .f32⟩
  | .hbm, ⟨16, _⟩ => ⟨S_, .f32⟩
  | .hbm, ⟨17, _⟩ => ⟨S4608x1024, .f32⟩
  | .hbm, ⟨18, _⟩ => ⟨S4608x1024, .f32⟩
  | .hbm, ⟨19, _⟩ => ⟨S_, .f32⟩
  | .hbm, ⟨20, _⟩ => ⟨S4608x1024, .f32⟩
  | .hbm, ⟨21, _⟩ => ⟨S4608x1024, .f32⟩
  | .hbm, ⟨22, _⟩ => ⟨S_, .f32⟩
  | .hbm, ⟨23, _⟩ => ⟨S4608x1024, .f32⟩
  | .hbm, ⟨24, _⟩ => ⟨S4608x1024, .f32⟩
  | .hbm, ⟨25, _⟩ => ⟨S4608x1024, .f32⟩
  | .hbm, ⟨26, _⟩ => ⟨S4608x1024, .f32⟩
  | .hbm, ⟨27, _⟩ => ⟨S4608x1024, .f32⟩
  | .hbm, ⟨28, _⟩ => ⟨S4608x1024, .f32⟩
  | .hbm, ⟨29, _⟩ => ⟨S4608x1024, .f32⟩
  | .hbm, ⟨30, _⟩ => ⟨S4608x1024, .f32⟩
  | .hbm, ⟨31, _⟩ => ⟨S4608x1024, .f32⟩
  | .hbm, ⟨32, _⟩ => ⟨S4608x1024, .f32⟩
  | .hbm, ⟨33, _⟩ => ⟨S4608x1024, .f32⟩
  | .hbm, ⟨34, _⟩ => ⟨S4608x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4608x1024, .f32⟩
  | .hbm, ⟨39, _⟩ => ⟨S4608x1024, .f32⟩
  | .hbm, ⟨40, _⟩ => ⟨S_, .f32⟩
  | .hbm, ⟨41, _⟩ => ⟨S1024, .f32⟩
  | .hbm, ⟨42, _⟩ => ⟨S4608x4x256, .f32⟩
  | .hbm, ⟨43, _⟩ => ⟨S4x256x4608, .f32⟩
  | .hbm, ⟨44, _⟩ => ⟨S4x4608x256, .f32⟩
  | .hbm, ⟨45, _⟩ => ⟨S4608x4x256, .f32⟩
  | .hbm, ⟨46, _⟩ => ⟨S4x256x256, .f32⟩
  | .hbm, ⟨47, _⟩ => ⟨S4x256x256, .f32⟩
  | .hbm, ⟨48, _⟩ => ⟨S4608x1024, .f32⟩
  | .hbm, ⟨49, _⟩ => ⟨S_, .f32⟩
  | .hbm, ⟨50, _⟩ => ⟨S4608x1024, .f32⟩
  | .hbm, ⟨51, _⟩ => ⟨S4608x2048, .f32⟩
  | .hbm, ⟨52, _⟩ => ⟨S4608x1024, .f32⟩
  | .hbm, ⟨53, _⟩ => ⟨S4608x1024, .bf16⟩
  | .hbm, ⟨54, _⟩ => ⟨S1x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== Kernel4.lean ====
abbrev S4608x1024 : Shape := ⟨2, ![4608, 1024]⟩
abbrev S1024x3072 : Shape := ⟨2, ![1024, 3072]⟩
abbrev S4608x3072 : Shape := ⟨2, ![4608, 3072]⟩
abbrev S512x3072 : Shape := ⟨2, ![512, 3072]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4608x1024, .f32⟩
  | .hbm, ⟨1, _⟩ => ⟨S1024x3072, .f32⟩
  | .hbm, ⟨2, _⟩ => ⟨S4608x3072, .f32⟩
  | .hbm, ⟨3, _⟩ => ⟨S4608x3072, .bf16⟩
  | .hbm, ⟨4, _⟩ => ⟨S1024x3072, .bf16⟩
  | .hbm, ⟨5, _⟩ => ⟨S4608x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4608x1024 : Shape := ⟨2, ![4608, 1024]⟩
abbrev S1024x3072 : Shape := ⟨2, ![1024, 3072]⟩
abbrev S4608x3072 : Shape := ⟨2, ![4608, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x3072, .f32⟩
  | .hbm, ⟨2, _⟩ => ⟨S4608x3072, .f32⟩
  | .hbm, ⟨3, _⟩ => ⟨S4608x3072, .f32⟩
  | .hbm, ⟨4, _⟩ => ⟨S3072x1024, .f32⟩
  | .hbm, ⟨5, _⟩ => ⟨S1024x3072, .f32⟩
  | .hbm, ⟨6, _⟩ => ⟨S4608x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4608x1024 : Shape := ⟨2, ![4608, 1024]⟩
abbrev S1024x3072 : Shape := ⟨2, ![1024, 3072]⟩
abbrev S4608x3072 : Shape := ⟨2, ![4608, 3072]⟩
abbrev S8x1024x384 : Shape := ⟨3, ![8, 1024, 384]⟩
abbrev S1536x1024 : Shape := ⟨2, ![1536, 1024]⟩
abbrev S1536x768 : Shape := ⟨2, ![1536, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 6
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S1024x3072, .f32⟩
  | .hbm, ⟨2, _⟩ => ⟨S4608x3072, .f32⟩
  | .hbm, ⟨3, _⟩ => ⟨S4608x1024, .bf16⟩
  | .hbm, ⟨4, _⟩ => ⟨S4608x3072, .bf16⟩
  | .hbm, ⟨5, _⟩ => ⟨S8x1024x384, .bf16⟩
  | .local _ .vmem, ⟨0, _⟩ => ⟨S1536x1024, .bf16⟩
  | .local _ .vmem, ⟨1, _⟩ => ⟨S1536x1024, .bf16⟩
  | .local _ .vmem, ⟨2, _⟩ => ⟨S1536x768, .bf16⟩
  | .local _ .vmem, ⟨3, _⟩ => ⟨S1536x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4608x1024 : Shape := ⟨2, ![4608, 1024]⟩
abbrev S1024x3072 : Shape := ⟨2, ![1024, 3072]⟩
abbrev S4608x3072 : Shape := ⟨2, ![4608, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x3072, .f32⟩
  | .hbm, ⟨2, _⟩ => ⟨S4608x3072, .f32⟩
  | .hbm, ⟨3, _⟩ => ⟨S4608x3072, .f32⟩
  | .hbm, ⟨4, _⟩ => ⟨S3072x1024, .f32⟩
  | .hbm, ⟨5, _⟩ => ⟨S1024x3072, .f32⟩
  | .hbm, ⟨6, _⟩ => ⟨S4608x1024, .f32⟩
  | .hbm, ⟨7, _⟩ => ⟨S1024x8x384, .f32⟩
  | .hbm, ⟨8, _⟩ => ⟨S8x1024x384, .f32⟩
  | .hbm, ⟨9, _⟩ => ⟨S8x1024x384, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4608x1024 : Shape := ⟨2, ![4608, 1024]⟩
abbrev S1024x3072 : Shape := ⟨2, ![1024, 3072]⟩
abbrev S4608x3072 : Shape := ⟨2, ![4608, 3072]⟩
abbrev S1536x1024 : Shape := ⟨2, ![1536, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4608x1024, .f32⟩
  | .hbm, ⟨1, _⟩ => ⟨S1024x3072, .f32⟩
  | .hbm, ⟨2, _⟩ => ⟨S4608x1024, .bf16⟩
  | .hbm, ⟨3, _⟩ => ⟨S1024x3072, .bf16⟩
  | .hbm, ⟨4, _⟩ => ⟨S4608x3072, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4608x1024 : Shape := ⟨2, ![4608, 1024]⟩
abbrev S1024x3072 : Shape := ⟨2, ![1024, 3072]⟩
abbrev S4608x3072 : Shape := ⟨2, ![4608, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x3072, .f32⟩
  | .hbm, ⟨2, _⟩ => ⟨S4608x3072, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S4096x1024 : Shape := ⟨2, ![4096, 1024]⟩
abbrev S1024x3072 : Shape := ⟨2, ![1024, 3072]⟩
abbrev S4096x3072 : Shape := ⟨2, ![4096, 3072]⟩
abbrev S512x3072 : Shape := ⟨2, ![512, 3072]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .bf16⟩
  | .hbm, ⟨4, _⟩ => ⟨S1024x3072, .bf16⟩
  | .hbm, ⟨5, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Block.Chain.lean ====
module

public import proofs.«01_k».proof.Proof.Gen.KernelIdeal.Skeleton
/-! What one chain of 512 query rows computes against a head's keys and values. -/

@[expose] public section

set_option maxRecDepth 16384

noncomputable section

namespace Cert.Proof.Block

open Cert.KernelIdeal Cert.KernelIdeal.Gen Idealize.ShloMosaic

variable {F : FTy → Type} [FloatOps F]

/-- The upper and the lower 512 rows of a block, and of its pieces of columns. -/
def lo128 (x : Vec F S1024x128 .f32) : Vec F S512x128 .f32 := extractStridedSlice ⟨_, S512x128.size⟩ ![0, 0] x ⟨rfl, inb_S1024x128_S512x128_0_0⟩
def hi128 (x : Vec F S1024x128 .f32) : Vec F S512x128 .f32 := extractStridedSlice ⟨_, S512x128.size⟩ ![512, 0] x ⟨rfl, inb_S1024x128_S512x128_512_0⟩
def lo1 (x : Vec F S1024x128 .f32) : Vec F S512x1 .f32 := extractStridedSlice ⟨_, S512x1.size⟩ ![0, 0] x ⟨rfl, inb_S1024x128_S512x1_0_0⟩
def hi1 (x : Vec F S1024x128 .f32) : Vec F S512x1 .f32 := extractStridedSlice ⟨_, S512x1.size⟩ ![512, 0] x ⟨rfl, inb_S1024x128_S512x1_512_0⟩
def lo256 (x : Vec F S1024x256 .bf16) : Vec F S512x256 .bf16 := extractStridedSlice ⟨_, S512x256.size⟩ ![0, 0] x ⟨rfl, inb_S1024x256_S512x256_0_0⟩
def hi256 (x : Vec F S1024x256 .bf16) : Vec F S512x256 .bf16 := extractStridedSlice ⟨_, S512x256.size⟩ ![512, 0] x ⟨rfl, inb_S1024x256_S512x256_512_0⟩
def loN (x : Vec F S1024x256 .f32) : Vec F S512x128 .f32 := extractStridedSlice ⟨_, S512x128.size⟩ ![0, 0] x ⟨rfl, inb_S1024x256_S512x128_0_0⟩
def hiN (x : Vec F S1024x256 .f32) : Vec F S512x128 .f32 := extractStridedSlice ⟨_, S512x128.size⟩ ![512, 0] x ⟨rfl, inb_S1024x256_S512x128_512_0⟩
def loR (x : Vec F S1024x256 .f32) : Vec F S512x128 .f32 := extractStridedSlice ⟨_, S512x128.size⟩ ![0, 128] x ⟨rfl, inb_S1024x256_S512x128_0_128⟩
def hiR (x : Vec F S1024x256 .f32) : Vec F S512x128 .f32 := extractStridedSlice ⟨_, S512x128.size⟩ ![512, 128] x ⟨rfl, inb_S1024x256_S512x128_512_128⟩

variable (Q : Vec F S512x256 .bf16) (A B : Vec F S512x128 .f32) (L : Vec F S512x1 .f32)
  (KL : Vec F S2048x256 .bf16) (KC : Vec F S256x256 .bf16) (VL : Vec F S2048x128 .bf16) (VC : Vec F S256x128 .bf16)
  (X XR : Vec F S512x128 .f32) (GN GR : Vec F S1x128 .f32) (CT ST : Vec F S512x128 .f32)

/-- The weights against the latents' keys, and their gradients. -/
def wL : FVec F S512x2048 .f32 := k0_pay16 Q L KL
def gL : FVec F S512x2048 .f32 := k0_pay19 (k0_pay16 Q L KL) (k0_pay17 A VL) (k0_pay18 A B)
/-- The weights against the contexts' keys, and their gradients. -/
def wC : FVec F S512x256 .f32 := k0_pay22 (k0_pay11 Q) (k0_pay14 L) KC
def gC : FVec F S512x256 .f32 := k0_pay23 (k0_pay11 Q) (k0_pay12 A) (k0_pay13 A B) (k0_pay14 L) KC VC
/-- The keys' and values' gradients. -/
def dKL : FVec F S2048x256 .f32 := k0_pay20 (k0_pay11 Q) (k0_pay16 Q L KL) (k0_pay17 A VL) (k0_pay18 A B)
def dVL : FVec F S2048x128 .f32 := k0_pay21 (k0_pay12 A) (k0_pay16 Q L KL)
def dKC : FVec F S256x256 .f32 := k0_pay24 (k0_pay11 Q) (k0_pay12 A) (k0_pay13 A B) (k0_pay14 L) KC VC
def dVC : FVec F S256x128 .f32 := k0_pay25 (k0_pay11 Q) (k0_pay12 A) (k0_pay14 L) KC
/-- The turned query's gradient. -/
def dZ : FVec F S512x256 .f32 := k0_pay26 (k0_pay11 Q) (k0_pay12 A) (k0_pay13 A B) (k0_pay14 L) k0_pay15
  (k0_pay16 Q L KL) (k0_pay17 A VL) (k0_pay18 A B) KL KC VC KC

variable (Z : FVec F S512x256 .f32)

/-- The last lanes turned back. -/
def back : FVec F S512x128 .f32 := k0_pay40 (k0_pay36 Z CT) (k0_pay37 Z ST)
  (Scalar.select (Scalar.cmpi .eq 32#32 0#32) 1#32 32#32) k0_pay38 k0_pay39
/-- The query's gradient. -/
def dQ : FVec F S512x256 .bf16 := k0_pay44 (k0_pay31 Z (k0_pay27 X) GN) (k0_pay33 XR) (k0_pay34 GR) (k0_pay36 Z CT) (k0_pay37 Z ST)
  (Scalar.select (Scalar.cmpi .eq 32#32 0#32) 1#32 32#32) k0_pay38 k0_pay39
/-- The chain's parts of the gains' gradients. -/
def dGN : FVec F S1x128 .f32 := k0_pay45 (k0_pay32 Z (k0_pay27 X))
def dGR : FVec F S1x128 .f32 := k0_pay46 (k0_pay43 (k0_pay33 XR) (k0_pay36 Z CT) (k0_pay37 Z ST)
  (Scalar.select (Scalar.cmpi .eq 32#32 0#32) 1#32 32#32) k0_pay38 k0_pay39)

end Cert.Proof.Block
-- ==== Proof.Block.PointA.lean ====
module

public import proofs.«01_k».proof.Proof.Gen.KernelIdeal.Frame
public import proofs.«01_k».proof.Proof.Block.Chain
public import Idealize.ShloMosaic.Lib.Pipeline.Value
/-! What a point of the grid leaves in its blocks, in the chains' words: the kind A. -/

@[expose] public section

set_option maxRecDepth 16384

noncomputable section

namespace Cert.Proof.Block

open Cert.KernelIdeal Cert.KernelIdeal.Gen Idealize.ShloMosaic Idealize.ShloMosaic.TcCoe Idealize.SL.Sem

variable {F : FTy → Type} [FloatOps F]

/-- No offset. -/
theorem zz : (![0, 0] : Fin 2 → ℕ) = fun _ => 0 := by funext a; fin_cases a <;> rfl

/-- Array 1 of the seven, as a point of kind A leaves it. -/
theorem out_A_13 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) : out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12
    = View.canon [⟨Rect.unit (s := S1024x256) ![512, 0] S512x256.size inb_S1024x256_S512x256_512_0, (dQ (hiN x4) (hiR x4) x5 x6 (hi128 x7) (hi128 x8) (dZ (hi256 x3) (hi128 x0) (hi128 x1) (hi1 x2) x9 x10 x11 x12))⟩,
      ⟨Rect.unit (s := S1024x256) ![0, 0] S512x256.size inb_S1024x256_S512x256_0_0, (dQ (loN x4) (loR x4) x5 x6 (lo128 x7) (lo128 x8) (dZ (lo256 x3) (lo128 x0) (lo128 x1) (lo1 x2) x9 x10 x11 x12))⟩] := by
  unfold out0_A_13
  rw [View.read_writes_eq_canon _ _ _ (cover0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 2 of the seven, as a point of kind A leaves it. -/
theorem out_A_14 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) : out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12
    = k0_pay82 (dKL (lo256 x3) (lo128 x0) (lo128 x1) (lo1 x2) x9 x11) (dKL (hi256 x3) (hi128 x0) (hi128 x1) (hi1 x2) x9 x11) k0_pay5 := by
  unfold out0_A_14
  rw [View.read_writes_eq_canon _ _ _ (cover0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12)]
  unfold kernelRun0_A
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 3 of the seven, as a point of kind A leaves it. -/
theorem out_A_15 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) : out0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12
    = k0_pay1 (dKC (lo256 x3) (lo128 x0) (lo128 x1) (lo1 x2) x10 x12) (dKC (hi256 x3) (hi128 x0) (hi128 x1) (hi1 x2) x10 x12) k0_pay6 := by
  unfold out0_A_15
  rw [View.read_writes_eq_canon _ _ _ (cover0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12)]
  unfold kernelRun0_A
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 4 of the seven, as a point of kind A leaves it. -/
theorem out_A_16 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) : out0_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12
    = k0_pay83 (dVL (lo256 x3) (lo128 x0) (lo1 x2) x9) (dVL (hi256 x3) (hi128 x0) (hi1 x2) x9) k0_pay7 := by
  unfold out0_A_16
  rw [View.read_writes_eq_canon _ _ _ (cover0_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12)]
  unfold kernelRun0_A
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 5 of the seven, as a point of kind A leaves it. -/
theorem out_A_17 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) : out0_A_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12
    = k0_pay2 (dVC (lo256 x3) (lo128 x0) (lo1 x2) x10) (dVC (hi256 x3) (hi128 x0) (hi1 x2) x10) k0_pay8 := by
  unfold out0_A_17
  rw [View.read_writes_eq_canon _ _ _ (cover0_A_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12)]
  unfold kernelRun0_A
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 6 of the seven, as a point of kind A leaves it. -/
theorem out_A_18 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) : out0_A_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12
    = k0_pay3 (dGN (loN x4) (dZ (lo256 x3) (lo128 x0) (lo128 x1) (lo1 x2) x9 x10 x11 x12)) (dGN (hiN x4) (dZ (hi256 x3) (hi128 x0) (hi128 x1) (hi1 x2) x9 x10 x11 x12)) k0_pay9 := by
  unfold out0_A_18
  rw [View.read_writes_eq_canon _ _ _ (cover0_A_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12)]
  unfold kernelRun0_A
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 7 of the seven, as a point of kind A leaves it. -/
theorem out_A_19 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) : out0_A_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12
    = k0_pay4 (dGR (loR x4) (lo128 x7) (lo128 x8) (dZ (lo256 x3) (lo128 x0) (lo128 x1) (lo1 x2) x9 x10 x11 x12)) (dGR (hiR x4) (hi128 x7) (hi128 x8) (dZ (hi256 x3) (hi128 x0) (hi128 x1) (hi1 x2) x9 x10 x11 x12)) k0_pay10 := by
  unfold out0_A_19
  rw [View.read_writes_eq_canon _ _ _ (cover0_A_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12)]
  unfold kernelRun0_A
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

end Cert.Proof.Block
-- ==== Proof.Block.PointB.lean ====
module

public import proofs.«01_k».proof.Proof.Gen.KernelIdeal.Frame
public import proofs.«01_k».proof.Proof.Block.PointA
public import Idealize.ShloMosaic.Lib.Pipeline.Value
/-! What a point of the grid leaves in its blocks, in the chains' words: the kind B. -/

@[expose] public section

set_option maxRecDepth 16384

noncomputable section

namespace Cert.Proof.Block

open Cert.KernelIdeal Cert.KernelIdeal.Gen Idealize.ShloMosaic Idealize.ShloMosaic.TcCoe Idealize.SL.Sem

variable {F : FTy → Type} [FloatOps F]

/-- Array 1 of the seven, as a point of kind B leaves it. -/
theorem out_B_13 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : ¬cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo14 : Vec F S2048x256 .f32) (xo15 : Vec F S256x256 .f32) (xo16 : Vec F S2048x128 .f32) (xo17 : Vec F S256x128 .f32) (xo18 : Vec F S1x128 .f32) (xo19 : Vec F S1x128 .f32) : out0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19
    = View.canon [⟨Rect.unit (s := S1024x256) ![512, 0] S512x256.size inb_S1024x256_S512x256_512_0, (dQ (hiN x4) (hiR x4) x5 x6 (hi128 x7) (hi128 x8) (dZ (hi256 x3) (hi128 x0) (hi128 x1) (hi1 x2) x9 x10 x11 x12))⟩,
      ⟨Rect.unit (s := S1024x256) ![0, 0] S512x256.size inb_S1024x256_S512x256_0_0, (dQ (loN x4) (loR x4) x5 x6 (lo128 x7) (lo128 x8) (dZ (lo256 x3) (lo128 x0) (lo128 x1) (lo1 x2) x9 x10 x11 x12))⟩] := by
  unfold out0_B_13
  rw [View.read_writes_eq_canon _ _ _ (cover0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19)]
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 2 of the seven, as a point of kind B leaves it. -/
theorem out_B_14 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : ¬cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo14 : Vec F S2048x256 .f32) (xo15 : Vec F S256x256 .f32) (xo16 : Vec F S2048x128 .f32) (xo17 : Vec F S256x128 .f32) (xo18 : Vec F S1x128 .f32) (xo19 : Vec F S1x128 .f32) : out0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19
    = k0_pay82 (dKL (lo256 x3) (lo128 x0) (lo128 x1) (lo1 x2) x9 x11) (dKL (hi256 x3) (hi128 x0) (hi128 x1) (hi1 x2) x9 x11) xo14 := by
  unfold out0_B_14
  rw [View.read_writes_eq_canon _ _ _ (cover0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19)]
  unfold kernelRun0_B
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 3 of the seven, as a point of kind B leaves it. -/
theorem out_B_15 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : ¬cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo14 : Vec F S2048x256 .f32) (xo15 : Vec F S256x256 .f32) (xo16 : Vec F S2048x128 .f32) (xo17 : Vec F S256x128 .f32) (xo18 : Vec F S1x128 .f32) (xo19 : Vec F S1x128 .f32) : out0_B_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19
    = k0_pay1 (dKC (lo256 x3) (lo128 x0) (lo128 x1) (lo1 x2) x10 x12) (dKC (hi256 x3) (hi128 x0) (hi128 x1) (hi1 x2) x10 x12) xo15 := by
  unfold out0_B_15
  rw [View.read_writes_eq_canon _ _ _ (cover0_B_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19)]
  unfold kernelRun0_B
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 4 of the seven, as a point of kind B leaves it. -/
theorem out_B_16 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : ¬cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo14 : Vec F S2048x256 .f32) (xo15 : Vec F S256x256 .f32) (xo16 : Vec F S2048x128 .f32) (xo17 : Vec F S256x128 .f32) (xo18 : Vec F S1x128 .f32) (xo19 : Vec F S1x128 .f32) : out0_B_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19
    = k0_pay83 (dVL (lo256 x3) (lo128 x0) (lo1 x2) x9) (dVL (hi256 x3) (hi128 x0) (hi1 x2) x9) xo16 := by
  unfold out0_B_16
  rw [View.read_writes_eq_canon _ _ _ (cover0_B_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19)]
  unfold kernelRun0_B
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 5 of the seven, as a point of kind B leaves it. -/
theorem out_B_17 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : ¬cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo14 : Vec F S2048x256 .f32) (xo15 : Vec F S256x256 .f32) (xo16 : Vec F S2048x128 .f32) (xo17 : Vec F S256x128 .f32) (xo18 : Vec F S1x128 .f32) (xo19 : Vec F S1x128 .f32) : out0_B_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19
    = k0_pay2 (dVC (lo256 x3) (lo128 x0) (lo1 x2) x10) (dVC (hi256 x3) (hi128 x0) (hi1 x2) x10) xo17 := by
  unfold out0_B_17
  rw [View.read_writes_eq_canon _ _ _ (cover0_B_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19)]
  unfold kernelRun0_B
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 6 of the seven, as a point of kind B leaves it. -/
theorem out_B_18 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : ¬cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo14 : Vec F S2048x256 .f32) (xo15 : Vec F S256x256 .f32) (xo16 : Vec F S2048x128 .f32) (xo17 : Vec F S256x128 .f32) (xo18 : Vec F S1x128 .f32) (xo19 : Vec F S1x128 .f32) : out0_B_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19
    = k0_pay3 (dGN (loN x4) (dZ (lo256 x3) (lo128 x0) (lo128 x1) (lo1 x2) x9 x10 x11 x12)) (dGN (hiN x4) (dZ (hi256 x3) (hi128 x0) (hi128 x1) (hi1 x2) x9 x10 x11 x12)) xo18 := by
  unfold out0_B_18
  rw [View.read_writes_eq_canon _ _ _ (cover0_B_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19)]
  unfold kernelRun0_B
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 7 of the seven, as a point of kind B leaves it. -/
theorem out_B_19 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : ¬cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo14 : Vec F S2048x256 .f32) (xo15 : Vec F S256x256 .f32) (xo16 : Vec F S2048x128 .f32) (xo17 : Vec F S256x128 .f32) (xo18 : Vec F S1x128 .f32) (xo19 : Vec F S1x128 .f32) : out0_B_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19
    = k0_pay4 (dGR (loR x4) (lo128 x7) (lo128 x8) (dZ (lo256 x3) (lo128 x0) (lo128 x1) (lo1 x2) x9 x10 x11 x12)) (dGR (hiR x4) (hi128 x7) (hi128 x8) (dZ (hi256 x3) (hi128 x0) (hi128 x1) (hi1 x2) x9 x10 x11 x12)) xo19 := by
  unfold out0_B_19
  rw [View.read_writes_eq_canon _ _ _ (cover0_B_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo14 xo15 xo16 xo17 xo18 xo19)]
  unfold kernelRun0_B
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

end Cert.Proof.Block
-- ==== Proof.Block.PointC.lean ====
module

public import proofs.«01_k».proof.Proof.Gen.KernelIdeal.Frame
public import proofs.«01_k».proof.Proof.Block.PointA
public import Idealize.ShloMosaic.Lib.Pipeline.Value
/-! What a point of the grid leaves in its blocks, in the chains' words: the kind C. -/

@[expose] public section

set_option maxRecDepth 16384

noncomputable section

namespace Cert.Proof.Block

open Cert.KernelIdeal Cert.KernelIdeal.Gen Idealize.ShloMosaic Idealize.ShloMosaic.TcCoe Idealize.SL.Sem

variable {F : FTy → Type} [FloatOps F]

/-- Array 1 of the seven, as a point of kind C leaves it. -/
theorem out_C_13 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo18 : Vec F S1x128 .f32) (xo19 : Vec F S1x128 .f32) : out0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19
    = View.canon [⟨Rect.unit (s := S1024x256) ![512, 0] S512x256.size inb_S1024x256_S512x256_512_0, (dQ (hiN x4) (hiR x4) x5 x6 (hi128 x7) (hi128 x8) (dZ (hi256 x3) (hi128 x0) (hi128 x1) (hi1 x2) x9 x10 x11 x12))⟩,
      ⟨Rect.unit (s := S1024x256) ![0, 0] S512x256.size inb_S1024x256_S512x256_0_0, (dQ (loN x4) (loR x4) x5 x6 (lo128 x7) (lo128 x8) (dZ (lo256 x3) (lo128 x0) (lo128 x1) (lo1 x2) x9 x10 x11 x12))⟩] := by
  unfold out0_C_13
  rw [View.read_writes_eq_canon _ _ _ (cover0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19)]
  unfold kernelRun0_C
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 2 of the seven, as a point of kind C leaves it. -/
theorem out_C_14 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo18 : Vec F S1x128 .f32) (xo19 : Vec F S1x128 .f32) : out0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19
    = k0_pay82 (dKL (lo256 x3) (lo128 x0) (lo128 x1) (lo1 x2) x9 x11) (dKL (hi256 x3) (hi128 x0) (hi128 x1) (hi1 x2) x9 x11) k0_pay5 := by
  unfold out0_C_14
  rw [View.read_writes_eq_canon _ _ _ (cover0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19)]
  unfold kernelRun0_C
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 3 of the seven, as a point of kind C leaves it. -/
theorem out_C_15 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo18 : Vec F S1x128 .f32) (xo19 : Vec F S1x128 .f32) : out0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19
    = k0_pay1 (dKC (lo256 x3) (lo128 x0) (lo128 x1) (lo1 x2) x10 x12) (dKC (hi256 x3) (hi128 x0) (hi128 x1) (hi1 x2) x10 x12) k0_pay6 := by
  unfold out0_C_15
  rw [View.read_writes_eq_canon _ _ _ (cover0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19)]
  unfold kernelRun0_C
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 4 of the seven, as a point of kind C leaves it. -/
theorem out_C_16 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo18 : Vec F S1x128 .f32) (xo19 : Vec F S1x128 .f32) : out0_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19
    = k0_pay83 (dVL (lo256 x3) (lo128 x0) (lo1 x2) x9) (dVL (hi256 x3) (hi128 x0) (hi1 x2) x9) k0_pay7 := by
  unfold out0_C_16
  rw [View.read_writes_eq_canon _ _ _ (cover0_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19)]
  unfold kernelRun0_C
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 5 of the seven, as a point of kind C leaves it. -/
theorem out_C_17 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo18 : Vec F S1x128 .f32) (xo19 : Vec F S1x128 .f32) : out0_C_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19
    = k0_pay2 (dVC (lo256 x3) (lo128 x0) (lo1 x2) x10) (dVC (hi256 x3) (hi128 x0) (hi1 x2) x10) k0_pay8 := by
  unfold out0_C_17
  rw [View.read_writes_eq_canon _ _ _ (cover0_C_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19)]
  unfold kernelRun0_C
  dsimp only
  sl_unfold_words
  rw [View.canon_cons_unit_zero zz]
  rw [View.readCov_unit_zero _ zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 6 of the seven, as a point of kind C leaves it. -/
theorem out_C_18 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo18 : Vec F S1x128 .f32) (xo19 : Vec F S1x128 .f32) : out0_C_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19
    = k0_pay3 (dGN (loN x4) (dZ (lo256 x3) (lo128 x0) (lo128 x1) (lo1 x2) x9 x10 x11 x12)) (dGN (hiN x4) (dZ (hi256 x3) (hi128 x0) (hi128 x1) (hi1 x2) x9 x10 x11 x12)) xo18 := by
  unfold out0_C_18
  rw [View.read_writes_eq_canon _ _ _ (cover0_C_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19)]
  unfold kernelRun0_C
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

/-- Array 7 of the seven, as a point of kind C leaves it. -/
theorem out_C_19 (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x256 .bf16) (harg12 : arg12.IsWhole) (arg13 : Memref sig .tc .vmem S256x256 .bf16) (harg13 : arg13.IsWhole) (arg14 : Memref sig .tc .vmem S2048x128 .bf16) (harg14 : arg14.IsWhole) (arg15 : Memref sig .tc .vmem S256x128 .bf16) (harg15 : arg15.IsWhole) (arg16 : Memref sig .tc .vmem S1024x256 .bf16) (harg16 : arg16.IsWhole) (arg17 : Memref sig .tc .vmem S2048x256 .f32) (harg17 : arg17.IsWhole) (arg18 : Memref sig .tc .vmem S256x256 .f32) (harg18 : arg18.IsWhole) (arg19 : Memref sig .tc .vmem S2048x128 .f32) (harg19 : arg19.IsWhole) (arg20 : Memref sig .tc .vmem S256x128 .f32) (harg20 : arg20.IsWhole) (arg21 : Memref sig .tc .vmem S1x128 .f32) (harg21 : arg21.IsWhole) (arg22 : Memref sig .tc .vmem S1x128 .f32) (harg22 : arg22.IsWhole) (hc0 : cond0_0 i) (hc1 : ¬cond0_1 i)
    (x0 : Vec F S1024x128 .f32) (x1 : Vec F S1024x128 .f32) (x2 : Vec F S1024x128 .f32) (x3 : Vec F S1024x256 .bf16) (x4 : Vec F S1024x256 .f32) (x5 : Vec F S1x128 .f32) (x6 : Vec F S1x128 .f32) (x7 : Vec F S1024x128 .f32) (x8 : Vec F S1024x128 .f32) (x9 : Vec F S2048x256 .bf16) (x10 : Vec F S256x256 .bf16) (x11 : Vec F S2048x128 .bf16) (x12 : Vec F S256x128 .bf16) (xo18 : Vec F S1x128 .f32) (xo19 : Vec F S1x128 .f32) : out0_C_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19
    = k0_pay4 (dGR (loR x4) (lo128 x7) (lo128 x8) (dZ (lo256 x3) (lo128 x0) (lo128 x1) (lo1 x2) x9 x10 x11 x12)) (dGR (hiR x4) (hi128 x7) (hi128 x8) (dZ (hi256 x3) (hi128 x0) (hi128 x1) (hi1 x2) x9 x10 x11 x12)) xo19 := by
  unfold out0_C_19
  rw [View.read_writes_eq_canon _ _ _ (cover0_C_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 xo18 xo19)]
  unfold kernelRun0_C
  dsimp only
  sl_unfold_words
  rw [View.canon_cons_unit_zero zz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S2048x256) zz, View.ld_unit_zero (S := S256x256) zz, View.ld_unit_zero (S := S2048x128) zz, View.ld_unit_zero (S := S256x128) zz, View.ld_unit_zero (S := S1x128) zz, View.ld_unit]
  rfl

end Cert.Proof.Block
-- ==== Proof.Grid.Steps.lean ====
module

public import proofs.«01_k».proof.Proof.Gen.KernelIdeal.Value
public import proofs.«01_k».proof.Proof.Block.PointA
public import proofs.«01_k».proof.Proof.Block.PointB
public import proofs.«01_k».proof.Proof.Block.PointC
/-! What each point leaves in the arrays' blocks, over what the point before left. -/

@[expose] public section

set_option maxRecDepth 16384

noncomputable section

namespace Cert.Proof.Grid

open Cert.KernelIdeal Cert.KernelIdeal.Gen Idealize.ShloMosaic Idealize.ShloMosaic.TcCoe Cert.Proof.Block

variable {F : FTy → Type} [FloatOps F]
variable (m : (ℓ : Loc nD τ sig) → Buf (Elt F) ℓ) (c : Dev nD) (t : Fin cfg0.N)

/-- What the point before `t` left. -/
abbrev before : Vec F S1024x256 .bf16 × Vec F S2048x256 .f32 × Vec F S256x256 .f32 × Vec F S2048x128 .f32 × Vec F S256x128 .f32 × Vec F S1x128 .f32 × Vec F S1x128 .f32 :=
  outsAt0 m c (t.val - 1) (Nat.lt_of_le_of_lt (Nat.sub_le _ _) t.isLt)

/-- The block of the query's gradient: the two chains' rows. -/
theorem st13 : (outsAt0 m c t.val t.isLt).1
    = View.canon [⟨Rect.unit (s := S1024x256) ![512, 0] S512x256.size inb_S1024x256_S512x256_512_0, (dQ (hiN (iblk m c 4 t)) (hiR (iblk m c 4 t)) (iblk m c 5 t) (iblk m c 6 t) (hi128 (X0_7 m c t)) (hi128 (X0_8 m c t)) (dZ (hi256 (iblk m c 3 t)) (hi128 (iblk m c 0 t)) (hi128 (iblk m c 1 t)) (hi1 (iblk m c 2 t)) (X0_9 m c t) (iblk m c 10 t) (X0_11 m c t) (iblk m c 12 t)))⟩,
      ⟨Rect.unit ![0, 0] S512x256.size inb_S1024x256_S512x256_0_0, (dQ (loN (iblk m c 4 t)) (loR (iblk m c 4 t)) (iblk m c 5 t) (iblk m c 6 t) (lo128 (X0_7 m c t)) (lo128 (X0_8 m c t)) (dZ (lo256 (iblk m c 3 t)) (lo128 (iblk m c 0 t)) (lo128 (iblk m c 1 t)) (lo1 (iblk m c 2 t)) (X0_9 m c t) (iblk m c 10 t) (X0_11 m c t) (iblk m c 12 t)))⟩] := by
  by_cases h0 : t.val % 2 = 0
  · by_cases h1 : t.val % 32 = 0
    · rw [outsAt0_A m c t h0 h1]; dsimp only; exact out_A_13 ..
    · rw [outsAt0_C m c t h0 h1]; dsimp only; exact out_C_13 ..
  · have h1 : ¬ t.val % 32 = 0 := by omega
    rw [outsAt0_B m c t h0 h1]; dsimp only; exact out_B_13 ..

/-- Array 2 after a batch and head's first half. -/
theorem first14 (h0 : t.val % 2 = 0) : (outsAt0 m c t.val t.isLt).2.1 = k0_pay82 (dKL (lo256 (iblk m c 3 t)) (lo128 (iblk m c 0 t)) (lo128 (iblk m c 1 t)) (lo1 (iblk m c 2 t)) (X0_9 m c t) (X0_11 m c t)) (dKL (hi256 (iblk m c 3 t)) (hi128 (iblk m c 0 t)) (hi128 (iblk m c 1 t)) (hi1 (iblk m c 2 t)) (X0_9 m c t) (X0_11 m c t)) k0_pay5 := by
  by_cases h1 : t.val % 32 = 0
  · rw [outsAt0_A m c t h0 h1]; dsimp only; exact out_A_14 ..
  · rw [outsAt0_C m c t h0 h1]; dsimp only; exact out_C_14 ..

/-- Array 2 after a batch and head's second half. -/
theorem next14 (h0 : ¬ t.val % 2 = 0) : (outsAt0 m c t.val t.isLt).2.1 = k0_pay82 (dKL (lo256 (iblk m c 3 t)) (lo128 (iblk m c 0 t)) (lo128 (iblk m c 1 t)) (lo1 (iblk m c 2 t)) (X0_9 m c t) (X0_11 m c t)) (dKL (hi256 (iblk m c 3 t)) (hi128 (iblk m c 0 t)) (hi128 (iblk m c 1 t)) (hi1 (iblk m c 2 t)) (X0_9 m c t) (X0_11 m c t)) (before m c t).2.1 := by
  have h1 : ¬ t.val % 32 = 0 := by omega
  rw [outsAt0_B m c t h0 h1]; dsimp only; exact out_B_14 ..

/-- Array 3 after a batch and head's first half. -/
theorem first15 (h0 : t.val % 2 = 0) : (outsAt0 m c t.val t.isLt).2.2.1 = k0_pay1 (dKC (lo256 (iblk m c 3 t)) (lo128 (iblk m c 0 t)) (lo128 (iblk m c 1 t)) (lo1 (iblk m c 2 t)) (iblk m c 10 t) (iblk m c 12 t)) (dKC (hi256 (iblk m c 3 t)) (hi128 (iblk m c 0 t)) (hi128 (iblk m c 1 t)) (hi1 (iblk m c 2 t)) (iblk m c 10 t) (iblk m c 12 t)) k0_pay6 := by
  by_cases h1 : t.val % 32 = 0
  · rw [outsAt0_A m c t h0 h1]; dsimp only; exact out_A_15 ..
  · rw [outsAt0_C m c t h0 h1]; dsimp only; exact out_C_15 ..

/-- Array 3 after a batch and head's second half. -/
theorem next15 (h0 : ¬ t.val % 2 = 0) : (outsAt0 m c t.val t.isLt).2.2.1 = k0_pay1 (dKC (lo256 (iblk m c 3 t)) (lo128 (iblk m c 0 t)) (lo128 (iblk m c 1 t)) (lo1 (iblk m c 2 t)) (iblk m c 10 t) (iblk m c 12 t)) (dKC (hi256 (iblk m c 3 t)) (hi128 (iblk m c 0 t)) (hi128 (iblk m c 1 t)) (hi1 (iblk m c 2 t)) (iblk m c 10 t) (iblk m c 12 t)) (before m c t).2.2.1 := by
  have h1 : ¬ t.val % 32 = 0 := by omega
  rw [outsAt0_B m c t h0 h1]; dsimp only; exact out_B_15 ..

/-- Array 4 after a batch and head's first half. -/
theorem first16 (h0 : t.val % 2 = 0) : (outsAt0 m c t.val t.isLt).2.2.2.1 = k0_pay83 (dVL (lo256 (iblk m c 3 t)) (lo128 (iblk m c 0 t)) (lo1 (iblk m c 2 t)) (X0_9 m c t)) (dVL (hi256 (iblk m c 3 t)) (hi128 (iblk m c 0 t)) (hi1 (iblk m c 2 t)) (X0_9 m c t)) k0_pay7 := by
  by_cases h1 : t.val % 32 = 0
  · rw [outsAt0_A m c t h0 h1]; dsimp only; exact out_A_16 ..
  · rw [outsAt0_C m c t h0 h1]; dsimp only; exact out_C_16 ..

/-- Array 4 after a batch and head's second half. -/
theorem next16 (h0 : ¬ t.val % 2 = 0) : (outsAt0 m c t.val t.isLt).2.2.2.1 = k0_pay83 (dVL (lo256 (iblk m c 3 t)) (lo128 (iblk m c 0 t)) (lo1 (iblk m c 2 t)) (X0_9 m c t)) (dVL (hi256 (iblk m c 3 t)) (hi128 (iblk m c 0 t)) (hi1 (iblk m c 2 t)) (X0_9 m c t)) (before m c t).2.2.2.1 := by
  have h1 : ¬ t.val % 32 = 0 := by omega
  rw [outsAt0_B m c t h0 h1]; dsimp only; exact out_B_16 ..

/-- Array 5 after a batch and head's first half. -/
theorem first17 (h0 : t.val % 2 = 0) : (outsAt0 m c t.val t.isLt).2.2.2.2.1 = k0_pay2 (dVC (lo256 (iblk m c 3 t)) (lo128 (iblk m c 0 t)) (lo1 (iblk m c 2 t)) (iblk m c 10 t)) (dVC (hi256 (iblk m c 3 t)) (hi128 (iblk m c 0 t)) (hi1 (iblk m c 2 t)) (iblk m c 10 t)) k0_pay8 := by
  by_cases h1 : t.val % 32 = 0
  · rw [outsAt0_A m c t h0 h1]; dsimp only; exact out_A_17 ..
  · rw [outsAt0_C m c t h0 h1]; dsimp only; exact out_C_17 ..

/-- Array 5 after a batch and head's second half. -/
theorem next17 (h0 : ¬ t.val % 2 = 0) : (outsAt0 m c t.val t.isLt).2.2.2.2.1 = k0_pay2 (dVC (lo256 (iblk m c 3 t)) (lo128 (iblk m c 0 t)) (lo1 (iblk m c 2 t)) (iblk m c 10 t)) (dVC (hi256 (iblk m c 3 t)) (hi128 (iblk m c 0 t)) (hi1 (iblk m c 2 t)) (iblk m c 10 t)) (before m c t).2.2.2.2.1 := by
  have h1 : ¬ t.val % 32 = 0 := by omega
  rw [outsAt0_B m c t h0 h1]; dsimp only; exact out_B_17 ..

/-- Array 6 after the first point. -/
theorem first18 (h1 : t.val % 32 = 0) : (outsAt0 m c t.val t.isLt).2.2.2.2.2.1 = k0_pay3 (dGN (loN (iblk m c 4 t)) (dZ (lo256 (iblk m c 3 t)) (lo128 (iblk m c 0 t)) (lo128 (iblk m c 1 t)) (lo1 (iblk m c 2 t)) (X0_9 m c t) (iblk m c 10 t) (X0_11 m c t) (iblk m c 12 t))) (dGN (hiN (iblk m c 4 t)) (dZ (hi256 (iblk m c 3 t)) (hi128 (iblk m c 0 t)) (hi128 (iblk m c 1 t)) (hi1 (iblk m c 2 t)) (X0_9 m c t) (iblk m c 10 t) (X0_11 m c t) (iblk m c 12 t))) k0_pay9 := by
  rw [outsAt0_A m c t (by omega) h1]; dsimp only; exact out_A_18 ..

/-- Array 6 after a later point. -/
theorem next18 (h1 : ¬ t.val % 32 = 0) : (outsAt0 m c t.val t.isLt).2.2.2.2.2.1 = k0_pay3 (dGN (loN (iblk m c 4 t)) (dZ (lo256 (iblk m c 3 t)) (lo128 (iblk m c 0 t)) (lo128 (iblk m c 1 t)) (lo1 (iblk m c 2 t)) (X0_9 m c t) (iblk m c 10 t) (X0_11 m c t) (iblk m c 12 t))) (dGN (hiN (iblk m c 4 t)) (dZ (hi256 (iblk m c 3 t)) (hi128 (iblk m c 0 t)) (hi128 (iblk m c 1 t)) (hi1 (iblk m c 2 t)) (X0_9 m c t) (iblk m c 10 t) (X0_11 m c t) (iblk m c 12 t))) (before m c t).2.2.2.2.2.1 := by
  by_cases h0 : t.val % 2 = 0
  · rw [outsAt0_C m c t h0 h1]; dsimp only; exact out_C_18 ..
  · rw [outsAt0_B m c t h0 h1]; dsimp only; exact out_B_18 ..

/-- Array 7 after the first point. -/
theorem first19 (h1 : t.val % 32 = 0) : (outsAt0 m c t.val t.isLt).2.2.2.2.2.2 = k0_pay4 (dGR (loR (iblk m c 4 t)) (lo128 (X0_7 m c t)) (lo128 (X0_8 m c t)) (dZ (lo256 (iblk m c 3 t)) (lo128 (iblk m c 0 t)) (lo128 (iblk m c 1 t)) (lo1 (iblk m c 2 t)) (X0_9 m c t) (iblk m c 10 t) (X0_11 m c t) (iblk m c 12 t))) (dGR (hiR (iblk m c 4 t)) (hi128 (X0_7 m c t)) (hi128 (X0_8 m c t)) (dZ (hi256 (iblk m c 3 t)) (hi128 (iblk m c 0 t)) (hi128 (iblk m c 1 t)) (hi1 (iblk m c 2 t)) (X0_9 m c t) (iblk m c 10 t) (X0_11 m c t) (iblk m c 12 t))) k0_pay10 := by
  rw [outsAt0_A m c t (by omega) h1]; dsimp only; exact out_A_19 ..

/-- Array 7 after a later point. -/
theorem next19 (h1 : ¬ t.val % 32 = 0) : (outsAt0 m c t.val t.isLt).2.2.2.2.2.2 = k0_pay4 (dGR (loR (iblk m c 4 t)) (lo128 (X0_7 m c t)) (lo128 (X0_8 m c t)) (dZ (lo256 (iblk m c 3 t)) (lo128 (iblk m c 0 t)) (lo128 (iblk m c 1 t)) (lo1 (iblk m c 2 t)) (X0_9 m c t) (iblk m c 10 t) (X0_11 m c t) (iblk m c 12 t))) (dGR (hiR (iblk m c 4 t)) (hi128 (X0_7 m c t)) (hi128 (X0_8 m c t)) (dZ (hi256 (iblk m c 3 t)) (hi128 (iblk m c 0 t)) (hi128 (iblk m c 1 t)) (hi1 (iblk m c 2 t)) (X0_9 m c t) (iblk m c 10 t) (X0_11 m c t) (iblk m c 12 t))) (before m c t).2.2.2.2.2.2 := by
  by_cases h0 : t.val % 2 = 0
  · rw [outsAt0_C m c t h0 h1]; dsimp only; exact out_C_19 ..
  · rw [outsAt0_B m c t h0 h1]; dsimp only; exact out_B_19 ..

end Cert.Proof.Grid
-- ==== Proof.Math.Row.lean ====
module

public import Idealize.ShloMosaic.Lib.Pointwise
public import Idealize.ShloMosaic.Lib.IdealHost
/-! One row of the root-mean-square norm over the extended reals: the row's inverse root and its normalised entries
    are real whatever the row holds, and the derivative's two forms agree. -/

@[expose] public section

noncomputable section

namespace Cert.Proof

open Idealize.ShloMosaic

/-- The norm's small constant, as a real. -/
def eps : ℝ := (Ideal.ofBits .f32 0x358637BD#32).toReal

/-- The attention's score scale, as a real. -/
def sc : ℝ := (Ideal.ofBits .f32 0x3D93CD3A#32).toReal

theorem eps_aux : Ideal.ofBits .f32 0x358637BD#32 = ((8796093 / 8796093022208 : ℝ) : EReal) := by
  simp [Ideal.ofBits, Ideal.ieee, -EReal.coe_mul]; norm_num

theorem ofBits_eps : Ideal.ofBits .f32 0x358637BD#32 = (eps : EReal) := by
  rw [eps, eps_aux, EReal.toReal_coe]

theorem eps_pos : 0 < eps := by rw [eps, eps_aux, EReal.toReal_coe]; norm_num

theorem ofBits_sc : Ideal.ofBits .f32 0x3D93CD3A#32 = (sc : EReal) := by
  have h : Ideal.ofBits .f32 0x3D93CD3A#32 = ((9686330 / 134217728 : ℝ) : EReal) := by
    simp [Ideal.ofBits, Ideal.ieee, -EReal.coe_mul]; norm_num
  rw [sc, h, EReal.toReal_coe]

theorem ofBits_128 : Ideal.ofBits .f32 0x43000000#32 = ((128 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_128th : Ideal.ofBits .f32 0x3C000000#32 = ((1 / 128 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_half_neg : Ideal.ofBits .f32 0xBF000000#32 = ((-(1 / 2) : ℝ) : EReal) := by
  simp [Ideal.ofBits, Ideal.ieee, -EReal.coe_mul, -EReal.coe_neg]; norm_num

theorem ofBits_bot : Ideal.ofBits .f32 0xFF800000#32 = (⊥ : EReal) := by
  simp [Ideal.ofBits, Ideal.ieee]

/-- A sum of reals read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n : ℕ}

/-- The row's mean square plus the small constant. -/
def meanSq (x : Fin n → EReal) (w : ℝ) : EReal := (∑ d, x d * x d) * (w : EReal) + (eps : EReal)

/-- The row's inverse root, as a real. -/
def nrm (x : Fin n → EReal) (w : ℝ) : ℝ := (Ideal.rsqrt (meanSq x w)).toReal

/-- The row's normalised entry, as a real. -/
def xhat (x : Fin n → EReal) (w : ℝ) (d : Fin n) : ℝ := (x d * (nrm x w : EReal)).toReal

theorem sq_nonneg' (a : EReal) : 0 ≤ a * a := by
  induction a with
  | bot => simp
  | top => simp
  | coe r => rw [← EReal.coe_mul]; exact EReal.coe_nonneg.mpr (mul_self_nonneg r)

/-- Either every entry is real, or the mean square is infinite. -/
theorem meanSq_cases (x : Fin n → EReal) {w : ℝ} (hw : 0 < w) :
    (∃ y : Fin n → ℝ, (∀ d, x d = (y d : EReal)) ∧ meanSq x w = (((∑ d, y d * y d) * w + eps : ℝ) : EReal)) ∨ meanSq x w = ⊤ := by
  by_cases h : ∀ d, x d ≠ ⊤ ∧ x d ≠ ⊥
  · left
    refine ⟨fun d => (x d).toReal, fun d => (EReal.coe_toReal (h d).1 (h d).2).symm, ?_⟩
    have e : ∀ d, x d = ((x d).toReal : EReal) := fun d => (EReal.coe_toReal (h d).1 (h d).2).symm
    rw [meanSq, EReal.coe_add, EReal.coe_mul, coe_sum]
    congr 2
    exact Finset.sum_congr rfl fun d _ => by rw [EReal.coe_mul, ← e]
  · right
    push Not at h
    obtain ⟨d, hd⟩ := h
    have hx : x d * x d = ⊤ := by
      by_cases ht : x d = ⊤
      · rw [ht]; rfl
      · rw [hd ht]; rfl
    have hs : (∑ d, x d * x d) = ⊤ := by
      apply top_unique
      rw [← hx]
      exact Finset.single_le_sum (f := fun d => x d * x d) (fun i _ => sq_nonneg' _) (Finset.mem_univ d)
    rw [meanSq, hs, EReal.top_mul_coe_of_pos hw, EReal.top_add_coe]

theorem rsqrt_meanSq (x : Fin n → EReal) {w : ℝ} (hw : 0 < w) : Ideal.rsqrt (meanSq x w) = (nrm x w : EReal) := by
  unfold nrm
  rcases meanSq_cases x hw with ⟨y, _, h⟩ | h
  · have hp : 0 < (∑ d, y d * y d) * w + eps :=
      add_pos_of_nonneg_of_pos (mul_nonneg (Finset.sum_nonneg fun d _ => mul_self_nonneg _) hw.le) eps_pos
    rw [h, Ideal.rsqrt_coe, if_neg (not_lt.mpr hp.le), if_neg hp.ne', EReal.toReal_coe]
  · rw [h, Ideal.rsqrt_top]; rfl

theorem mul_nrm (x : Fin n → EReal) {w : ℝ} (hw : 0 < w) (d : Fin n) : x d * (nrm x w : EReal) = (xhat x w d : EReal) := by
  unfold xhat
  rcases meanSq_cases x hw with ⟨y, hy, h⟩ | h
  · rw [hy d, ← EReal.coe_mul, EReal.toReal_coe]
  · have h0 : nrm x w = 0 := by unfold nrm; rw [h, Ideal.rsqrt_top]; rfl
    rw [h0, EReal.coe_zero, mul_zero]; rfl

/-- The norm's derivative as automatic differentiation writes it is the closed form: `r (t − x̂ · mean (t x̂))`. -/
theorem rms_back (x : Fin n → EReal) {w N : ℝ} (hw : 0 < w) (hN : N ≠ 0) (hNw : 1 / N = w) (t : Fin n → ℝ) (d : Fin n) :
    ((t d : EReal) * (nrm x w : EReal)
        + x d * Ideal.div ((∑ e, x e * (t e : EReal)) * (((-(1 / 2) : ℝ) : EReal) * Ideal.div (nrm x w : EReal) (meanSq x w))) (N : EReal))
      + Ideal.div ((∑ e, x e * (t e : EReal)) * (((-(1 / 2) : ℝ) : EReal) * Ideal.div (nrm x w : EReal) (meanSq x w))) (N : EReal) * x d
      = ((nrm x w * (t d - xhat x w d * ((∑ e, t e * xhat x w e) * w)) : ℝ) : EReal) := by
  rcases meanSq_cases x hw with ⟨y, hy, h⟩ | h
  · set s : ℝ := (∑ d, y d * y d) * w + eps with hs
    have hp : 0 < s := add_pos_of_nonneg_of_pos (mul_nonneg (Finset.sum_nonneg fun d _ => mul_self_nonneg _) hw.le) eps_pos
    have hr : nrm x w = (Real.sqrt s)⁻¹ := by
      unfold nrm; rw [h, Ideal.rsqrt_coe, if_neg (not_lt.mpr hp.le), if_neg hp.ne', EReal.toReal_coe]
    have hr2 : nrm x w / s = nrm x w ^ 3 := by
      rw [hr]
      have q := Real.sq_sqrt hp.le
      have hq : Real.sqrt s ≠ 0 := (Real.sqrt_pos.mpr hp).ne'
      rw [inv_pow, div_eq_iff hp.ne', eq_comm, inv_mul_eq_iff_eq_mul₀ (pow_ne_zero _ hq)]
      rw [show Real.sqrt s ^ 3 = Real.sqrt s ^ 2 * Real.sqrt s by ring, q]
      field_simp
    have hxh : ∀ e, xhat x w e = y e * nrm x w := fun e => by
      unfold xhat; rw [hy e, ← EReal.coe_mul, EReal.toReal_coe]
    have hdiv : Ideal.div (nrm x w : EReal) (meanSq x w) = ((nrm x w ^ 3 : ℝ) : EReal) := by
      rw [h, Ideal.div_coe hp.ne', ← EReal.coe_mul, ← hr2]; congr 1; ring
    have hsum : (∑ e, x e * (t e : EReal)) = ((∑ e, y e * t e : ℝ) : EReal) := by
      rw [coe_sum]; exact Finset.sum_congr rfl fun e _ => by rw [hy e, EReal.coe_mul]
    rw [hdiv, hsum, hy d, ← EReal.coe_mul, ← EReal.coe_mul, Ideal.div_coe hN]
    simp only [← EReal.coe_mul, ← EReal.coe_add]
    congr 1
    rw [hNw, hxh d]
    have : (∑ e, t e * xhat x w e) = (∑ e, y e * t e) * nrm x w := by
      rw [Finset.sum_mul]; exact Finset.sum_congr rfl fun e _ => by rw [hxh e]; ring
    rw [this]; ring
  · have h0 : nrm x w = 0 := by unfold nrm; rw [h, Ideal.rsqrt_top]; rfl
    have hd : Ideal.div ((0 : ℝ) : EReal) (meanSq x w) = 0 := by
      rw [h, Ideal.div, if_neg (by simp), EReal.coe_zero, zero_mul]
    rw [h0, hd, mul_zero, mul_zero, EReal.coe_zero, mul_zero, Ideal.div_coe hN, zero_mul, mul_zero, zero_mul]
    simp

end Cert.Proof
-- ==== Proof.Math.Spec.lean ====
module

public import proofs.«01_k».proof.Proof.Math.Row
/-! The attention's backward pass over the reals, entry by entry: `b` the sequence, `h` the head, `i` a query token,
    `j` a key token. The queries may be any extended reals; their normalised entries are real all the same. -/

@[expose] public section

noncomputable section

namespace Cert.Proof

open Idealize.ShloMosaic

/-- The call's arguments: the queries as they come, the rest real. -/
structure Inp where
  q : Fin 2 → Fin 2048 → Fin 8 → Fin 192 → EReal
  gn : Fin 128 → ℝ
  gr : Fin 64 → ℝ
  k : Fin 2 → Fin 2304 → Fin 8 → Fin 192 → ℝ
  v : Fin 2 → Fin 2304 → Fin 8 → Fin 128 → ℝ
  c : Fin 2 → Fin 2048 → Fin 1024 → ℝ

/-- The frequency of lane `f` of sixteen, as a real. -/
def freq (f : ℕ) : ℝ := Real.rpow 10000 (-(2 * (f : ℝ)) / 32)

/-- The angle token `i` turns lane `l` of the 64 by: its row for the first 32 lanes, its column for the rest. -/
def angle (i : Fin 2048) (l : ℕ) : ℝ := (if l < 32 then ((i.val / 64 : ℕ) : ℝ) else ((i.val % 64 : ℕ) : ℝ)) * freq (l % 16)

/-- The turn of a row of 64 lanes: halves of 16 lanes are rotated against one another. -/
def turn (i : Fin 2048) (y : Fin 64 → ℝ) (l : Fin 64) : ℝ :=
  if h : l.val % 32 < 16 then y l * Real.cos (angle i l) - y ⟨l + 16, by omega⟩ * Real.sin (angle i l)
  else y ⟨l - 16, by omega⟩ * Real.sin (angle i l) + y l * Real.cos (angle i l)

/-- The turn back. -/
def turnBack (i : Fin 2048) (z : Fin 64 → ℝ) (l : Fin 64) : ℝ :=
  if h : l.val % 32 < 16 then z l * Real.cos (angle i l) + z ⟨l + 16, by omega⟩ * Real.sin (angle i l)
  else z l * Real.cos (angle i l) - z ⟨l - 16, by omega⟩ * Real.sin (angle i l)

theorem turn_lo (i : Fin 2048) (y : Fin 64 → ℝ) (l : Fin 64) (h : l.val % 32 < 16) (h' : l.val + 16 < 64) :
    turn i y l = y l * Real.cos (angle i l) - y ⟨l + 16, h'⟩ * Real.sin (angle i l) := by unfold turn; exact dif_pos h

theorem turn_hi (i : Fin 2048) (y : Fin 64 → ℝ) (l : Fin 64) (h : ¬ l.val % 32 < 16) (h' : l.val - 16 < 64) :
    turn i y l = y ⟨l - 16, h'⟩ * Real.sin (angle i l) + y l * Real.cos (angle i l) := by unfold turn; exact dif_neg h

theorem back_lo (i : Fin 2048) (z : Fin 64 → ℝ) (l : Fin 64) (h : l.val % 32 < 16) (h' : l.val + 16 < 64) :
    turnBack i z l = z l * Real.cos (angle i l) + z ⟨l + 16, h'⟩ * Real.sin (angle i l) := by unfold turnBack; exact dif_pos h

theorem back_hi (i : Fin 2048) (z : Fin 64 → ℝ) (l : Fin 64) (h : ¬ l.val % 32 < 16) (h' : l.val - 16 < 64) :
    turnBack i z l = z l * Real.cos (angle i l) - z ⟨l - 16, h'⟩ * Real.sin (angle i l) := by unfold turnBack; exact dif_neg h

theorem fold_max {ι : Type*} (s : Finset ι) (f : ι → EReal) : s.fold max ⊥ f = s.sup f := rfl

/-- A sum over 256 lanes of which the last 64 hold nothing. -/
theorem sum_256 (f : Fin 256 → ℝ) (hf : ∀ e : Fin 256, 192 ≤ e.val → f e = 0) :
    ∑ e, f e = (∑ d : Fin 128, f ⟨d, by omega⟩) + ∑ l : Fin 64, f ⟨128 + l, by omega⟩ := by
  have h1 : ∑ e, f e = (∑ e : Fin 192, f (Fin.castAdd 64 e)) + ∑ e : Fin 64, f (Fin.natAdd 192 e) :=
    Fin.sum_univ_add (a := 192) (b := 64) f
  have h2 : (∑ e : Fin 192, f (Fin.castAdd 64 e))
      = (∑ e : Fin 128, f (Fin.castAdd 64 (Fin.castAdd 64 e))) + ∑ e : Fin 64, f (Fin.castAdd 64 (Fin.natAdd 128 e)) :=
    Fin.sum_univ_add (a := 128) (b := 64) (fun e : Fin 192 => f (Fin.castAdd 64 e))
  have h3 : (∑ e : Fin 64, f (Fin.natAdd 192 e)) = 0 :=
    Finset.sum_eq_zero fun e _ => hf _ (by rw [Fin.val_natAdd]; omega)
  rw [h1, h2, h3, add_zero]
  rfl

namespace Inp

variable (D : Inp) (b : Fin 2) (h : Fin 8) (i : Fin 2048) (j : Fin 2304)

/-- A query's first 128 entries. -/
def qn (d : Fin 128) : EReal := D.q b i h ⟨d, by omega⟩
/-- A query's last 64 entries. -/
def qr (l : Fin 64) : EReal := D.q b i h ⟨128 + l, by omega⟩

def RN : ℝ := nrm (D.qn b h i) (1 / 128)
def RR : ℝ := nrm (D.qr b h i) (1 / 64)
def XN (d : Fin 128) : ℝ := xhat (D.qn b h i) (1 / 128) d
def XR (l : Fin 64) : ℝ := xhat (D.qr b h i) (1 / 64) l
/-- The normalised and scaled query. -/
def QN (d : Fin 128) : ℝ := D.XN b h i d * D.gn d
/-- The normalised, scaled and turned query. -/
def QR (l : Fin 64) : ℝ := turn i (fun l => D.XR b h i l * D.gr l) l

/-- The query of 256 lanes, with the score's scale in it. -/
def QA (e : Fin 256) : ℝ :=
  if h1 : e.val < 128 then D.QN b h i ⟨e, h1⟩ * sc
  else if h2 : e.val < 192 then D.QR b h i ⟨e - 128, by omega⟩ * sc else 0

/-- The key of 256 lanes. -/
def KA (e : Fin 256) : ℝ := if h1 : e.val < 192 then D.k b j h ⟨e, h1⟩ else 0

/-- The head's cotangent. -/
def C (d : Fin 128) : ℝ := D.c b i ⟨h * 128 + d, by omega⟩

/-- The score. -/
def S : ℝ := ∑ e, D.QA b h i e * D.KA b h j e
/-- The row's largest score. -/
def M : ℝ := (Finset.univ.sup fun j => (D.S b h i j : EReal)).toReal
def E : ℝ := Real.exp (D.S b h i j - D.M b h i)
def DEN : ℝ := ∑ j, D.E b h i j
/-- The logarithm of the row's sum of exponentials. -/
def LSE : ℝ := D.M b h i + Real.log (D.DEN b h i)
/-- The attention weight. -/
def P : ℝ := Real.exp (D.S b h i j - D.LSE b h i)
/-- The attention's result. -/
def O (d : Fin 128) : ℝ := ∑ j, D.v b j h d * D.P b h i j
def DEL : ℝ := ∑ d, D.C b h i d * D.O b h i d
def DP : ℝ := ∑ d, D.C b h i d * D.v b j h d
/-- The score's gradient. -/
def DS : ℝ := D.P b h i j * (D.DP b h i j - D.DEL b h i)
/-- The gradient of the turned query. -/
def DZ (e : Fin 256) : ℝ := (∑ j, D.DS b h i j * D.KA b h j e) * sc
def DK (e : Fin 256) : ℝ := ∑ i, D.DS b h i j * D.QA b h i e
def DV (d : Fin 128) : ℝ := ∑ i, D.P b h i j * D.C b h i d

def ZN (d : Fin 128) : ℝ := D.DZ b h i ⟨d, by omega⟩
def ZR (l : Fin 64) : ℝ := turnBack i (fun l => D.DZ b h i ⟨128 + l, by omega⟩) l

def DXN (d : Fin 128) : ℝ :=
  D.RN b h i * (D.ZN b h i d * D.gn d - D.XN b h i d * ((∑ e, D.ZN b h i e * D.gn e * D.XN b h i e) * (1 / 128)))
def DXR (l : Fin 64) : ℝ :=
  D.RR b h i * (D.ZR b h i l * D.gr l - D.XR b h i l * ((∑ e, D.ZR b h i e * D.gr e * D.XR b h i e) * (1 / 64)))

/-- The query's gradient, of 256 lanes. -/
def DQ (e : Fin 256) : ℝ :=
  if h1 : e.val < 128 then D.DXN b h i ⟨e, h1⟩
  else if h2 : e.val < 192 then D.DXR b h i ⟨e - 128, by omega⟩ else 0

/-- One token's part of the gains' gradients. -/
def GN (d : Fin 128) : ℝ := D.ZN b h i d * D.XN b h i d
def GR (l : Fin 64) : ℝ := D.ZR b h i l * D.XR b h i l

theorem nrm_n : Ideal.rsqrt (meanSq (D.qn b h i) (1 / 128)) = (D.RN b h i : EReal) := rsqrt_meanSq _ (by norm_num)
theorem nrm_r : Ideal.rsqrt (meanSq (D.qr b h i) (1 / 64)) = (D.RR b h i : EReal) := rsqrt_meanSq _ (by norm_num)
theorem mul_n (d : Fin 128) : D.qn b h i d * (D.RN b h i : EReal) = (D.XN b h i d : EReal) := mul_nrm _ (by norm_num) d
theorem mul_r (l : Fin 64) : D.qr b h i l * (D.RR b h i : EReal) = (D.XR b h i l : EReal) := mul_nrm _ (by norm_num) l

/-- The largest score is one of the scores, a real. -/
theorem sup_eq : (Finset.univ.sup fun j => (D.S b h i j : EReal)) = (D.M b h i : EReal) := by
  obtain ⟨j, _, hj⟩ := Finset.exists_mem_eq_sup (Finset.univ : Finset (Fin 2304)) ⟨0, Finset.mem_univ _⟩
    (fun j => (D.S b h i j : EReal))
  rw [M, hj, EReal.toReal_coe]

theorem DEN_pos : 0 < D.DEN b h i :=
  Finset.sum_pos (fun _ _ => Real.exp_pos _) ⟨0, Finset.mem_univ _⟩

/-- The weight is the exponential's share of the row's sum. -/
theorem P_eq : D.P b h i j = D.E b h i j / D.DEN b h i := by
  rw [P, LSE, ← sub_sub, Real.exp_sub, Real.exp_log (D.DEN_pos b h i)]; rfl

/-- The mean gradient of a row is the row's weighted sum of the products. -/
theorem DEL_eq : D.DEL b h i = ∑ j, D.DP b h i j * D.P b h i j := by
  simp only [DEL, O, DP, Finset.mul_sum, Finset.sum_mul]
  rw [Finset.sum_comm]
  exact Finset.sum_congr rfl fun j _ => Finset.sum_congr rfl fun d _ => by ring

end Inp

end Cert.Proof
-- ==== Proof.Ref.Tables.lean ====
module

public import proofs.«01_k».proof.Proof.Gen.ReferenceIdeal.Read
public import proofs.«01_k».proof.Proof.Math.Spec
/-! The reference's cosine and sine tables, entry by entry. -/

@[expose] public section

set_option maxRecDepth 16384

noncomputable section

namespace Cert.Proof.Ref

open Cert.ReferenceIdeal Idealize.ShloMosaic Idealize.ShloMosaic.Pointwise
open Cert.ReferenceIdeal.Read

/-- A small count read as a signed word is itself. -/
theorem sitofp_ofNat (n : ℕ) (h : n < 2 ^ 31) : FloatOps.sitofp (F := Ideal) .f32 (BitVec.ofNat 32 n) = ((n : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]; simp

theorem row_word (i : Fin 2048) : val_main_v37 (F := Ideal) (ix1 i) = (((i.val / 64 : ℕ) : ℝ) : EReal) := by
  pointwise [val_main_v37, val_main_v36, val_main_v35, val_main_v34]
  exact sitofp_ofNat _ (by omega)

theorem col_word (i : Fin 2048) : val_main_v42 (F := Ideal) (ix1 i) = (((i.val % 64 : ℕ) : ℝ) : EReal) := by
  pointwise [val_main_v42, val_main_v41, val_main_v40, val_main_v39, val_main_v38]
  exact sitofp_ofNat _ (by omega)

theorem ofBits_two : Ideal.ofBits .f32 0x40000000#32 = ((2 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

/-- The power that makes a frequency. -/
theorem freq_pow (f : ℕ) (h : f < 2 ^ 31) : Ideal.pow (Ideal.ofBits .f32 0x461C4000#32)
      (Ideal.div (-(Ideal.ofBits .f32 0x40000000#32 * FloatOps.sitofp (F := Ideal) .f32 (BitVec.ofNat 32 f)))
        (Ideal.ofBits .f32 0x42000000#32)) = (freq f : EReal) := by
  rw [sitofp_ofNat _ h, ofBits_two, ofBits_32, ofBits_10000, Ideal.div_coe (by norm_num : (32 : ℝ) ≠ 0), ← EReal.coe_mul,
    ← EReal.coe_neg, ← EReal.coe_mul]
  show ((Real.rpow 10000 _ : ℝ) : EReal) = _
  rw [freq]
  congr 2; ring

theorem freq_word (f : Fin 16) : val_main_v52 (F := Ideal) (ix1 f) = (freq f : EReal) := by
  pointwise [val_main_v52, val_main_v51, val_main_v50, val_main_v49, val_main_v48, val_main_v47, val_main_v46,
    val_main_v45, val_main_v44, val_main_v43, val_main_cst_7, val_main_cst_8, val_main_cst_9, val_main_cst_10]
  exact freq_pow _ (by omega)

theorem angle_row (i : Fin 2048) (f : Fin 16) : angle i f.val = ((i.val / 64 : ℕ) : ℝ) * freq f := by
  rw [angle, if_pos (by omega), Nat.mod_eq_of_lt f.isLt]

theorem angle_col (i : Fin 2048) (f : Fin 16) : angle i (32 + f.val) = ((i.val % 64 : ℕ) : ℝ) * freq f := by
  rw [angle, if_neg (by omega), show (32 + f.val) % 16 = f.val by omega]

theorem v57 (i : Fin 2048) (f : Fin 16) : val_main_v57 (F := Ideal) (ix2 i f) = (angle i f.val : EReal) := by
  pointwise [val_main_v57, val_main_v55, val_main_v53, val_main_v56, val_main_v54]
  rw [row_word, freq_word, angle_row, EReal.coe_mul]

theorem v62 (i : Fin 2048) (f : Fin 16) : val_main_v62 (F := Ideal) (ix2 i f) = (angle i (32 + f.val) : EReal) := by
  pointwise [val_main_v62, val_main_v60, val_main_v58, val_main_v61, val_main_v59]
  rw [col_word, freq_word, angle_col, EReal.coe_mul]

theorem v63 (i : Fin 2048) (f : Fin 16) : val_main_v63 (F := Ideal) (ix2 i f) = (Real.cos (angle i f.val) : EReal) := by
  pointwise [val_main_v63]; rw [v57]; rfl

theorem v64 (i : Fin 2048) (f : Fin 16) : val_main_v64 (F := Ideal) (ix2 i f) = (Real.sin (angle i f.val) : EReal) := by
  pointwise [val_main_v64]; rw [v57]; rfl

theorem v65 (i : Fin 2048) (f : Fin 16) : val_main_v65 (F := Ideal) (ix2 i f) = (Real.cos (angle i (32 + f.val)) : EReal) := by
  pointwise [val_main_v65]; rw [v62]; rfl

theorem v66 (i : Fin 2048) (f : Fin 16) : val_main_v66 (F := Ideal) (ix2 i f) = (Real.sin (angle i (32 + f.val)) : EReal) := by
  pointwise [val_main_v66]; rw [v62]; rfl

end Cert.Proof.Ref
-- ==== Proof.Ref.Forward.lean ====
module

public import proofs.«01_k».proof.Proof.Ref.Tables
/-! The reference's forward stages, entry by entry: norms, turned queries, scores, weights. -/

@[expose] public section

set_option maxRecDepth 16384

noncomputable section

namespace Cert.Proof

open Idealize.ShloMosaic Idealize.ShloMosaic.Pointwise

namespace Inp

variable (D : Inp)

/-- The arguments as arrays. -/
def aq : FVec Ideal Cert.ReferenceIdeal.S2x2048x8x192 .f32 := fun i => D.q (i 0) (i 1) (i 2) (i 3)
def agn : FVec Ideal Cert.ReferenceIdeal.S128 .f32 := fun i => (D.gn (i 0) : EReal)
def agr : FVec Ideal Cert.ReferenceIdeal.S64 .f32 := fun i => (D.gr (i 0) : EReal)
def ak : FVec Ideal Cert.ReferenceIdeal.S2x2304x8x192 .f32 := fun i => (D.k (i 0) (i 1) (i 2) (i 3) : EReal)
def av : FVec Ideal Cert.ReferenceIdeal.S2x2304x8x128 .f32 := fun i => (D.v (i 0) (i 1) (i 2) (i 3) : EReal)
def ac : FVec Ideal Cert.ReferenceIdeal.S2x2048x1024 .f32 := fun i => (D.c (i 0) (i 1) (i 2) : EReal)

theorem aq_apply (b : Fin 2) (i : Fin 2048) (h : Fin 8) (e : Fin 192) : D.aq (ix4 b i h e) = D.q b i h e := rfl
theorem agn_apply (d : Fin 128) : D.agn (ix1 d) = (D.gn d : EReal) := rfl
theorem agr_apply (d : Fin 64) : D.agr (ix1 d) = (D.gr d : EReal) := rfl
theorem ak_apply (b : Fin 2) (i : Fin 2304) (h : Fin 8) (e : Fin 192) : D.ak (ix4 b i h e) = (D.k b i h e : EReal) := rfl
theorem av_apply (b : Fin 2) (i : Fin 2304) (h : Fin 8) (e : Fin 128) : D.av (ix4 b i h e) = (D.v b i h e : EReal) := rfl
theorem ac_apply (b : Fin 2) (i : Fin 2048) (e : Fin 1024) : D.ac (ix3 b i e) = (D.c b i e : EReal) := rfl

end Inp

namespace Ref

open Cert.ReferenceIdeal Cert.ReferenceIdeal.Read

variable (D : Inp) (b : Fin 2) (i : Fin 2048) (h : Fin 8)

theorem v0 (d : Fin 128) : val_main_v0 (F := Ideal) D.aq (ix4 b i h d) = D.qn b h i d := by
  pointwise [val_main_v0]
  rfl

theorem v1 (l : Fin 64) : val_main_v1 (F := Ideal) D.aq (ix4 b i h l) = D.qr b h i l := by
  pointwise [val_main_v1]
  rfl

theorem v8 (z : Fin 1) : val_main_v8 (F := Ideal) D.aq (ix4 b i h z) = meanSq (D.qn b h i) (1 / 128) := by
  pointwise [val_main_v8, val_main_v7, val_main_v6, val_main_v5, val_main_v4, val_main_v3, val_main_v2, val_main_cst,
    val_main_cst_0, val_main_cst_1]
  simp only [v0, ofBits_128, ofBits_eps, Ideal.div_coe (by norm_num : (128 : ℝ) ≠ 0)]
  rfl

theorem v24 (z : Fin 1) : val_main_v24 (F := Ideal) D.aq (ix4 b i h z) = meanSq (D.qr b h i) (1 / 64) := by
  pointwise [val_main_v24, val_main_v23, val_main_v22, val_main_v21, val_main_v20, val_main_v19, val_main_v18, val_main_cst_3,
    val_main_cst_4, val_main_cst_5]
  simp only [v1, ofBits_64, ofBits_eps, Ideal.div_coe (by norm_num : (64 : ℝ) ≠ 0)]
  rfl

theorem v9 (z : Fin 1) : val_main_v9 (F := Ideal) D.aq (ix4 b i h z) = (D.RN b h i : EReal) := by
  pointwise [val_main_v9]; rw [v8, D.nrm_n]

theorem v25 (z : Fin 1) : val_main_v25 (F := Ideal) D.aq (ix4 b i h z) = (D.RR b h i : EReal) := by
  pointwise [val_main_v25]; rw [v24, D.nrm_r]

theorem v14 (d : Fin 128) : val_main_v14 (F := Ideal) D.aq (ix4 b i h d) = (D.XN b h i d : EReal) := by
  pointwise [val_main_v14, val_main_v13]; rw [v9, v0, D.mul_n]

theorem v30 (l : Fin 64) : val_main_v30 (F := Ideal) D.aq (ix4 b i h l) = (D.XR b h i l : EReal) := by
  pointwise [val_main_v30, val_main_v29]; rw [v25, v1, D.mul_r]

theorem v17 (d : Fin 128) : val_main_v17 (F := Ideal) D.aq D.agn (ix4 b i h d) = (D.QN b h i d : EReal) := by
  pointwise [val_main_v17, val_main_v16, val_main_v15]; rw [v14, D.agn_apply, ← EReal.coe_mul]; rfl

theorem v33 (l : Fin 64) : val_main_v33 (F := Ideal) D.aq D.agr (ix4 b i h l) = ((D.XR b h i l * D.gr l : ℝ) : EReal) := by
  pointwise [val_main_v33, val_main_v32, val_main_v31]; rw [v30, D.agr_apply, ← EReal.coe_mul]

theorem angle_lower (l : ℕ) (h : 16 ≤ l % 32) : angle i (l - 16) = angle i l := by
  unfold angle
  rw [show (l - 16) % 16 = l % 16 by omega]
  by_cases h1 : l < 32
  · rw [if_pos h1, if_pos (by omega)]
  · rw [if_neg h1, if_neg (by omega)]

/-- The turn as the reference writes it, in four pieces of 16 lanes. -/
theorem turned (y : Fin 64 → ℝ) (l : Fin 64) :
    (if h1 : l.val < 32 then
        if h2 : l.val < 16 then
          ((y l * Real.cos (angle i l.val) - y ⟨16 + l.val, by omega⟩ * Real.sin (angle i l.val) : ℝ) : EReal)
        else
          ((y ⟨l.val - 16, by omega⟩ * Real.sin (angle i (l.val - 16)) + y ⟨16 + (l.val - 16), by omega⟩ * Real.cos (angle i (l.val - 16)) : ℝ) : EReal)
      else
        if h2 : l.val - 32 < 16 then
          ((y ⟨32 + (l.val - 32), by omega⟩ * Real.cos (angle i (32 + (l.val - 32))) - y ⟨32 + (16 + (l.val - 32)), by omega⟩ * Real.sin (angle i (32 + (l.val - 32))) : ℝ) : EReal)
        else
          ((y ⟨32 + (l.val - 32 - 16), by omega⟩ * Real.sin (angle i (32 + (l.val - 32 - 16)))
            + y ⟨32 + (16 + (l.val - 32 - 16)), by omega⟩ * Real.cos (angle i (32 + (l.val - 32 - 16))) : ℝ) : EReal))
      = ((turn i y l : ℝ) : EReal) := by
  split_ifs with h1 h2 h2 <;> refine congrArg _ ?_
  · rw [turn_lo _ _ _ (by omega) (by omega)]
    simp only [show 16 + l.val = l.val + 16 by omega]
  · rw [turn_hi _ _ _ (by omega) (by omega), angle_lower i l.val (by omega)]
    simp only [show 16 + (l.val - 16) = l.val by omega, Fin.eta]
  · rw [turn_lo _ _ _ (by omega) (by omega)]
    simp only [show 32 + (16 + (l.val - 32)) = l.val + 16 by omega, show 32 + (l.val - 32) = l.val by omega, Fin.eta]
  · rw [turn_hi _ _ _ (by omega) (by omega)]
    simp only [show 32 + (l.val - 32 - 16) = l.val - 16 by omega, angle_lower i l.val (by omega),
      show 32 + (16 + (l.val - 32 - 16)) = l.val by omega, Fin.eta]

theorem v107 (l : Fin 64) : val_main_v107 (F := Ideal) D.aq D.agr (ix4 b i h l) = (D.QR b h i l : EReal) := by
  pointwise [val_main_v107, val_main_v106, val_main_v105, val_main_v104, val_main_v103, val_main_v102, val_main_v101,
    val_main_v100, val_main_v99, val_main_v98, val_main_v97, val_main_v96, val_main_v95, val_main_v94, val_main_v93,
    val_main_v92, val_main_v91, val_main_v90, val_main_v89, val_main_v88, val_main_v87, val_main_v86, val_main_v85,
    val_main_v84, val_main_v83, val_main_v82, val_main_v81, val_main_v80, val_main_v79, val_main_v78, val_main_v77,
    val_main_v76, val_main_v75, val_main_v74, val_main_v73, val_main_v72, val_main_v71, val_main_v70, val_main_v69,
    val_main_v68, val_main_v67]
  simp only [v33, v63, v64, v65, v66, ← EReal.coe_mul, ← EReal.coe_sub, ← EReal.coe_add]
  exact turned i (fun l => D.XR b h i l * D.gr l) l

theorem QA_n (d : Fin 128) (h' : d.val < 256) : D.QA b h i ⟨d, h'⟩ = D.QN b h i d * sc := by
  unfold Inp.QA; exact dif_pos d.isLt

theorem QA_r (l : Fin 64) (h' : 128 + l.val < 256) : D.QA b h i ⟨128 + l, h'⟩ = D.QR b h i l * sc := by
  unfold Inp.QA
  rw [dif_neg (show ¬ 128 + l.val < 128 by omega), dif_pos (show 128 + l.val < 192 by omega)]
  simp only [show 128 + l.val - 128 = l.val by omega, Fin.eta]

theorem KA_lo (j : Fin 2304) (e : Fin 256) (h' : e.val < 192) : D.KA b h j e = D.k b j h ⟨e, h'⟩ := by
  unfold Inp.KA; exact dif_pos h'

theorem KA_hi (j : Fin 2304) (e : Fin 256) (h' : 192 ≤ e.val) : D.KA b h j e = 0 := by
  unfold Inp.KA; exact dif_neg (by omega)

/-- The scores over 256 lanes are the two products' sum, scaled. -/
theorem score (j : Fin 2304) : ((∑ d : Fin 128, D.QN b h i d * D.k b j h ⟨d, by omega⟩)
    + ∑ l : Fin 64, D.QR b h i l * D.k b j h ⟨128 + l, by omega⟩) * sc = D.S b h i j := by
  unfold Inp.S
  rw [sum_256 _ (fun e he => by rw [KA_hi _ _ _ _ _ he, mul_zero]), add_mul, Finset.sum_mul, Finset.sum_mul]
  congr 1
  · refine Finset.sum_congr rfl fun d _ => ?_
    rw [QA_n, KA_lo D b h j ⟨d, by omega⟩ (show d.val < 192 by omega)]
    ring
  · refine Finset.sum_congr rfl fun d _ => ?_
    rw [QA_r, KA_lo D b h j ⟨128 + d, by omega⟩ (show 128 + d.val < 192 by omega)]
    ring

theorem v114 (j : Fin 2304) : val_main_v114 (F := Ideal) D.aq D.agn D.agr D.ak (ix4 b h i j) = (D.S b h i j : EReal) := by
  pointwise [val_main_v114, val_main_v113, val_main_v112, val_main_v111, val_main_v110, val_main_v109, val_main_v108,
    val_main_cst_11]
  simp only [v17, v107, D.ak_apply, ofBits_sc, ← EReal.coe_mul, ← coe_sum, ← EReal.coe_add]
  rw [← score]

theorem v115 : val_main_v115 (F := Ideal) D.aq D.agn D.agr D.ak (ix3 b h i) = (D.M b h i : EReal) := by
  have e : ∀ j, val_main_v114 (F := Ideal) D.aq D.agn D.agr D.ak (ix4 b h i j) = (D.S b h i j : EReal) := v114 D b i h
  unfold val_main_v115
  generalize val_main_v114 (F := Ideal) D.aq D.agn D.agr D.ak = y at e
  pointwise [val_main_cst_12]
  rw [← D.sup_eq b h i, ofBits_bot, ← funext e]
  generalize (Finset.univ : Finset (Fin 2304)) = s
  exact fold_max s _

/-- The largest with minus infinity is the array itself. -/
theorem max_init (y : FVec Ideal S2x8x2048 .f32) :
    maximumf (φ := .f32) (val_main_v121 (F := Ideal)) y (ix3 b h i) = y (ix3 b h i) := by
  pointwise [val_main_v121, val_main_cst_14]
  rw [ofBits_bot]
  generalize y (ix3 b h i) = z
  exact max_eq_right bot_le

theorem v122 : val_main_v122 (F := Ideal) D.aq D.agn D.agr D.ak (ix3 b h i) = (D.M b h i : EReal) :=
  (max_init b i h _).trans (v115 D b i h)

theorem v135 (j : Fin 2304) : val_main_v135 (F := Ideal) D.aq D.agn D.agr D.ak (ix4 b h i j) = (D.E b h i j : EReal) := by
  pointwise [val_main_v135, val_main_v134, val_main_v133, val_main_v132]
  rw [v122, v114, ← EReal.coe_sub, Ideal.exp_coe]
  rfl

theorem v137 (z : Fin 1) : val_main_v137 (F := Ideal) D.aq D.agn D.agr D.ak (ix4 b h i z) = (D.DEN b h i : EReal) := by
  pointwise [val_main_v137, val_main_v136, val_main_cst_20]
  simp only [v135, ← coe_sum]
  rfl

theorem v139 (j : Fin 2304) : val_main_v139 (F := Ideal) D.aq D.agn D.agr D.ak (ix4 b h i j) = (D.P b h i j : EReal) := by
  pointwise [val_main_v139, val_main_v138]
  rw [v137, v135, Ideal.div_coe (D.DEN_pos b h i).ne', ← EReal.coe_mul, D.P_eq]
  congr 1; ring

end Ref

end Cert.Proof
-- ==== Proof.Ref.Backward.lean ====
module

public import proofs.«01_k».proof.Proof.Ref.Forward
/-! The reference's backward stages through the softmax, entry by entry. -/

@[expose] public section

set_option maxRecDepth 16384

noncomputable section

namespace Cert.Proof.Ref

open Idealize.ShloMosaic Idealize.ShloMosaic.Pointwise
open Cert.ReferenceIdeal Cert.ReferenceIdeal.Read

variable (D : Inp) (b : Fin 2) (i : Fin 2048) (h : Fin 8)

theorem v147 (d : Fin 128) : val_main_v147 (F := Ideal) D.ac (ix4 b h d i) = (D.C b h i d : EReal) := by
  pointwise [val_main_v147, val_main_v146]
  rfl

theorem v148 (j : Fin 2304) : val_main_v148 (F := Ideal) D.av D.ac (ix4 b h i j) = (D.DP b h i j : EReal) := by
  pointwise [val_main_v148]
  simp only [v147, D.av_apply, ← EReal.coe_mul, ← coe_sum]
  rfl

theorem v150 (j : Fin 2304) (d : Fin 128) :
    val_main_v150 (F := Ideal) D.aq D.agn D.agr D.ak D.ac (ix4 b j h d) = (D.DV b h j d : EReal) := by
  pointwise [val_main_v150, val_main_v149]
  simp only [v147, v139, ← EReal.coe_mul, ← coe_sum]
  exact congrArg _ (Finset.sum_congr rfl fun i _ => mul_comm _ _)

theorem v142 (z : Fin 1) : val_main_v142 (F := Ideal) D.aq D.agn D.agr D.ak (ix4 b h i z)
    = ((1 / (D.DEN b h i * D.DEN b h i) : ℝ) : EReal) := by
  pointwise [val_main_v142, val_main_v141, val_main_v140, val_main_cst_21]
  rw [v137, ← EReal.coe_mul, Ideal.div_coe (mul_pos (D.DEN_pos b h i) (D.DEN_pos b h i)).ne', one_mul]

theorem v156 (z : Fin 1) : val_main_v156 (F := Ideal) D.aq D.agn D.agr D.ak D.av D.ac (ix4 b h i z)
    = ((-∑ j, D.DP b h i j * (1 / (D.DEN b h i * D.DEN b h i)) * D.E b h i j : ℝ) : EReal) := by
  pointwise [val_main_v156, val_main_v155, val_main_v154, val_main_v153, val_main_v152, val_main_v151, val_main_cst_22]
  simp only [v148, v142, v135, ← EReal.coe_mul, ← coe_sum, ← EReal.coe_neg]

theorem v159 : val_main_v159 (F := Ideal) D.aq D.agn D.agr D.ak D.av D.ac (ix3 b h i)
    = ((-∑ j, D.DP b h i j * (1 / (D.DEN b h i * D.DEN b h i)) * D.E b h i j : ℝ) : EReal) := by
  pointwise [val_main_v159, val_main_cst_23]
  simp only [v156, Finset.univ_unique, Finset.sum_singleton]

/-- The softmax's derivative as written is the weight times the product less the row's mean. -/
theorem grad (j : Fin 2304) : (D.DP b h i j * (1 / D.DEN b h i)
    + -∑ j, D.DP b h i j * (1 / (D.DEN b h i * D.DEN b h i)) * D.E b h i j) * D.E b h i j = D.DS b h i j := by
  have hd := (D.DEN_pos b h i).ne'
  have e : ∑ j, D.DP b h i j * (1 / (D.DEN b h i * D.DEN b h i)) * D.E b h i j
      = (1 / D.DEN b h i) * ∑ j, D.DP b h i j * D.P b h i j := by
    rw [Finset.mul_sum]
    refine Finset.sum_congr rfl fun j _ => ?_
    rw [D.P_eq]; field_simp
  rw [e, ← D.DEL_eq, Inp.DS, D.P_eq]
  field_simp
  ring

theorem v162 (j : Fin 2304) : val_main_v162 (F := Ideal) D.aq D.agn D.agr D.ak D.av D.ac (ix4 b h i j)
    = (D.DS b h i j : EReal) := by
  pointwise [val_main_v162, val_main_v161, val_main_v160, val_main_v158, val_main_v157]
  rw [v148, v137, v135, v159, Ideal.div_coe (D.DEN_pos b h i).ne', ← EReal.coe_mul, ← EReal.coe_add, ← EReal.coe_mul, grad]

theorem v164 (j : Fin 2304) : val_main_v164 (F := Ideal) D.aq D.agn D.agr D.ak D.av D.ac (ix4 b h i j)
    = ((D.DS b h i j * sc : ℝ) : EReal) := by
  pointwise [val_main_v164, val_main_v163, val_main_cst_24]
  rw [v162, ofBits_sc, ← EReal.coe_mul]

theorem v170 (j : Fin 2304) (d : Fin 128) :
    val_main_v170 (F := Ideal) D.aq D.agn D.agr D.ak D.av D.ac (ix4 b j h d) = (D.DK b h j ⟨d, by omega⟩ : EReal) := by
  pointwise [val_main_v170, val_main_v169]
  simp only [v164, v17, ← EReal.coe_mul, ← coe_sum]
  unfold Inp.DK
  simp only [QA_n, mul_assoc, mul_comm sc]

theorem v166 (j : Fin 2304) (l : Fin 64) :
    val_main_v166 (F := Ideal) D.aq D.agn D.agr D.ak D.av D.ac (ix4 b j h l) = (D.DK b h j ⟨128 + l, by omega⟩ : EReal) := by
  pointwise [val_main_v166, val_main_v165]
  simp only [v164, v107, ← EReal.coe_mul, ← coe_sum]
  unfold Inp.DK
  simp only [QA_r, mul_assoc, mul_comm sc]

theorem v172 (d : Fin 128) :
    val_main_v172 (F := Ideal) D.aq D.agn D.agr D.ak D.av D.ac (ix4 b i h d) = (D.ZN b h i d : EReal) := by
  pointwise [val_main_v172, val_main_v171, val_main_v108]
  simp only [v164, D.ak_apply, ← EReal.coe_mul, ← coe_sum]
  unfold Inp.ZN Inp.DZ
  rw [Finset.sum_mul]
  refine congrArg _ (Finset.sum_congr rfl fun j _ => ?_)
  rw [KA_lo D b h j ⟨d, by omega⟩ (show d.val < 192 by omega)]
  ring

theorem v168 (l : Fin 64) :
    val_main_v168 (F := Ideal) D.aq D.agn D.agr D.ak D.av D.ac (ix4 b i h l) = (D.DZ b h i ⟨128 + l, by omega⟩ : EReal) := by
  pointwise [val_main_v168, val_main_v167, val_main_v109]
  simp only [v164, D.ak_apply, ← EReal.coe_mul, ← coe_sum]
  unfold Inp.DZ
  rw [Finset.sum_mul]
  refine congrArg _ (Finset.sum_congr rfl fun j _ => ?_)
  rw [KA_lo D b h j ⟨128 + l, by omega⟩ (show 128 + l.val < 192 by omega)]
  ring

/-- The turn back as the reference writes it, in four pieces of 16 lanes. -/
theorem turnedBack (z : Fin 64 → ℝ) (l : Fin 64) :
    (if h1 : l.val < 32 then
        if h2 : l.val < 16 then
          ((z ⟨16 + l.val, by omega⟩ * Real.sin (angle i l.val) + z l * Real.cos (angle i l.val) : ℝ) : EReal)
        else
          ((z ⟨16 + (l.val - 16), by omega⟩ * Real.cos (angle i (l.val - 16)) + -z ⟨l.val - 16, by omega⟩ * Real.sin (angle i (l.val - 16)) : ℝ) : EReal)
      else
        if h2 : l.val - 32 < 16 then
          ((z ⟨32 + (16 + (l.val - 32)), by omega⟩ * Real.sin (angle i (32 + (l.val - 32)))
            + z ⟨32 + (l.val - 32), by omega⟩ * Real.cos (angle i (32 + (l.val - 32))) : ℝ) : EReal)
        else
          ((z ⟨32 + (16 + (l.val - 32 - 16)), by omega⟩ * Real.cos (angle i (32 + (l.val - 32 - 16)))
            + -z ⟨32 + (l.val - 32 - 16), by omega⟩ * Real.sin (angle i (32 + (l.val - 32 - 16))) : ℝ) : EReal))
      = ((turnBack i z l : ℝ) : EReal) := by
  split_ifs with h1 h2 h2 <;> refine congrArg _ ?_
  · rw [back_lo _ _ _ (by omega) (by omega)]
    simp only [show 16 + l.val = l.val + 16 by omega]
    ring
  · rw [back_hi _ _ _ (by omega) (by omega), angle_lower i l.val (by omega)]
    simp only [show 16 + (l.val - 16) = l.val by omega, Fin.eta]
    ring
  · rw [back_lo _ _ _ (by omega) (by omega)]
    simp only [show 32 + (16 + (l.val - 32)) = l.val + 16 by omega, show 32 + (l.val - 32) = l.val by omega, Fin.eta]
    ring
  · rw [back_hi _ _ _ (by omega) (by omega)]
    simp only [show 32 + (l.val - 32 - 16) = l.val - 16 by omega, angle_lower i l.val (by omega),
      show 32 + (16 + (l.val - 32 - 16)) = l.val by omega, Fin.eta]
    ring

theorem v204 (l : Fin 64) :
    val_main_v204 (F := Ideal) D.aq D.agn D.agr D.ak D.av D.ac (ix4 b i h l) = (D.ZR b h i l : EReal) := by
  pointwise [val_main_v204, val_main_v203, val_main_v202, val_main_v201, val_main_v200, val_main_v199, val_main_v198,
    val_main_v197, val_main_v196, val_main_v195, val_main_v194, val_main_v193, val_main_v192, val_main_v191,
    val_main_v190, val_main_v189, val_main_v188, val_main_v187, val_main_v186, val_main_v185, val_main_v184,
    val_main_v183, val_main_v182, val_main_v181, val_main_v180, val_main_v179, val_main_v178, val_main_v177,
    val_main_v176, val_main_v175, val_main_v174, val_main_v102, val_main_v99, val_main_v95, val_main_v92, val_main_v85,
    val_main_v82, val_main_v78, val_main_v75, val_main_v70, val_main_v69, val_main_v68, val_main_v67]
  simp only [v168, v63, v64, v65, v66, ← EReal.coe_mul, ← EReal.coe_sub, ← EReal.coe_add, ← EReal.coe_neg]
  exact turnedBack i (fun l => D.DZ b h i ⟨128 + l, by omega⟩) l

end Cert.Proof.Ref
-- ==== Proof.Ref.Results.lean ====
module

public import proofs.«01_k».proof.Proof.Ref.Backward
/-! The reference's seven results, entry by entry. -/

@[expose] public section

set_option maxRecDepth 16384

noncomputable section

namespace Cert.Proof.Ref

open Idealize.ShloMosaic Idealize.ShloMosaic.Pointwise
open Cert.ReferenceIdeal Cert.ReferenceIdeal.Read

variable (D : Inp) (b : Fin 2) (i : Fin 2048) (h : Fin 8)

theorem v229 (d : Fin 128) : val_main_v229 (F := Ideal) D.aq D.agn D.agr D.ak D.av D.ac (ix4 b i h d)
    = ((D.ZN b h i d * D.gn d : ℝ) : EReal) := by
  pointwise [val_main_v229, val_main_v228, val_main_v15]
  rw [v172, D.agn_apply, ← EReal.coe_mul]

theorem v239 : val_main_v239 (F := Ideal) D.aq D.agn D.agr D.ak D.av D.ac (ix3 b i h)
    = Ideal.div ((∑ e, D.qn b h i e * ((D.ZN b h i e * D.gn e : ℝ) : EReal))
        * (((-(1 / 2) : ℝ) : EReal) * Ideal.div (D.RN b h i : EReal) (meanSq (D.qn b h i) (1 / 128)))) ((128 : ℝ) : EReal) := by
  pointwise [val_main_v239, val_main_v238, val_main_v237, val_main_v236, val_main_v233, val_main_v232, val_main_v231,
    val_main_v12, val_main_v11, val_main_v10, val_main_cst_2, val_main_cst_32, val_main_cst_33, val_main_cst_34]
  simp only [v229, v0, v8, v9, ofBits_half_neg, ofBits_128, Finset.univ_unique, Finset.sum_singleton]

theorem v244 (d : Fin 128) : val_main_v244 (F := Ideal) D.aq D.agn D.agr D.ak D.av D.ac (ix4 b i h d)
    = (D.DXN b h i d : EReal) := by
  pointwise [val_main_v244, val_main_v243, val_main_v242, val_main_v241, val_main_v240, val_main_v235, val_main_v234]
  rw [v229, v239, v9, v0]
  exact rms_back (D.qn b h i) (by norm_num) (by norm_num) (by norm_num) (fun e => D.ZN b h i e * D.gn e) d

theorem v209 (l : Fin 64) : val_main_v209 (F := Ideal) D.aq D.agn D.agr D.ak D.av D.ac (ix4 b i h l)
    = ((D.ZR b h i l * D.gr l : ℝ) : EReal) := by
  pointwise [val_main_v209, val_main_v208, val_main_v31]
  rw [v204, D.agr_apply, ← EReal.coe_mul]

theorem v219 : val_main_v219 (F := Ideal) D.aq D.agn D.agr D.ak D.av D.ac (ix3 b i h)
    = Ideal.div ((∑ e, D.qr b h i e * ((D.ZR b h i e * D.gr e : ℝ) : EReal))
        * (((-(1 / 2) : ℝ) : EReal) * Ideal.div (D.RR b h i : EReal) (meanSq (D.qr b h i) (1 / 64)))) ((64 : ℝ) : EReal) := by
  pointwise [val_main_v219, val_main_v218, val_main_v217, val_main_v216, val_main_v213, val_main_v212, val_main_v211,
    val_main_v28, val_main_v27, val_main_v26, val_main_cst_6, val_main_cst_27, val_main_cst_28, val_main_cst_29]
  simp only [v209, v1, v24, v25, ofBits_half_neg, ofBits_64, Finset.univ_unique, Finset.sum_singleton]

theorem v224 (l : Fin 64) : val_main_v224 (F := Ideal) D.aq D.agn D.agr D.ak D.av D.ac (ix4 b i h l)
    = (D.DXR b h i l : EReal) := by
  pointwise [val_main_v224, val_main_v223, val_main_v222, val_main_v221, val_main_v220, val_main_v215, val_main_v214]
  rw [v209, v219, v25, v1]
  exact rms_back (D.qr b h i) (by norm_num) (by norm_num) (by norm_num) (fun e => D.ZR b h i e * D.gr e) l

/-- A sum over the first three axes of four, entry by entry. -/
theorem sum_three {n0 n1 n2 n3 : ℕ} (hr : (⟨4, ![n0, n1, n2, n3]⟩ : Shape).ReducesTo [0, 1, 2] (⟨1, ![n3]⟩ : Shape))
    (x : (⟨4, ![n0, n1, n2, n3]⟩ : Shape).Idx → EReal) (d : Fin n3) :
    Ideal.hostReduceAdd hr x 0 (ix1 d) = ∑ a, ∑ b, ∑ c, x (ix4 a b c d) := by
  unfold Ideal.hostReduceAdd
  rw [zero_add]
  have hd : ∀ i : (⟨4, ![n0, n1, n2, n3]⟩ : Shape).Idx, hr.drop i = ix1 d ↔ i 3 = d := by
    intro i
    have e : (hr.drop i 0).val = (i 3).val := rfl
    constructor
    · intro h1
      apply Fin.ext
      rw [← e, h1]
      rfl
    · intro h1
      funext a
      have ha : a = 0 := Subsingleton.elim _ _
      subst ha
      apply Fin.ext
      rw [e, h1]
      rfl
  have h2 : (∑ a, ∑ b, ∑ c, x (ix4 a b c d)) = ∑ p : Fin n0 × Fin n1 × Fin n2, x (ix4 p.1 p.2.1 p.2.2 d) := by
    rw [Fintype.sum_prod_type]
    exact Finset.sum_congr rfl fun a _ => by rw [Fintype.sum_prod_type]
  rw [h2]
  refine Finset.sum_nbij' (fun i => (i 0, i 1, i 2)) (fun p => ix4 p.1 p.2.1 p.2.2 d) ?_ ?_ ?_ ?_ ?_
  · intro i _; exact Finset.mem_univ _
  · intro p _
    rw [Finset.mem_filter, hd]
    exact ⟨Finset.mem_univ _, rfl⟩
  · intro i hi
    rw [Finset.mem_filter, hd] at hi
    rw [← hi.2]
    exact (eq_ix4 i).symm
  · intro p _; rfl
  · intro i hi
    rw [Finset.mem_filter, hd] at hi
    rw [← hi.2]
    exact congrArg x (eq_ix4 i)

/-- A row and column of an array of two sequences of 2048 tokens, by sequence and token. -/
def row (b : Fin 2) (i : Fin 2048) : Fin 4096 := ⟨b * 2048 + i, by omega⟩
/-- The same of two contexts of 256 tokens. -/
def crow (b : Fin 2) (j : Fin 256) : Fin 512 := ⟨b * 256 + j, by omega⟩
/-- A column of eight heads of 256 lanes. -/
def col (h : Fin 8) (e : Fin 256) : Fin 2048 := ⟨h * 256 + e, by omega⟩
/-- A column of eight heads of 128 lanes. -/
def vcol (h : Fin 8) (d : Fin 128) : Fin 1024 := ⟨h * 128 + d, by omega⟩

/-- The word zero, read as a number. -/
theorem sitofp_zero0 : FloatOps.sitofp (F := Ideal) .f32 0#32 = (0 : EReal) := by
  have := sitofp_ofNat 0 (by norm_num)
  simpa using this

theorem zero0 (k : S_.Idx) : val_main_call0_v0 (F := Ideal) k = 0 := by
  pointwise [val_main_call0_v0, val_main_c]
  exact sitofp_zero0

theorem zero1 (k : S_.Idx) : val_main_call1_v0 (F := Ideal) k = 0 := by
  pointwise [val_main_call1_v0, val_main_c_35]
  exact sitofp_zero0

theorem zero2 (k : S_.Idx) : val_main_call2_v0 (F := Ideal) k = 0 := by
  pointwise [val_main_call2_v0, val_main_c_36]
  exact sitofp_zero0

theorem dq (e : Fin 256) : val_main_v249 (F := Ideal) D.aq D.agn D.agr D.ak D.av D.ac (ix2 (row b i) (col h e))
    = (D.DQ b h i e : EReal) := by
  pointwise [val_main_v249, val_main_v248, val_main_v246, val_main_v245, row, col]
  unfold Inp.DQ
  simp only [v244, v224, zero0]
  split_ifs <;> first | rfl | omega

/-- The key gradient's lanes, in the reference's three pieces. -/
theorem dk_lanes (j : Fin 2304) (e : Fin 256) (hj : j.val < 2304) : (if h_1 : j.val < 2304 ∧ e.val < 192 then
      if h_2 : e.val < 128 then val_main_v170 (F := Ideal) D.aq D.agn D.agr D.ak D.av D.ac (ix4 b j h ⟨e.val, h_2⟩)
      else val_main_v166 (F := Ideal) D.aq D.agn D.agr D.ak D.av D.ac (ix4 b j h ⟨e.val - 128, by omega⟩)
    else val_main_call1_v0 (F := Ideal) (Shape.Idx.first Gen.h_S_)) = (D.DK b h j e : EReal) := by
  split_ifs with h1 h2
  · rw [v170]
  · rw [v166]
    simp only [show 128 + (e.val - 128) = e.val by omega, Fin.eta]
  · rw [zero1]
    unfold Inp.DK
    have hz : ∀ i, D.QA b h i e = 0 := fun i => by
      unfold Inp.QA; rw [dif_neg (by omega), dif_neg (by omega)]
    simp only [hz, mul_zero, Finset.sum_const_zero, EReal.coe_zero]

theorem dkl (j : Fin 2048) (e : Fin 256) : val_main_v251 (F := Ideal) D.aq D.agn D.agr D.ak D.av D.ac (ix2 (row b j) (col h e))
    = (D.DK b h ⟨j, by omega⟩ e : EReal) := by
  pointwise [val_main_v251, val_main_v250, val_main_v247, val_main_v173, row, col]
  exact dk_lanes D b h ⟨j, by omega⟩ e (by omega)

theorem dkc (j : Fin 256) (e : Fin 256) : val_main_v253 (F := Ideal) D.aq D.agn D.agr D.ak D.av D.ac (ix2 (crow b j) (col h e))
    = (D.DK b h ⟨2048 + j, by omega⟩ e : EReal) := by
  pointwise [val_main_v253, val_main_v252, val_main_v247, val_main_v173, crow, col]
  exact dk_lanes D b h ⟨2048 + j, by omega⟩ e (by omega)

theorem dvl (j : Fin 2048) (d : Fin 128) : val_main_v255 (F := Ideal) D.aq D.agn D.agr D.ak D.ac (ix2 (row b j) (vcol h d))
    = (D.DV b h ⟨j, by omega⟩ d : EReal) := by
  pointwise [val_main_v255, val_main_v254, row, vcol]
  rw [v150]

theorem dvc (j : Fin 256) (d : Fin 128) : val_main_v257 (F := Ideal) D.aq D.agn D.agr D.ak D.ac (ix2 (crow b j) (vcol h d))
    = (D.DV b h ⟨2048 + j, by omega⟩ d : EReal) := by
  pointwise [val_main_v257, val_main_v256, crow, vcol]
  rw [v150]

theorem v226 (d : Fin 128) : val_main_v226 (F := Ideal) D.aq D.agn D.agr D.ak D.av D.ac (ix1 d)
    = ((∑ b, ∑ i, ∑ h, D.GN b h i d : ℝ) : EReal) := by
  pointwise [val_main_v226, val_main_cst_30]
  rw [sum_three]
  simp only [coe_sum]
  refine Finset.sum_congr rfl fun b _ => Finset.sum_congr rfl fun i _ => Finset.sum_congr rfl fun h _ => ?_
  pointwise [val_main_v225]
  rw [v14, v172, ← EReal.coe_mul, mul_comm]; rfl

theorem dgn (z : Fin 1) (d : Fin 128) : val_main_v258 (F := Ideal) D.aq D.agn D.agr D.ak D.av D.ac (ix2 z d)
    = ((∑ b, ∑ i, ∑ h, D.GN b h i d : ℝ) : EReal) := by
  pointwise [val_main_v258, val_main_v230, val_main_cst_31]
  rw [sum_three]
  simp only [Finset.univ_unique, Finset.sum_singleton]
  pointwise [val_main_v227]
  exact v226 D d

theorem v206 (l : Fin 64) : val_main_v206 (F := Ideal) D.aq D.agn D.agr D.ak D.av D.ac (ix1 l)
    = ((∑ b, ∑ i, ∑ h, D.GR b h i l : ℝ) : EReal) := by
  pointwise [val_main_v206, val_main_cst_25]
  rw [sum_three]
  simp only [coe_sum]
  refine Finset.sum_congr rfl fun b _ => Finset.sum_congr rfl fun i _ => Finset.sum_congr rfl fun h _ => ?_
  pointwise [val_main_v205]
  rw [v30, v204, ← EReal.coe_mul, mul_comm]; rfl

theorem v210 (l : Fin 64) : val_main_v210 (F := Ideal) D.aq D.agn D.agr D.ak D.av D.ac (ix1 l)
    = ((∑ b, ∑ i, ∑ h, D.GR b h i l : ℝ) : EReal) := by
  pointwise [val_main_v210, val_main_cst_26]
  rw [sum_three]
  simp only [Finset.univ_unique, Finset.sum_singleton]
  pointwise [val_main_v207]
  exact v206 D l

theorem dgr (z : Fin 1) (l : Fin 128) : val_main_v260 (F := Ideal) D.aq D.agn D.agr D.ak D.av D.ac (ix2 z l)
    = ((if hl : l.val < 64 then (∑ b, ∑ i, ∑ h, D.GR b h i ⟨l, hl⟩ : ℝ) else 0 : ℝ) : EReal) := by
  pointwise [val_main_v260, val_main_v259]
  split_ifs with hl
  · rw [v210]
  · rw [zero2]; rfl

end Cert.Proof.Ref
-- ==== Proof.Grid.Blocks.lean ====
module

public import proofs.«01_k».proof.Proof.Gen.KernelIdeal.Value
public import proofs.«01_k».proof.Proof.Ref.Results
/-! What the blocks of a grid point hold: batch `b`, head `h`, half `i` of the queries. -/

@[expose] public section

set_option maxRecDepth 16384

noncomputable section

namespace Cert.Proof.Grid

open Cert.KernelIdeal Cert.KernelIdeal.Gen Idealize.ShloMosaic Idealize.ShloMosaic.TcCoe
open Idealize.ShloMosaic.Pointwise Cert.Proof.Ref

variable {F : FTy → Type} [FloatOps F]
variable (m : (ℓ : Loc nD τ sig) → Buf (Elt F) ℓ) (c : Dev nD)

/-- The grid point of batch `b`, head `h`, half `i`. -/
def pt (b : Fin 2) (h : Fin 8) (i : Fin 2) : Fin cfg0.N := ⟨b.val * 16 + h.val * 2 + i.val, by
  show _ < grid0.N
  have : grid0.N = 32 := by decide
  omega⟩

/-- The query token at row `r` of half `i`. -/
def tok (i : Fin 2) (r : Fin 1024) : Fin 2048 := ⟨i.val * 1024 + r.val, by omega⟩

/-- Every point is one of these. -/
theorem pt_of (t : Fin cfg0.N) : ∃ b h i, t = pt b h i := by
  have ht : t.val < 32 := t.isLt
  exact ⟨⟨t.val / 16, by omega⟩, ⟨t.val % 16 / 2, by omega⟩, ⟨t.val % 2, by omega⟩, Fin.ext (by simp only [pt]; omega)⟩

theorem idx0 : ∀ (b : Fin 2) (h : Fin 8) (i : Fin 2), win0_0.index (pt b h i) (0 : Fin 2) = b.val * 2 + i.val ∧ win0_0.index (pt b h i) (1 : Fin 2) = h.val := by
  decide +kernel

/-- Input 0 of the call, at a point. -/
theorem x0 (b : Fin 2) (h : Fin 8) (i : Fin 2) (r : Fin 1024) (e : Fin 128) :
    iblk m c 0 (pt b h i) (ix2 r e) = V m c main_v33 (ix2 (row b (tok i r)) (vcol h e)) := by
  obtain ⟨e0, e1⟩ := idx0 b h i
  show V m c main_v33 (((cfg0.win 0).blk (pt b h i)).view.emb _) = _
  refine congrArg (V m c main_v33) ?_
  funext a; apply Fin.ext
  match a with
  | ⟨0, _⟩ => show win0_0.index (pt b h i) (0 : Fin 2) * 1024 + 1 * r.val = (row b (tok i r)).val; rw [e0]; (try simp only [row, crow, tok]); omega
  | ⟨1, _⟩ => show win0_0.index (pt b h i) (1 : Fin 2) * 128 + 1 * e.val = (vcol h e).val; rw [e1]; (try simp only [col, vcol]); omega

theorem idx1 : ∀ (b : Fin 2) (h : Fin 8) (i : Fin 2), win0_1.index (pt b h i) (0 : Fin 2) = b.val * 2 + i.val ∧ win0_1.index (pt b h i) (1 : Fin 2) = h.val := by
  decide +kernel

/-- Input 1 of the call, at a point. -/
theorem x1 (b : Fin 2) (h : Fin 8) (i : Fin 2) (r : Fin 1024) (e : Fin 128) :
    iblk m c 1 (pt b h i) (ix2 r e) = V m c main_v183 (ix2 (row b (tok i r)) (vcol h e)) := by
  obtain ⟨e0, e1⟩ := idx1 b h i
  show V m c main_v183 (((cfg0.win 1).blk (pt b h i)).view.emb _) = _
  refine congrArg (V m c main_v183) ?_
  funext a; apply Fin.ext
  match a with
  | ⟨0, _⟩ => show win0_1.index (pt b h i) (0 : Fin 2) * 1024 + 1 * r.val = (row b (tok i r)).val; rw [e0]; (try simp only [row, crow, tok]); omega
  | ⟨1, _⟩ => show win0_1.index (pt b h i) (1 : Fin 2) * 128 + 1 * e.val = (vcol h e).val; rw [e1]; (try simp only [col, vcol]); omega

theorem idx2 : ∀ (b : Fin 2) (h : Fin 8) (i : Fin 2), win0_2.index (pt b h i) (0 : Fin 2) = b.val * 2 + i.val ∧ win0_2.index (pt b h i) (1 : Fin 2) = h.val := by
  decide +kernel

/-- Input 2 of the call, at a point. -/
theorem x2 (b : Fin 2) (h : Fin 8) (i : Fin 2) (r : Fin 1024) (e : Fin 128) :
    iblk m c 2 (pt b h i) (ix2 r e) = V m c main_v185 (ix2 (row b (tok i r)) (vcol h e)) := by
  obtain ⟨e0, e1⟩ := idx2 b h i
  show V m c main_v185 (((cfg0.win 2).blk (pt b h i)).view.emb _) = _
  refine congrArg (V m c main_v185) ?_
  funext a; apply Fin.ext
  match a with
  | ⟨0, _⟩ => show win0_2.index (pt b h i) (0 : Fin 2) * 1024 + 1 * r.val = (row b (tok i r)).val; rw [e0]; (try simp only [row, crow, tok]); omega
  | ⟨1, _⟩ => show win0_2.index (pt b h i) (1 : Fin 2) * 128 + 1 * e.val = (vcol h e).val; rw [e1]; (try simp only [col, vcol]); omega

theorem idx3 : ∀ (b : Fin 2) (h : Fin 8) (i : Fin 2), win0_3.index (pt b h i) (0 : Fin 2) = b.val * 2 + i.val ∧ win0_3.index (pt b h i) (1 : Fin 2) = h.val := by
  decide +kernel

/-- Input 3 of the call, at a point. -/
theorem x3 (b : Fin 2) (h : Fin 8) (i : Fin 2) (r : Fin 1024) (e : Fin 256) :
    iblk m c 3 (pt b h i) (ix2 r e) = V m c main_v188 (ix2 (row b (tok i r)) (col h e)) := by
  obtain ⟨e0, e1⟩ := idx3 b h i
  show V m c main_v188 (((cfg0.win 3).blk (pt b h i)).view.emb _) = _
  refine congrArg (V m c main_v188) ?_
  funext a; apply Fin.ext
  match a with
  | ⟨0, _⟩ => show win0_3.index (pt b h i) (0 : Fin 2) * 1024 + 1 * r.val = (row b (tok i r)).val; rw [e0]; (try simp only [row, crow, tok]); omega
  | ⟨1, _⟩ => show win0_3.index (pt b h i) (1 : Fin 2) * 256 + 1 * e.val = (col h e).val; rw [e1]; (try simp only [col, vcol]); omega

theorem idx4 : ∀ (b : Fin 2) (h : Fin 8) (i : Fin 2), win0_4.index (pt b h i) (0 : Fin 2) = b.val * 2 + i.val ∧ win0_4.index (pt b h i) (1 : Fin 2) = h.val := by
  decide +kernel

/-- Input 4 of the call, at a point. -/
theorem x4 (b : Fin 2) (h : Fin 8) (i : Fin 2) (r : Fin 1024) (e : Fin 256) :
    iblk m c 4 (pt b h i) (ix2 r e) = V m c main_v190 (ix2 (row b (tok i r)) (col h e)) := by
  obtain ⟨e0, e1⟩ := idx4 b h i
  show V m c main_v190 (((cfg0.win 4).blk (pt b h i)).view.emb _) = _
  refine congrArg (V m c main_v190) ?_
  funext a; apply Fin.ext
  match a with
  | ⟨0, _⟩ => show win0_4.index (pt b h i) (0 : Fin 2) * 1024 + 1 * r.val = (row b (tok i r)).val; rw [e0]; (try simp only [row, crow, tok]); omega
  | ⟨1, _⟩ => show win0_4.index (pt b h i) (1 : Fin 2) * 256 + 1 * e.val = (col h e).val; rw [e1]; (try simp only [col, vcol]); omega

theorem idx5 : ∀ (b : Fin 2) (h : Fin 8) (i : Fin 2), win0_5.index (pt b h i) (0 : Fin 2) = 0 ∧ win0_5.index (pt b h i) (1 : Fin 2) = 0 := by
  decide +kernel

/-- Input 5 of the call, at a point. -/
theorem x5 (b : Fin 2) (h : Fin 8) (i : Fin 2) (r : Fin 1) (e : Fin 128) :
    iblk m c 5 (pt b h i) (ix2 r e) = V m c main_v36 (ix2 r e) := by
  obtain ⟨e0, e1⟩ := idx5 b h i
  show V m c main_v36 (((cfg0.win 5).blk (pt b h i)).view.emb _) = _
  refine congrArg (V m c main_v36) ?_
  funext a; apply Fin.ext
  match a with
  | ⟨0, _⟩ => show win0_5.index (pt b h i) (0 : Fin 2) * 1 + 1 * r.val = r.val; rw [e0]; (try simp only [row, crow, tok]); omega
  | ⟨1, _⟩ => show win0_5.index (pt b h i) (1 : Fin 2) * 128 + 1 * e.val = e.val; rw [e1]; (try simp only [col, vcol]); omega

theorem idx6 : ∀ (b : Fin 2) (h : Fin 8) (i : Fin 2), win0_6.index (pt b h i) (0 : Fin 2) = 0 ∧ win0_6.index (pt b h i) (1 : Fin 2) = 0 := by
  decide +kernel

/-- Input 6 of the call, at a point. -/
theorem x6 (b : Fin 2) (h : Fin 8) (i : Fin 2) (r : Fin 1) (e : Fin 128) :
    iblk m c 6 (pt b h i) (ix2 r e) = V m c main_v38 (ix2 r e) := by
  obtain ⟨e0, e1⟩ := idx6 b h i
  show V m c main_v38 (((cfg0.win 6).blk (pt b h i)).view.emb _) = _
  refine congrArg (V m c main_v38) ?_
  funext a; apply Fin.ext
  match a with
  | ⟨0, _⟩ => show win0_6.index (pt b h i) (0 : Fin 2) * 1 + 1 * r.val = r.val; rw [e0]; (try simp only [row, crow, tok]); omega
  | ⟨1, _⟩ => show win0_6.index (pt b h i) (1 : Fin 2) * 128 + 1 * e.val = e.val; rw [e1]; (try simp only [col, vcol]); omega

theorem idx7 : ∀ (b : Fin 2) (h : Fin 8) (i : Fin 2), win0_7.index (pt b h i) (0 : Fin 2) = b.val * 2 + i.val ∧ win0_7.index (pt b h i) (1 : Fin 2) = 0 := by
  decide +kernel

/-- Input 7 of the call, at a point. -/
theorem x7 (b : Fin 2) (h : Fin 8) (i : Fin 2) (r : Fin 1024) (e : Fin 128) :
    X0_7 m c (pt b h i) (ix2 r e) = V m c main_v176 (ix2 (⟨(row b (tok i r)).val, by omega⟩ : Fin 4608) e) := by
  obtain ⟨e0, e1⟩ := idx7 b h i
  unfold X0_7 Pipeline.Window.fill
  rw [dif_pos (moved0_7 (pt b h i) (ix2 r e))]
  show V m c main_v176 (((cfg0.win 7).blk (pt b h i)).view.emb _) = _
  refine congrArg (V m c main_v176) ?_
  funext a; apply Fin.ext
  match a with
  | ⟨0, _⟩ => show win0_7.index (pt b h i) (0 : Fin 2) * 1024 + 1 * r.val = (⟨(row b (tok i r)).val, by omega⟩ : Fin 4608).val; rw [e0]; (try simp only [row, crow, tok]); omega
  | ⟨1, _⟩ => show win0_7.index (pt b h i) (1 : Fin 2) * 128 + 1 * e.val = e.val; rw [e1]; (try simp only [col, vcol]); omega

theorem idx8 : ∀ (b : Fin 2) (h : Fin 8) (i : Fin 2), win0_8.index (pt b h i) (0 : Fin 2) = b.val * 2 + i.val ∧ win0_8.index (pt b h i) (1 : Fin 2) = 0 := by
  decide +kernel

/-- Input 8 of the call, at a point. -/
theorem x8 (b : Fin 2) (h : Fin 8) (i : Fin 2) (r : Fin 1024) (e : Fin 128) :
    X0_8 m c (pt b h i) (ix2 r e) = V m c main_v181 (ix2 (⟨(row b (tok i r)).val, by omega⟩ : Fin 4608) e) := by
  obtain ⟨e0, e1⟩ := idx8 b h i
  unfold X0_8 Pipeline.Window.fill
  rw [dif_pos (moved0_8 (pt b h i) (ix2 r e))]
  show V m c main_v181 (((cfg0.win 8).blk (pt b h i)).view.emb _) = _
  refine congrArg (V m c main_v181) ?_
  funext a; apply Fin.ext
  match a with
  | ⟨0, _⟩ => show win0_8.index (pt b h i) (0 : Fin 2) * 1024 + 1 * r.val = (⟨(row b (tok i r)).val, by omega⟩ : Fin 4608).val; rw [e0]; (try simp only [row, crow, tok]); omega
  | ⟨1, _⟩ => show win0_8.index (pt b h i) (1 : Fin 2) * 128 + 1 * e.val = e.val; rw [e1]; (try simp only [col, vcol]); omega

theorem idx9 : ∀ (b : Fin 2) (h : Fin 8) (i : Fin 2), win0_9.index (pt b h i) (0 : Fin 2) = b.val ∧ win0_9.index (pt b h i) (1 : Fin 2) = h.val := by
  decide +kernel

/-- Input 9 of the call, at a point. -/
theorem x9 (b : Fin 2) (h : Fin 8) (i : Fin 2) (r : Fin 2048) (e : Fin 256) :
    X0_9 m c (pt b h i) (ix2 r e) = V m c main_v197 (ix2 (⟨(row b r).val, by omega⟩ : Fin 4608) (col h e)) := by
  obtain ⟨e0, e1⟩ := idx9 b h i
  unfold X0_9 Pipeline.Window.fill
  rw [dif_pos (moved0_9 (pt b h i) (ix2 r e))]
  show V m c main_v197 (((cfg0.win 9).blk (pt b h i)).view.emb _) = _
  refine congrArg (V m c main_v197) ?_
  funext a; apply Fin.ext
  match a with
  | ⟨0, _⟩ => show win0_9.index (pt b h i) (0 : Fin 2) * 2048 + 1 * r.val = (⟨(row b r).val, by omega⟩ : Fin 4608).val; rw [e0]; (try simp only [row, crow, tok]); omega
  | ⟨1, _⟩ => show win0_9.index (pt b h i) (1 : Fin 2) * 256 + 1 * e.val = (col h e).val; rw [e1]; (try simp only [col, vcol]); omega

theorem idx10 : ∀ (b : Fin 2) (h : Fin 8) (i : Fin 2), win0_10.index (pt b h i) (0 : Fin 2) = 16 + b.val ∧ win0_10.index (pt b h i) (1 : Fin 2) = h.val := by
  decide +kernel

/-- Input 10 of the call, at a point. -/
theorem x10 (b : Fin 2) (h : Fin 8) (i : Fin 2) (r : Fin 256) (e : Fin 256) :
    iblk m c 10 (pt b h i) (ix2 r e) = V m c main_v197 (ix2 (⟨4096 + (crow b r).val, by omega⟩ : Fin 4608) (col h e)) := by
  obtain ⟨e0, e1⟩ := idx10 b h i
  show V m c main_v197 (((cfg0.win 10).blk (pt b h i)).view.emb _) = _
  refine congrArg (V m c main_v197) ?_
  funext a; apply Fin.ext
  match a with
  | ⟨0, _⟩ => show win0_10.index (pt b h i) (0 : Fin 2) * 256 + 1 * r.val = (⟨4096 + (crow b r).val, by omega⟩ : Fin 4608).val; rw [e0]; (try simp only [row, crow, tok]); omega
  | ⟨1, _⟩ => show win0_10.index (pt b h i) (1 : Fin 2) * 256 + 1 * e.val = (col h e).val; rw [e1]; (try simp only [col, vcol]); omega

theorem idx11 : ∀ (b : Fin 2) (h : Fin 8) (i : Fin 2), win0_11.index (pt b h i) (0 : Fin 2) = b.val ∧ win0_11.index (pt b h i) (1 : Fin 2) = h.val := by
  decide +kernel

/-- Input 11 of the call, at a point. -/
theorem x11 (b : Fin 2) (h : Fin 8) (i : Fin 2) (r : Fin 2048) (e : Fin 128) :
    X0_11 m c (pt b h i) (ix2 r e) = V m c main_v204 (ix2 (⟨(row b r).val, by omega⟩ : Fin 4608) (vcol h e)) := by
  obtain ⟨e0, e1⟩ := idx11 b h i
  unfold X0_11 Pipeline.Window.fill
  rw [dif_pos (moved0_11 (pt b h i) (ix2 r e))]
  show V m c main_v204 (((cfg0.win 11).blk (pt b h i)).view.emb _) = _
  refine congrArg (V m c main_v204) ?_
  funext a; apply Fin.ext
  match a with
  | ⟨0, _⟩ => show win0_11.index (pt b h i) (0 : Fin 2) * 2048 + 1 * r.val = (⟨(row b r).val, by omega⟩ : Fin 4608).val; rw [e0]; (try simp only [row, crow, tok]); omega
  | ⟨1, _⟩ => show win0_11.index (pt b h i) (1 : Fin 2) * 128 + 1 * e.val = (vcol h e).val; rw [e1]; (try simp only [col, vcol]); omega

theorem idx12 : ∀ (b : Fin 2) (h : Fin 8) (i : Fin 2), win0_12.index (pt b h i) (0 : Fin 2) = 16 + b.val ∧ win0_12.index (pt b h i) (1 : Fin 2) = h.val := by
  decide +kernel

/-- Input 12 of the call, at a point. -/
theorem x12 (b : Fin 2) (h : Fin 8) (i : Fin 2) (r : Fin 256) (e : Fin 128) :
    iblk m c 12 (pt b h i) (ix2 r e) = V m c main_v204 (ix2 (⟨4096 + (crow b r).val, by omega⟩ : Fin 4608) (vcol h e)) := by
  obtain ⟨e0, e1⟩ := idx12 b h i
  show V m c main_v204 (((cfg0.win 12).blk (pt b h i)).view.emb _) = _
  refine congrArg (V m c main_v204) ?_
  funext a; apply Fin.ext
  match a with
  | ⟨0, _⟩ => show win0_12.index (pt b h i) (0 : Fin 2) * 256 + 1 * r.val = (⟨4096 + (crow b r).val, by omega⟩ : Fin 4608).val; rw [e0]; (try simp only [row, crow, tok]); omega
  | ⟨1, _⟩ => show win0_12.index (pt b h i) (1 : Fin 2) * 128 + 1 * e.val = (vcol h e).val; rw [e1]; (try simp only [col, vcol]); omega

end Cert.Proof.Grid
-- ==== Proof.Block.Entry.lean ====
module

public import proofs.«01_k».proof.Proof.Block.Chain
public import proofs.«01_k».proof.Proof.Math.Spec
public import Idealize.ShloMosaic.Lib.Pointwise
/-! A chain's arrays, entry by entry, over the reals. -/

@[expose] public section

set_option maxRecDepth 16384

noncomputable section

namespace Cert.Proof.Block

open Cert.KernelIdeal Cert.KernelIdeal.Gen Idealize.ShloMosaic Idealize.ShloMosaic.Pointwise

/-- What a chain's operands hold: `ρ` the query tokens of its 512 rows. -/
structure Holds (D : Inp) (b : Fin 2) (h : Fin 8) (ρ : Fin 512 → Fin 2048)
    (Q : Vec Ideal S512x256 .bf16) (A B : Vec Ideal S512x128 .f32) (L : Vec Ideal S512x1 .f32)
    (KL : Vec Ideal S2048x256 .bf16) (KC : Vec Ideal S256x256 .bf16) (VL : Vec Ideal S2048x128 .bf16) (VC : Vec Ideal S256x128 .bf16) : Prop where
  q : ∀ r e, Q (ix2 r e) = (D.QA b h (ρ r) e : EReal)
  a : ∀ r d, A (ix2 r d) = (D.C b h (ρ r) d : EReal)
  o : ∀ r d, B (ix2 r d) = (D.O b h (ρ r) d : EReal)
  l : ∀ r z, L (ix2 r z) = (D.LSE b h (ρ r) : EReal)
  kl : ∀ (j : Fin 2048) e, KL (ix2 j e) = (D.KA b h ⟨j, by omega⟩ e : EReal)
  kc : ∀ (j : Fin 256) e, KC (ix2 j e) = (D.KA b h ⟨2048 + j, by omega⟩ e : EReal)
  vl : ∀ (j : Fin 2048) d, VL (ix2 j d) = (D.v b ⟨j, by omega⟩ h d : EReal)
  vc : ∀ (j : Fin 256) d, VC (ix2 j d) = (D.v b ⟨2048 + j, by omega⟩ h d : EReal)

variable {D : Inp} {b : Fin 2} {h : Fin 8} {ρ : Fin 512 → Fin 2048}
    {Q : Vec Ideal S512x256 .bf16} {A B : Vec Ideal S512x128 .f32} {L : Vec Ideal S512x1 .f32}
    {KL : Vec Ideal S2048x256 .bf16} {KC : Vec Ideal S256x256 .bf16} {VL : Vec Ideal S2048x128 .bf16} {VC : Vec Ideal S256x128 .bf16}
    (H : Holds D b h ρ Q A B L KL KC VL VC)
include H

theorem wL_at (r : Fin 512) (j : Fin 2048) : wL Q L KL (ix2 r j) = (D.P b h (ρ r) ⟨j, by omega⟩ : EReal) := by
  pointwise [wL, k0_pay16, k0_pay11, k0_pay14]
  simp only [H.q, H.kl, H.l, ← EReal.coe_mul, ← coe_sum, ← EReal.coe_sub, ← EReal.coe_add, Ideal.exp_coe]
  rfl

theorem gL_at (r : Fin 512) (j : Fin 2048) : gL Q A B L KL VL (ix2 r j) = (D.DS b h (ρ r) ⟨j, by omega⟩ : EReal) := by
  have hw := wL_at H r j
  unfold wL at hw
  pointwise [gL, k0_pay19, k0_pay18, k0_pay17, k0_pay13, k0_pay12]
  rw [hw]
  simp only [H.a, H.o, H.vl, ← EReal.coe_mul, ← coe_sum, ← EReal.coe_sub, ← EReal.coe_add]
  rfl

theorem wC_at (r : Fin 512) (j : Fin 256) : wC Q L KC (ix2 r j) = (D.P b h (ρ r) ⟨2048 + j, by omega⟩ : EReal) := by
  pointwise [wC, k0_pay22, k0_pay11, k0_pay14]
  simp only [H.q, H.kc, H.l, ← EReal.coe_mul, ← coe_sum, ← EReal.coe_sub, ← EReal.coe_add, Ideal.exp_coe]
  rfl

theorem gC_at (r : Fin 512) (j : Fin 256) : gC Q A B L KC VC (ix2 r j) = (D.DS b h (ρ r) ⟨2048 + j, by omega⟩ : EReal) := by
  have hw := wC_at H r j
  unfold wC at hw
  pointwise [gC, k0_pay23, k0_pay13, k0_pay12]
  rw [hw]
  simp only [H.a, H.o, H.vc, ← EReal.coe_mul, ← coe_sum, ← EReal.coe_sub, ← EReal.coe_add]
  rfl

theorem dKL_at (j : Fin 2048) (e : Fin 256) : dKL Q A B L KL VL (ix2 j e)
    = ((∑ r, D.DS b h (ρ r) ⟨j, by omega⟩ * D.QA b h (ρ r) e : ℝ) : EReal) := by
  have hg := fun r => gL_at H r j
  unfold gL at hg
  pointwise [dKL, k0_pay20, k0_pay11]
  simp only [hg, H.q, ← EReal.coe_mul, ← coe_sum]

theorem dKC_at (j : Fin 256) (e : Fin 256) : dKC Q A B L KC VC (ix2 j e)
    = ((∑ r, D.DS b h (ρ r) ⟨2048 + j, by omega⟩ * D.QA b h (ρ r) e : ℝ) : EReal) := by
  have hg := fun r => gC_at H r j
  unfold gC at hg
  unfold dKC k0_pay24
  pointwise []
  simp only [hg]
  pointwise [k0_pay11]
  simp only [H.q, ← EReal.coe_mul, ← coe_sum]

theorem dVL_at (j : Fin 2048) (d : Fin 128) : dVL Q A L KL (ix2 j d)
    = ((∑ r, D.P b h (ρ r) ⟨j, by omega⟩ * D.C b h (ρ r) d : ℝ) : EReal) := by
  have hg := fun r => wL_at H r j
  unfold wL at hg
  pointwise [dVL, k0_pay21, k0_pay12]
  simp only [hg, H.a, ← EReal.coe_mul, ← coe_sum]

theorem dVC_at (j : Fin 256) (d : Fin 128) : dVC Q A L KC (ix2 j d)
    = ((∑ r, D.P b h (ρ r) ⟨2048 + j, by omega⟩ * D.C b h (ρ r) d : ℝ) : EReal) := by
  have hg := fun r => wC_at H r j
  unfold wC at hg
  pointwise [dVC, k0_pay25, k0_pay12]
  simp only [hg, H.a, ← EReal.coe_mul, ← coe_sum]

theorem dZ_at (r : Fin 512) (e : Fin 256) : dZ Q A B L KL KC VL VC (ix2 r e) = (D.DZ b h (ρ r) e : EReal) := by
  have hl := fun j => gL_at H r j
  have hc := fun j => gC_at H r j
  unfold gL at hl
  unfold gC at hc
  unfold dZ k0_pay26 k0_pay15
  pointwise []
  simp only [hl, hc, H.kl, H.kc, ofBits_sc, ← EReal.coe_mul, ← coe_sum, ← EReal.coe_add]
  have hs := Fin.sum_univ_add (a := 2048) (b := 256) (fun j : Fin 2304 => D.DS b h (ρ r) j * D.KA b h j e)
  unfold Inp.DZ
  rw [hs]
  rfl

end Cert.Proof.Block
-- ==== Proof.Block.Norm.lean ====
module

public import proofs.«01_k».proof.Proof.Block.Chain
public import proofs.«01_k».proof.Proof.Math.Spec
public import Idealize.ShloMosaic.Lib.Pointwise
/-! The gradients of the norms and of the turn, in a chain, entry by entry. -/

@[expose] public section

set_option maxRecDepth 16384

noncomputable section

namespace Cert.Proof.Block

open Cert.KernelIdeal Cert.KernelIdeal.Gen Idealize.ShloMosaic Idealize.ShloMosaic.Pointwise

theorem angle_up (i : Fin 2048) (l : ℕ) (h : l % 32 < 16) : angle i (l + 16) = angle i l := by
  unfold angle
  rw [show (l + 16) % 16 = l % 16 by omega]
  by_cases h1 : l < 32
  · rw [if_pos h1, if_pos (by omega)]
  · rw [if_neg h1, if_neg (by omega)]

theorem angle_down (i : Fin 2048) (l : ℕ) (h : ¬ l % 32 < 16) : angle i (l - 16) = angle i l := by
  unfold angle
  rw [show (l - 16) % 16 = l % 16 by omega]
  by_cases h1 : l < 32
  · rw [if_pos h1, if_pos (by omega)]
  · rw [if_neg h1, if_neg (by omega)]

theorem sel_one {α : Type} (a b : α) : Scalar.select 1#1 a b = a := rfl
theorem sel_zero {α : Type} (a b : α) : Scalar.select 0#1 a b = b := rfl

/-- What the second half of a chain's operands hold. -/
structure HoldsN (D : Inp) (b : Fin 2) (h : Fin 8) (ρ : Fin 512 → Fin 2048)
    (X XR : Vec Ideal S512x128 .f32) (GN GR : Vec Ideal S1x128 .f32) (CT ST : Vec Ideal S512x128 .f32)
    (Z : FVec Ideal S512x256 .f32) : Prop where
  x : ∀ r d, X (ix2 r d) = D.qn b h (ρ r) d
  xr : ∀ r (l : Fin 128), XR (ix2 r l) = if hl : l.val < 64 then D.qr b h (ρ r) ⟨l, hl⟩ else 0
  gn : ∀ z d, GN (ix2 z d) = (D.gn d : EReal)
  gr : ∀ z (l : Fin 128), GR (ix2 z l) = ((if hl : l.val < 64 then D.gr ⟨l, hl⟩ else 0 : ℝ) : EReal)
  ct : ∀ r (l : Fin 128), CT (ix2 r l) = ((if l.val < 64 then Real.cos (angle (ρ r) l) else 1 : ℝ) : EReal)
  st : ∀ r (l : Fin 128), ST (ix2 r l) = ((if l.val < 64 then
    (if l.val % 32 < 16 then -Real.sin (angle (ρ r) l) else Real.sin (angle (ρ r) l)) else 0 : ℝ) : EReal)
  z : ∀ r e, Z (ix2 r e) = (D.DZ b h (ρ r) e : EReal)

variable {D : Inp} {b : Fin 2} {h : Fin 8} {ρ : Fin 512 → Fin 2048}
    {X XR : Vec Ideal S512x128 .f32} {GN GR : Vec Ideal S1x128 .f32} {CT ST : Vec Ideal S512x128 .f32}
    {Z : FVec Ideal S512x256 .f32}
    (H : HoldsN D b h ρ X XR GN GR CT ST Z)
include H

theorem rN_at (r : Fin 512) (z : Fin 1) : k0_pay29 (k0_pay27 X) (ix2 r z) = (D.RN b h (ρ r) : EReal) := by
  pointwise [k0_pay29, k0_pay27]
  simp only [H.x, ofBits_128th, ofBits_eps]
  exact D.nrm_n b h (ρ r)

theorem xN_at (r : Fin 512) (d : Fin 128) : k0_pay30 (k0_pay27 X) (ix2 r d) = (D.XN b h (ρ r) d : EReal) := by
  have hr := rN_at H r 0
  unfold k0_pay30
  pointwise []
  rw [hr]
  pointwise [k0_pay27]
  rw [H.x]
  exact D.mul_n b h (ρ r) d

theorem zN_at (r : Fin 512) (d : Fin 128) : k0_pay28 Z (ix2 r d) = (D.ZN b h (ρ r) d : EReal) := by
  pointwise [k0_pay28]
  rw [H.z]; rfl

theorem dxN_at (r : Fin 512) (d : Fin 128) : k0_pay31 Z (k0_pay27 X) GN (ix2 r d) = (D.DXN b h (ρ r) d : EReal) := by
  unfold k0_pay31
  pointwise []
  simp only [rN_at H, xN_at H, zN_at H, H.gn, ofBits_128th, ← EReal.coe_mul, ← coe_sum, ← EReal.coe_sub]
  rfl

theorem dGN_at (z : Fin 1) (d : Fin 128) : dGN X Z (ix2 z d) = ((∑ r, D.GN b h (ρ r) d : ℝ) : EReal) := by
  unfold dGN k0_pay45 k0_pay32
  pointwise []
  simp only [xN_at H, zN_at H, ← EReal.coe_mul, ← coe_sum]
  rfl

omit H in
/-- A sum over 128 lanes of which the last 64 hold nothing. -/
theorem sum_128 {M : Type*} [AddCommMonoid M] (f : Fin 128 → M) (hf : ∀ l : Fin 128, 64 ≤ l.val → f l = 0) :
    ∑ l, f l = ∑ l : Fin 64, f ⟨l, by omega⟩ := by
  have h1 : ∑ l, f l = (∑ l : Fin 64, f (Fin.castAdd 64 l)) + ∑ l : Fin 64, f (Fin.natAdd 64 l) :=
    Fin.sum_univ_add (a := 64) (b := 64) f
  have h2 : ∑ l : Fin 64, f (Fin.natAdd 64 l) = 0 :=
    Finset.sum_eq_zero (fun l _ => hf (Fin.natAdd 64 l) (by rw [Fin.val_natAdd]; omega))
  rw [h1, h2, add_zero]
  rfl

theorem rR_at (r : Fin 512) (z : Fin 1) : k0_pay41 (k0_pay33 XR) (ix2 r z) = (D.RR b h (ρ r) : EReal) := by
  pointwise [k0_pay41, k0_pay33]
  simp only [H.xr, ofBits_64th, ofBits_eps]
  rw [sum_128 _ (fun l hl => by rw [dif_neg (by omega), zero_mul]), ← D.nrm_r]
  simp only [meanSq, Fin.is_lt, dif_pos]

/-- The normalised last lanes: nothing beyond the 64th. -/
theorem xR_at (r : Fin 512) (l : Fin 128) : k0_pay42 (k0_pay33 XR) (ix2 r l)
    = ((if hl : l.val < 64 then D.XR b h (ρ r) ⟨l, hl⟩ else 0 : ℝ) : EReal) := by
  have hr := rR_at H r 0
  unfold k0_pay42
  pointwise []
  rw [hr]
  pointwise [k0_pay33]
  rw [H.xr]
  split_ifs with hl
  · exact D.mul_r b h (ρ r) ⟨l, hl⟩
  · rw [zero_mul]; rfl

theorem back_at (r : Fin 512) (l : Fin 128) : back CT ST Z (ix2 r l)
    = ((if hl : l.val < 64 then D.ZR b h (ρ r) ⟨l, hl⟩ else D.DZ b h (ρ r) ⟨128 + l, by omega⟩ : ℝ) : EReal) := by
  pointwise [back, k0_pay40, k0_pay36, k0_pay37, k0_pay38, k0_pay39, k0_pay35]
  have hT : ∀ l : Fin 128, IntOp.cmpi CmpIPredicate.slt (Scalar.select (IntOp.andi (IntOp.xori
      (IntOp.cmpi CmpIPredicate.slt (IntOp.remsi ArithUnit.vector (BitVec.ofNat 32 l.val) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32))
      (IntOp.cmpi CmpIPredicate.ne (IntOp.remsi ArithUnit.vector (BitVec.ofNat 32 l.val) (Scalar.select (Scalar.cmpi CmpIPredicate.eq 32#32 0#32) 1#32 32#32)) 0#32))
      (IntOp.addi (IntOp.remsi ArithUnit.vector (BitVec.ofNat 32 l.val) (Scalar.select (Scalar.cmpi CmpIPredicate.eq 32#32 0#32) 1#32 32#32)) (Scalar.select (Scalar.cmpi CmpIPredicate.eq 32#32 0#32) 1#32 32#32))
      (IntOp.remsi ArithUnit.vector (BitVec.ofNat 32 l.val) (Scalar.select (Scalar.cmpi CmpIPredicate.eq 32#32 0#32) 1#32 32#32))) 16#32
      = if l.val % 32 < 16 then 1#1 else 0#1 := by decide +kernel
  rw [hT l]
  simp only [H.z, H.ct, H.st]
  by_cases hl : l.val < 64
  · rw [if_pos hl, dif_pos hl]
    by_cases h16 : l.val % 32 < 16
    · rw [if_pos h16, sel_one]
      have e1 : (l.val + 128 - 112) % 128 = l.val + 16 := by omega
      simp only [e1]
      rw [if_pos (by omega), if_neg (by omega), angle_up _ _ h16, ← EReal.coe_mul, ← EReal.coe_mul, ← EReal.coe_add]
      congr 1
      exact (back_lo (ρ r) (fun l : Fin 64 => D.DZ b h (ρ r) ⟨128 + l.val, by omega⟩) ⟨l, hl⟩ h16 (by simp only; omega)).symm
    · rw [if_neg h16, sel_zero]
      have e1 : (l.val + 128 - 16) % 128 = l.val - 16 := by omega
      simp only [e1]
      rw [if_pos (by omega), if_pos (by omega), angle_down _ _ h16, ← EReal.coe_mul, ← EReal.coe_mul, ← EReal.coe_add, mul_neg, ← sub_eq_add_neg]
      congr 1
      exact (back_hi (ρ r) (fun l : Fin 64 => D.DZ b h (ρ r) ⟨128 + l.val, by omega⟩) ⟨l, hl⟩ h16 (by simp only; omega)).symm
  · rw [if_neg hl, dif_neg hl]
    by_cases h16 : l.val % 32 < 16
    · rw [if_pos h16, sel_one, if_neg (by omega), ← EReal.coe_mul, ← EReal.coe_mul, ← EReal.coe_add]
      congr 1
      rw [mul_one, mul_zero, add_zero]
    · rw [if_neg h16, sel_zero, if_neg (by omega), ← EReal.coe_mul, ← EReal.coe_mul, ← EReal.coe_add]
      congr 1
      rw [mul_one, mul_zero, add_zero]

/-- The last lanes' part of the query's gradient. -/
theorem dQ_at (r : Fin 512) (e : Fin 256) : dQ X XR GN GR CT ST Z (ix2 r e) = (D.DQ b h (ρ r) e : EReal) := by
  have hb := back_at H
  unfold back at hb
  unfold dQ k0_pay44
  pointwise []
  unfold Inp.DQ
  by_cases h1 : e.val < 128
  · rw [dif_pos h1, dif_pos h1]
    exact dxN_at H r ⟨e, h1⟩
  · rw [dif_neg h1, dif_neg h1]
    pointwise [k0_pay34]
    simp only [hb, H.gr, rR_at H, xR_at H, ofBits_64th, ← EReal.coe_mul, ← coe_sum, ← EReal.coe_sub]
    congr 1
    by_cases h2 : e.val < 192
    · have h3 : e.val - 128 < 64 := by omega
      rw [dif_pos h2, dif_pos h3, dif_pos h3, dif_pos h3,
        sum_128 _ (fun l hl => by rw [dif_neg (show ¬ l.val < 64 by omega), dif_neg (show ¬ l.val < 64 by omega), mul_zero, zero_mul])]
      simp only [Fin.is_lt, dif_pos]
      rfl
    · have h3 : ¬ e.val - 128 < 64 := by omega
      rw [dif_neg h2, dif_neg h3, dif_neg h3, dif_neg h3, mul_zero, zero_mul, sub_zero, mul_zero]

theorem dGR_at (z : Fin 1) (l : Fin 128) : dGR XR CT ST Z (ix2 z l)
    = ((if hl : l.val < 64 then ∑ r, D.GR b h (ρ r) ⟨l, hl⟩ else 0 : ℝ) : EReal) := by
  have hb := back_at H
  unfold back at hb
  unfold dGR k0_pay46 k0_pay43
  pointwise []
  simp only [hb, xR_at H, ← EReal.coe_mul, ← coe_sum]
  congr 1
  by_cases hl : l.val < 64
  · simp only [dif_pos hl]; rfl
  · simp only [dif_neg hl, mul_zero, Finset.sum_const_zero]

end Cert.Proof.Block
-- ==== Proof.Grid.Point.lean ====
module

public import proofs.«01_k».proof.Proof.Grid.Blocks
public import proofs.«01_k».proof.Proof.Block.Entry
public import proofs.«01_k».proof.Proof.Block.Norm
/-! What a grid point adds to each array, from what its input blocks hold. -/

@[expose] public section

set_option maxRecDepth 16384

noncomputable section

namespace Cert.Proof.Grid

open Cert.KernelIdeal Cert.KernelIdeal.Gen Idealize.ShloMosaic Idealize.ShloMosaic.Pointwise Cert.Proof.Block

/-- The contents of the thirteen input blocks of batch `b`, head `h`, half `i` of the queries. -/
structure Blk (D : Inp) (b : Fin 2) (h : Fin 8) (i : Fin 2)
    (x0 x1 x2 : Vec Ideal S1024x128 .f32) (x3 : Vec Ideal S1024x256 .bf16) (x4 : Vec Ideal S1024x256 .f32)
    (x5 x6 : Vec Ideal S1x128 .f32) (x7 x8 : Vec Ideal S1024x128 .f32) (x9 : Vec Ideal S2048x256 .bf16)
    (x10 : Vec Ideal S256x256 .bf16) (x11 : Vec Ideal S2048x128 .bf16) (x12 : Vec Ideal S256x128 .bf16) : Prop where
  h0 : ∀ r d, x0 (ix2 r d) = (D.C b h (tok i r) d : EReal)
  h1 : ∀ r d, x1 (ix2 r d) = (D.O b h (tok i r) d : EReal)
  h2 : ∀ r d, x2 (ix2 r d) = (D.LSE b h (tok i r) : EReal)
  h3 : ∀ r e, x3 (ix2 r e) = (D.QA b h (tok i r) e : EReal)
  h4 : ∀ r (e : Fin 256), x4 (ix2 r e) = if he : e.val < 192 then D.q b (tok i r) h ⟨e, he⟩ else 0
  h5 : ∀ z d, x5 (ix2 z d) = (D.gn d : EReal)
  h6 : ∀ z (l : Fin 128), x6 (ix2 z l) = ((if hl : l.val < 64 then D.gr ⟨l, hl⟩ else 0 : ℝ) : EReal)
  h7 : ∀ r (l : Fin 128), x7 (ix2 r l) = ((if l.val < 64 then Real.cos (angle (tok i r) l) else 1 : ℝ) : EReal)
  h8 : ∀ r (l : Fin 128), x8 (ix2 r l) = ((if l.val < 64 then
    (if l.val % 32 < 16 then -Real.sin (angle (tok i r) l) else Real.sin (angle (tok i r) l)) else 0 : ℝ) : EReal)
  h9 : ∀ (j : Fin 2048) e, x9 (ix2 j e) = (D.KA b h ⟨j, by omega⟩ e : EReal)
  h10 : ∀ (j : Fin 256) e, x10 (ix2 j e) = (D.KA b h ⟨2048 + j, by omega⟩ e : EReal)
  h11 : ∀ (j : Fin 2048) d, x11 (ix2 j d) = (D.v b ⟨j, by omega⟩ h d : EReal)
  h12 : ∀ (j : Fin 256) d, x12 (ix2 j d) = (D.v b ⟨2048 + j, by omega⟩ h d : EReal)

/-- The tokens of the first chain's rows. -/
def tlo (i : Fin 2) (r : Fin 512) : Fin 2048 := tok i ⟨r.val, by omega⟩
/-- The tokens of the second chain's rows. -/
def thi (i : Fin 2) (r : Fin 512) : Fin 2048 := tok i ⟨512 + r.val, by omega⟩

/-- A sum over a block's rows is the two chains' sums. -/
theorem sum_rows {M : Type*} [AddCommMonoid M] (i : Fin 2) (f : Fin 2048 → M) :
    ∑ r, f (tok i r) = ∑ r, f (tlo i r) + ∑ r, f (thi i r) :=
  Fin.sum_univ_add (a := 512) (b := 512) fun r => f (tok i r)

/-- A sum over the tokens is the two halves' sums. -/
theorem sum_halves {M : Type*} [AddCommMonoid M] (f : Fin 2048 → M) :
    ∑ r, f r = ∑ r, f (tok 0 r) + ∑ r, f (tok 1 r) := by
  have h := Fin.sum_univ_add (a := 1024) (b := 1024) f
  refine h.trans (congrArg₂ (· + ·) (Finset.sum_congr rfl fun r _ => congrArg f ?_) (Finset.sum_congr rfl fun r _ => congrArg f ?_))
  · exact Fin.ext (by simp [tok])
  · exact Fin.ext (by simp [tok]; omega)

variable {D : Inp} {b : Fin 2} {h : Fin 8} {i : Fin 2}
    {x0 x1 x2 : Vec Ideal S1024x128 .f32} {x3 : Vec Ideal S1024x256 .bf16} {x4 : Vec Ideal S1024x256 .f32}
    {x5 x6 : Vec Ideal S1x128 .f32} {x7 x8 : Vec Ideal S1024x128 .f32} {x9 : Vec Ideal S2048x256 .bf16}
    {x10 : Vec Ideal S256x256 .bf16} {x11 : Vec Ideal S2048x128 .bf16} {x12 : Vec Ideal S256x128 .bf16}
    (H : Blk D b h i x0 x1 x2 x3 x4 x5 x6 x7 x8 x9 x10 x11 x12)
include H

/-- The first chain's operands. -/
theorem lo : Holds D b h (tlo i) (lo256 x3) (lo128 x0) (lo128 x1) (lo1 x2) x9 x10 x11 x12 where
  q r e := by pointwise [lo256]; exact H.h3 _ _
  a r e := by pointwise [lo128]; exact H.h0 _ _
  o r e := by pointwise [lo128]; exact H.h1 _ _
  l r e := by pointwise [lo1]; exact H.h2 _ _
  kl := H.h9
  kc := H.h10
  vl := H.h11
  vc := H.h12

/-- The second chain's operands. -/
theorem hi : Holds D b h (thi i) (hi256 x3) (hi128 x0) (hi128 x1) (hi1 x2) x9 x10 x11 x12 where
  q r e := by pointwise [hi256]; exact H.h3 _ _
  a r e := by pointwise [hi128]; exact H.h0 _ _
  o r e := by pointwise [hi128]; exact H.h1 _ _
  l r e := by pointwise [hi1]; exact H.h2 _ _
  kl := H.h9
  kc := H.h10
  vl := H.h11
  vc := H.h12

/-- The first chain's operands of the norms' part. -/
theorem loNorm : HoldsN D b h (tlo i) (loN x4) (loR x4) x5 x6 (lo128 x7) (lo128 x8)
    (dZ (lo256 x3) (lo128 x0) (lo128 x1) (lo1 x2) x9 x10 x11 x12) where
  x r e := by pointwise [loN]; exact (H.h4 _ _).trans (dif_pos (by simp only; omega))
  xr r l := by
    pointwise [loR]; refine (H.h4 _ _).trans ?_
    by_cases hl : l.val < 64
    · rw [dif_pos hl, dif_pos (by simp only; omega)]; rfl
    · rw [dif_neg hl, dif_neg (by simp only; omega)]
  gn := H.h5
  gr := H.h6
  ct r l := by pointwise [lo128]; exact H.h7 _ _
  st r l := by pointwise [lo128]; exact H.h8 _ _
  z := dZ_at (lo H)

/-- The second chain's operands of the norms' part. -/
theorem hiNorm : HoldsN D b h (thi i) (hiN x4) (hiR x4) x5 x6 (hi128 x7) (hi128 x8)
    (dZ (hi256 x3) (hi128 x0) (hi128 x1) (hi1 x2) x9 x10 x11 x12) where
  x r e := by pointwise [hiN]; exact (H.h4 _ _).trans (dif_pos (by simp only; omega))
  xr r l := by
    pointwise [hiR]; refine (H.h4 _ _).trans ?_
    by_cases hl : l.val < 64
    · rw [dif_pos hl, dif_pos (by simp only; omega)]; rfl
    · rw [dif_neg hl, dif_neg (by simp only; omega)]
  gn := H.h5
  gr := H.h6
  ct r l := by pointwise [hi128]; exact H.h7 _ _
  st r l := by pointwise [hi128]; exact H.h8 _ _
  z := dZ_at (hi H)

/-- What the point adds to the latent keys' gradient. -/
theorem add14 (acc : Vec Ideal S2048x256 .f32) (a : ℝ) (j : Fin 2048) (e : Fin 256) (ha : acc (ix2 j e) = (a : EReal)) :
    k0_pay82 (dKL (lo256 x3) (lo128 x0) (lo128 x1) (lo1 x2) x9 x11) (dKL (hi256 x3) (hi128 x0) (hi128 x1) (hi1 x2) x9 x11) acc (ix2 j e)
      = ((a + ∑ r, D.DS b h (tok i r) ⟨j, by omega⟩ * D.QA b h (tok i r) e : ℝ) : EReal) := by
  pointwise [k0_pay82]
  rw [ha, dKL_at (lo H), dKL_at (hi H), ← EReal.coe_add, ← EReal.coe_add]
  exact congrArg (fun t => ((a + t : ℝ) : EReal)) (sum_rows i fun r => D.DS b h r ⟨j, by omega⟩ * D.QA b h r e).symm

/-- What the point adds to the context keys' gradient. -/
theorem add15 (acc : Vec Ideal S256x256 .f32) (a : ℝ) (j : Fin 256) (e : Fin 256) (ha : acc (ix2 j e) = (a : EReal)) :
    k0_pay1 (dKC (lo256 x3) (lo128 x0) (lo128 x1) (lo1 x2) x10 x12) (dKC (hi256 x3) (hi128 x0) (hi128 x1) (hi1 x2) x10 x12) acc (ix2 j e)
      = ((a + ∑ r, D.DS b h (tok i r) ⟨2048 + j, by omega⟩ * D.QA b h (tok i r) e : ℝ) : EReal) := by
  pointwise [k0_pay1]
  rw [ha, dKC_at (lo H), dKC_at (hi H), ← EReal.coe_add, ← EReal.coe_add]
  exact congrArg (fun t => ((a + t : ℝ) : EReal)) (sum_rows i fun r => D.DS b h r ⟨2048 + j, by omega⟩ * D.QA b h r e).symm

/-- What the point adds to the latent values' gradient. -/
theorem add16 (acc : Vec Ideal S2048x128 .f32) (a : ℝ) (j : Fin 2048) (d : Fin 128) (ha : acc (ix2 j d) = (a : EReal)) :
    k0_pay83 (dVL (lo256 x3) (lo128 x0) (lo1 x2) x9) (dVL (hi256 x3) (hi128 x0) (hi1 x2) x9) acc (ix2 j d)
      = ((a + ∑ r, D.P b h (tok i r) ⟨j, by omega⟩ * D.C b h (tok i r) d : ℝ) : EReal) := by
  pointwise [k0_pay83]
  rw [ha, dVL_at (lo H), dVL_at (hi H), ← EReal.coe_add, ← EReal.coe_add]
  exact congrArg (fun t => ((a + t : ℝ) : EReal)) (sum_rows i fun r => D.P b h r ⟨j, by omega⟩ * D.C b h r d).symm

/-- What the point adds to the context values' gradient. -/
theorem add17 (acc : Vec Ideal S256x128 .f32) (a : ℝ) (j : Fin 256) (d : Fin 128) (ha : acc (ix2 j d) = (a : EReal)) :
    k0_pay2 (dVC (lo256 x3) (lo128 x0) (lo1 x2) x10) (dVC (hi256 x3) (hi128 x0) (hi1 x2) x10) acc (ix2 j d)
      = ((a + ∑ r, D.P b h (tok i r) ⟨2048 + j, by omega⟩ * D.C b h (tok i r) d : ℝ) : EReal) := by
  pointwise [k0_pay2]
  rw [ha, dVC_at (lo H), dVC_at (hi H), ← EReal.coe_add, ← EReal.coe_add]
  exact congrArg (fun t => ((a + t : ℝ) : EReal)) (sum_rows i fun r => D.P b h r ⟨2048 + j, by omega⟩ * D.C b h r d).symm

/-- What the point adds to the first gain's gradient. -/
theorem add18 (acc : Vec Ideal S1x128 .f32) (a : ℝ) (z : Fin 1) (d : Fin 128) (ha : acc (ix2 z d) = (a : EReal)) :
    k0_pay3 (dGN (loN x4) (dZ (lo256 x3) (lo128 x0) (lo128 x1) (lo1 x2) x9 x10 x11 x12))
        (dGN (hiN x4) (dZ (hi256 x3) (hi128 x0) (hi128 x1) (hi1 x2) x9 x10 x11 x12)) acc (ix2 z d)
      = ((a + ∑ r, D.GN b h (tok i r) d : ℝ) : EReal) := by
  pointwise [k0_pay3]
  rw [ha, dGN_at (loNorm H), dGN_at (hiNorm H), ← EReal.coe_add, ← EReal.coe_add]
  exact congrArg (fun t => ((a + t : ℝ) : EReal)) (sum_rows i fun r => D.GN b h r d).symm

/-- What the point adds to the second gain's gradient. -/
theorem add19 (acc : Vec Ideal S1x128 .f32) (a : ℝ) (z : Fin 1) (l : Fin 128) (ha : acc (ix2 z l) = (a : EReal)) :
    k0_pay4 (dGR (loR x4) (lo128 x7) (lo128 x8) (dZ (lo256 x3) (lo128 x0) (lo128 x1) (lo1 x2) x9 x10 x11 x12))
        (dGR (hiR x4) (hi128 x7) (hi128 x8) (dZ (hi256 x3) (hi128 x0) (hi128 x1) (hi1 x2) x9 x10 x11 x12)) acc (ix2 z l)
      = ((a + ∑ r, (if hl : l.val < 64 then D.GR b h (tok i r) ⟨l, hl⟩ else 0) : ℝ) : EReal) := by
  pointwise [k0_pay4]
  rw [ha, dGR_at (loNorm H), dGR_at (hiNorm H), ← EReal.coe_add, ← EReal.coe_add]
  refine congrArg (fun t => ((a + t : ℝ) : EReal)) ?_
  rw [sum_rows i fun r => (if hl : l.val < 64 then D.GR b h r ⟨l, hl⟩ else 0)]
  by_cases hl : l.val < 64
  · simp only [dif_pos hl]
  · simp only [dif_neg hl, Finset.sum_const_zero]

end Cert.Proof.Grid
-- ==== Proof.Host.Line.lean ====
module

public import proofs.«01_k».proof.Proof.Gen.KernelIdeal.Frame.Runs
public import Idealize.ShloMosaic.Lib.StableHlo.Run

/-! The host lines before the kernel, read as equations: each array written by one line holds that line's
    function of the arrays the earlier lines left. -/

@[expose] public section

set_option maxRecDepth 16384

noncomputable section

namespace Cert.Proof.Host

open Cert.KernelIdeal Cert.KernelIdeal.Gen Idealize.ShloMosaic Idealize.ShloMosaic.TcCoe Idealize.SL.Sem
open Idealize.ShloMosaic.StableHlo

variable {F : FTy → Type} [FloatOps F]

/-- The host lines before the kernel, in order. -/
abbrev hostLine : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- The array each of those lines writes, in order. -/
def written : List (Ref sig .tc) :=
  [main_v0, main_v1, main_v2, main_v3, main_v4, main_v5, main_v6, main_v7, main_v8, main_v9, main_cst,
   main_v10, main_v11, main_cst_0, main_v12, main_v13, main_v14, main_cst_1, main_v15, main_v16, main_cst_2,
   main_v17, main_v18, main_v19, main_v20, main_v21, main_v22, main_v23, main_v24, main_v25, main_v26,
   main_v27, main_v28, main_v29, main_v30, main_v31, main_v32, main_v33, main_v34, main_v35, main_v36,
   main_v37, main_c, main_call0_v0, main_v38, main_v39, main_v40, main_v41, main_cst_3, main_v42, main_v43,
   main_cst_4, main_v44, main_v45, main_cst_5, main_v46, main_v47, main_v48, main_v49, main_v50, main_v51,
   main_v52, main_v53, main_v54, main_cst_6, main_v55, main_v56, main_cst_7, main_v57, main_v58, main_cst_8,
   main_v59, main_v60, main_v61, main_v62, main_v63, main_v64, main_v65, main_v66, main_v67, main_v68,
   main_v69, main_v70, main_v71, main_v72, main_v73, main_v74, main_v75, main_v76, main_v77, main_v78,
   main_v79, main_v80, main_v81, main_v82, main_v83, main_v84, main_v85, main_v86, main_v87, main_v88,
   main_v89, main_v90, main_v91, main_v92, main_v93, main_v94, main_v95, main_v96, main_v97, main_v98,
   main_v99, main_v100, main_v101, main_v102, main_v103, main_v104, main_v105, main_v106, main_v107,
   main_v108, main_v109, main_v110, main_v111, main_v112, main_cst_9, main_v113, main_v114, main_cst_10,
   main_v115, main_v116, main_v117, main_v118, main_v119, main_cst_11, main_v120, main_v121, main_v122,
   main_v123, main_v124, main_v125, main_v126, main_v127, main_v128, main_v129, main_v130, main_cst_12,
   main_v131, main_v132, main_v133, main_c_13, main_call1_v0, main_call1_v1, main_call1_v2, main_call1_v3,
   main_call1_v4, main_call1_v5, main_call1_v6, main_call1_v7, main_call1_v8, main_call1_c, main_call1_v9,
   main_call1_v10, main_call1_v11, main_call1_c_0, main_call1_v12, main_call1_v13, main_v134, main_v135,
   main_c_14, main_call2_v0, main_call2_c, main_call2_v1, main_call2_c_0, main_call2_v2, main_call2_v3,
   main_call2_v4, main_call2_c_1, main_call2_v5, main_call2_v6, main_call2_c_2, main_call2_v7, main_call2_v8,
   main_call2_c_3, main_call2_v9, main_call2_v10, main_call2_v11, main_call2_v12, main_call2_v13,
   main_call2_v14, main_v136, main_v137, main_v138, main_cst_15, main_v139, main_v140, main_cst_16, main_v141,
   main_v142, main_v143, main_cst_17, main_v144, main_v145, main_cst_18, main_v146, main_v147, main_v148,
   main_v149, main_v150, main_v151, main_v152, main_v153, main_v154, main_v155, main_v156, main_v157,
   main_cst_19, main_v158, main_cst_20, main_v159, main_v160, main_v161, main_v162, main_v163, main_v164,
   main_v165, main_v166, main_v167, main_v168, main_v169, main_v170, main_v171, main_v172, main_v173,
   main_v174, main_cst_21, main_v175, main_v176, main_v177, main_v178, main_v179, main_cst_22, main_v180,
   main_v181, main_c_23, main_call3_v0, main_v182, main_v183, main_c_24, main_call4_v0, main_v184, main_v185,
   main_c_25, main_call5_v0, main_v186, main_v187, main_v188, main_c_26, main_call6_v0, main_v189, main_v190,
   main_v191, main_c_27, main_call7_v0, main_v192, main_v193, main_c_28, main_call8_v0, main_v194, main_v195,
   main_v196, main_v197, main_v198, main_c_29, main_call9_v0, main_v199, main_v200, main_c_30, main_call10_v0,
   main_v201, main_v202, main_v203, main_v204]

/-- Each line writes just its own array. -/
theorem line_writes : (hostLine (F := F)).map HloOp.writes = written.map fun r => {Proc.devRef (τ := τ) .tc r} := rfl

/-- The arrays are numbered in the order they are written, after the six arguments. -/
theorem written_idx : written.map (fun r => r.idx.val) = List.range' 6 283 := by decide +kernel

theorem not_written_later {k : Nat} {r : Ref sig .tc} (h : r.idx.val < 6 + k) : r ∉ written.drop k := by
  intro hm
  have h2 : r.idx.val ∈ (written.map (fun r => r.idx.val)).drop k := by
    rw [← List.map_drop]; exact List.mem_map_of_mem hm
  rw [written_idx, List.drop_range', List.mem_range'_1] at h2
  omega

variable (m : (ℓ : Loc nD τ sig) → Buf (Elt F) ℓ) (c : Dev nD)

/-- What an array holds when the kernel starts. -/
abbrev W (r : Ref sig .tc) : r.ty.Contents (Elt F) := Gen.V m c r

/-- What the device holds before line `k`. -/
abbrev before (k : Nat) : Valuation τ sig (Elt F) := after (hostLine.take k) (fun b => m (c, b))

/-- An array written before line `k` keeps its contents from there on. -/
theorem keep (k : Nat) (r : Ref sig .tc) (h : r.idx.val < 6 + k) : before m c k (Proc.devRef .tc r) = W m c r := by
  have e : Gen.V m c r = after (hostLine (F := F)) (fun b => m (c, b)) (Proc.devRef .tc r) := rfl
  unfold W before
  rw [e]
  conv_rhs => rw [← List.take_append_drop k (hostLine (F := F)), after_append]
  refine (after_of_writes_sub (W := written.drop k) _ _ (forall_writes_sub_of_map ?_) (not_written_later h)).symm
  rw [List.map_drop, line_writes, List.map_drop]

/-- An argument still holds what it held at the start. -/
theorem arg (r : Ref sig .tc) (h : r.idx.val < 6) : W m c r = m (c, Proc.devRef .tc r) :=
  (keep m c 0 r h).symm

/-- What line `k` writes is there when the kernel starts. -/
theorem step (k : Nat) {op : HloOp τ sig (Elt F)} (h : (hostLine (F := F))[k]? = some op) (y : Ref sig .tc)
    (hy : y.idx.val < 7 + k) : W m c y = op.result (before m c k) (Proc.devRef .tc y) := by
  rw [← keep m c (k + 1) y (by omega)]
  unfold before
  rw [List.take_succ, h, after_append]
  rfl

theorem step0 (k : Nat) {y : Ref sig .tc} {v : y.ty.Contents (Elt F)} {hy}
    (h : (hostLine (F := F))[k]? = some (nullary (τ := τ) y v hy)) (iy : y.idx.val < 7 + k) : W m c y = v := by
  rw [step m c k h y iy, nullary_result']

theorem step1 (k : Nat) {x y : Ref sig .tc} {f : x.ty.Contents (Elt F) → y.ty.Contents (Elt F)} {hx hy}
    (h : (hostLine (F := F))[k]? = some (unary (τ := τ) x y f hx hy)) (iy : y.idx.val < 7 + k) (ix : x.idx.val < 6 + k) :
    W m c y = f (W m c x) := by
  rw [step m c k h y iy, unary_result', keep m c k x ix]

theorem step2 (k : Nat) {a b y : Ref sig .tc} {f : a.ty.Contents (Elt F) → b.ty.Contents (Elt F) → y.ty.Contents (Elt F)}
    {ha hb hy} (h : (hostLine (F := F))[k]? = some (binary (τ := τ) a b y f ha hb hy)) (iy : y.idx.val < 7 + k)
    (ia : a.idx.val < 6 + k) (ib : b.idx.val < 6 + k) : W m c y = f (W m c a) (W m c b) := by
  rw [step m c k h y iy, binary_result', keep m c k a ia, keep m c k b ib]

theorem step3 (k : Nat) {p a b y : Ref sig .tc}
    {f : p.ty.Contents (Elt F) → a.ty.Contents (Elt F) → b.ty.Contents (Elt F) → y.ty.Contents (Elt F)}
    {hp ha hb hy} (h : (hostLine (F := F))[k]? = some (ternary (τ := τ) p a b y f hp ha hb hy)) (iy : y.idx.val < 7 + k)
    (ip : p.idx.val < 6 + k) (ia : a.idx.val < 6 + k) (ib : b.idx.val < 6 + k) :
    W m c y = f (W m c p) (W m c a) (W m c b) := by
  rw [step m c k h y iy, ternary_result', keep m c k p ip, keep m c k a ia, keep m c k b ib]

theorem stepCast (k : Nat) {x y : Ref sig .tc} {he hn hx hy}
    (h : (hostLine (F := F))[k]? = some (reshape (τ := τ) (Val := Elt F) x y he hn hx hy)) (iy : y.idx.val < 7 + k)
    (ix : x.idx.val < 6 + k) : W m c y = fun i => he ▸ shapeCast y.ty.shape (W m c x) hn i := by
  rw [step m c k h y iy, reshape_result', keep m c k x ix]

theorem stepN (k : Nat) {n : Nat} {xs : Fin n → Ref sig .tc} {y : Ref sig .tc}
    {f : ((j : Fin n) → (xs j).ty.Contents (Elt F)) → y.ty.Contents (Elt F)} {hxs hy}
    (h : (hostLine (F := F))[k]? = some (nary (τ := τ) xs y f hxs hy)) (iy : y.idx.val < 7 + k)
    (ix : ∀ j, (xs j).idx.val < 6 + k) : W m c y = f (fun j => W m c (xs j)) := by
  rw [step m c k h y iy, nary_result']
  exact congrArg f (funext fun j => keep m c k (xs j) (ix j))

end Cert.Proof.Host
-- ==== Proof.Host.Shared.lean ====
module

public import proofs.«01_k».proof.Proof.Host.Line
public import proofs.«01_k».proof.Proof.Gen.ReferenceIdeal.Read
/-! The host lines shared by the two programs: tables, norms, rotation, scores and their largest. Each of these
    arrays is the reference's stage of the same content. -/

@[expose] public section

set_option maxRecDepth 16384

noncomputable section

namespace Cert.Proof.Host

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]
variable (m : (ℓ : Loc nD τ sig) → Buf (Elt F) ℓ) (c : Dev nD)

/-- The array `v0` is the reference's stage `v34`. -/
theorem h_v0 : W m c main_v0 = val_main_v34 (F := F)  := by
  rw [step0 m c 0 (y := main_v0) rfl (by decide)]; rfl

/-- The array `v1` is the reference's stage `v35`. -/
theorem h_v1 : W m c main_v1 = val_main_v35 (F := F)  := by
  rw [step1 m c 1 (x := main_v0) (y := main_v1) rfl (by decide) (by decide), h_v0]; rfl

/-- The array `v2` is the reference's stage `v36`. -/
theorem h_v2 : W m c main_v2 = val_main_v36 (F := F)  := by
  rw [stepCast m c 2 (x := main_v1) (y := main_v2) rfl (by decide) (by decide), h_v1]; rfl

/-- The array `v3` is the reference's stage `v37`. -/
theorem h_v3 : W m c main_v3 = val_main_v37 (F := F)  := by
  rw [step1 m c 3 (x := main_v2) (y := main_v3) rfl (by decide) (by decide), h_v2]; rfl

/-- The array `v4` is the reference's stage `v38`. -/
theorem h_v4 : W m c main_v4 = val_main_v38 (F := F)  := by
  rw [step0 m c 4 (y := main_v4) rfl (by decide)]; rfl

/-- The array `v5` is the reference's stage `v39`. -/
theorem h_v5 : W m c main_v5 = val_main_v39 (F := F)  := by
  rw [stepCast m c 5 (x := main_v4) (y := main_v5) rfl (by decide) (by decide), h_v4]; rfl

/-- The array `v6` is the reference's stage `v40`. -/
theorem h_v6 : W m c main_v6 = val_main_v40 (F := F)  := by
  rw [step1 m c 6 (x := main_v5) (y := main_v6) rfl (by decide) (by decide), h_v5]; rfl

/-- The array `v7` is the reference's stage `v41`. -/
theorem h_v7 : W m c main_v7 = val_main_v41 (F := F)  := by
  rw [stepCast m c 7 (x := main_v6) (y := main_v7) rfl (by decide) (by decide), h_v6]; rfl

/-- The array `v8` is the reference's stage `v42`. -/
theorem h_v8 : W m c main_v8 = val_main_v42 (F := F)  := by
  rw [step1 m c 8 (x := main_v7) (y := main_v8) rfl (by decide) (by decide), h_v7]; rfl

/-- The array `v9` is the reference's stage `v43`. -/
theorem h_v9 : W m c main_v9 = val_main_v43 (F := F)  := by
  rw [step0 m c 9 (y := main_v9) rfl (by decide)]; rfl

/-- The array `cst` is the reference's stage `cst_7`. -/
theorem h_cst : W m c main_cst = val_main_cst_7 (F := F)  := by
  rw [step0 m c 10 (y := main_cst) rfl (by decide)]; rfl

/-- The array `v10` is the reference's stage `v44`. -/
theorem h_v10 : W m c main_v10 = val_main_v44 (F := F)  := by
  rw [step1 m c 11 (x := main_cst) (y := main_v10) rfl (by decide) (by decide), h_cst]; rfl

/-- The array `v11` is the reference's stage `v45`. -/
theorem h_v11 : W m c main_v11 = val_main_v45 (F := F)  := by
  rw [step2 m c 12 (a := main_v10) (b := main_v9) (y := main_v11) rfl (by decide) (by decide) (by decide), h_v10, h_v9]; rfl

/-- The array `cst_0` is the reference's stage `cst_8`. -/
theorem h_cst_0 : W m c main_cst_0 = val_main_cst_8 (F := F)  := by
  rw [step0 m c 13 (y := main_cst_0) rfl (by decide)]; rfl

/-- The array `v12` is the reference's stage `v46`. -/
theorem h_v12 : W m c main_v12 = val_main_v46 (F := F)  := by
  rw [step1 m c 14 (x := main_cst_0) (y := main_v12) rfl (by decide) (by decide), h_cst_0]; rfl

/-- The array `v13` is the reference's stage `v47`. -/
theorem h_v13 : W m c main_v13 = val_main_v47 (F := F)  := by
  rw [step2 m c 15 (a := main_v12) (b := main_v11) (y := main_v13) rfl (by decide) (by decide) (by decide), h_v12, h_v11]; rfl

/-- The array `v14` is the reference's stage `v48`. -/
theorem h_v14 : W m c main_v14 = val_main_v48 (F := F)  := by
  rw [step1 m c 16 (x := main_v13) (y := main_v14) rfl (by decide) (by decide), h_v13]; rfl

/-- The array `cst_1` is the reference's stage `cst_9`. -/
theorem h_cst_1 : W m c main_cst_1 = val_main_cst_9 (F := F)  := by
  rw [step0 m c 17 (y := main_cst_1) rfl (by decide)]; rfl

/-- The array `v15` is the reference's stage `v49`. -/
theorem h_v15 : W m c main_v15 = val_main_v49 (F := F)  := by
  rw [step1 m c 18 (x := main_cst_1) (y := main_v15) rfl (by decide) (by decide), h_cst_1]; rfl

/-- The array `v16` is the reference's stage `v50`. -/
theorem h_v16 : W m c main_v16 = val_main_v50 (F := F)  := by
  rw [step2 m c 19 (a := main_v14) (b := main_v15) (y := main_v16) rfl (by decide) (by decide) (by decide), h_v14, h_v15]; rfl

/-- The array `cst_2` is the reference's stage `cst_10`. -/
theorem h_cst_2 : W m c main_cst_2 = val_main_cst_10 (F := F)  := by
  rw [step0 m c 20 (y := main_cst_2) rfl (by decide)]; rfl

/-- The array `v17` is the reference's stage `v51`. -/
theorem h_v17 : W m c main_v17 = val_main_v51 (F := F)  := by
  rw [step1 m c 21 (x := main_cst_2) (y := main_v17) rfl (by decide) (by decide), h_cst_2]; rfl

/-- The array `v18` is the reference's stage `v52`. -/
theorem h_v18 : W m c main_v18 = val_main_v52 (F := F)  := by
  rw [step2 m c 22 (a := main_v17) (b := main_v16) (y := main_v18) rfl (by decide) (by decide) (by decide), h_v17, h_v16]; rfl

/-- The array `v19` is the reference's stage `v53`. -/
theorem h_v19 : W m c main_v19 = val_main_v53 (F := F)  := by
  rw [step1 m c 23 (x := main_v3) (y := main_v19) rfl (by decide) (by decide), h_v3]; rfl

/-- The array `v20` is the reference's stage `v54`. -/
theorem h_v20 : W m c main_v20 = val_main_v54 (F := F)  := by
  rw [step1 m c 24 (x := main_v18) (y := main_v20) rfl (by decide) (by decide), h_v18]; rfl

/-- The array `v21` is the reference's stage `v55`. -/
theorem h_v21 : W m c main_v21 = val_main_v55 (F := F)  := by
  rw [step1 m c 25 (x := main_v19) (y := main_v21) rfl (by decide) (by decide), h_v19]; rfl

/-- The array `v22` is the reference's stage `v56`. -/
theorem h_v22 : W m c main_v22 = val_main_v56 (F := F)  := by
  rw [step1 m c 26 (x := main_v20) (y := main_v22) rfl (by decide) (by decide), h_v20]; rfl

/-- The array `v23` is the reference's stage `v57`. -/
theorem h_v23 : W m c main_v23 = val_main_v57 (F := F)  := by
  rw [step2 m c 27 (a := main_v21) (b := main_v22) (y := main_v23) rfl (by decide) (by decide) (by decide), h_v21, h_v22]; rfl

/-- The array `v24` is the reference's stage `v58`. -/
theorem h_v24 : W m c main_v24 = val_main_v58 (F := F)  := by
  rw [step1 m c 28 (x := main_v8) (y := main_v24) rfl (by decide) (by decide), h_v8]; rfl

/-- The array `v25` is the reference's stage `v59`. -/
theorem h_v25 : W m c main_v25 = val_main_v59 (F := F)  := by
  rw [step1 m c 29 (x := main_v18) (y := main_v25) rfl (by decide) (by decide), h_v18]; rfl

/-- The array `v26` is the reference's stage `v60`. -/
theorem h_v26 : W m c main_v26 = val_main_v60 (F := F)  := by
  rw [step1 m c 30 (x := main_v24) (y := main_v26) rfl (by decide) (by decide), h_v24]; rfl

/-- The array `v27` is the reference's stage `v61`. -/
theorem h_v27 : W m c main_v27 = val_main_v61 (F := F)  := by
  rw [step1 m c 31 (x := main_v25) (y := main_v27) rfl (by decide) (by decide), h_v25]; rfl

/-- The array `v28` is the reference's stage `v62`. -/
theorem h_v28 : W m c main_v28 = val_main_v62 (F := F)  := by
  rw [step2 m c 32 (a := main_v26) (b := main_v27) (y := main_v28) rfl (by decide) (by decide) (by decide), h_v26, h_v27]; rfl

/-- The array `v29` is the reference's stage `v63`. -/
theorem h_v29 : W m c main_v29 = val_main_v63 (F := F)  := by
  rw [step1 m c 33 (x := main_v23) (y := main_v29) rfl (by decide) (by decide), h_v23]; rfl

/-- The array `v30` is the reference's stage `v64`. -/
theorem h_v30 : W m c main_v30 = val_main_v64 (F := F)  := by
  rw [step1 m c 34 (x := main_v23) (y := main_v30) rfl (by decide) (by decide), h_v23]; rfl

/-- The array `v31` is the reference's stage `v65`. -/
theorem h_v31 : W m c main_v31 = val_main_v65 (F := F)  := by
  rw [step1 m c 35 (x := main_v28) (y := main_v31) rfl (by decide) (by decide), h_v28]; rfl

/-- The array `v32` is the reference's stage `v66`. -/
theorem h_v32 : W m c main_v32 = val_main_v66 (F := F)  := by
  rw [step1 m c 36 (x := main_v28) (y := main_v32) rfl (by decide) (by decide), h_v28]; rfl

/-- The array `v39` is the reference's stage `v0`. -/
theorem h_v39 : W m c main_v39 = val_main_v0 (F := F) (W m c main_arg0) := by
  rw [step1 m c 45 (x := main_arg0) (y := main_v39) rfl (by decide) (by decide)]; rfl

/-- The array `v40` is the reference's stage `v1`. -/
theorem h_v40 : W m c main_v40 = val_main_v1 (F := F) (W m c main_arg0) := by
  rw [step1 m c 46 (x := main_arg0) (y := main_v40) rfl (by decide) (by decide)]; rfl

/-- The array `v41` is the reference's stage `v2`. -/
theorem h_v41 : W m c main_v41 = val_main_v2 (F := F) (W m c main_arg0) := by
  rw [step2 m c 47 (a := main_v39) (b := main_v39) (y := main_v41) rfl (by decide) (by decide) (by decide), h_v39]; rfl

/-- The array `cst_3` is the reference's stage `cst`. -/
theorem h_cst_3 : W m c main_cst_3 = val_main_cst (F := F)  := by
  rw [step0 m c 48 (y := main_cst_3) rfl (by decide)]; rfl

/-- The array `v42` is the reference's stage `v3`. -/
theorem h_v42 : W m c main_v42 = val_main_v3 (F := F) (W m c main_arg0) := by
  rw [step2 m c 49 (a := main_v41) (b := main_cst_3) (y := main_v42) rfl (by decide) (by decide) (by decide), h_v41, h_cst_3]; rfl

/-- The array `v43` is the reference's stage `v4`. -/
theorem h_v43 : W m c main_v43 = val_main_v4 (F := F) (W m c main_arg0) := by
  rw [step1 m c 50 (x := main_v42) (y := main_v43) rfl (by decide) (by decide), h_v42]; rfl

/-- The array `cst_4` is the reference's stage `cst_0`. -/
theorem h_cst_4 : W m c main_cst_4 = val_main_cst_0 (F := F)  := by
  rw [step0 m c 51 (y := main_cst_4) rfl (by decide)]; rfl

/-- The array `v44` is the reference's stage `v5`. -/
theorem h_v44 : W m c main_v44 = val_main_v5 (F := F)  := by
  rw [step1 m c 52 (x := main_cst_4) (y := main_v44) rfl (by decide) (by decide), h_cst_4]; rfl

/-- The array `v45` is the reference's stage `v6`. -/
theorem h_v45 : W m c main_v45 = val_main_v6 (F := F) (W m c main_arg0) := by
  rw [step2 m c 53 (a := main_v43) (b := main_v44) (y := main_v45) rfl (by decide) (by decide) (by decide), h_v43, h_v44]; rfl

/-- The array `cst_5` is the reference's stage `cst_1`. -/
theorem h_cst_5 : W m c main_cst_5 = val_main_cst_1 (F := F)  := by
  rw [step0 m c 54 (y := main_cst_5) rfl (by decide)]; rfl

/-- The array `v46` is the reference's stage `v7`. -/
theorem h_v46 : W m c main_v46 = val_main_v7 (F := F)  := by
  rw [step1 m c 55 (x := main_cst_5) (y := main_v46) rfl (by decide) (by decide), h_cst_5]; rfl

/-- The array `v47` is the reference's stage `v8`. -/
theorem h_v47 : W m c main_v47 = val_main_v8 (F := F) (W m c main_arg0) := by
  rw [step2 m c 56 (a := main_v45) (b := main_v46) (y := main_v47) rfl (by decide) (by decide) (by decide), h_v45, h_v46]; rfl

/-- The array `v48` is the reference's stage `v9`. -/
theorem h_v48 : W m c main_v48 = val_main_v9 (F := F) (W m c main_arg0) := by
  rw [step1 m c 57 (x := main_v47) (y := main_v48) rfl (by decide) (by decide), h_v47]; rfl

/-- The array `v49` is the reference's stage `v13`. -/
theorem h_v49 : W m c main_v49 = val_main_v13 (F := F) (W m c main_arg0) := by
  rw [step1 m c 58 (x := main_v48) (y := main_v49) rfl (by decide) (by decide), h_v48]; rfl

/-- The array `v50` is the reference's stage `v14`. -/
theorem h_v50 : W m c main_v50 = val_main_v14 (F := F) (W m c main_arg0) := by
  rw [step2 m c 59 (a := main_v39) (b := main_v49) (y := main_v50) rfl (by decide) (by decide) (by decide), h_v39, h_v49]; rfl

/-- The array `v51` is the reference's stage `v15`. -/
theorem h_v51 : W m c main_v51 = val_main_v15 (F := F) (W m c main_arg1) := by
  rw [step1 m c 60 (x := main_arg1) (y := main_v51) rfl (by decide) (by decide)]; rfl

/-- The array `v52` is the reference's stage `v16`. -/
theorem h_v52 : W m c main_v52 = val_main_v16 (F := F) (W m c main_arg1) := by
  rw [step1 m c 61 (x := main_v51) (y := main_v52) rfl (by decide) (by decide), h_v51]; rfl

/-- The array `v53` is the reference's stage `v17`. -/
theorem h_v53 : W m c main_v53 = val_main_v17 (F := F) (W m c main_arg0) (W m c main_arg1) := by
  rw [step2 m c 62 (a := main_v50) (b := main_v52) (y := main_v53) rfl (by decide) (by decide) (by decide), h_v50, h_v52]; rfl

/-- The array `v54` is the reference's stage `v18`. -/
theorem h_v54 : W m c main_v54 = val_main_v18 (F := F) (W m c main_arg0) := by
  rw [step2 m c 63 (a := main_v40) (b := main_v40) (y := main_v54) rfl (by decide) (by decide) (by decide), h_v40]; rfl

/-- The array `cst_6` is the reference's stage `cst_3`. -/
theorem h_cst_6 : W m c main_cst_6 = val_main_cst_3 (F := F)  := by
  rw [step0 m c 64 (y := main_cst_6) rfl (by decide)]; rfl

/-- The array `v55` is the reference's stage `v19`. -/
theorem h_v55 : W m c main_v55 = val_main_v19 (F := F) (W m c main_arg0) := by
  rw [step2 m c 65 (a := main_v54) (b := main_cst_6) (y := main_v55) rfl (by decide) (by decide) (by decide), h_v54, h_cst_6]; rfl

/-- The array `v56` is the reference's stage `v20`. -/
theorem h_v56 : W m c main_v56 = val_main_v20 (F := F) (W m c main_arg0) := by
  rw [step1 m c 66 (x := main_v55) (y := main_v56) rfl (by decide) (by decide), h_v55]; rfl

/-- The array `cst_7` is the reference's stage `cst_4`. -/
theorem h_cst_7 : W m c main_cst_7 = val_main_cst_4 (F := F)  := by
  rw [step0 m c 67 (y := main_cst_7) rfl (by decide)]; rfl

/-- The array `v57` is the reference's stage `v21`. -/
theorem h_v57 : W m c main_v57 = val_main_v21 (F := F)  := by
  rw [step1 m c 68 (x := main_cst_7) (y := main_v57) rfl (by decide) (by decide), h_cst_7]; rfl

/-- The array `v58` is the reference's stage `v22`. -/
theorem h_v58 : W m c main_v58 = val_main_v22 (F := F) (W m c main_arg0) := by
  rw [step2 m c 69 (a := main_v56) (b := main_v57) (y := main_v58) rfl (by decide) (by decide) (by decide), h_v56, h_v57]; rfl

/-- The array `cst_8` is the reference's stage `cst_5`. -/
theorem h_cst_8 : W m c main_cst_8 = val_main_cst_5 (F := F)  := by
  rw [step0 m c 70 (y := main_cst_8) rfl (by decide)]; rfl

/-- The array `v59` is the reference's stage `v23`. -/
theorem h_v59 : W m c main_v59 = val_main_v23 (F := F)  := by
  rw [step1 m c 71 (x := main_cst_8) (y := main_v59) rfl (by decide) (by decide), h_cst_8]; rfl

/-- The array `v60` is the reference's stage `v24`. -/
theorem h_v60 : W m c main_v60 = val_main_v24 (F := F) (W m c main_arg0) := by
  rw [step2 m c 72 (a := main_v58) (b := main_v59) (y := main_v60) rfl (by decide) (by decide) (by decide), h_v58, h_v59]; rfl

/-- The array `v61` is the reference's stage `v25`. -/
theorem h_v61 : W m c main_v61 = val_main_v25 (F := F) (W m c main_arg0) := by
  rw [step1 m c 73 (x := main_v60) (y := main_v61) rfl (by decide) (by decide), h_v60]; rfl

/-- The array `v62` is the reference's stage `v29`. -/
theorem h_v62 : W m c main_v62 = val_main_v29 (F := F) (W m c main_arg0) := by
  rw [step1 m c 74 (x := main_v61) (y := main_v62) rfl (by decide) (by decide), h_v61]; rfl

/-- The array `v63` is the reference's stage `v30`. -/
theorem h_v63 : W m c main_v63 = val_main_v30 (F := F) (W m c main_arg0) := by
  rw [step2 m c 75 (a := main_v40) (b := main_v62) (y := main_v63) rfl (by decide) (by decide) (by decide), h_v40, h_v62]; rfl

/-- The array `v64` is the reference's stage `v31`. -/
theorem h_v64 : W m c main_v64 = val_main_v31 (F := F) (W m c main_arg2) := by
  rw [step1 m c 76 (x := main_arg2) (y := main_v64) rfl (by decide) (by decide)]; rfl

/-- The array `v65` is the reference's stage `v32`. -/
theorem h_v65 : W m c main_v65 = val_main_v32 (F := F) (W m c main_arg2) := by
  rw [step1 m c 77 (x := main_v64) (y := main_v65) rfl (by decide) (by decide), h_v64]; rfl

/-- The array `v66` is the reference's stage `v33`. -/
theorem h_v66 : W m c main_v66 = val_main_v33 (F := F) (W m c main_arg0) (W m c main_arg2) := by
  rw [step2 m c 78 (a := main_v63) (b := main_v65) (y := main_v66) rfl (by decide) (by decide) (by decide), h_v63, h_v65]; rfl

/-- The array `v67` is the reference's stage `v67`. -/
theorem h_v67 : W m c main_v67 = val_main_v67 (F := F)  := by
  rw [step1 m c 79 (x := main_v29) (y := main_v67) rfl (by decide) (by decide), h_v29]; rfl

/-- The array `v68` is the reference's stage `v68`. -/
theorem h_v68 : W m c main_v68 = val_main_v68 (F := F)  := by
  rw [step1 m c 80 (x := main_v30) (y := main_v68) rfl (by decide) (by decide), h_v30]; rfl

/-- The array `v69` is the reference's stage `v69`. -/
theorem h_v69 : W m c main_v69 = val_main_v69 (F := F)  := by
  rw [step1 m c 81 (x := main_v31) (y := main_v69) rfl (by decide) (by decide), h_v31]; rfl

/-- The array `v70` is the reference's stage `v70`. -/
theorem h_v70 : W m c main_v70 = val_main_v70 (F := F)  := by
  rw [step1 m c 82 (x := main_v32) (y := main_v70) rfl (by decide) (by decide), h_v32]; rfl

/-- The array `v71` is the reference's stage `v71`. -/
theorem h_v71 : W m c main_v71 = val_main_v71 (F := F) (W m c main_arg0) (W m c main_arg2) := by
  rw [step1 m c 83 (x := main_v66) (y := main_v71) rfl (by decide) (by decide), h_v66]; rfl

/-- The array `v72` is the reference's stage `v72`. -/
theorem h_v72 : W m c main_v72 = val_main_v72 (F := F) (W m c main_arg0) (W m c main_arg2) := by
  rw [step1 m c 84 (x := main_v66) (y := main_v72) rfl (by decide) (by decide), h_v66]; rfl

/-- The array `v73` is the reference's stage `v73`. -/
theorem h_v73 : W m c main_v73 = val_main_v73 (F := F) (W m c main_arg0) (W m c main_arg2) := by
  rw [step1 m c 85 (x := main_v71) (y := main_v73) rfl (by decide) (by decide), h_v71]; rfl

/-- The array `v74` is the reference's stage `v74`. -/
theorem h_v74 : W m c main_v74 = val_main_v74 (F := F) (W m c main_arg0) (W m c main_arg2) := by
  rw [step1 m c 86 (x := main_v71) (y := main_v74) rfl (by decide) (by decide), h_v71]; rfl

/-- The array `v75` is the reference's stage `v75`. -/
theorem h_v75 : W m c main_v75 = val_main_v75 (F := F)  := by
  rw [step1 m c 87 (x := main_v67) (y := main_v75) rfl (by decide) (by decide), h_v67]; rfl

/-- The array `v76` is the reference's stage `v76`. -/
theorem h_v76 : W m c main_v76 = val_main_v76 (F := F)  := by
  rw [step1 m c 88 (x := main_v75) (y := main_v76) rfl (by decide) (by decide), h_v75]; rfl

/-- The array `v77` is the reference's stage `v77`. -/
theorem h_v77 : W m c main_v77 = val_main_v77 (F := F) (W m c main_arg0) (W m c main_arg2) := by
  rw [step2 m c 89 (a := main_v73) (b := main_v76) (y := main_v77) rfl (by decide) (by decide) (by decide), h_v73, h_v76]; rfl

/-- The array `v78` is the reference's stage `v78`. -/
theorem h_v78 : W m c main_v78 = val_main_v78 (F := F)  := by
  rw [step1 m c 90 (x := main_v68) (y := main_v78) rfl (by decide) (by decide), h_v68]; rfl

/-- The array `v79` is the reference's stage `v79`. -/
theorem h_v79 : W m c main_v79 = val_main_v79 (F := F)  := by
  rw [step1 m c 91 (x := main_v78) (y := main_v79) rfl (by decide) (by decide), h_v78]; rfl

/-- The array `v80` is the reference's stage `v80`. -/
theorem h_v80 : W m c main_v80 = val_main_v80 (F := F) (W m c main_arg0) (W m c main_arg2) := by
  rw [step2 m c 92 (a := main_v74) (b := main_v79) (y := main_v80) rfl (by decide) (by decide) (by decide), h_v74, h_v79]; rfl

/-- The array `v81` is the reference's stage `v81`. -/
theorem h_v81 : W m c main_v81 = val_main_v81 (F := F) (W m c main_arg0) (W m c main_arg2) := by
  rw [step2 m c 93 (a := main_v77) (b := main_v80) (y := main_v81) rfl (by decide) (by decide) (by decide), h_v77, h_v80]; rfl

/-- The array `v82` is the reference's stage `v82`. -/
theorem h_v82 : W m c main_v82 = val_main_v82 (F := F)  := by
  rw [step1 m c 94 (x := main_v68) (y := main_v82) rfl (by decide) (by decide), h_v68]; rfl

/-- The array `v83` is the reference's stage `v83`. -/
theorem h_v83 : W m c main_v83 = val_main_v83 (F := F)  := by
  rw [step1 m c 95 (x := main_v82) (y := main_v83) rfl (by decide) (by decide), h_v82]; rfl

/-- The array `v84` is the reference's stage `v84`. -/
theorem h_v84 : W m c main_v84 = val_main_v84 (F := F) (W m c main_arg0) (W m c main_arg2) := by
  rw [step2 m c 96 (a := main_v73) (b := main_v83) (y := main_v84) rfl (by decide) (by decide) (by decide), h_v73, h_v83]; rfl

/-- The array `v85` is the reference's stage `v85`. -/
theorem h_v85 : W m c main_v85 = val_main_v85 (F := F)  := by
  rw [step1 m c 97 (x := main_v67) (y := main_v85) rfl (by decide) (by decide), h_v67]; rfl

/-- The array `v86` is the reference's stage `v86`. -/
theorem h_v86 : W m c main_v86 = val_main_v86 (F := F)  := by
  rw [step1 m c 98 (x := main_v85) (y := main_v86) rfl (by decide) (by decide), h_v85]; rfl

/-- The array `v87` is the reference's stage `v87`. -/
theorem h_v87 : W m c main_v87 = val_main_v87 (F := F) (W m c main_arg0) (W m c main_arg2) := by
  rw [step2 m c 99 (a := main_v74) (b := main_v86) (y := main_v87) rfl (by decide) (by decide) (by decide), h_v74, h_v86]; rfl

/-- The array `v88` is the reference's stage `v88`. -/
theorem h_v88 : W m c main_v88 = val_main_v88 (F := F) (W m c main_arg0) (W m c main_arg2) := by
  rw [step2 m c 100 (a := main_v84) (b := main_v87) (y := main_v88) rfl (by decide) (by decide) (by decide), h_v84, h_v87]; rfl

/-- The array `v89` is the reference's stage `v89`. -/
theorem h_v89 : W m c main_v89 = val_main_v89 (F := F) (W m c main_arg0) (W m c main_arg2) := by
  rw [step2 m c 101 (a := main_v81) (b := main_v88) (y := main_v89) rfl (by decide) (by decide) (by decide), h_v81, h_v88]; rfl

/-- The array `v90` is the reference's stage `v90`. -/
theorem h_v90 : W m c main_v90 = val_main_v90 (F := F) (W m c main_arg0) (W m c main_arg2) := by
  rw [step1 m c 102 (x := main_v72) (y := main_v90) rfl (by decide) (by decide), h_v72]; rfl

/-- The array `v91` is the reference's stage `v91`. -/
theorem h_v91 : W m c main_v91 = val_main_v91 (F := F) (W m c main_arg0) (W m c main_arg2) := by
  rw [step1 m c 103 (x := main_v72) (y := main_v91) rfl (by decide) (by decide), h_v72]; rfl

/-- The array `v92` is the reference's stage `v92`. -/
theorem h_v92 : W m c main_v92 = val_main_v92 (F := F)  := by
  rw [step1 m c 104 (x := main_v69) (y := main_v92) rfl (by decide) (by decide), h_v69]; rfl

/-- The array `v93` is the reference's stage `v93`. -/
theorem h_v93 : W m c main_v93 = val_main_v93 (F := F)  := by
  rw [step1 m c 105 (x := main_v92) (y := main_v93) rfl (by decide) (by decide), h_v92]; rfl

/-- The array `v94` is the reference's stage `v94`. -/
theorem h_v94 : W m c main_v94 = val_main_v94 (F := F) (W m c main_arg0) (W m c main_arg2) := by
  rw [step2 m c 106 (a := main_v90) (b := main_v93) (y := main_v94) rfl (by decide) (by decide) (by decide), h_v90, h_v93]; rfl

/-- The array `v95` is the reference's stage `v95`. -/
theorem h_v95 : W m c main_v95 = val_main_v95 (F := F)  := by
  rw [step1 m c 107 (x := main_v70) (y := main_v95) rfl (by decide) (by decide), h_v70]; rfl

/-- The array `v96` is the reference's stage `v96`. -/
theorem h_v96 : W m c main_v96 = val_main_v96 (F := F)  := by
  rw [step1 m c 108 (x := main_v95) (y := main_v96) rfl (by decide) (by decide), h_v95]; rfl

/-- The array `v97` is the reference's stage `v97`. -/
theorem h_v97 : W m c main_v97 = val_main_v97 (F := F) (W m c main_arg0) (W m c main_arg2) := by
  rw [step2 m c 109 (a := main_v91) (b := main_v96) (y := main_v97) rfl (by decide) (by decide) (by decide), h_v91, h_v96]; rfl

/-- The array `v98` is the reference's stage `v98`. -/
theorem h_v98 : W m c main_v98 = val_main_v98 (F := F) (W m c main_arg0) (W m c main_arg2) := by
  rw [step2 m c 110 (a := main_v94) (b := main_v97) (y := main_v98) rfl (by decide) (by decide) (by decide), h_v94, h_v97]; rfl

/-- The array `v99` is the reference's stage `v99`. -/
theorem h_v99 : W m c main_v99 = val_main_v99 (F := F)  := by
  rw [step1 m c 111 (x := main_v70) (y := main_v99) rfl (by decide) (by decide), h_v70]; rfl

/-- The array `v100` is the reference's stage `v100`. -/
theorem h_v100 : W m c main_v100 = val_main_v100 (F := F)  := by
  rw [step1 m c 112 (x := main_v99) (y := main_v100) rfl (by decide) (by decide), h_v99]; rfl

/-- The array `v101` is the reference's stage `v101`. -/
theorem h_v101 : W m c main_v101 = val_main_v101 (F := F) (W m c main_arg0) (W m c main_arg2) := by
  rw [step2 m c 113 (a := main_v90) (b := main_v100) (y := main_v101) rfl (by decide) (by decide) (by decide), h_v90, h_v100]; rfl

/-- The array `v102` is the reference's stage `v102`. -/
theorem h_v102 : W m c main_v102 = val_main_v102 (F := F)  := by
  rw [step1 m c 114 (x := main_v69) (y := main_v102) rfl (by decide) (by decide), h_v69]; rfl

/-- The array `v103` is the reference's stage `v103`. -/
theorem h_v103 : W m c main_v103 = val_main_v103 (F := F)  := by
  rw [step1 m c 115 (x := main_v102) (y := main_v103) rfl (by decide) (by decide), h_v102]; rfl

/-- The array `v104` is the reference's stage `v104`. -/
theorem h_v104 : W m c main_v104 = val_main_v104 (F := F) (W m c main_arg0) (W m c main_arg2) := by
  rw [step2 m c 116 (a := main_v91) (b := main_v103) (y := main_v104) rfl (by decide) (by decide) (by decide), h_v91, h_v103]; rfl

/-- The array `v105` is the reference's stage `v105`. -/
theorem h_v105 : W m c main_v105 = val_main_v105 (F := F) (W m c main_arg0) (W m c main_arg2) := by
  rw [step2 m c 117 (a := main_v101) (b := main_v104) (y := main_v105) rfl (by decide) (by decide) (by decide), h_v101, h_v104]; rfl

/-- The array `v106` is the reference's stage `v106`. -/
theorem h_v106 : W m c main_v106 = val_main_v106 (F := F) (W m c main_arg0) (W m c main_arg2) := by
  rw [step2 m c 118 (a := main_v98) (b := main_v105) (y := main_v106) rfl (by decide) (by decide) (by decide), h_v98, h_v105]; rfl

/-- The array `v107` is the reference's stage `v107`. -/
theorem h_v107 : W m c main_v107 = val_main_v107 (F := F) (W m c main_arg0) (W m c main_arg2) := by
  rw [step2 m c 119 (a := main_v89) (b := main_v106) (y := main_v107) rfl (by decide) (by decide) (by decide), h_v89, h_v106]; rfl

/-- The array `v108` is the reference's stage `v108`. -/
theorem h_v108 : W m c main_v108 = val_main_v108 (F := F) (W m c main_arg3) := by
  rw [step1 m c 120 (x := main_arg3) (y := main_v108) rfl (by decide) (by decide)]; rfl

/-- The array `v109` is the reference's stage `v109`. -/
theorem h_v109 : W m c main_v109 = val_main_v109 (F := F) (W m c main_arg3) := by
  rw [step1 m c 121 (x := main_arg3) (y := main_v109) rfl (by decide) (by decide)]; rfl

/-- The array `v110` is the reference's stage `v110`. -/
theorem h_v110 : W m c main_v110 = val_main_v110 (F := F) (W m c main_arg0) (W m c main_arg1) (W m c main_arg3) := by
  rw [step2 m c 122 (a := main_v53) (b := main_v108) (y := main_v110) rfl (by decide) (by decide) (by decide), h_v53, h_v108]; rfl

/-- The array `v111` is the reference's stage `v111`. -/
theorem h_v111 : W m c main_v111 = val_main_v111 (F := F) (W m c main_arg0) (W m c main_arg2) (W m c main_arg3) := by
  rw [step2 m c 123 (a := main_v107) (b := main_v109) (y := main_v111) rfl (by decide) (by decide) (by decide), h_v107, h_v109]; rfl

/-- The array `v112` is the reference's stage `v112`. -/
theorem h_v112 : W m c main_v112 = val_main_v112 (F := F) (W m c main_arg0) (W m c main_arg1) (W m c main_arg2) (W m c main_arg3) := by
  rw [step2 m c 124 (a := main_v110) (b := main_v111) (y := main_v112) rfl (by decide) (by decide) (by decide), h_v110, h_v111]; rfl

/-- The array `cst_9` is the reference's stage `cst_11`. -/
theorem h_cst_9 : W m c main_cst_9 = val_main_cst_11 (F := F)  := by
  rw [step0 m c 125 (y := main_cst_9) rfl (by decide)]; rfl

/-- The array `v113` is the reference's stage `v113`. -/
theorem h_v113 : W m c main_v113 = val_main_v113 (F := F)  := by
  rw [step1 m c 126 (x := main_cst_9) (y := main_v113) rfl (by decide) (by decide), h_cst_9]; rfl

/-- The array `v114` is the reference's stage `v114`. -/
theorem h_v114 : W m c main_v114 = val_main_v114 (F := F) (W m c main_arg0) (W m c main_arg1) (W m c main_arg2) (W m c main_arg3) := by
  rw [step2 m c 127 (a := main_v112) (b := main_v113) (y := main_v114) rfl (by decide) (by decide) (by decide), h_v112, h_v113]; rfl

/-- The array `cst_10` is the reference's stage `cst_12`. -/
theorem h_cst_10 : W m c main_cst_10 = val_main_cst_12 (F := F)  := by
  rw [step0 m c 128 (y := main_cst_10) rfl (by decide)]; rfl

/-- The array `v115` is the reference's stage `v115`. -/
theorem h_v115 : W m c main_v115 = val_main_v115 (F := F) (W m c main_arg0) (W m c main_arg1) (W m c main_arg2) (W m c main_arg3) := by
  rw [step2 m c 129 (a := main_v114) (b := main_cst_10) (y := main_v115) rfl (by decide) (by decide) (by decide), h_v114, h_cst_10]; rfl

end Cert.Proof.Host
-- ==== Proof.Host.Stages.lean ====
module

public import proofs.«01_k».proof.Proof.Gen.ReferenceIdeal.Read
public import proofs.«01_k».proof.Proof.Gen.KernelIdeal.Launch
/-! What the host lines before the call compute from its six arguments, a line at a time: the saved forward values,
    the tables of the turns and the arrays laid out for the kernel. -/

@[expose] public section

set_option maxRecDepth 16384

noncomputable section

namespace Cert.Proof.Host

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]
variable (x0 : (⟨S2x2048x8x192, .f32⟩ : BufTy).Contents (Elt F))
  (x1 : (⟨S128, .f32⟩ : BufTy).Contents (Elt F))
  (x2 : (⟨S64, .f32⟩ : BufTy).Contents (Elt F))
  (x3 : (⟨S2x2304x8x192, .f32⟩ : BufTy).Contents (Elt F))
  (x4 : (⟨S2x2304x8x128, .f32⟩ : BufTy).Contents (Elt F))
  (x5 : (⟨S2x2048x1024, .f32⟩ : BufTy).Contents (Elt F))

/-- The host line 37. -/
def o_v33 : (⟨S4096x1024, .f32⟩ : BufTy).Contents (Elt F) :=
  shapeCast _ x5 shapeCasts_S2x2048x1024_S4096x1024

/-- The host line 38. -/
def o_v34 : (⟨S2x256x8x192, .f32⟩ : BufTy).Contents (Elt F) :=
  extractStridedSlice S2x256x8x192 ![0, 2048, 0, 0] x3 slices_S2x2304x8x192_S2x256x8x192_0_2048_0_0

/-- The host line 39. -/
def o_v35 : (⟨S2x256x8x128, .f32⟩ : BufTy).Contents (Elt F) :=
  extractStridedSlice S2x256x8x128 ![0, 2048, 0, 0] x4 slices_S2x2304x8x128_S2x256x8x128_0_2048_0_0

/-- The host line 40. -/
def o_v36 : (⟨S1x128, .f32⟩ : BufTy).Contents (Elt F) :=
  broadcastInDim S1x128 ![1] bcast_S128_S1x128_1 x1

/-- The host line 41. -/
def o_v37 : (⟨S1x64, .f32⟩ : BufTy).Contents (Elt F) :=
  broadcastInDim S1x64 ![1] bcast_S64_S1x64_1 x2

/-- The host line 42. -/
def o_c : (⟨S_, .i32⟩ : BufTy).Contents (Elt F) :=
  (constantI S_ 32 0#32)

/-- The host line 43. -/
def o_call0_v0 : (⟨S_, .f32⟩ : BufTy).Contents (Elt F) :=
  sitofp .f32 (o_c (F := F))

/-- The host line 44. -/
def o_v38 : (⟨S1x128, .f32⟩ : BufTy).Contents (Elt F) :=
  pad S1x128 ![0, 0] ![0, 64] ![0, 0] (o_v37 (F := F) x2) (o_call0_v0 (F := F)) pads_S1x64_S1x128_000_0640 h_S_

/-- The host line 130. -/
def o_v116 : (⟨S2x8x2048x1, .f32⟩ : BufTy).Contents (Elt F) :=
  broadcastInDim S2x8x2048x1 ![0, 1, 2] bcast_S2x8x2048_S2x8x2048x1_0_1_2 (val_main_v115 (F := F) x0 x1 x2 x3)

/-- The host line 131. -/
def o_v117 : (⟨S2x8x2048x2304, .f32⟩ : BufTy).Contents (Elt F) :=
  broadcastInDim S2x8x2048x2304 ![0, 1, 2, 3] bcast_S2x8x2048x1_S2x8x2048x2304_0_1_2_3 (o_v116 (F := F) x0 x1 x2 x3)

/-- The host line 132. -/
def o_v118 : (⟨S2x8x2048x2304, .f32⟩ : BufTy).Contents (Elt F) :=
  subf (val_main_v114 (F := F) x0 x1 x2 x3) (o_v117 (F := F) x0 x1 x2 x3)

/-- The host line 133. -/
def o_v119 : (⟨S2x8x2048x2304, .f32⟩ : BufTy).Contents (Elt F) :=
  Host.exp (o_v118 (F := F) x0 x1 x2 x3)

/-- The host line 134. -/
def o_cst_11 : (⟨S_, .f32⟩ : BufTy).Contents (Elt F) :=
  (constant S_ .f32 0x00000000#32)

/-- The host line 135. -/
def o_v120 : (⟨S2x8x2048, .f32⟩ : BufTy).Contents (Elt F) :=
  Host.reduceAdd (o_v119 (F := F) x0 x1 x2 x3) (o_cst_11 (F := F)) reducesTo_S2x8x2048x2304_S2x8x2048_d3 h_S_

/-- The host line 136. -/
def o_v121 : (⟨S2x8x2048x1, .f32⟩ : BufTy).Contents (Elt F) :=
  broadcastInDim S2x8x2048x1 ![0, 1, 2] bcast_S2x8x2048_S2x8x2048x1_0_1_2 (o_v120 (F := F) x0 x1 x2 x3)

/-- The host line 137. -/
def o_v122 : (⟨S2x8x2048x2304, .f32⟩ : BufTy).Contents (Elt F) :=
  broadcastInDim S2x8x2048x2304 ![0, 1, 2, 3] bcast_S2x8x2048x1_S2x8x2048x2304_0_1_2_3 (o_v121 (F := F) x0 x1 x2 x3)

/-- The host line 138. -/
def o_v123 : (⟨S2x8x2048x2304, .f32⟩ : BufTy).Contents (Elt F) :=
  Host.divf (o_v119 (F := F) x0 x1 x2 x3) (o_v122 (F := F) x0 x1 x2 x3)

/-- The host line 139. -/
def o_v124 : (⟨S2x8x128x2048, .f32⟩ : BufTy).Contents (Elt F) :=
  Host.dotGeneral dot_S2x2304x8x128_S2x8x2048x2304_S2x8x128x2048_1_3_3_2_02_01 none x4 (o_v123 (F := F) x0 x1 x2 x3)

/-- The host line 140. -/
def o_v125 : (⟨S2x2048x8x128, .f32⟩ : BufTy).Contents (Elt F) :=
  transpose S2x2048x8x128 [0, 3, 1, 2] (o_v124 (F := F) x0 x1 x2 x3 x4) transposes_S2x8x128x2048_S2x2048x8x128_0_3_1_2

/-- The host line 141. -/
def o_v126 : (⟨S2x8x2048x1, .f32⟩ : BufTy).Contents (Elt F) :=
  Host.log (o_v121 (F := F) x0 x1 x2 x3)

/-- The host line 142. -/
def o_v127 : (⟨S2x8x2048x1, .f32⟩ : BufTy).Contents (Elt F) :=
  addf (o_v116 (F := F) x0 x1 x2 x3) (o_v126 (F := F) x0 x1 x2 x3)

/-- The host line 143. -/
def o_v128 : (⟨S2x2048x8x1, .f32⟩ : BufTy).Contents (Elt F) :=
  transpose S2x2048x8x1 [0, 2, 1, 3] (o_v127 (F := F) x0 x1 x2 x3) transposes_S2x8x2048x1_S2x2048x8x1_0_2_1_3

/-- The host line 144. -/
def o_v129 : (⟨S2x2048x8x128, .f32⟩ : BufTy).Contents (Elt F) :=
  broadcastInDim S2x2048x8x128 ![0, 1, 2, 3] bcast_S2x2048x8x1_S2x2048x8x128_0_1_2_3 (o_v128 (F := F) x0 x1 x2 x3)

/-- The host line 145. -/
def o_v130 : (⟨S2x2048x8x192, .f32⟩ : BufTy).Contents (Elt F) :=
  concatenate S2x2048x8x192 3 [⟨S2x2048x8x128, (val_main_v17 (F := F) x0 x1)⟩, ⟨S2x2048x8x64, (val_main_v107 (F := F) x0 x2)⟩] concatenates_S2x2048x8x128_S2x2048x8x64_S2x2048x8x192_d3

/-- The host line 146. -/
def o_cst_12 : (⟨S_, .f32⟩ : BufTy).Contents (Elt F) :=
  (constant S_ .f32 0x3D93CD3A#32)

/-- The host line 147. -/
def o_v131 : (⟨S2x2048x8x192, .f32⟩ : BufTy).Contents (Elt F) :=
  broadcastInDim S2x2048x8x192 ![] bcast_S_S2x2048x8x192 (o_cst_12 (F := F))

/-- The host line 148. -/
def o_v132 : (⟨S2x2048x8x192, .f32⟩ : BufTy).Contents (Elt F) :=
  mulf (o_v130 (F := F) x0 x1 x2) (o_v131 (F := F))

/-- The host line 149. -/
def o_v133 : (⟨S2048, .i32⟩ : BufTy).Contents (Elt F) :=
  (iotaInDim S2048 32 0)

/-- The host line 150. -/
def o_c_13 : (⟨S_, .i32⟩ : BufTy).Contents (Elt F) :=
  (constantI S_ 32 64#32)

/-- The host line 151. -/
def o_call1_v0 : (⟨S_, .i32⟩ : BufTy).Contents (Elt F) :=
  (o_c_13 (F := F))

/-- The host line 152. -/
def o_call1_v1 : (⟨S2048, .i32⟩ : BufTy).Contents (Elt F) :=
  broadcastInDim S2048 ![] bcast_S_S2048 (o_call1_v0 (F := F))

/-- The host line 153. -/
def o_call1_v2 : (⟨S2048, .i32⟩ : BufTy).Contents (Elt F) :=
  Host.divsi (o_v133 (F := F)) (o_call1_v1 (F := F))

/-- The host line 154. -/
def o_call1_v3 : (⟨S2048, .i32⟩ : BufTy).Contents (Elt F) :=
  signi (o_v133 (F := F))

/-- The host line 155. -/
def o_call1_v4 : (⟨S_, .i32⟩ : BufTy).Contents (Elt F) :=
  signi (o_call1_v0 (F := F))

/-- The host line 156. -/
def o_call1_v5 : (⟨S2048, .i32⟩ : BufTy).Contents (Elt F) :=
  broadcastInDim S2048 ![] bcast_S_S2048 (o_call1_v4 (F := F))

/-- The host line 157. -/
def o_call1_v6 : (⟨S2048, .i1⟩ : BufTy).Contents (Elt F) :=
  cmpi .ne (o_call1_v3 (F := F)) (o_call1_v5 (F := F))

/-- The host line 158. -/
def o_call1_v7 : (⟨S2048, .i32⟩ : BufTy).Contents (Elt F) :=
  broadcastInDim S2048 ![] bcast_S_S2048 (o_call1_v0 (F := F))

/-- The host line 159. -/
def o_call1_v8 : (⟨S2048, .i32⟩ : BufTy).Contents (Elt F) :=
  Host.remsi (o_v133 (F := F)) (o_call1_v7 (F := F))

/-- The host line 160. -/
def o_call1_c : (⟨S_, .i32⟩ : BufTy).Contents (Elt F) :=
  (constantI S_ 32 0#32)

/-- The host line 161. -/
def o_call1_v9 : (⟨S2048, .i32⟩ : BufTy).Contents (Elt F) :=
  broadcastInDim S2048 ![] bcast_S_S2048 (o_call1_c (F := F))

/-- The host line 162. -/
def o_call1_v10 : (⟨S2048, .i1⟩ : BufTy).Contents (Elt F) :=
  cmpi .ne (o_call1_v8 (F := F)) (o_call1_v9 (F := F))

/-- The host line 163. -/
def o_call1_v11 : (⟨S2048, .i1⟩ : BufTy).Contents (Elt F) :=
  andi (o_call1_v6 (F := F)) (o_call1_v10 (F := F))

/-- The host line 164. -/
def o_call1_c_0 : (⟨S_, .i32⟩ : BufTy).Contents (Elt F) :=
  (constantI S_ 32 1#32)

/-- The host line 165. -/
def o_call1_v12 : (⟨S2048, .i32⟩ : BufTy).Contents (Elt F) :=
  broadcastInDim S2048 ![] bcast_S_S2048 (o_call1_c_0 (F := F))

/-- The host line 166. -/
def o_call1_v13 : (⟨S2048, .i32⟩ : BufTy).Contents (Elt F) :=
  subi (o_call1_v2 (F := F)) (o_call1_v12 (F := F))

/-- The host line 167. -/
def o_v134 : (⟨S2048, .i32⟩ : BufTy).Contents (Elt F) :=
  select (o_call1_v11 (F := F)) (o_call1_v13 (F := F)) (o_call1_v2 (F := F))

/-- The host line 168. -/
def o_v135 : (⟨S2048, .f32⟩ : BufTy).Contents (Elt F) :=
  sitofp .f32 (o_v134 (F := F))

/-- The host line 169. -/
def o_c_14 : (⟨S_, .i32⟩ : BufTy).Contents (Elt F) :=
  (constantI S_ 32 64#32)

/-- The host line 170. -/
def o_call2_v0 : (⟨S_, .i32⟩ : BufTy).Contents (Elt F) :=
  (o_c_14 (F := F))

/-- The host line 171. -/
def o_call2_c : (⟨S_, .i32⟩ : BufTy).Contents (Elt F) :=
  (constantI S_ 32 0#32)

/-- The host line 172. -/
def o_call2_v1 : (⟨S_, .i1⟩ : BufTy).Contents (Elt F) :=
  cmpi .eq (o_call2_v0 (F := F)) (o_call2_c (F := F))

/-- The host line 173. -/
def o_call2_c_0 : (⟨S_, .i32⟩ : BufTy).Contents (Elt F) :=
  (constantI S_ 32 1#32)

/-- The host line 174. -/
def o_call2_v2 : (⟨S_, .i32⟩ : BufTy).Contents (Elt F) :=
  select (o_call2_v1 (F := F)) (o_call2_c_0 (F := F)) (o_call2_v0 (F := F))

/-- The host line 175. -/
def o_call2_v3 : (⟨S2048, .i32⟩ : BufTy).Contents (Elt F) :=
  broadcastInDim S2048 ![] bcast_S_S2048 (o_call2_v2 (F := F))

/-- The host line 176. -/
def o_call2_v4 : (⟨S2048, .i32⟩ : BufTy).Contents (Elt F) :=
  Host.remsi (o_v133 (F := F)) (o_call2_v3 (F := F))

/-- The host line 177. -/
def o_call2_c_1 : (⟨S_, .i32⟩ : BufTy).Contents (Elt F) :=
  (constantI S_ 32 0#32)

/-- The host line 178. -/
def o_call2_v5 : (⟨S2048, .i32⟩ : BufTy).Contents (Elt F) :=
  broadcastInDim S2048 ![] bcast_S_S2048 (o_call2_c_1 (F := F))

/-- The host line 179. -/
def o_call2_v6 : (⟨S2048, .i1⟩ : BufTy).Contents (Elt F) :=
  cmpi .ne (o_call2_v4 (F := F)) (o_call2_v5 (F := F))

/-- The host line 180. -/
def o_call2_c_2 : (⟨S_, .i32⟩ : BufTy).Contents (Elt F) :=
  (constantI S_ 32 0#32)

/-- The host line 181. -/
def o_call2_v7 : (⟨S2048, .i32⟩ : BufTy).Contents (Elt F) :=
  broadcastInDim S2048 ![] bcast_S_S2048 (o_call2_c_2 (F := F))

/-- The host line 182. -/
def o_call2_v8 : (⟨S2048, .i1⟩ : BufTy).Contents (Elt F) :=
  cmpi .slt (o_call2_v4 (F := F)) (o_call2_v7 (F := F))

/-- The host line 183. -/
def o_call2_c_3 : (⟨S_, .i32⟩ : BufTy).Contents (Elt F) :=
  (constantI S_ 32 0#32)

/-- The host line 184. -/
def o_call2_v9 : (⟨S_, .i1⟩ : BufTy).Contents (Elt F) :=
  cmpi .slt (o_call2_v2 (F := F)) (o_call2_c_3 (F := F))

/-- The host line 185. -/
def o_call2_v10 : (⟨S2048, .i1⟩ : BufTy).Contents (Elt F) :=
  broadcastInDim S2048 ![] bcast_S_S2048 (o_call2_v9 (F := F))

/-- The host line 186. -/
def o_call2_v11 : (⟨S2048, .i1⟩ : BufTy).Contents (Elt F) :=
  cmpi .ne (o_call2_v8 (F := F)) (o_call2_v10 (F := F))

/-- The host line 187. -/
def o_call2_v12 : (⟨S2048, .i1⟩ : BufTy).Contents (Elt F) :=
  andi (o_call2_v11 (F := F)) (o_call2_v6 (F := F))

/-- The host line 188. -/
def o_call2_v13 : (⟨S2048, .i32⟩ : BufTy).Contents (Elt F) :=
  broadcastInDim S2048 ![] bcast_S_S2048 (o_call2_v2 (F := F))

/-- The host line 189. -/
def o_call2_v14 : (⟨S2048, .i32⟩ : BufTy).Contents (Elt F) :=
  addi (o_call2_v4 (F := F)) (o_call2_v13 (F := F))

/-- The host line 190. -/
def o_v136 : (⟨S2048, .i32⟩ : BufTy).Contents (Elt F) :=
  select (o_call2_v12 (F := F)) (o_call2_v14 (F := F)) (o_call2_v4 (F := F))

/-- The host line 191. -/
def o_v137 : (⟨S2048, .f32⟩ : BufTy).Contents (Elt F) :=
  sitofp .f32 (o_v136 (F := F))

/-- The host line 192. -/
def o_v138 : (⟨S16, .f32⟩ : BufTy).Contents (Elt F) :=
  (sitofp .f32 (iotaInDim S16 32 0))

/-- The host line 193. -/
def o_cst_15 : (⟨S_, .f32⟩ : BufTy).Contents (Elt F) :=
  (constant S_ .f32 0x40000000#32)

/-- The host line 194. -/
def o_v139 : (⟨S16, .f32⟩ : BufTy).Contents (Elt F) :=
  broadcastInDim S16 ![] bcast_S_S16 (o_cst_15 (F := F))

/-- The host line 195. -/
def o_v140 : (⟨S16, .f32⟩ : BufTy).Contents (Elt F) :=
  mulf (o_v139 (F := F)) (o_v138 (F := F))

/-- The host line 196. -/
def o_cst_16 : (⟨S_, .f32⟩ : BufTy).Contents (Elt F) :=
  (constant S_ .f32 0x00000000#32)

/-- The host line 197. -/
def o_v141 : (⟨S16, .f32⟩ : BufTy).Contents (Elt F) :=
  broadcastInDim S16 ![] bcast_S_S16 (o_cst_16 (F := F))

/-- The host line 198. -/
def o_v142 : (⟨S16, .f32⟩ : BufTy).Contents (Elt F) :=
  addf (o_v141 (F := F)) (o_v140 (F := F))

/-- The host line 199. -/
def o_v143 : (⟨S16, .f32⟩ : BufTy).Contents (Elt F) :=
  Host.negf (o_v142 (F := F))

/-- The host line 200. -/
def o_cst_17 : (⟨S_, .f32⟩ : BufTy).Contents (Elt F) :=
  (constant S_ .f32 0x42000000#32)

/-- The host line 201. -/
def o_v144 : (⟨S16, .f32⟩ : BufTy).Contents (Elt F) :=
  broadcastInDim S16 ![] bcast_S_S16 (o_cst_17 (F := F))

/-- The host line 202. -/
def o_v145 : (⟨S16, .f32⟩ : BufTy).Contents (Elt F) :=
  Host.divf (o_v143 (F := F)) (o_v144 (F := F))

/-- The host line 203. -/
def o_cst_18 : (⟨S_, .f32⟩ : BufTy).Contents (Elt F) :=
  (constant S_ .f32 0x461C4000#32)

/-- The host line 204. -/
def o_v146 : (⟨S16, .f32⟩ : BufTy).Contents (Elt F) :=
  broadcastInDim S16 ![] bcast_S_S16 (o_cst_18 (F := F))

/-- The host line 205. -/
def o_v147 : (⟨S16, .f32⟩ : BufTy).Contents (Elt F) :=
  Host.powf (o_v146 (F := F)) (o_v145 (F := F))

/-- The host line 206. -/
def o_v148 : (⟨S2048x1, .f32⟩ : BufTy).Contents (Elt F) :=
  broadcastInDim S2048x1 ![0] bcast_S2048_S2048x1_0 (o_v135 (F := F))

/-- The host line 207. -/
def o_v149 : (⟨S1x16, .f32⟩ : BufTy).Contents (Elt F) :=
  broadcastInDim S1x16 ![1] bcast_S16_S1x16_1 (o_v147 (F := F))

/-- The host line 208. -/
def o_v150 : (⟨S2048x16, .f32⟩ : BufTy).Contents (Elt F) :=
  broadcastInDim S2048x16 ![0, 1] bcast_S2048x1_S2048x16_0_1 (o_v148 (F := F))

/-- The host line 209. -/
def o_v151 : (⟨S2048x16, .f32⟩ : BufTy).Contents (Elt F) :=
  broadcastInDim S2048x16 ![0, 1] bcast_S1x16_S2048x16_0_1 (o_v149 (F := F))

/-- The host line 210. -/
def o_v152 : (⟨S2048x16, .f32⟩ : BufTy).Contents (Elt F) :=
  mulf (o_v150 (F := F)) (o_v151 (F := F))

/-- The host line 211. -/
def o_v153 : (⟨S2048x1, .f32⟩ : BufTy).Contents (Elt F) :=
  broadcastInDim S2048x1 ![0] bcast_S2048_S2048x1_0 (o_v137 (F := F))

/-- The host line 212. -/
def o_v154 : (⟨S1x16, .f32⟩ : BufTy).Contents (Elt F) :=
  broadcastInDim S1x16 ![1] bcast_S16_S1x16_1 (o_v147 (F := F))

/-- The host line 213. -/
def o_v155 : (⟨S2048x16, .f32⟩ : BufTy).Contents (Elt F) :=
  broadcastInDim S2048x16 ![0, 1] bcast_S2048x1_S2048x16_0_1 (o_v153 (F := F))

/-- The host line 214. -/
def o_v156 : (⟨S2048x16, .f32⟩ : BufTy).Contents (Elt F) :=
  broadcastInDim S2048x16 ![0, 1] bcast_S1x16_S2048x16_0_1 (o_v154 (F := F))

/-- The host line 215. -/
def o_v157 : (⟨S2048x16, .f32⟩ : BufTy).Contents (Elt F) :=
  mulf (o_v155 (F := F)) (o_v156 (F := F))

/-- The host line 216. -/
def o_cst_19 : (⟨S_, .f32⟩ : BufTy).Contents (Elt F) :=
  (constant S_ .f32 0x3F800000#32)

/-- The host line 217. -/
def o_v158 : (⟨S2048x64, .f32⟩ : BufTy).Contents (Elt F) :=
  broadcastInDim S2048x64 ![] bcast_S_S2048x64 (o_cst_19 (F := F))

/-- The host line 218. -/
def o_cst_20 : (⟨S_, .f32⟩ : BufTy).Contents (Elt F) :=
  (constant S_ .f32 0x00000000#32)

/-- The host line 219. -/
def o_v159 : (⟨S2048x64, .f32⟩ : BufTy).Contents (Elt F) :=
  broadcastInDim S2048x64 ![] bcast_S_S2048x64 (o_cst_20 (F := F))

/-- The host line 220. -/
def o_v160 : (⟨S2048x16, .f32⟩ : BufTy).Contents (Elt F) :=
  Host.cos (o_v152 (F := F))

/-- The host line 221. -/
def o_v161 : (⟨S2048x16, .f32⟩ : BufTy).Contents (Elt F) :=
  Host.cos (o_v152 (F := F))

/-- The host line 222. -/
def o_v162 : (⟨S2048x16, .f32⟩ : BufTy).Contents (Elt F) :=
  Host.cos (o_v157 (F := F))

/-- The host line 223. -/
def o_v163 : (⟨S2048x16, .f32⟩ : BufTy).Contents (Elt F) :=
  Host.cos (o_v157 (F := F))

/-- The host line 224. -/
def o_v164 : (⟨S2048x128, .f32⟩ : BufTy).Contents (Elt F) :=
  concatenate S2048x128 1 [⟨S2048x16, (o_v160 (F := F))⟩, ⟨S2048x16, (o_v161 (F := F))⟩, ⟨S2048x16, (o_v162 (F := F))⟩, ⟨S2048x16, (o_v163 (F := F))⟩, ⟨S2048x64, (o_v158 (F := F))⟩] concatenates_S2048x16_S2048x16_S2048x16_S2048x16_S2048x64_S2048x128_d1

/-- The host line 225. -/
def o_v165 : (⟨S2048x16, .f32⟩ : BufTy).Contents (Elt F) :=
  Host.sin (o_v152 (F := F))

/-- The host line 226. -/
def o_v166 : (⟨S2048x16, .f32⟩ : BufTy).Contents (Elt F) :=
  Host.negf (o_v165 (F := F))

/-- The host line 227. -/
def o_v167 : (⟨S2048x16, .f32⟩ : BufTy).Contents (Elt F) :=
  Host.sin (o_v152 (F := F))

/-- The host line 228. -/
def o_v168 : (⟨S2048x16, .f32⟩ : BufTy).Contents (Elt F) :=
  Host.sin (o_v157 (F := F))

/-- The host line 229. -/
def o_v169 : (⟨S2048x16, .f32⟩ : BufTy).Contents (Elt F) :=
  Host.negf (o_v168 (F := F))

/-- The host line 230. -/
def o_v170 : (⟨S2048x16, .f32⟩ : BufTy).Contents (Elt F) :=
  Host.sin (o_v157 (F := F))

/-- The host line 231. -/
def o_v171 : (⟨S2048x128, .f32⟩ : BufTy).Contents (Elt F) :=
  concatenate S2048x128 1 [⟨S2048x16, (o_v166 (F := F))⟩, ⟨S2048x16, (o_v167 (F := F))⟩, ⟨S2048x16, (o_v169 (F := F))⟩, ⟨S2048x16, (o_v170 (F := F))⟩, ⟨S2048x64, (o_v159 (F := F))⟩] concatenates_S2048x16_S2048x16_S2048x16_S2048x16_S2048x64_S2048x128_d1

/-- The host line 232. -/
def o_v172 : (⟨S1x2048x1x128, .f32⟩ : BufTy).Contents (Elt F) :=
  shapeCast _ (o_v164 (F := F)) shapeCasts_S2048x128_S1x2048x1x128

/-- The host line 233. -/
def o_v173 : (⟨S2x2048x1x128, .f32⟩ : BufTy).Contents (Elt F) :=
  broadcastInDim S2x2048x1x128 ![0, 1, 2, 3] bcast_S1x2048x1x128_S2x2048x1x128_0_1_2_3 (o_v172 (F := F))

/-- The host line 234. -/
def o_v174 : (⟨S4096x128, .f32⟩ : BufTy).Contents (Elt F) :=
  shapeCast _ (o_v173 (F := F)) shapeCasts_S2x2048x1x128_S4096x128

/-- The host line 235. -/
def o_cst_21 : (⟨S_, .f32⟩ : BufTy).Contents (Elt F) :=
  (constant S_ .f32 0x3F800000#32)

/-- The host line 236. -/
def o_v175 : (⟨S512x128, .f32⟩ : BufTy).Contents (Elt F) :=
  broadcastInDim S512x128 ![] bcast_S_S512x128 (o_cst_21 (F := F))

/-- The host line 237. -/
def o_v176 : (⟨S4608x128, .f32⟩ : BufTy).Contents (Elt F) :=
  concatenate S4608x128 0 [⟨S4096x128, (o_v174 (F := F))⟩, ⟨S512x128, (o_v175 (F := F))⟩] concatenates_S4096x128_S512x128_S4608x128_d0

/-- The host line 238. -/
def o_v177 : (⟨S1x2048x1x128, .f32⟩ : BufTy).Contents (Elt F) :=
  shapeCast _ (o_v171 (F := F)) shapeCasts_S2048x128_S1x2048x1x128

/-- The host line 239. -/
def o_v178 : (⟨S2x2048x1x128, .f32⟩ : BufTy).Contents (Elt F) :=
  broadcastInDim S2x2048x1x128 ![0, 1, 2, 3] bcast_S1x2048x1x128_S2x2048x1x128_0_1_2_3 (o_v177 (F := F))

/-- The host line 240. -/
def o_v179 : (⟨S4096x128, .f32⟩ : BufTy).Contents (Elt F) :=
  shapeCast _ (o_v178 (F := F)) shapeCasts_S2x2048x1x128_S4096x128

/-- The host line 241. -/
def o_cst_22 : (⟨S_, .f32⟩ : BufTy).Contents (Elt F) :=
  (constant S_ .f32 0x00000000#32)

/-- The host line 242. -/
def o_v180 : (⟨S512x128, .f32⟩ : BufTy).Contents (Elt F) :=
  broadcastInDim S512x128 ![] bcast_S_S512x128 (o_cst_22 (F := F))

/-- The host line 243. -/
def o_v181 : (⟨S4608x128, .f32⟩ : BufTy).Contents (Elt F) :=
  concatenate S4608x128 0 [⟨S4096x128, (o_v179 (F := F))⟩, ⟨S512x128, (o_v180 (F := F))⟩] concatenates_S4096x128_S512x128_S4608x128_d0

/-- The host line 244. -/
def o_c_23 : (⟨S_, .i32⟩ : BufTy).Contents (Elt F) :=
  (constantI S_ 32 0#32)

/-- The host line 245. -/
def o_call3_v0 : (⟨S_, .f32⟩ : BufTy).Contents (Elt F) :=
  sitofp .f32 (o_c_23 (F := F))

/-- The host line 246. -/
def o_v182 : (⟨S2x2048x8x128, .f32⟩ : BufTy).Contents (Elt F) :=
  pad S2x2048x8x128 ![0, 0, 0, 0] ![0, 0, 0, 0] ![0, 0, 0, 0] (o_v125 (F := F) x0 x1 x2 x3 x4) (o_call3_v0 (F := F)) pads_S2x2048x8x128_S2x2048x8x128_000_000_000_000 h_S_

/-- The host line 247. -/
def o_v183 : (⟨S4096x1024, .f32⟩ : BufTy).Contents (Elt F) :=
  shapeCast _ (o_v182 (F := F) x0 x1 x2 x3 x4) shapeCasts_S2x2048x8x128_S4096x1024

/-- The host line 248. -/
def o_c_24 : (⟨S_, .i32⟩ : BufTy).Contents (Elt F) :=
  (constantI S_ 32 0#32)

/-- The host line 249. -/
def o_call4_v0 : (⟨S_, .f32⟩ : BufTy).Contents (Elt F) :=
  sitofp .f32 (o_c_24 (F := F))

/-- The host line 250. -/
def o_v184 : (⟨S2x2048x8x128, .f32⟩ : BufTy).Contents (Elt F) :=
  pad S2x2048x8x128 ![0, 0, 0, 0] ![0, 0, 0, 0] ![0, 0, 0, 0] (o_v129 (F := F) x0 x1 x2 x3) (o_call4_v0 (F := F)) pads_S2x2048x8x128_S2x2048x8x128_000_000_000_000 h_S_

/-- The host line 251. -/
def o_v185 : (⟨S4096x1024, .f32⟩ : BufTy).Contents (Elt F) :=
  shapeCast _ (o_v184 (F := F) x0 x1 x2 x3) shapeCasts_S2x2048x8x128_S4096x1024

/-- The host line 252. -/
def o_c_25 : (⟨S_, .i32⟩ : BufTy).Contents (Elt F) :=
  (constantI S_ 32 0#32)

/-- The host line 253. -/
def o_call5_v0 : (⟨S_, .f32⟩ : BufTy).Contents (Elt F) :=
  sitofp .f32 (o_c_25 (F := F))

/-- The host line 254. -/
def o_v186 : (⟨S2x2048x8x256, .f32⟩ : BufTy).Contents (Elt F) :=
  pad S2x2048x8x256 ![0, 0, 0, 0] ![0, 0, 0, 64] ![0, 0, 0, 0] (o_v132 (F := F) x0 x1 x2) (o_call5_v0 (F := F)) pads_S2x2048x8x192_S2x2048x8x256_000_000_000_0640 h_S_

/-- The host line 255. -/
def o_v187 : (⟨S4096x2048, .f32⟩ : BufTy).Contents (Elt F) :=
  shapeCast _ (o_v186 (F := F) x0 x1 x2) shapeCasts_S2x2048x8x256_S4096x2048

/-- The host line 256. -/
def o_v188 : (⟨S4096x2048, .bf16⟩ : BufTy).Contents (Elt F) :=
  truncf .bf16 (o_v187 (F := F) x0 x1 x2) bitsLt_bf16_f32

/-- The host line 257. -/
def o_c_26 : (⟨S_, .i32⟩ : BufTy).Contents (Elt F) :=
  (constantI S_ 32 0#32)

/-- The host line 258. -/
def o_call6_v0 : (⟨S_, .f32⟩ : BufTy).Contents (Elt F) :=
  sitofp .f32 (o_c_26 (F := F))

/-- The host line 259. -/
def o_v189 : (⟨S2x2048x8x256, .f32⟩ : BufTy).Contents (Elt F) :=
  pad S2x2048x8x256 ![0, 0, 0, 0] ![0, 0, 0, 64] ![0, 0, 0, 0] x0 (o_call6_v0 (F := F)) pads_S2x2048x8x192_S2x2048x8x256_000_000_000_0640 h_S_

/-- The host line 260. -/
def o_v190 : (⟨S4096x2048, .f32⟩ : BufTy).Contents (Elt F) :=
  shapeCast _ (o_v189 (F := F) x0) shapeCasts_S2x2048x8x256_S4096x2048

/-- The host line 261. -/
def o_v191 : (⟨S2x2048x8x192, .f32⟩ : BufTy).Contents (Elt F) :=
  extractStridedSlice S2x2048x8x192 ![0, 0, 0, 0] x3 slices_S2x2304x8x192_S2x2048x8x192_0_0_0_0

/-- The host line 262. -/
def o_c_27 : (⟨S_, .i32⟩ : BufTy).Contents (Elt F) :=
  (constantI S_ 32 0#32)

/-- The host line 263. -/
def o_call7_v0 : (⟨S_, .f32⟩ : BufTy).Contents (Elt F) :=
  sitofp .f32 (o_c_27 (F := F))

/-- The host line 264. -/
def o_v192 : (⟨S2x2048x8x256, .f32⟩ : BufTy).Contents (Elt F) :=
  pad S2x2048x8x256 ![0, 0, 0, 0] ![0, 0, 0, 64] ![0, 0, 0, 0] (o_v191 (F := F) x3) (o_call7_v0 (F := F)) pads_S2x2048x8x192_S2x2048x8x256_000_000_000_0640 h_S_

/-- The host line 265. -/
def o_v193 : (⟨S4096x2048, .f32⟩ : BufTy).Contents (Elt F) :=
  shapeCast _ (o_v192 (F := F) x3) shapeCasts_S2x2048x8x256_S4096x2048

/-- The host line 266. -/
def o_c_28 : (⟨S_, .i32⟩ : BufTy).Contents (Elt F) :=
  (constantI S_ 32 0#32)

/-- The host line 267. -/
def o_call8_v0 : (⟨S_, .f32⟩ : BufTy).Contents (Elt F) :=
  sitofp .f32 (o_c_28 (F := F))

/-- The host line 268. -/
def o_v194 : (⟨S2x256x8x256, .f32⟩ : BufTy).Contents (Elt F) :=
  pad S2x256x8x256 ![0, 0, 0, 0] ![0, 0, 0, 64] ![0, 0, 0, 0] (o_v34 (F := F) x3) (o_call8_v0 (F := F)) pads_S2x256x8x192_S2x256x8x256_000_000_000_0640 h_S_

/-- The host line 269. -/
def o_v195 : (⟨S512x2048, .f32⟩ : BufTy).Contents (Elt F) :=
  shapeCast _ (o_v194 (F := F) x3) shapeCasts_S2x256x8x256_S512x2048

/-- The host line 270. -/
def o_v196 : (⟨S4608x2048, .f32⟩ : BufTy).Contents (Elt F) :=
  concatenate S4608x2048 0 [⟨S4096x2048, (o_v193 (F := F) x3)⟩, ⟨S512x2048, (o_v195 (F := F) x3)⟩] concatenates_S4096x2048_S512x2048_S4608x2048_d0

/-- The host line 271. -/
def o_v197 : (⟨S4608x2048, .bf16⟩ : BufTy).Contents (Elt F) :=
  truncf .bf16 (o_v196 (F := F) x3) bitsLt_bf16_f32

/-- The host line 272. -/
def o_v198 : (⟨S2x2048x8x128, .f32⟩ : BufTy).Contents (Elt F) :=
  extractStridedSlice S2x2048x8x128 ![0, 0, 0, 0] x4 slices_S2x2304x8x128_S2x2048x8x128_0_0_0_0

/-- The host line 273. -/
def o_c_29 : (⟨S_, .i32⟩ : BufTy).Contents (Elt F) :=
  (constantI S_ 32 0#32)

/-- The host line 274. -/
def o_call9_v0 : (⟨S_, .f32⟩ : BufTy).Contents (Elt F) :=
  sitofp .f32 (o_c_29 (F := F))

/-- The host line 275. -/
def o_v199 : (⟨S2x2048x8x128, .f32⟩ : BufTy).Contents (Elt F) :=
  pad S2x2048x8x128 ![0, 0, 0, 0] ![0, 0, 0, 0] ![0, 0, 0, 0] (o_v198 (F := F) x4) (o_call9_v0 (F := F)) pads_S2x2048x8x128_S2x2048x8x128_000_000_000_000 h_S_

/-- The host line 276. -/
def o_v200 : (⟨S4096x1024, .f32⟩ : BufTy).Contents (Elt F) :=
  shapeCast _ (o_v199 (F := F) x4) shapeCasts_S2x2048x8x128_S4096x1024

/-- The host line 277. -/
def o_c_30 : (⟨S_, .i32⟩ : BufTy).Contents (Elt F) :=
  (constantI S_ 32 0#32)

/-- The host line 278. -/
def o_call10_v0 : (⟨S_, .f32⟩ : BufTy).Contents (Elt F) :=
  sitofp .f32 (o_c_30 (F := F))

/-- The host line 279. -/
def o_v201 : (⟨S2x256x8x128, .f32⟩ : BufTy).Contents (Elt F) :=
  pad S2x256x8x128 ![0, 0, 0, 0] ![0, 0, 0, 0] ![0, 0, 0, 0] (o_v35 (F := F) x4) (o_call10_v0 (F := F)) pads_S2x256x8x128_S2x256x8x128_000_000_000_000 h_S_

/-- The host line 280. -/
def o_v202 : (⟨S512x1024, .f32⟩ : BufTy).Contents (Elt F) :=
  shapeCast _ (o_v201 (F := F) x4) shapeCasts_S2x256x8x128_S512x1024

/-- The host line 281. -/
def o_v203 : (⟨S4608x1024, .f32⟩ : BufTy).Contents (Elt F) :=
  concatenate S4608x1024 0 [⟨S4096x1024, (o_v200 (F := F) x4)⟩, ⟨S512x1024, (o_v202 (F := F) x4)⟩] concatenates_S4096x1024_S512x1024_S4608x1024_d0

/-- The host line 282. -/
def o_v204 : (⟨S4608x1024, .bf16⟩ : BufTy).Contents (Elt F) :=
  truncf .bf16 (o_v203 (F := F) x4) bitsLt_bf16_f32

end Cert.Proof.Host
-- ==== Proof.Host.Own.lean ====
module

public import proofs.«01_k».proof.Proof.Host.Shared
public import proofs.«01_k».proof.Proof.Host.Stages
/-! Each array the host leaves for the kernel is the stage of that line. -/

@[expose] public section

set_option maxRecDepth 16384

noncomputable section

namespace Cert.Proof.Host

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]
variable (m : (ℓ : Loc nD τ sig) → Buf (Elt F) ℓ) (c : Dev nD)

theorem t_v33 : W m c main_v33 = o_v33 (F := F) (W m c main_arg5) := by
  rw [stepCast m c 37 (x := main_arg5) (y := main_v33) rfl (by decide) (by decide)]; rfl

theorem t_v34 : W m c main_v34 = o_v34 (F := F) (W m c main_arg3) := by
  rw [step1 m c 38 (x := main_arg3) (y := main_v34) rfl (by decide) (by decide)]; rfl

theorem t_v35 : W m c main_v35 = o_v35 (F := F) (W m c main_arg4) := by
  rw [step1 m c 39 (x := main_arg4) (y := main_v35) rfl (by decide) (by decide)]; rfl

theorem t_v36 : W m c main_v36 = o_v36 (F := F) (W m c main_arg1) := by
  rw [step1 m c 40 (x := main_arg1) (y := main_v36) rfl (by decide) (by decide)]; rfl

theorem t_v37 : W m c main_v37 = o_v37 (F := F) (W m c main_arg2) := by
  rw [step1 m c 41 (x := main_arg2) (y := main_v37) rfl (by decide) (by decide)]; rfl

theorem t_c : W m c main_c = o_c (F := F)  := by
  rw [step0 m c 42 (y := main_c) rfl (by decide)]; rfl

theorem t_call0_v0 : W m c main_call0_v0 = o_call0_v0 (F := F)  := by
  rw [step1 m c 43 (x := main_c) (y := main_call0_v0) rfl (by decide) (by decide), t_c]; rfl

theorem t_v38 : W m c main_v38 = o_v38 (F := F) (W m c main_arg2) := by
  rw [step2 m c 44 (a := main_v37) (b := main_call0_v0) (y := main_v38) rfl (by decide) (by decide) (by decide), t_v37, t_call0_v0]; rfl

theorem t_v116 : W m c main_v116 = o_v116 (F := F) (W m c main_arg0) (W m c main_arg1) (W m c main_arg2) (W m c main_arg3) := by
  rw [step1 m c 130 (x := main_v115) (y := main_v116) rfl (by decide) (by decide), h_v115]; rfl

theorem t_v117 : W m c main_v117 = o_v117 (F := F) (W m c main_arg0) (W m c main_arg1) (W m c main_arg2) (W m c main_arg3) := by
  rw [step1 m c 131 (x := main_v116) (y := main_v117) rfl (by decide) (by decide), t_v116]; rfl

theorem t_v118 : W m c main_v118 = o_v118 (F := F) (W m c main_arg0) (W m c main_arg1) (W m c main_arg2) (W m c main_arg3) := by
  rw [step2 m c 132 (a := main_v114) (b := main_v117) (y := main_v118) rfl (by decide) (by decide) (by decide), h_v114, t_v117]; rfl

theorem t_v119 : W m c main_v119 = o_v119 (F := F) (W m c main_arg0) (W m c main_arg1) (W m c main_arg2) (W m c main_arg3) := by
  rw [step1 m c 133 (x := main_v118) (y := main_v119) rfl (by decide) (by decide), t_v118]; rfl

theorem t_cst_11 : W m c main_cst_11 = o_cst_11 (F := F)  := by
  rw [step0 m c 134 (y := main_cst_11) rfl (by decide)]; rfl

theorem t_v120 : W m c main_v120 = o_v120 (F := F) (W m c main_arg0) (W m c main_arg1) (W m c main_arg2) (W m c main_arg3) := by
  rw [step2 m c 135 (a := main_v119) (b := main_cst_11) (y := main_v120) rfl (by decide) (by decide) (by decide), t_v119, t_cst_11]; rfl

theorem t_v121 : W m c main_v121 = o_v121 (F := F) (W m c main_arg0) (W m c main_arg1) (W m c main_arg2) (W m c main_arg3) := by
  rw [step1 m c 136 (x := main_v120) (y := main_v121) rfl (by decide) (by decide), t_v120]; rfl

theorem t_v122 : W m c main_v122 = o_v122 (F := F) (W m c main_arg0) (W m c main_arg1) (W m c main_arg2) (W m c main_arg3) := by
  rw [step1 m c 137 (x := main_v121) (y := main_v122) rfl (by decide) (by decide), t_v121]; rfl

theorem t_v123 : W m c main_v123 = o_v123 (F := F) (W m c main_arg0) (W m c main_arg1) (W m c main_arg2) (W m c main_arg3) := by
  rw [step2 m c 138 (a := main_v119) (b := main_v122) (y := main_v123) rfl (by decide) (by decide) (by decide), t_v119, t_v122]; rfl

theorem t_v124 : W m c main_v124 = o_v124 (F := F) (W m c main_arg0) (W m c main_arg1) (W m c main_arg2) (W m c main_arg3) (W m c main_arg4) := by
  rw [step2 m c 139 (a := main_arg4) (b := main_v123) (y := main_v124) rfl (by decide) (by decide) (by decide), t_v123]; rfl

theorem t_v125 : W m c main_v125 = o_v125 (F := F) (W m c main_arg0) (W m c main_arg1) (W m c main_arg2) (W m c main_arg3) (W m c main_arg4) := by
  rw [step1 m c 140 (x := main_v124) (y := main_v125) rfl (by decide) (by decide), t_v124]; rfl

theorem t_v126 : W m c main_v126 = o_v126 (F := F) (W m c main_arg0) (W m c main_arg1) (W m c main_arg2) (W m c main_arg3) := by
  rw [step1 m c 141 (x := main_v121) (y := main_v126) rfl (by decide) (by decide), t_v121]; rfl

theorem t_v127 : W m c main_v127 = o_v127 (F := F) (W m c main_arg0) (W m c main_arg1) (W m c main_arg2) (W m c main_arg3) := by
  rw [step2 m c 142 (a := main_v116) (b := main_v126) (y := main_v127) rfl (by decide) (by decide) (by decide), t_v116, t_v126]; rfl

theorem t_v128 : W m c main_v128 = o_v128 (F := F) (W m c main_arg0) (W m c main_arg1) (W m c main_arg2) (W m c main_arg3) := by
  rw [step1 m c 143 (x := main_v127) (y := main_v128) rfl (by decide) (by decide), t_v127]; rfl

theorem t_v129 : W m c main_v129 = o_v129 (F := F) (W m c main_arg0) (W m c main_arg1) (W m c main_arg2) (W m c main_arg3) := by
  rw [step1 m c 144 (x := main_v128) (y := main_v129) rfl (by decide) (by decide), t_v128]; rfl

theorem t_v130 : W m c main_v130 = o_v130 (F := F) (W m c main_arg0) (W m c main_arg1) (W m c main_arg2) := by
  rw [step2 m c 145 (a := main_v53) (b := main_v107) (y := main_v130) rfl (by decide) (by decide) (by decide), h_v53, h_v107]; rfl

theorem t_cst_12 : W m c main_cst_12 = o_cst_12 (F := F)  := by
  rw [step0 m c 146 (y := main_cst_12) rfl (by decide)]; rfl

theorem t_v131 : W m c main_v131 = o_v131 (F := F)  := by
  rw [step1 m c 147 (x := main_cst_12) (y := main_v131) rfl (by decide) (by decide), t_cst_12]; rfl

theorem t_v132 : W m c main_v132 = o_v132 (F := F) (W m c main_arg0) (W m c main_arg1) (W m c main_arg2) := by
  rw [step2 m c 148 (a := main_v130) (b := main_v131) (y := main_v132) rfl (by decide) (by decide) (by decide), t_v130, t_v131]; rfl

theorem t_v133 : W m c main_v133 = o_v133 (F := F)  := by
  rw [step0 m c 149 (y := main_v133) rfl (by decide)]; rfl

theorem t_c_13 : W m c main_c_13 = o_c_13 (F := F)  := by
  rw [step0 m c 150 (y := main_c_13) rfl (by decide)]; rfl

theorem t_call1_v0 : W m c main_call1_v0 = o_call1_v0 (F := F)  := by
  rw [step1 m c 151 (x := main_c_13) (y := main_call1_v0) rfl (by decide) (by decide), t_c_13]; rfl

theorem t_call1_v1 : W m c main_call1_v1 = o_call1_v1 (F := F)  := by
  rw [step1 m c 152 (x := main_call1_v0) (y := main_call1_v1) rfl (by decide) (by decide), t_call1_v0]; rfl

theorem t_call1_v2 : W m c main_call1_v2 = o_call1_v2 (F := F)  := by
  rw [step2 m c 153 (a := main_v133) (b := main_call1_v1) (y := main_call1_v2) rfl (by decide) (by decide) (by decide), t_v133, t_call1_v1]; rfl

theorem t_call1_v3 : W m c main_call1_v3 = o_call1_v3 (F := F)  := by
  rw [step1 m c 154 (x := main_v133) (y := main_call1_v3) rfl (by decide) (by decide), t_v133]; rfl

theorem t_call1_v4 : W m c main_call1_v4 = o_call1_v4 (F := F)  := by
  rw [step1 m c 155 (x := main_call1_v0) (y := main_call1_v4) rfl (by decide) (by decide), t_call1_v0]; rfl

theorem t_call1_v5 : W m c main_call1_v5 = o_call1_v5 (F := F)  := by
  rw [step1 m c 156 (x := main_call1_v4) (y := main_call1_v5) rfl (by decide) (by decide), t_call1_v4]; rfl

theorem t_call1_v6 : W m c main_call1_v6 = o_call1_v6 (F := F)  := by
  rw [step2 m c 157 (a := main_call1_v3) (b := main_call1_v5) (y := main_call1_v6) rfl (by decide) (by decide) (by decide), t_call1_v3, t_call1_v5]; rfl

theorem t_call1_v7 : W m c main_call1_v7 = o_call1_v7 (F := F)  := by
  rw [step1 m c 158 (x := main_call1_v0) (y := main_call1_v7) rfl (by decide) (by decide), t_call1_v0]; rfl

theorem t_call1_v8 : W m c main_call1_v8 = o_call1_v8 (F := F)  := by
  rw [step2 m c 159 (a := main_v133) (b := main_call1_v7) (y := main_call1_v8) rfl (by decide) (by decide) (by decide), t_v133, t_call1_v7]; rfl

theorem t_call1_c : W m c main_call1_c = o_call1_c (F := F)  := by
  rw [step0 m c 160 (y := main_call1_c) rfl (by decide)]; rfl

theorem t_call1_v9 : W m c main_call1_v9 = o_call1_v9 (F := F)  := by
  rw [step1 m c 161 (x := main_call1_c) (y := main_call1_v9) rfl (by decide) (by decide), t_call1_c]; rfl

theorem t_call1_v10 : W m c main_call1_v10 = o_call1_v10 (F := F)  := by
  rw [step2 m c 162 (a := main_call1_v8) (b := main_call1_v9) (y := main_call1_v10) rfl (by decide) (by decide) (by decide), t_call1_v8, t_call1_v9]; rfl

theorem t_call1_v11 : W m c main_call1_v11 = o_call1_v11 (F := F)  := by
  rw [step2 m c 163 (a := main_call1_v6) (b := main_call1_v10) (y := main_call1_v11) rfl (by decide) (by decide) (by decide), t_call1_v6, t_call1_v10]; rfl

theorem t_call1_c_0 : W m c main_call1_c_0 = o_call1_c_0 (F := F)  := by
  rw [step0 m c 164 (y := main_call1_c_0) rfl (by decide)]; rfl

theorem t_call1_v12 : W m c main_call1_v12 = o_call1_v12 (F := F)  := by
  rw [step1 m c 165 (x := main_call1_c_0) (y := main_call1_v12) rfl (by decide) (by decide), t_call1_c_0]; rfl

theorem t_call1_v13 : W m c main_call1_v13 = o_call1_v13 (F := F)  := by
  rw [step2 m c 166 (a := main_call1_v2) (b := main_call1_v12) (y := main_call1_v13) rfl (by decide) (by decide) (by decide), t_call1_v2, t_call1_v12]; rfl

theorem t_v134 : W m c main_v134 = o_v134 (F := F)  := by
  rw [step3 m c 167 (p := main_call1_v11) (a := main_call1_v13) (b := main_call1_v2) (y := main_v134) rfl (by decide) (by decide) (by decide) (by decide), t_call1_v11, t_call1_v13, t_call1_v2]; rfl

theorem t_v135 : W m c main_v135 = o_v135 (F := F)  := by
  rw [step1 m c 168 (x := main_v134) (y := main_v135) rfl (by decide) (by decide), t_v134]; rfl

theorem t_c_14 : W m c main_c_14 = o_c_14 (F := F)  := by
  rw [step0 m c 169 (y := main_c_14) rfl (by decide)]; rfl

theorem t_call2_v0 : W m c main_call2_v0 = o_call2_v0 (F := F)  := by
  rw [step1 m c 170 (x := main_c_14) (y := main_call2_v0) rfl (by decide) (by decide), t_c_14]; rfl

theorem t_call2_c : W m c main_call2_c = o_call2_c (F := F)  := by
  rw [step0 m c 171 (y := main_call2_c) rfl (by decide)]; rfl

theorem t_call2_v1 : W m c main_call2_v1 = o_call2_v1 (F := F)  := by
  rw [step2 m c 172 (a := main_call2_v0) (b := main_call2_c) (y := main_call2_v1) rfl (by decide) (by decide) (by decide), t_call2_v0, t_call2_c]; rfl

theorem t_call2_c_0 : W m c main_call2_c_0 = o_call2_c_0 (F := F)  := by
  rw [step0 m c 173 (y := main_call2_c_0) rfl (by decide)]; rfl

theorem t_call2_v2 : W m c main_call2_v2 = o_call2_v2 (F := F)  := by
  rw [step3 m c 174 (p := main_call2_v1) (a := main_call2_c_0) (b := main_call2_v0) (y := main_call2_v2) rfl (by decide) (by decide) (by decide) (by decide), t_call2_v1, t_call2_c_0, t_call2_v0]; rfl

theorem t_call2_v3 : W m c main_call2_v3 = o_call2_v3 (F := F)  := by
  rw [step1 m c 175 (x := main_call2_v2) (y := main_call2_v3) rfl (by decide) (by decide), t_call2_v2]; rfl

theorem t_call2_v4 : W m c main_call2_v4 = o_call2_v4 (F := F)  := by
  rw [step2 m c 176 (a := main_v133) (b := main_call2_v3) (y := main_call2_v4) rfl (by decide) (by decide) (by decide), t_v133, t_call2_v3]; rfl

theorem t_call2_c_1 : W m c main_call2_c_1 = o_call2_c_1 (F := F)  := by
  rw [step0 m c 177 (y := main_call2_c_1) rfl (by decide)]; rfl

theorem t_call2_v5 : W m c main_call2_v5 = o_call2_v5 (F := F)  := by
  rw [step1 m c 178 (x := main_call2_c_1) (y := main_call2_v5) rfl (by decide) (by decide), t_call2_c_1]; rfl

theorem t_call2_v6 : W m c main_call2_v6 = o_call2_v6 (F := F)  := by
  rw [step2 m c 179 (a := main_call2_v4) (b := main_call2_v5) (y := main_call2_v6) rfl (by decide) (by decide) (by decide), t_call2_v4, t_call2_v5]; rfl

theorem t_call2_c_2 : W m c main_call2_c_2 = o_call2_c_2 (F := F)  := by
  rw [step0 m c 180 (y := main_call2_c_2) rfl (by decide)]; rfl

theorem t_call2_v7 : W m c main_call2_v7 = o_call2_v7 (F := F)  := by
  rw [step1 m c 181 (x := main_call2_c_2) (y := main_call2_v7) rfl (by decide) (by decide), t_call2_c_2]; rfl

theorem t_call2_v8 : W m c main_call2_v8 = o_call2_v8 (F := F)  := by
  rw [step2 m c 182 (a := main_call2_v4) (b := main_call2_v7) (y := main_call2_v8) rfl (by decide) (by decide) (by decide), t_call2_v4, t_call2_v7]; rfl

theorem t_call2_c_3 : W m c main_call2_c_3 = o_call2_c_3 (F := F)  := by
  rw [step0 m c 183 (y := main_call2_c_3) rfl (by decide)]; rfl

theorem t_call2_v9 : W m c main_call2_v9 = o_call2_v9 (F := F)  := by
  rw [step2 m c 184 (a := main_call2_v2) (b := main_call2_c_3) (y := main_call2_v9) rfl (by decide) (by decide) (by decide), t_call2_v2, t_call2_c_3]; rfl

theorem t_call2_v10 : W m c main_call2_v10 = o_call2_v10 (F := F)  := by
  rw [step1 m c 185 (x := main_call2_v9) (y := main_call2_v10) rfl (by decide) (by decide), t_call2_v9]; rfl

theorem t_call2_v11 : W m c main_call2_v11 = o_call2_v11 (F := F)  := by
  rw [step2 m c 186 (a := main_call2_v8) (b := main_call2_v10) (y := main_call2_v11) rfl (by decide) (by decide) (by decide), t_call2_v8, t_call2_v10]; rfl

theorem t_call2_v12 : W m c main_call2_v12 = o_call2_v12 (F := F)  := by
  rw [step2 m c 187 (a := main_call2_v11) (b := main_call2_v6) (y := main_call2_v12) rfl (by decide) (by decide) (by decide), t_call2_v11, t_call2_v6]; rfl

theorem t_call2_v13 : W m c main_call2_v13 = o_call2_v13 (F := F)  := by
  rw [step1 m c 188 (x := main_call2_v2) (y := main_call2_v13) rfl (by decide) (by decide), t_call2_v2]; rfl

theorem t_call2_v14 : W m c main_call2_v14 = o_call2_v14 (F := F)  := by
  rw [step2 m c 189 (a := main_call2_v4) (b := main_call2_v13) (y := main_call2_v14) rfl (by decide) (by decide) (by decide), t_call2_v4, t_call2_v13]; rfl

theorem t_v136 : W m c main_v136 = o_v136 (F := F)  := by
  rw [step3 m c 190 (p := main_call2_v12) (a := main_call2_v14) (b := main_call2_v4) (y := main_v136) rfl (by decide) (by decide) (by decide) (by decide), t_call2_v12, t_call2_v14, t_call2_v4]; rfl

theorem t_v137 : W m c main_v137 = o_v137 (F := F)  := by
  rw [step1 m c 191 (x := main_v136) (y := main_v137) rfl (by decide) (by decide), t_v136]; rfl

theorem t_v138 : W m c main_v138 = o_v138 (F := F)  := by
  rw [step0 m c 192 (y := main_v138) rfl (by decide)]; rfl

theorem t_cst_15 : W m c main_cst_15 = o_cst_15 (F := F)  := by
  rw [step0 m c 193 (y := main_cst_15) rfl (by decide)]; rfl

theorem t_v139 : W m c main_v139 = o_v139 (F := F)  := by
  rw [step1 m c 194 (x := main_cst_15) (y := main_v139) rfl (by decide) (by decide), t_cst_15]; rfl

theorem t_v140 : W m c main_v140 = o_v140 (F := F)  := by
  rw [step2 m c 195 (a := main_v139) (b := main_v138) (y := main_v140) rfl (by decide) (by decide) (by decide), t_v139, t_v138]; rfl

theorem t_cst_16 : W m c main_cst_16 = o_cst_16 (F := F)  := by
  rw [step0 m c 196 (y := main_cst_16) rfl (by decide)]; rfl

theorem t_v141 : W m c main_v141 = o_v141 (F := F)  := by
  rw [step1 m c 197 (x := main_cst_16) (y := main_v141) rfl (by decide) (by decide), t_cst_16]; rfl

theorem t_v142 : W m c main_v142 = o_v142 (F := F)  := by
  rw [step2 m c 198 (a := main_v141) (b := main_v140) (y := main_v142) rfl (by decide) (by decide) (by decide), t_v141, t_v140]; rfl

theorem t_v143 : W m c main_v143 = o_v143 (F := F)  := by
  rw [step1 m c 199 (x := main_v142) (y := main_v143) rfl (by decide) (by decide), t_v142]; rfl

theorem t_cst_17 : W m c main_cst_17 = o_cst_17 (F := F)  := by
  rw [step0 m c 200 (y := main_cst_17) rfl (by decide)]; rfl

theorem t_v144 : W m c main_v144 = o_v144 (F := F)  := by
  rw [step1 m c 201 (x := main_cst_17) (y := main_v144) rfl (by decide) (by decide), t_cst_17]; rfl

theorem t_v145 : W m c main_v145 = o_v145 (F := F)  := by
  rw [step2 m c 202 (a := main_v143) (b := main_v144) (y := main_v145) rfl (by decide) (by decide) (by decide), t_v143, t_v144]; rfl

theorem t_cst_18 : W m c main_cst_18 = o_cst_18 (F := F)  := by
  rw [step0 m c 203 (y := main_cst_18) rfl (by decide)]; rfl

theorem t_v146 : W m c main_v146 = o_v146 (F := F)  := by
  rw [step1 m c 204 (x := main_cst_18) (y := main_v146) rfl (by decide) (by decide), t_cst_18]; rfl

theorem t_v147 : W m c main_v147 = o_v147 (F := F)  := by
  rw [step2 m c 205 (a := main_v146) (b := main_v145) (y := main_v147) rfl (by decide) (by decide) (by decide), t_v146, t_v145]; rfl

theorem t_v148 : W m c main_v148 = o_v148 (F := F)  := by
  rw [step1 m c 206 (x := main_v135) (y := main_v148) rfl (by decide) (by decide), t_v135]; rfl

theorem t_v149 : W m c main_v149 = o_v149 (F := F)  := by
  rw [step1 m c 207 (x := main_v147) (y := main_v149) rfl (by decide) (by decide), t_v147]; rfl

theorem t_v150 : W m c main_v150 = o_v150 (F := F)  := by
  rw [step1 m c 208 (x := main_v148) (y := main_v150) rfl (by decide) (by decide), t_v148]; rfl

theorem t_v151 : W m c main_v151 = o_v151 (F := F)  := by
  rw [step1 m c 209 (x := main_v149) (y := main_v151) rfl (by decide) (by decide), t_v149]; rfl

theorem t_v152 : W m c main_v152 = o_v152 (F := F)  := by
  rw [step2 m c 210 (a := main_v150) (b := main_v151) (y := main_v152) rfl (by decide) (by decide) (by decide), t_v150, t_v151]; rfl

theorem t_v153 : W m c main_v153 = o_v153 (F := F)  := by
  rw [step1 m c 211 (x := main_v137) (y := main_v153) rfl (by decide) (by decide), t_v137]; rfl

theorem t_v154 : W m c main_v154 = o_v154 (F := F)  := by
  rw [step1 m c 212 (x := main_v147) (y := main_v154) rfl (by decide) (by decide), t_v147]; rfl

theorem t_v155 : W m c main_v155 = o_v155 (F := F)  := by
  rw [step1 m c 213 (x := main_v153) (y := main_v155) rfl (by decide) (by decide), t_v153]; rfl

theorem t_v156 : W m c main_v156 = o_v156 (F := F)  := by
  rw [step1 m c 214 (x := main_v154) (y := main_v156) rfl (by decide) (by decide), t_v154]; rfl

theorem t_v157 : W m c main_v157 = o_v157 (F := F)  := by
  rw [step2 m c 215 (a := main_v155) (b := main_v156) (y := main_v157) rfl (by decide) (by decide) (by decide), t_v155, t_v156]; rfl

theorem t_cst_19 : W m c main_cst_19 = o_cst_19 (F := F)  := by
  rw [step0 m c 216 (y := main_cst_19) rfl (by decide)]; rfl

theorem t_v158 : W m c main_v158 = o_v158 (F := F)  := by
  rw [step1 m c 217 (x := main_cst_19) (y := main_v158) rfl (by decide) (by decide), t_cst_19]; rfl

theorem t_cst_20 : W m c main_cst_20 = o_cst_20 (F := F)  := by
  rw [step0 m c 218 (y := main_cst_20) rfl (by decide)]; rfl

theorem t_v159 : W m c main_v159 = o_v159 (F := F)  := by
  rw [step1 m c 219 (x := main_cst_20) (y := main_v159) rfl (by decide) (by decide), t_cst_20]; rfl

theorem t_v160 : W m c main_v160 = o_v160 (F := F)  := by
  rw [step1 m c 220 (x := main_v152) (y := main_v160) rfl (by decide) (by decide), t_v152]; rfl

theorem t_v161 : W m c main_v161 = o_v161 (F := F)  := by
  rw [step1 m c 221 (x := main_v152) (y := main_v161) rfl (by decide) (by decide), t_v152]; rfl

theorem t_v162 : W m c main_v162 = o_v162 (F := F)  := by
  rw [step1 m c 222 (x := main_v157) (y := main_v162) rfl (by decide) (by decide), t_v157]; rfl

theorem t_v163 : W m c main_v163 = o_v163 (F := F)  := by
  rw [step1 m c 223 (x := main_v157) (y := main_v163) rfl (by decide) (by decide), t_v157]; rfl

/-- The five pieces of line 224. -/
theorem five_v164 (p0 : (⟨S2048x16, .f32⟩ : BufTy).Contents (Elt F)) (e0 : W m c main_v160 = p0) (p1 : (⟨S2048x16, .f32⟩ : BufTy).Contents (Elt F)) (e1 : W m c main_v161 = p1) (p2 : (⟨S2048x16, .f32⟩ : BufTy).Contents (Elt F)) (e2 : W m c main_v162 = p2) (p3 : (⟨S2048x16, .f32⟩ : BufTy).Contents (Elt F)) (e3 : W m c main_v163 = p3) (p4 : (⟨S2048x64, .f32⟩ : BufTy).Contents (Elt F)) (e4 : W m c main_v158 = p4) :
    W m c main_v164 = concatenate S2048x128 1 [⟨S2048x16, p0⟩, ⟨S2048x16, p1⟩, ⟨S2048x16, p2⟩, ⟨S2048x16, p3⟩, ⟨S2048x64, p4⟩] concatenates_S2048x16_S2048x16_S2048x16_S2048x16_S2048x64_S2048x128_d1 := by
  subst e0 e1 e2 e3 e4
  exact stepN m c 224 (y := main_v164) rfl (by decide) (by decide)

theorem t_v164 : W m c main_v164 = o_v164 (F := F)  :=
  five_v164 m c _ (t_v160 m c) _ (t_v161 m c) _ (t_v162 m c) _ (t_v163 m c) _ (t_v158 m c)

theorem t_v165 : W m c main_v165 = o_v165 (F := F)  := by
  rw [step1 m c 225 (x := main_v152) (y := main_v165) rfl (by decide) (by decide), t_v152]; rfl

theorem t_v166 : W m c main_v166 = o_v166 (F := F)  := by
  rw [step1 m c 226 (x := main_v165) (y := main_v166) rfl (by decide) (by decide), t_v165]; rfl

theorem t_v167 : W m c main_v167 = o_v167 (F := F)  := by
  rw [step1 m c 227 (x := main_v152) (y := main_v167) rfl (by decide) (by decide), t_v152]; rfl

theorem t_v168 : W m c main_v168 = o_v168 (F := F)  := by
  rw [step1 m c 228 (x := main_v157) (y := main_v168) rfl (by decide) (by decide), t_v157]; rfl

theorem t_v169 : W m c main_v169 = o_v169 (F := F)  := by
  rw [step1 m c 229 (x := main_v168) (y := main_v169) rfl (by decide) (by decide), t_v168]; rfl

theorem t_v170 : W m c main_v170 = o_v170 (F := F)  := by
  rw [step1 m c 230 (x := main_v157) (y := main_v170) rfl (by decide) (by decide), t_v157]; rfl

/-- The five pieces of line 231. -/
theorem five_v171 (p0 : (⟨S2048x16, .f32⟩ : BufTy).Contents (Elt F)) (e0 : W m c main_v166 = p0) (p1 : (⟨S2048x16, .f32⟩ : BufTy).Contents (Elt F)) (e1 : W m c main_v167 = p1) (p2 : (⟨S2048x16, .f32⟩ : BufTy).Contents (Elt F)) (e2 : W m c main_v169 = p2) (p3 : (⟨S2048x16, .f32⟩ : BufTy).Contents (Elt F)) (e3 : W m c main_v170 = p3) (p4 : (⟨S2048x64, .f32⟩ : BufTy).Contents (Elt F)) (e4 : W m c main_v159 = p4) :
    W m c main_v171 = concatenate S2048x128 1 [⟨S2048x16, p0⟩, ⟨S2048x16, p1⟩, ⟨S2048x16, p2⟩, ⟨S2048x16, p3⟩, ⟨S2048x64, p4⟩] concatenates_S2048x16_S2048x16_S2048x16_S2048x16_S2048x64_S2048x128_d1 := by
  subst e0 e1 e2 e3 e4
  exact stepN m c 231 (y := main_v171) rfl (by decide) (by decide)

theorem t_v171 : W m c main_v171 = o_v171 (F := F)  :=
  five_v171 m c _ (t_v166 m c) _ (t_v167 m c) _ (t_v169 m c) _ (t_v170 m c) _ (t_v159 m c)

theorem t_v172 : W m c main_v172 = o_v172 (F := F)  := by
  rw [stepCast m c 232 (x := main_v164) (y := main_v172) rfl (by decide) (by decide), t_v164]; rfl

theorem t_v173 : W m c main_v173 = o_v173 (F := F)  := by
  rw [step1 m c 233 (x := main_v172) (y := main_v173) rfl (by decide) (by decide), t_v172]; rfl

theorem t_v174 : W m c main_v174 = o_v174 (F := F)  := by
  rw [stepCast m c 234 (x := main_v173) (y := main_v174) rfl (by decide) (by decide), t_v173]; rfl

theorem t_cst_21 : W m c main_cst_21 = o_cst_21 (F := F)  := by
  rw [step0 m c 235 (y := main_cst_21) rfl (by decide)]; rfl

theorem t_v175 : W m c main_v175 = o_v175 (F := F)  := by
  rw [step1 m c 236 (x := main_cst_21) (y := main_v175) rfl (by decide) (by decide), t_cst_21]; rfl

theorem t_v176 : W m c main_v176 = o_v176 (F := F)  := by
  rw [step2 m c 237 (a := main_v174) (b := main_v175) (y := main_v176) rfl (by decide) (by decide) (by decide), t_v174, t_v175]; rfl

theorem t_v177 : W m c main_v177 = o_v177 (F := F)  := by
  rw [stepCast m c 238 (x := main_v171) (y := main_v177) rfl (by decide) (by decide), t_v171]; rfl

theorem t_v178 : W m c main_v178 = o_v178 (F := F)  := by
  rw [step1 m c 239 (x := main_v177) (y := main_v178) rfl (by decide) (by decide), t_v177]; rfl

theorem t_v179 : W m c main_v179 = o_v179 (F := F)  := by
  rw [stepCast m c 240 (x := main_v178) (y := main_v179) rfl (by decide) (by decide), t_v178]; rfl

theorem t_cst_22 : W m c main_cst_22 = o_cst_22 (F := F)  := by
  rw [step0 m c 241 (y := main_cst_22) rfl (by decide)]; rfl

theorem t_v180 : W m c main_v180 = o_v180 (F := F)  := by
  rw [step1 m c 242 (x := main_cst_22) (y := main_v180) rfl (by decide) (by decide), t_cst_22]; rfl

theorem t_v181 : W m c main_v181 = o_v181 (F := F)  := by
  rw [step2 m c 243 (a := main_v179) (b := main_v180) (y := main_v181) rfl (by decide) (by decide) (by decide), t_v179, t_v180]; rfl

theorem t_c_23 : W m c main_c_23 = o_c_23 (F := F)  := by
  rw [step0 m c 244 (y := main_c_23) rfl (by decide)]; rfl

theorem t_call3_v0 : W m c main_call3_v0 = o_call3_v0 (F := F)  := by
  rw [step1 m c 245 (x := main_c_23) (y := main_call3_v0) rfl (by decide) (by decide), t_c_23]; rfl

theorem t_v182 : W m c main_v182 = o_v182 (F := F) (W m c main_arg0) (W m c main_arg1) (W m c main_arg2) (W m c main_arg3) (W m c main_arg4) := by
  rw [step2 m c 246 (a := main_v125) (b := main_call3_v0) (y := main_v182) rfl (by decide) (by decide) (by decide), t_v125, t_call3_v0]; rfl

theorem t_v183 : W m c main_v183 = o_v183 (F := F) (W m c main_arg0) (W m c main_arg1) (W m c main_arg2) (W m c main_arg3) (W m c main_arg4) := by
  rw [stepCast m c 247 (x := main_v182) (y := main_v183) rfl (by decide) (by decide), t_v182]; rfl

theorem t_c_24 : W m c main_c_24 = o_c_24 (F := F)  := by
  rw [step0 m c 248 (y := main_c_24) rfl (by decide)]; rfl

theorem t_call4_v0 : W m c main_call4_v0 = o_call4_v0 (F := F)  := by
  rw [step1 m c 249 (x := main_c_24) (y := main_call4_v0) rfl (by decide) (by decide), t_c_24]; rfl

theorem t_v184 : W m c main_v184 = o_v184 (F := F) (W m c main_arg0) (W m c main_arg1) (W m c main_arg2) (W m c main_arg3) := by
  rw [step2 m c 250 (a := main_v129) (b := main_call4_v0) (y := main_v184) rfl (by decide) (by decide) (by decide), t_v129, t_call4_v0]; rfl

theorem t_v185 : W m c main_v185 = o_v185 (F := F) (W m c main_arg0) (W m c main_arg1) (W m c main_arg2) (W m c main_arg3) := by
  rw [stepCast m c 251 (x := main_v184) (y := main_v185) rfl (by decide) (by decide), t_v184]; rfl

theorem t_c_25 : W m c main_c_25 = o_c_25 (F := F)  := by
  rw [step0 m c 252 (y := main_c_25) rfl (by decide)]; rfl

theorem t_call5_v0 : W m c main_call5_v0 = o_call5_v0 (F := F)  := by
  rw [step1 m c 253 (x := main_c_25) (y := main_call5_v0) rfl (by decide) (by decide), t_c_25]; rfl

theorem t_v186 : W m c main_v186 = o_v186 (F := F) (W m c main_arg0) (W m c main_arg1) (W m c main_arg2) := by
  rw [step2 m c 254 (a := main_v132) (b := main_call5_v0) (y := main_v186) rfl (by decide) (by decide) (by decide), t_v132, t_call5_v0]; rfl

theorem t_v187 : W m c main_v187 = o_v187 (F := F) (W m c main_arg0) (W m c main_arg1) (W m c main_arg2) := by
  rw [stepCast m c 255 (x := main_v186) (y := main_v187) rfl (by decide) (by decide), t_v186]; rfl

theorem t_v188 : W m c main_v188 = o_v188 (F := F) (W m c main_arg0) (W m c main_arg1) (W m c main_arg2) := by
  rw [step1 m c 256 (x := main_v187) (y := main_v188) rfl (by decide) (by decide), t_v187]; rfl

theorem t_c_26 : W m c main_c_26 = o_c_26 (F := F)  := by
  rw [step0 m c 257 (y := main_c_26) rfl (by decide)]; rfl

theorem t_call6_v0 : W m c main_call6_v0 = o_call6_v0 (F := F)  := by
  rw [step1 m c 258 (x := main_c_26) (y := main_call6_v0) rfl (by decide) (by decide), t_c_26]; rfl

theorem t_v189 : W m c main_v189 = o_v189 (F := F) (W m c main_arg0) := by
  rw [step2 m c 259 (a := main_arg0) (b := main_call6_v0) (y := main_v189) rfl (by decide) (by decide) (by decide), t_call6_v0]; rfl

theorem t_v190 : W m c main_v190 = o_v190 (F := F) (W m c main_arg0) := by
  rw [stepCast m c 260 (x := main_v189) (y := main_v190) rfl (by decide) (by decide), t_v189]; rfl

theorem t_v191 : W m c main_v191 = o_v191 (F := F) (W m c main_arg3) := by
  rw [step1 m c 261 (x := main_arg3) (y := main_v191) rfl (by decide) (by decide)]; rfl

theorem t_c_27 : W m c main_c_27 = o_c_27 (F := F)  := by
  rw [step0 m c 262 (y := main_c_27) rfl (by decide)]; rfl

theorem t_call7_v0 : W m c main_call7_v0 = o_call7_v0 (F := F)  := by
  rw [step1 m c 263 (x := main_c_27) (y := main_call7_v0) rfl (by decide) (by decide), t_c_27]; rfl

theorem t_v192 : W m c main_v192 = o_v192 (F := F) (W m c main_arg3) := by
  rw [step2 m c 264 (a := main_v191) (b := main_call7_v0) (y := main_v192) rfl (by decide) (by decide) (by decide), t_v191, t_call7_v0]; rfl

theorem t_v193 : W m c main_v193 = o_v193 (F := F) (W m c main_arg3) := by
  rw [stepCast m c 265 (x := main_v192) (y := main_v193) rfl (by decide) (by decide), t_v192]; rfl

theorem t_c_28 : W m c main_c_28 = o_c_28 (F := F)  := by
  rw [step0 m c 266 (y := main_c_28) rfl (by decide)]; rfl

theorem t_call8_v0 : W m c main_call8_v0 = o_call8_v0 (F := F)  := by
  rw [step1 m c 267 (x := main_c_28) (y := main_call8_v0) rfl (by decide) (by decide), t_c_28]; rfl

theorem t_v194 : W m c main_v194 = o_v194 (F := F) (W m c main_arg3) := by
  rw [step2 m c 268 (a := main_v34) (b := main_call8_v0) (y := main_v194) rfl (by decide) (by decide) (by decide), t_v34, t_call8_v0]; rfl

theorem t_v195 : W m c main_v195 = o_v195 (F := F) (W m c main_arg3) := by
  rw [stepCast m c 269 (x := main_v194) (y := main_v195) rfl (by decide) (by decide), t_v194]; rfl

theorem t_v196 : W m c main_v196 = o_v196 (F := F) (W m c main_arg3) := by
  rw [step2 m c 270 (a := main_v193) (b := main_v195) (y := main_v196) rfl (by decide) (by decide) (by decide), t_v193, t_v195]; rfl

theorem t_v197 : W m c main_v197 = o_v197 (F := F) (W m c main_arg3) := by
  rw [step1 m c 271 (x := main_v196) (y := main_v197) rfl (by decide) (by decide), t_v196]; rfl

theorem t_v198 : W m c main_v198 = o_v198 (F := F) (W m c main_arg4) := by
  rw [step1 m c 272 (x := main_arg4) (y := main_v198) rfl (by decide) (by decide)]; rfl

theorem t_c_29 : W m c main_c_29 = o_c_29 (F := F)  := by
  rw [step0 m c 273 (y := main_c_29) rfl (by decide)]; rfl

theorem t_call9_v0 : W m c main_call9_v0 = o_call9_v0 (F := F)  := by
  rw [step1 m c 274 (x := main_c_29) (y := main_call9_v0) rfl (by decide) (by decide), t_c_29]; rfl

theorem t_v199 : W m c main_v199 = o_v199 (F := F) (W m c main_arg4) := by
  rw [step2 m c 275 (a := main_v198) (b := main_call9_v0) (y := main_v199) rfl (by decide) (by decide) (by decide), t_v198, t_call9_v0]; rfl

theorem t_v200 : W m c main_v200 = o_v200 (F := F) (W m c main_arg4) := by
  rw [stepCast m c 276 (x := main_v199) (y := main_v200) rfl (by decide) (by decide), t_v199]; rfl

theorem t_c_30 : W m c main_c_30 = o_c_30 (F := F)  := by
  rw [step0 m c 277 (y := main_c_30) rfl (by decide)]; rfl

theorem t_call10_v0 : W m c main_call10_v0 = o_call10_v0 (F := F)  := by
  rw [step1 m c 278 (x := main_c_30) (y := main_call10_v0) rfl (by decide) (by decide), t_c_30]; rfl

theorem t_v201 : W m c main_v201 = o_v201 (F := F) (W m c main_arg4) := by
  rw [step2 m c 279 (a := main_v35) (b := main_call10_v0) (y := main_v201) rfl (by decide) (by decide) (by decide), t_v35, t_call10_v0]; rfl

theorem t_v202 : W m c main_v202 = o_v202 (F := F) (W m c main_arg4) := by
  rw [stepCast m c 280 (x := main_v201) (y := main_v202) rfl (by decide) (by decide), t_v201]; rfl

theorem t_v203 : W m c main_v203 = o_v203 (F := F) (W m c main_arg4) := by
  rw [step2 m c 281 (a := main_v200) (b := main_v202) (y := main_v203) rfl (by decide) (by decide) (by decide), t_v200, t_v202]; rfl

theorem t_v204 : W m c main_v204 = o_v204 (F := F) (W m c main_arg4) := by
  rw [step1 m c 282 (x := main_v203) (y := main_v204) rfl (by decide) (by decide), t_v203]; rfl

end Cert.Proof.Host
-- ==== Proof.Host.Arrays.lean ====
module

public import proofs.«01_k».proof.Proof.Host.Stages
public import proofs.«01_k».proof.Proof.Ref.Results
/-! What the arrays laid out for the kernel hold, entry by entry. -/

@[expose] public section

set_option maxRecDepth 16384

noncomputable section

namespace Cert.Proof.Host

open Idealize.ShloMosaic Idealize.ShloMosaic.Pointwise
open Cert.KernelIdeal Cert.KernelIdeal.Gen
open Cert.ReferenceIdeal.Read
open Cert.Proof.Ref (row crow col vcol)

variable (D : Inp) (b : Fin 2) (i : Fin 2048) (h : Fin 8)

/-- The cotangent. -/
theorem a_do (d : Fin 128) : o_v33 (F := Ideal) D.ac (ix2 (row b i) (vcol h d)) = (D.C b h i d : EReal) := by
  pointwise [o_v33, row, vcol]
  rw [D.ac_apply]; rfl

theorem v119 (j : Fin 2304) : o_v119 (F := Ideal) D.aq D.agn D.agr D.ak (ix4 b h i j) = (D.E b h i j : EReal) := by
  pointwise [o_v119, o_v118, o_v117, o_v116]
  rw [Ref.v115, Ref.v114, ← EReal.coe_sub, Ideal.exp_coe]
  rfl

theorem v121 (z : Fin 1) : o_v121 (F := Ideal) D.aq D.agn D.agr D.ak (ix4 b h i z) = (D.DEN b h i : EReal) := by
  pointwise [o_v121, o_v120, o_cst_11]
  simp only [v119, ← coe_sum]
  rfl

theorem v123 (j : Fin 2304) : o_v123 (F := Ideal) D.aq D.agn D.agr D.ak (ix4 b h i j) = (D.P b h i j : EReal) := by
  pointwise [o_v123, o_v122]
  rw [v121, v119, Ideal.div_coe (D.DEN_pos b h i).ne', ← EReal.coe_mul, D.P_eq]
  congr 1; ring

theorem zero5 (k : S_.Idx) : o_call5_v0 (F := Ideal) k = 0 := by
  pointwise [o_call5_v0, o_c_25]; exact Ref.sitofp_zero0
theorem zero6 (k : S_.Idx) : o_call6_v0 (F := Ideal) k = 0 := by
  pointwise [o_call6_v0, o_c_26]; exact Ref.sitofp_zero0
theorem zero0 (k : S_.Idx) : o_call0_v0 (F := Ideal) k = 0 := by
  pointwise [o_call0_v0, o_c]; exact Ref.sitofp_zero0

/-- The saved result of the attention. -/
theorem a_o (d : Fin 128) : o_v183 (F := Ideal) D.aq D.agn D.agr D.ak D.av (ix2 (row b i) (vcol h d)) = (D.O b h i d : EReal) := by
  pointwise [o_v183, o_v182, o_v125, o_v124, row, vcol]
  simp only [v123, D.av_apply, ← EReal.coe_mul, ← coe_sum]
  rfl

/-- A real and the logarithm of a positive real. -/
theorem add_log (x y : ℝ) (hy : 0 < y) : (x : EReal) + Ideal.log (y : EReal) = ((x + Real.log y : ℝ) : EReal) := by
  rw [Ideal.log_coe, if_neg (not_le.mpr hy), EReal.coe_add]

/-- The rows' logarithms over arrays of largest scores and sums. -/
theorem lse_row (y : FVec Ideal S2x8x2048x1 .f32) (z : FVec Ideal S2x8x2048x1 .f32) (x w : ℝ) (hw : 0 < w)
    (hy : y (ix4 b h i 0) = (x : EReal)) (hz : z (ix4 b h i 0) = (w : EReal)) :
    addf (φ := .f32) y (Host.log (φ := .f32) z) (ix4 b h i 0) = ((x + Real.log w : ℝ) : EReal) := by
  pointwise []
  rw [hy, hz]
  exact add_log x w hw

theorem v116 : o_v116 (F := Ideal) D.aq D.agn D.agr D.ak (ix4 b h i 0) = (D.M b h i : EReal) := by
  pointwise [o_v116]
  exact Ref.v115 D b i h

theorem v127 : o_v127 (F := Ideal) D.aq D.agn D.agr D.ak (ix4 b h i 0) = (D.LSE b h i : EReal) :=
  lse_row b i h _ _ _ _ (D.DEN_pos b h i) (v116 D b i h) (v121 D b i h 0)

/-- The rows' logarithms laid out over the lanes. -/
theorem lse_lay (y : FVec Ideal S2x8x2048x1 .f32) (d : Fin 128) : o_v127 (F := Ideal) D.aq D.agn D.agr D.ak = y →
    o_v185 (F := Ideal) D.aq D.agn D.agr D.ak (ix2 (row b i) (vcol h d)) = y (ix4 b h i 0) := by
  intro hy
  pointwise [o_v185, o_v184, o_v129, o_v128, row, vcol]
  rw [hy]

/-- The saved logarithms of the rows' sums. -/
theorem a_lse (d : Fin 128) : o_v185 (F := Ideal) D.aq D.agn D.agr D.ak (ix2 (row b i) (vcol h d)) = (D.LSE b h i : EReal) :=
  (lse_lay D b i h _ d rfl).trans (v127 D b i h)

/-- The turned and scaled queries. -/
theorem a_qf (e : Fin 256) : o_v188 (F := Ideal) D.aq D.agn D.agr (ix2 (row b i) (col h e)) = (D.QA b h i e : EReal) := by
  pointwise [o_v188, o_v187, o_v186, o_v132, o_v131, o_v130, o_cst_12, row, col]
  simp only [Ref.v17, Ref.v107, zero5, ofBits_sc]
  unfold Inp.QA
  split_ifs <;> first | rfl | omega

/-- The queries as they came. -/
theorem a_q (e : Fin 256) : o_v190 (F := Ideal) D.aq (ix2 (row b i) (col h e))
    = if he : e.val < 192 then D.q b i h ⟨e, he⟩ else 0 := by
  pointwise [o_v190, o_v189, row, col]
  simp only [D.aq_apply, zero6]

theorem a_gn (z : Fin 1) (d : Fin 128) : o_v36 (F := Ideal) D.agn (ix2 z d) = (D.gn d : EReal) := by
  pointwise [o_v36]
  rw [D.agn_apply]

theorem a_gr (z : Fin 1) (l : Fin 128) : o_v38 (F := Ideal) D.agr (ix2 z l) = ((if hl : l.val < 64 then D.gr ⟨l, hl⟩ else 0 : ℝ) : EReal) := by
  pointwise [o_v38, o_v37]
  split_ifs
  · rw [D.agr_apply]
  · rw [zero0]; rfl

end Cert.Proof.Host
-- ==== Proof.Host.Lay.lean ====
module

public import proofs.«01_k».proof.Proof.Host.Stages
public import proofs.«01_k».proof.Proof.Ref.Results
/-! What the keys, the values and the tables of the turns hold as laid out for the kernel, entry by entry. -/

@[expose] public section

set_option maxRecDepth 16384

noncomputable section

namespace Cert.Proof.Host

open Idealize.ShloMosaic Idealize.ShloMosaic.Pointwise
open Cert.KernelIdeal Cert.KernelIdeal.Gen
open Cert.ReferenceIdeal.Read
open Cert.Proof.Ref (row crow col vcol)

variable (D : Inp) (b : Fin 2) (i : Fin 2048) (h : Fin 8)

theorem pad7 (k : S_.Idx) : o_call7_v0 (F := Ideal) k = 0 := by
  pointwise [o_call7_v0, o_c_27]; exact Ref.sitofp_zero0
theorem pad8 (k : S_.Idx) : o_call8_v0 (F := Ideal) k = 0 := by
  pointwise [o_call8_v0, o_c_28]; exact Ref.sitofp_zero0

/-- The latents' keys. -/
theorem a_kl (j : Fin 2048) (e : Fin 256) :
    o_v197 (F := Ideal) D.ak (ix2 ⟨(row b j).val, by omega⟩ (col h e)) = (D.KA b h ⟨j, by omega⟩ e : EReal) := by
  have hr : b.val * 2048 + j.val < 4096 := by omega
  pointwise [o_v197, o_v196, o_v193, o_v192, o_v191, row, col]
  simp only [hr, dif_pos, D.ak_apply, pad7]
  unfold Inp.KA
  split_ifs <;> rfl

/-- The keys: the latents' rows, then the contexts'. -/
theorem k_rows (r : Fin 4608) (k : Fin 2048) : o_v197 (F := Ideal) D.ak (ix2 r k)
    = if hr : r.val < 4096 then o_v193 (F := Ideal) D.ak (ix2 ⟨r, hr⟩ k) else o_v195 (F := Ideal) D.ak (ix2 ⟨r - 4096, by omega⟩ k) := by
  pointwise [o_v197, o_v196]

theorem v195 (j : Fin 256) (e : Fin 256) : o_v195 (F := Ideal) D.ak (ix2 (crow b j) (col h e)) = (D.KA b h ⟨2048 + j, by omega⟩ e : EReal) := by
  pointwise [o_v195, o_v194, o_v34, crow, col]
  simp only [D.ak_apply, pad8]
  unfold Inp.KA
  split_ifs <;> rfl

/-- The contexts' keys. -/
theorem a_kc (j : Fin 256) (e : Fin 256) :
    o_v197 (F := Ideal) D.ak (ix2 ⟨4096 + (crow b j).val, by omega⟩ (col h e)) = (D.KA b h ⟨2048 + j, by omega⟩ e : EReal) := by
  rw [k_rows, dif_neg (Nat.not_lt.mpr (Nat.le_add_right 4096 _)), ← v195]
  refine congrArg (fun r => o_v195 (F := Ideal) D.ak (ix2 r (col h e))) (Fin.ext ?_)
  exact Nat.add_sub_cancel_left 4096 _

/-- The latents' values. -/
theorem a_vl (j : Fin 2048) (d : Fin 128) :
    o_v204 (F := Ideal) D.av (ix2 ⟨(row b j).val, by omega⟩ (vcol h d)) = (D.v b ⟨j, by omega⟩ h d : EReal) := by
  have hr : b.val * 2048 + j.val < 4096 := by omega
  pointwise [o_v204, o_v203, o_v200, o_v199, o_v198, row, vcol]
  simp only [hr, dif_pos, D.av_apply]

/-- The values: the latents' rows, then the contexts'. -/
theorem v_rows (r : Fin 4608) (k : Fin 1024) : o_v204 (F := Ideal) D.av (ix2 r k)
    = if hr : r.val < 4096 then o_v200 (F := Ideal) D.av (ix2 ⟨r, hr⟩ k) else o_v202 (F := Ideal) D.av (ix2 ⟨r - 4096, by omega⟩ k) := by
  pointwise [o_v204, o_v203]

theorem v202 (j : Fin 256) (d : Fin 128) : o_v202 (F := Ideal) D.av (ix2 (crow b j) (vcol h d)) = (D.v b ⟨2048 + j, by omega⟩ h d : EReal) := by
  pointwise [o_v202, o_v201, o_v35, crow, vcol]
  simp only [D.av_apply]

/-- The contexts' values. -/
theorem a_vc (j : Fin 256) (d : Fin 128) :
    o_v204 (F := Ideal) D.av (ix2 ⟨4096 + (crow b j).val, by omega⟩ (vcol h d)) = (D.v b ⟨2048 + j, by omega⟩ h d : EReal) := by
  rw [v_rows, dif_neg (Nat.not_lt.mpr (Nat.le_add_right 4096 _)), ← v202]
  refine congrArg (fun r => o_v202 (F := Ideal) D.av (ix2 r (vcol h d))) (Fin.ext ?_)
  exact Nat.add_sub_cancel_left 4096 _

/-- The floor of a word below 2048 over 64. -/
theorem row_word (i : Fin 2048) : o_v134 (F := Ideal) (ix1 i) = BitVec.ofNat 32 (i.val / 64) := by
  pointwise [o_v134, o_call1_v13, o_call1_v12, o_call1_v11, o_call1_v10, o_call1_v9, o_call1_v8, o_call1_v7, o_call1_v6,
    o_call1_v5, o_call1_v4, o_call1_v3, o_call1_v2, o_call1_v1, o_call1_v0, o_call1_c, o_call1_c_0, o_c_13, o_v133]
  revert i
  decide +kernel

/-- The rest of a word below 2048 over 64. -/
theorem col_word (i : Fin 2048) : o_v136 (F := Ideal) (ix1 i) = BitVec.ofNat 32 (i.val % 64) := by
  pointwise [o_v136, o_call2_v14, o_call2_v13, o_call2_v12, o_call2_v11, o_call2_v10, o_call2_v9, o_call2_c_3, o_call2_v8,
    o_call2_v7, o_call2_c_2, o_call2_v6, o_call2_v5, o_call2_c_1, o_call2_v4, o_call2_v3, o_call2_v2, o_call2_c_0,
    o_call2_v1, o_call2_c, o_call2_v0, o_c_14, o_v133]
  revert i
  decide +kernel

theorem v147 : o_v147 (F := Ideal) = val_main_v52 (F := Ideal) := rfl

theorem v152 (f : Fin 16) : o_v152 (F := Ideal) (ix2 i f) = (angle i f.val : EReal) := by
  pointwise [o_v152, o_v151, o_v150, o_v149, o_v148, o_v135]
  rw [row_word, v147, Ref.freq_word, Ref.sitofp_ofNat _ (by omega), Ref.angle_row, EReal.coe_mul]

theorem v157 (f : Fin 16) : o_v157 (F := Ideal) (ix2 i f) = (angle i (32 + f.val) : EReal) := by
  pointwise [o_v157, o_v156, o_v155, o_v154, o_v153, o_v137]
  rw [col_word, v147, Ref.freq_word, Ref.sitofp_ofNat _ (by omega), Ref.angle_col, EReal.coe_mul]

/-- Two halves of 16 lanes turn by the same angles. -/
theorem angle_16 (l : ℕ) (h : 16 ≤ l % 32) (h' : l < 64) : angle i l = angle i (l - 16) := by
  unfold angle
  rw [show (l - 16) % 16 = l % 16 by omega]
  congr 1
  by_cases h32 : l < 32
  · rw [if_pos h32, if_pos (by omega)]
  · rw [if_neg h32, if_neg (by omega)]

theorem v164 (l : Fin 128) : o_v164 (F := Ideal) (ix2 i l) = ((if l.val < 64 then Real.cos (angle i l) else 1 : ℝ) : EReal) := by
  pointwise [o_v164, o_v160, o_v161, o_v162, o_v163, o_v158, o_cst_19]
  simp only [v152, v157]
  split_ifs with h0 h1 h2 h3 <;> first | omega | skip
  · rfl
  · rw [← angle_16 i l.val (by omega) (by omega)]; rfl
  · rw [show 32 + (l.val - 16 - 16) = l.val by omega]; rfl
  · rw [show 32 + (l.val - 16 - 16 - 16) = l.val - 16 by omega, ← angle_16 i l.val (by omega) (by omega)]; rfl
  · rfl

theorem v171 (l : Fin 128) : o_v171 (F := Ideal) (ix2 i l) = ((if l.val < 64 then
    (if l.val % 32 < 16 then -Real.sin (angle i l) else Real.sin (angle i l)) else 0 : ℝ) : EReal) := by
  pointwise [o_v171, o_v165, o_v166, o_v167, o_v168, o_v169, o_v170, o_v159, o_cst_20]
  simp only [v152, v157]
  split_ifs with h0 h1 h2 h3 <;> first | omega | skip
  · rfl
  · rw [← angle_16 i l.val (by omega) (by omega)]; rfl
  · rw [show 32 + (l.val - 16 - 16) = l.val by omega]; rfl
  · rw [show 32 + (l.val - 16 - 16 - 16) = l.val - 16 by omega, ← angle_16 i l.val (by omega) (by omega)]; rfl
  · rfl

/-- The table of cosines. -/
theorem a_cos (l : Fin 128) : o_v176 (F := Ideal) (ix2 ⟨(row b i).val, by omega⟩ l)
    = ((if l.val < 64 then Real.cos (angle i l) else 1 : ℝ) : EReal) := by
  have hr : b.val * 2048 + i.val < 4096 := by omega
  pointwise [o_v176, o_v174, o_v173, o_v172, row]
  simp only [hr, dif_pos, v164]

/-- The table of signed sines. -/
theorem a_sin (l : Fin 128) : o_v181 (F := Ideal) (ix2 ⟨(row b i).val, by omega⟩ l) = ((if l.val < 64 then
    (if l.val % 32 < 16 then -Real.sin (angle i l) else Real.sin (angle i l)) else 0 : ℝ) : EReal) := by
  have hr : b.val * 2048 + i.val < 4096 := by omega
  pointwise [o_v181, o_v179, o_v178, o_v177, row]
  simp only [hr, dif_pos, v171]

end Cert.Proof.Host
-- ==== Proof.Grid.Holds.lean ====
module

public import proofs.«01_k».proof.Proof.Grid.Steps
public import proofs.«01_k».proof.Proof.Grid.Point
public import proofs.«01_k».proof.Proof.Host.Own
public import proofs.«01_k».proof.Proof.Host.Arrays
public import proofs.«01_k».proof.Proof.Host.Lay
/-! What each point of the grid leaves, from the arguments. -/

@[expose] public section

set_option maxRecDepth 16384

noncomputable section

namespace Cert.Proof.Grid

open Cert.KernelIdeal Cert.KernelIdeal.Gen Idealize.ShloMosaic Idealize.ShloMosaic.TcCoe
open Idealize.ShloMosaic.Pointwise Cert.Proof.Ref Cert.Proof.Host

/-- The kernel's arguments are those of `D`. -/
structure Args (D : Inp) (m : (ℓ : Loc nD τ sig) → Buf (Elt Ideal) ℓ) (c : Dev nD) : Prop where
  a0 : W m c main_arg0 = D.aq
  a1 : W m c main_arg1 = D.agn
  a2 : W m c main_arg2 = D.agr
  a3 : W m c main_arg3 = D.ak
  a4 : W m c main_arg4 = D.av
  a5 : W m c main_arg5 = D.ac

variable {D : Inp} {m : (ℓ : Loc nD τ sig) → Buf (Elt Ideal) ℓ} {c : Dev nD} (A : Args D m c)
include A

/-- The input blocks of a point. -/
theorem blk (b : Fin 2) (h : Fin 8) (i : Fin 2) :
    Blk D b h i (iblk m c 0 (pt b h i)) (iblk m c 1 (pt b h i)) (iblk m c 2 (pt b h i)) (iblk m c 3 (pt b h i))
      (iblk m c 4 (pt b h i)) (iblk m c 5 (pt b h i)) (iblk m c 6 (pt b h i)) (X0_7 m c (pt b h i)) (X0_8 m c (pt b h i))
      (X0_9 m c (pt b h i)) (iblk m c 10 (pt b h i)) (X0_11 m c (pt b h i)) (iblk m c 12 (pt b h i)) where
  h0 r d := (x0 m c b h i r d).trans (by show W m c main_v33 _ = _; rw [t_v33, A.a5]; exact a_do D b (tok i r) h d)
  h1 r d := (x1 m c b h i r d).trans (by show W m c main_v183 _ = _; rw [t_v183, A.a0, A.a1, A.a2, A.a3, A.a4]; exact a_o D b (tok i r) h d)
  h2 r d := (x2 m c b h i r d).trans (by show W m c main_v185 _ = _; rw [t_v185, A.a0, A.a1, A.a2, A.a3]; exact a_lse D b (tok i r) h d)
  h3 r e := (x3 m c b h i r e).trans (by show W m c main_v188 _ = _; rw [t_v188, A.a0, A.a1, A.a2]; exact a_qf D b (tok i r) h e)
  h4 r e := (x4 m c b h i r e).trans (by show W m c main_v190 _ = _; rw [t_v190, A.a0]; exact a_q D b (tok i r) h e)
  h5 z d := (x5 m c b h i z d).trans (by show W m c main_v36 _ = _; rw [t_v36, A.a1]; exact a_gn D z d)
  h6 z l := (x6 m c b h i z l).trans (by show W m c main_v38 _ = _; rw [t_v38, A.a2]; exact a_gr D z l)
  h7 r l := (x7 m c b h i r l).trans (by show W m c main_v176 _ = _; rw [t_v176]; exact a_cos b (tok i r) l)
  h8 r l := (x8 m c b h i r l).trans (by show W m c main_v181 _ = _; rw [t_v181]; exact a_sin b (tok i r) l)
  h9 j e := (x9 m c b h i j e).trans (by show W m c main_v197 _ = _; rw [t_v197, A.a3]; exact a_kl D b h j e)
  h10 j e := (x10 m c b h i j e).trans (by show W m c main_v197 _ = _; rw [t_v197, A.a3]; exact a_kc D b h j e)
  h11 j d := (x11 m c b h i j d).trans (by show W m c main_v204 _ = _; rw [t_v204, A.a4]; exact a_vl D b h j d)
  h12 j d := (x12 m c b h i j d).trans (by show W m c main_v204 _ = _; rw [t_v204, A.a4]; exact a_vc D b h j d)

end Cert.Proof.Grid
-- ==== Proof.Claim.Finite.lean ====
module

public import proofs.«01_k».proof.Defs
public import proofs.«01_k».proof.Proof.Grid.Holds
/-! The precondition gives real numbers: the gains, the keys, the values and the cotangent are finite. -/

@[expose] public section

set_option maxRecDepth 16384

noncomputable section

namespace Cert.Proof

open Idealize.ShloMosaic Idealize.ShloMosaic.TcCoe Cert.KernelIdeal Cert.Proof.Grid Cert.Proof.Host

/-- The shape relations the precondition's broadcasts take. -/
theorem preFacts : Cert.Pre_finite.Facts where
  bcast_S_S128 := by decide
  bcast_S_S64 := by decide
  bcast_S_S2x2304x8x192 := by decide
  bcast_S_S2x2304x8x128 := by decide
  bcast_S_S2x2048x1024 := by decide

/-- An extended real whose absolute value is below infinity is a real number. -/
theorem real_of (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  induction x using EReal.rec with
  | bot => simp [Ideal.cmp] at h
  | coe r => simp
  | top => simp [Ideal.cmp] at h

/-- An index of one axis is its coordinate. -/
theorem eta1 {n0 : ℕ} (y : (⟨1, ![n0]⟩ : Shape).Idx) : ix1 (y 0) = y := by
  funext a
  match a with
  | ⟨0, _⟩ => rfl
/-- An index of three axes is its three coordinates. -/
theorem eta3 {n0 n1 n2 : ℕ} (y : (⟨3, ![n0, n1, n2]⟩ : Shape).Idx) : ix3 (y 0) (y 1) (y 2) = y := by
  funext a
  match a with
  | ⟨0, _⟩ => rfl
  | ⟨1, _⟩ => rfl
  | ⟨2, _⟩ => rfl
/-- An index of four axes is its four coordinates. -/
theorem eta4 {n0 n1 n2 n3 : ℕ} (y : (⟨4, ![n0, n1, n2, n3]⟩ : Shape).Idx) : ix4 (y 0) (y 1) (y 2) (y 3) = y := by
  funext a
  match a with
  | ⟨0, _⟩ => rfl
  | ⟨1, _⟩ => rfl
  | ⟨2, _⟩ => rfl
  | ⟨3, _⟩ => rfl

/-- Arguments satisfying the precondition are those of some `D`. -/
theorem exists_args [Cert.Pre_finite.Facts] (m : (ℓ : Loc nD τ sig) → Buf (Elt Ideal) ℓ) (h : Cert.Pre_KernelIdeal_finite m) (c : Dev nD) :
    ∃ D : Inp, Args D m c := by
  obtain ⟨h1, h2, h3, h4, h5⟩ := h c
  let a0 : FVec Ideal S2x2048x8x192 .f32 := m ((c : Thread nD τ).loc main_arg0)
  let a1 : FVec Ideal S128 .f32 := m ((c : Thread nD τ).loc main_arg1)
  let a2 : FVec Ideal S64 .f32 := m ((c : Thread nD τ).loc main_arg2)
  let a3 : FVec Ideal S2x2304x8x192 .f32 := m ((c : Thread nD τ).loc main_arg3)
  let a4 : FVec Ideal S2x2304x8x128 .f32 := m ((c : Thread nD τ).loc main_arg4)
  let a5 : FVec Ideal S2x2048x1024 .f32 := m ((c : Thread nD τ).loc main_arg5)
  refine ⟨{ q := fun b i h e => a0 (ix4 b i h e)
            gn := fun d => EReal.toReal (a1 (ix1 d))
            gr := fun d => EReal.toReal (a2 (ix1 d))
            k := fun b i h e => EReal.toReal (a3 (ix4 b i h e))
            v := fun b i h e => EReal.toReal (a4 (ix4 b i h e))
            c := fun b i e => EReal.toReal (a5 (ix3 b i e)) }, ?_, ?_, ?_, ?_, ?_, ?_⟩
  · refine (arg m c main_arg0 (by decide)).trans ?_
    funext y
    exact (congrArg a0 (eta4 y)).symm
  · refine (arg m c main_arg1 (by decide)).trans ?_
    funext y
    refine (real_of (a1 y) (congrFun h1 y)).trans ?_
    exact congrArg (fun z => ((EReal.toReal (a1 z) : ℝ) : EReal)) (eta1 y).symm
  · refine (arg m c main_arg2 (by decide)).trans ?_
    funext y
    refine (real_of (a2 y) (congrFun h2 y)).trans ?_
    exact congrArg (fun z => ((EReal.toReal (a2 z) : ℝ) : EReal)) (eta1 y).symm
  · refine (arg m c main_arg3 (by decide)).trans ?_
    funext y
    refine (real_of (a3 y) (congrFun h3 y)).trans ?_
    exact congrArg (fun z => ((EReal.toReal (a3 z) : ℝ) : EReal)) (eta4 y).symm
  · refine (arg m c main_arg4 (by decide)).trans ?_
    funext y
    refine (real_of (a4 y) (congrFun h4 y)).trans ?_
    exact congrArg (fun z => ((EReal.toReal (a4 z) : ℝ) : EReal)) (eta4 y).symm
  · refine (arg m c main_arg5 (by decide)).trans ?_
    funext y
    refine (real_of (a5 y) (congrFun h5 y)).trans ?_
    exact congrArg (fun z => ((EReal.toReal (a5 z) : ℝ) : EReal)) (eta3 y).symm

end Cert.Proof

end
-- ==== Proof.Grid.Accum.lean ====
module

public import proofs.«01_k».proof.Proof.Grid.Holds
/-! The running sums that the points leave, as sums over the tokens. -/

@[expose] public section

set_option maxRecDepth 16384

noncomputable section

namespace Cert.Proof.Grid

open Cert.KernelIdeal Cert.KernelIdeal.Gen Idealize.ShloMosaic Idealize.ShloMosaic.TcCoe
open Idealize.ShloMosaic.Pointwise Cert.Proof.Ref Cert.Proof.Host Cert.Proof.Block

variable {D : Inp} {m : (ℓ : Loc nD τ sig) → Buf (Elt Ideal) ℓ} {c : Dev nD} (A : Args D m c)

theorem even_pt (b : Fin 2) (h : Fin 8) : (pt b h 0).val % 2 = 0 := by simp only [pt]; simp; omega
theorem odd_pt (b : Fin 2) (h : Fin 8) : (pt b h 1).val % 2 = 1 := by simp only [pt]; simp; omega

/-- The point before a second half is the first half. -/
theorem before_pt (b : Fin 2) (h : Fin 8) : before m c (pt b h 1) = outsAt0 m c (pt b h 0).val (pt b h 0).isLt := by
  have e : (pt b h 1).val - 1 = (pt b h 0).val := by simp only [pt]; simp
  unfold before
  simp only [e]

theorem zero14 (j : Fin 2048) (e : Fin 256) : k0_pay5 (F := Ideal) (ix2 j e) = ((0 : ℝ) : EReal) := by pointwise [k0_pay5]; rfl
theorem zero15 (j : Fin 256) (e : Fin 256) : k0_pay6 (F := Ideal) (ix2 j e) = ((0 : ℝ) : EReal) := by pointwise [k0_pay6]; rfl
theorem zero16 (j : Fin 2048) (e : Fin 128) : k0_pay7 (F := Ideal) (ix2 j e) = ((0 : ℝ) : EReal) := by pointwise [k0_pay7]; rfl
theorem zero17 (j : Fin 256) (e : Fin 128) : k0_pay8 (F := Ideal) (ix2 j e) = ((0 : ℝ) : EReal) := by pointwise [k0_pay8]; rfl
theorem zero18 (j : Fin 1) (e : Fin 128) : k0_pay9 (F := Ideal) (ix2 j e) = ((0 : ℝ) : EReal) := by pointwise [k0_pay9]; rfl
theorem zero19 (j : Fin 1) (e : Fin 128) : k0_pay10 (F := Ideal) (ix2 j e) = ((0 : ℝ) : EReal) := by pointwise [k0_pay10]; rfl

include A

/-- The gradient of the latent keys after both halves. -/
theorem sum14 (b : Fin 2) (h : Fin 8) (j : Fin 2048) (e : Fin 256) :
    (outsAt0 m c (pt b h 1).val (pt b h 1).isLt).2.1 (ix2 j e) = (D.DK b h ⟨j, by omega⟩ e : EReal) := by
  have h0 := add14 (blk A b h 0) _ 0 j e (zero14 j e)
  rw [← first14 m c (pt b h 0) (even_pt b h), ← before_pt b h] at h0
  have h1 := add14 (blk A b h 1) _ _ j e h0
  rw [next14 m c (pt b h 1) (by rw [odd_pt b h]; omega), h1, zero_add]
  exact congrArg _ (sum_halves fun r => D.DS b h r ⟨j, by omega⟩ * D.QA b h r e).symm

/-- The gradient of the context keys after both halves. -/
theorem sum15 (b : Fin 2) (h : Fin 8) (j : Fin 256) (e : Fin 256) :
    (outsAt0 m c (pt b h 1).val (pt b h 1).isLt).2.2.1 (ix2 j e) = (D.DK b h ⟨2048 + j, by omega⟩ e : EReal) := by
  have h0 := add15 (blk A b h 0) _ 0 j e (zero15 j e)
  rw [← first15 m c (pt b h 0) (even_pt b h), ← before_pt b h] at h0
  have h1 := add15 (blk A b h 1) _ _ j e h0
  rw [next15 m c (pt b h 1) (by rw [odd_pt b h]; omega), h1, zero_add]
  exact congrArg _ (sum_halves fun r => D.DS b h r ⟨2048 + j, by omega⟩ * D.QA b h r e).symm

/-- The gradient of the latent values after both halves. -/
theorem sum16 (b : Fin 2) (h : Fin 8) (j : Fin 2048) (e : Fin 128) :
    (outsAt0 m c (pt b h 1).val (pt b h 1).isLt).2.2.2.1 (ix2 j e) = (D.DV b h ⟨j, by omega⟩ e : EReal) := by
  have h0 := add16 (blk A b h 0) _ 0 j e (zero16 j e)
  rw [← first16 m c (pt b h 0) (even_pt b h), ← before_pt b h] at h0
  have h1 := add16 (blk A b h 1) _ _ j e h0
  rw [next16 m c (pt b h 1) (by rw [odd_pt b h]; omega), h1, zero_add]
  exact congrArg _ (sum_halves fun r => D.P b h r ⟨j, by omega⟩ * D.C b h r e).symm

/-- The gradient of the context values after both halves. -/
theorem sum17 (b : Fin 2) (h : Fin 8) (j : Fin 256) (e : Fin 128) :
    (outsAt0 m c (pt b h 1).val (pt b h 1).isLt).2.2.2.2.1 (ix2 j e) = (D.DV b h ⟨2048 + j, by omega⟩ e : EReal) := by
  have h0 := add17 (blk A b h 0) _ 0 j e (zero17 j e)
  rw [← first17 m c (pt b h 0) (even_pt b h), ← before_pt b h] at h0
  have h1 := add17 (blk A b h 1) _ _ j e h0
  rw [next17 m c (pt b h 1) (by rw [odd_pt b h]; omega), h1, zero_add]
  exact congrArg _ (sum_halves fun r => D.P b h r ⟨2048 + j, by omega⟩ * D.C b h r e).symm

omit A in
/-- What point `n` adds to the first gain's gradient. -/
def part18 (D : Inp) (e : Fin 128) (n : ℕ) : ℝ :=
  let b : Fin 2 := ⟨n / 16 % 2, by omega⟩
  let h : Fin 8 := ⟨n % 16 / 2, by omega⟩
  let i : Fin 2 := ⟨n % 2, by omega⟩
  ∑ r, D.GN b h (tok i r) e

omit A in
theorem part18_pt (b : Fin 2) (h : Fin 8) (i : Fin 2) (e : Fin 128) : part18 D e (pt b h i).val = ∑ r, D.GN b h (tok i r) e := by
  have h1 : (⟨(pt b h i).val / 16 % 2, by omega⟩ : Fin 2) = b := Fin.ext (by simp only [pt]; omega)
  have h2 : (⟨(pt b h i).val % 16 / 2, by omega⟩ : Fin 8) = h := Fin.ext (by simp only [pt]; omega)
  have h3 : (⟨(pt b h i).val % 2, by omega⟩ : Fin 2) = i := Fin.ext (by simp only [pt]; omega)
  simp only [part18, h1, h2, h3]

/-- The first gain's gradient after point `n`. -/
theorem run18 (z : Fin 1) (e : Fin 128) : ∀ (n : ℕ) (hn : n < cfg0.N),
    (outsAt0 m c n hn).2.2.2.2.2.1 (ix2 z e) = ((∑ k ∈ Finset.range (n + 1), part18 D e k : ℝ) : EReal)
  | 0, hn => by
    have e0 : (pt 0 0 0).val = 0 := rfl
    have h0 := add18 (blk A 0 0 0) _ 0 z e (zero18 z e)
    rw [← first18 m c (pt 0 0 0) (by rw [e0]), ← part18_pt, zero_add] at h0
    rw [zero_add, Finset.sum_range_one]
    exact h0
  | n + 1, hn => by
    have ih := run18 z e n (by omega)
    obtain ⟨b, h, i, ht⟩ := pt_of ⟨n + 1, hn⟩
    have hv : n + 1 = (pt b h i).val := congrArg Fin.val ht
    have hlt : n + 1 < 32 := hn
    have hb : (before m c (pt b h i)).2.2.2.2.2.1 (ix2 z e) = ((∑ k ∈ Finset.range (n + 1), part18 D e k : ℝ) : EReal) := by
      rw [← ih]
      unfold before
      simp only [← hv, Nat.add_sub_cancel]
    have h1 := add18 (blk A b h i) _ _ z e hb
    rw [← next18 m c (pt b h i) (by omega), ← part18_pt] at h1
    rw [Finset.sum_range_succ]
    simp only [hv] at *
    exact h1

omit A in
/-- What point `n` adds to the second gain's gradient. -/
def part19 (D : Inp) (e : Fin 128) (n : ℕ) : ℝ :=
  let b : Fin 2 := ⟨n / 16 % 2, by omega⟩
  let h : Fin 8 := ⟨n % 16 / 2, by omega⟩
  let i : Fin 2 := ⟨n % 2, by omega⟩
  ∑ r, (if hl : e.val < 64 then D.GR b h (tok i r) ⟨e, hl⟩ else 0)

omit A in
theorem part19_pt (b : Fin 2) (h : Fin 8) (i : Fin 2) (e : Fin 128) : part19 D e (pt b h i).val = ∑ r, (if hl : e.val < 64 then D.GR b h (tok i r) ⟨e, hl⟩ else 0) := by
  have h1 : (⟨(pt b h i).val / 16 % 2, by omega⟩ : Fin 2) = b := Fin.ext (by simp only [pt]; omega)
  have h2 : (⟨(pt b h i).val % 16 / 2, by omega⟩ : Fin 8) = h := Fin.ext (by simp only [pt]; omega)
  have h3 : (⟨(pt b h i).val % 2, by omega⟩ : Fin 2) = i := Fin.ext (by simp only [pt]; omega)
  simp only [part19, h1, h2, h3]

/-- The second gain's gradient after point `n`. -/
theorem run19 (z : Fin 1) (e : Fin 128) : ∀ (n : ℕ) (hn : n < cfg0.N),
    (outsAt0 m c n hn).2.2.2.2.2.2 (ix2 z e) = ((∑ k ∈ Finset.range (n + 1), part19 D e k : ℝ) : EReal)
  | 0, hn => by
    have e0 : (pt 0 0 0).val = 0 := rfl
    have h0 := add19 (blk A 0 0 0) _ 0 z e (zero19 z e)
    rw [← first19 m c (pt 0 0 0) (by rw [e0]), ← part19_pt, zero_add] at h0
    rw [zero_add, Finset.sum_range_one]
    exact h0
  | n + 1, hn => by
    have ih := run19 z e n (by omega)
    obtain ⟨b, h, i, ht⟩ := pt_of ⟨n + 1, hn⟩
    have hv : n + 1 = (pt b h i).val := congrArg Fin.val ht
    have hlt : n + 1 < 32 := hn
    have hb : (before m c (pt b h i)).2.2.2.2.2.2 (ix2 z e) = ((∑ k ∈ Finset.range (n + 1), part19 D e k : ℝ) : EReal) := by
      rw [← ih]
      unfold before
      simp only [← hv, Nat.add_sub_cancel]
    have h1 := add19 (blk A b h i) _ _ z e hb
    rw [← next19 m c (pt b h i) (by omega), ← part19_pt] at h1
    rw [Finset.sum_range_succ]
    simp only [hv] at *
    exact h1

end Cert.Proof.Grid
-- ==== Proof.Grid.Final.lean ====
module

public import proofs.«01_k».proof.Proof.Grid.Accum
/-! The seven arrays after the run, entry by entry. -/

@[expose] public section

set_option maxRecDepth 16384

noncomputable section

namespace Cert.Proof.Grid

open Cert.KernelIdeal Cert.KernelIdeal.Gen Idealize.ShloMosaic Idealize.ShloMosaic.TcCoe
open Idealize.ShloMosaic.Pointwise Cert.Proof.Ref Cert.Proof.Host Cert.Proof.Block Cert.KernelIdeal.Value

/-- An index of two axes is its two coordinates. -/
theorem eta2 {n0 n1 : ℕ} (y : (⟨2, ![n0, n1]⟩ : Shape).Idx) : y = ix2 (y 0) (y 1) := by
  funext a
  match a with
  | ⟨0, _⟩ => rfl
  | ⟨1, _⟩ => rfl

theorem row_of (r : Fin 4096) : ∃ b i, r = row b i :=
  ⟨⟨r.val / 2048, by omega⟩, ⟨r.val % 2048, by omega⟩, Fin.ext (by simp only [row]; omega)⟩
theorem crow_of (r : Fin 512) : ∃ b i, r = crow b i :=
  ⟨⟨r.val / 256, by omega⟩, ⟨r.val % 256, by omega⟩, Fin.ext (by simp only [crow]; omega)⟩
theorem col_of (r : Fin 2048) : ∃ b i, r = col b i :=
  ⟨⟨r.val / 256, by omega⟩, ⟨r.val % 256, by omega⟩, Fin.ext (by simp only [col]; omega)⟩
theorem vcol_of (r : Fin 1024) : ∃ b i, r = vcol b i :=
  ⟨⟨r.val / 128, by omega⟩, ⟨r.val % 128, by omega⟩, Fin.ext (by simp only [vcol]; omega)⟩
theorem tok_of (r : Fin 2048) : ∃ i s, r = tok i s :=
  ⟨⟨r.val / 1024, by omega⟩, ⟨r.val % 1024, by omega⟩, Fin.ext (by simp only [tok]; omega)⟩

/-- The two chains' rows are the block's rows. -/
theorem half_of (r : Fin 1024) : (∃ s : Fin 512, r = ⟨s.val, by omega⟩) ∨ (∃ s : Fin 512, r = ⟨512 + s.val, by omega⟩) := by
  by_cases hr : r.val < 512
  · exact Or.inl ⟨⟨r.val, hr⟩, rfl⟩
  · exact Or.inr ⟨⟨r.val - 512, by omega⟩, Fin.ext (by simp only; omega)⟩

/-- Where the first chain's rows lie in the block. -/
theorem emb_lo (s : Fin 512) (f : Fin 256) :
    (Rect.unit (s := S1024x256) ![0, 0] S512x256.size inb_S1024x256_S512x256_0_0).emb (ix2 s f) = ix2 (⟨s.val, by omega⟩ : Fin 1024) f := by
  funext a; apply Fin.ext
  match a with
  | ⟨0, _⟩ => show 0 + 1 * s.val = s.val; omega
  | ⟨1, _⟩ => show 0 + 1 * f.val = f.val; omega
/-- Where the second chain's rows lie in the block. -/
theorem emb_hi (s : Fin 512) (f : Fin 256) :
    (Rect.unit (s := S1024x256) ![512, 0] S512x256.size inb_S1024x256_S512x256_512_0).emb (ix2 s f) = ix2 (⟨512 + s.val, by omega⟩ : Fin 1024) f := by
  funext a; apply Fin.ext
  match a with
  | ⟨0, _⟩ => show 512 + 1 * s.val = 512 + s.val; omega
  | ⟨1, _⟩ => show 0 + 1 * f.val = f.val; omega

/-- A sum over the points of the grid. -/
theorem sum_points (g : ℕ → ℝ) (f : Fin 2 → Fin 8 → Fin 2 → ℝ) (hg : ∀ b h i, g (pt b h i).val = f b h i) :
    ∑ k ∈ Finset.range 32, g k = ∑ b, ∑ h, ∑ i, f b h i := by
  simp only [← hg, pt, Fin.sum_univ_two, Fin.sum_univ_eight, Finset.sum_range_succ, Finset.sum_range_zero]
  simp
  ring

/-- The halves' sums, then the heads': the tokens' sums of the heads' sums. -/
theorem sum_back (f : Fin 2 → Fin 8 → Fin 2048 → ℝ) :
    ∑ b, ∑ h, ∑ i, ∑ r, f b h (tok i r) = ∑ b, ∑ r, ∑ h, f b h r := by
  refine Finset.sum_congr rfl fun b _ => ?_
  refine Eq.trans (Finset.sum_congr rfl fun h _ => ?_) Finset.sum_comm
  rw [sum_halves (fun r => f b h r), Fin.sum_univ_two]

theorem idx13 : ∀ (b : Fin 2) (h : Fin 8) (i : Fin 2), win0_13.index (pt b h i) (0 : Fin 2) = b.val * 2 + i.val ∧ win0_13.index (pt b h i) (1 : Fin 2) = h.val := by
  decide +kernel

theorem idx14 : ∀ (b : Fin 2) (h : Fin 8) (i : Fin 2), win0_14.index (pt b h i) (0 : Fin 2) = b.val ∧ win0_14.index (pt b h i) (1 : Fin 2) = h.val := by
  decide +kernel

theorem idx15 : ∀ (b : Fin 2) (h : Fin 8) (i : Fin 2), win0_15.index (pt b h i) (0 : Fin 2) = b.val ∧ win0_15.index (pt b h i) (1 : Fin 2) = h.val := by
  decide +kernel

theorem idx16 : ∀ (b : Fin 2) (h : Fin 8) (i : Fin 2), win0_16.index (pt b h i) (0 : Fin 2) = b.val ∧ win0_16.index (pt b h i) (1 : Fin 2) = h.val := by
  decide +kernel

theorem idx17 : ∀ (b : Fin 2) (h : Fin 8) (i : Fin 2), win0_17.index (pt b h i) (0 : Fin 2) = b.val ∧ win0_17.index (pt b h i) (1 : Fin 2) = h.val := by
  decide +kernel

theorem idx18 : ∀ (b : Fin 2) (h : Fin 8) (i : Fin 2), win0_18.index (pt b h i) (0 : Fin 2) = 0 ∧ win0_18.index (pt b h i) (1 : Fin 2) = 0 := by
  decide +kernel

theorem idx19 : ∀ (b : Fin 2) (h : Fin 8) (i : Fin 2), win0_19.index (pt b h i) (0 : Fin 2) = 0 ∧ win0_19.index (pt b h i) (1 : Fin 2) = 0 := by
  decide +kernel

/-- Where an entry of block 1 lies in its array. -/
theorem emb13 (b : Fin 2) (h : Fin 8) (i : Fin 2) (r : Fin 1024) (e : Fin 256) :
    ((cfg0.win 13).blk (pt b h i)).view.emb (ix2 r e) = (ix2 (row b (tok i r)) (col h e) : S4096x2048.Idx) := by
  obtain ⟨e0, e1⟩ := idx13 b h i
  funext a; apply Fin.ext
  match a with
  | ⟨0, _⟩ => show win0_13.index (pt b h i) (0 : Fin 2) * 1024 + 1 * r.val = (row b (tok i r)).val; rw [e0]; (try simp only [row, crow, tok]); omega
  | ⟨1, _⟩ => show win0_13.index (pt b h i) (1 : Fin 2) * 256 + 1 * e.val = (col h e).val; rw [e1]; (try simp only [col, vcol]); omega

/-- Where an entry of block 2 lies in its array. -/
theorem emb14 (b : Fin 2) (h : Fin 8) (i : Fin 2) (r : Fin 2048) (e : Fin 256) :
    ((cfg0.win 14).blk (pt b h i)).view.emb (ix2 r e) = (ix2 (row b r) (col h e) : S4096x2048.Idx) := by
  obtain ⟨e0, e1⟩ := idx14 b h i
  funext a; apply Fin.ext
  match a with
  | ⟨0, _⟩ => show win0_14.index (pt b h i) (0 : Fin 2) * 2048 + 1 * r.val = (row b r).val; rw [e0]; (try simp only [row, crow, tok]); omega
  | ⟨1, _⟩ => show win0_14.index (pt b h i) (1 : Fin 2) * 256 + 1 * e.val = (col h e).val; rw [e1]; (try simp only [col, vcol]); omega

/-- Where an entry of block 3 lies in its array. -/
theorem emb15 (b : Fin 2) (h : Fin 8) (i : Fin 2) (r : Fin 256) (e : Fin 256) :
    ((cfg0.win 15).blk (pt b h i)).view.emb (ix2 r e) = (ix2 (crow b r) (col h e) : S512x2048.Idx) := by
  obtain ⟨e0, e1⟩ := idx15 b h i
  funext a; apply Fin.ext
  match a with
  | ⟨0, _⟩ => show win0_15.index (pt b h i) (0 : Fin 2) * 256 + 1 * r.val = (crow b r).val; rw [e0]; (try simp only [row, crow, tok]); omega
  | ⟨1, _⟩ => show win0_15.index (pt b h i) (1 : Fin 2) * 256 + 1 * e.val = (col h e).val; rw [e1]; (try simp only [col, vcol]); omega

/-- Where an entry of block 4 lies in its array. -/
theorem emb16 (b : Fin 2) (h : Fin 8) (i : Fin 2) (r : Fin 2048) (e : Fin 128) :
    ((cfg0.win 16).blk (pt b h i)).view.emb (ix2 r e) = (ix2 (row b r) (vcol h e) : S4096x1024.Idx) := by
  obtain ⟨e0, e1⟩ := idx16 b h i
  funext a; apply Fin.ext
  match a with
  | ⟨0, _⟩ => show win0_16.index (pt b h i) (0 : Fin 2) * 2048 + 1 * r.val = (row b r).val; rw [e0]; (try simp only [row, crow, tok]); omega
  | ⟨1, _⟩ => show win0_16.index (pt b h i) (1 : Fin 2) * 128 + 1 * e.val = (vcol h e).val; rw [e1]; (try simp only [col, vcol]); omega

/-- Where an entry of block 5 lies in its array. -/
theorem emb17 (b : Fin 2) (h : Fin 8) (i : Fin 2) (r : Fin 256) (e : Fin 128) :
    ((cfg0.win 17).blk (pt b h i)).view.emb (ix2 r e) = (ix2 (crow b r) (vcol h e) : S512x1024.Idx) := by
  obtain ⟨e0, e1⟩ := idx17 b h i
  funext a; apply Fin.ext
  match a with
  | ⟨0, _⟩ => show win0_17.index (pt b h i) (0 : Fin 2) * 256 + 1 * r.val = (crow b r).val; rw [e0]; (try simp only [row, crow, tok]); omega
  | ⟨1, _⟩ => show win0_17.index (pt b h i) (1 : Fin 2) * 128 + 1 * e.val = (vcol h e).val; rw [e1]; (try simp only [col, vcol]); omega

/-- Where an entry of block 6 lies in its array. -/
theorem emb18 (b : Fin 2) (h : Fin 8) (i : Fin 2) (r : Fin 1) (e : Fin 128) :
    ((cfg0.win 18).blk (pt b h i)).view.emb (ix2 r e) = (ix2 (r) (e) : S1x128.Idx) := by
  obtain ⟨e0, e1⟩ := idx18 b h i
  funext a; apply Fin.ext
  match a with
  | ⟨0, _⟩ => show win0_18.index (pt b h i) (0 : Fin 2) * 1 + 1 * r.val = (r).val; rw [e0]; (try simp only [row, crow, tok]); omega
  | ⟨1, _⟩ => show win0_18.index (pt b h i) (1 : Fin 2) * 128 + 1 * e.val = (e).val; rw [e1]; (try simp only [col, vcol]); omega

/-- Where an entry of block 7 lies in its array. -/
theorem emb19 (b : Fin 2) (h : Fin 8) (i : Fin 2) (r : Fin 1) (e : Fin 128) :
    ((cfg0.win 19).blk (pt b h i)).view.emb (ix2 r e) = (ix2 (r) (e) : S1x128.Idx) := by
  obtain ⟨e0, e1⟩ := idx19 b h i
  funext a; apply Fin.ext
  match a with
  | ⟨0, _⟩ => show win0_19.index (pt b h i) (0 : Fin 2) * 1 + 1 * r.val = (r).val; rw [e0]; (try simp only [row, crow, tok]); omega
  | ⟨1, _⟩ => show win0_19.index (pt b h i) (1 : Fin 2) * 128 + 1 * e.val = (e).val; rw [e1]; (try simp only [col, vcol]); omega

variable {D : Inp} {m : (ℓ : Loc nD τ sig) → Buf (Elt Ideal) ℓ} {c : Dev nD} (A : Args D m c)
include A

/-- The query's gradient in a block. -/
theorem val13 (b : Fin 2) (h : Fin 8) (i : Fin 2) (r : Fin 1024) (e : Fin 256) :
    (outsAt0 m c (pt b h i).val (pt b h i).isLt).1 (ix2 r e) = (D.DQ b h (tok i r) e : EReal) := by
  rw [st13]
  refine View.canon_apply_of_pieces (Val := Elt Ideal) (S := S1024x256) (e := .bf16)
    (fun y => (D.DQ b h (tok i (y 0)) (y 1) : EReal)) _ ?_ (ix2 r e) ?_
  · intro p hp x
    simp only [List.mem_cons, List.not_mem_nil, or_false] at hp
    rcases hp with rfl | rfl
    · obtain ⟨s, f, rfl⟩ : ∃ (s : Fin 512) (f : Fin 256), x = ix2 s f := ⟨_, _, eta2 (n0 := 512) (n1 := 256) x⟩
      refine (dQ_at (hiNorm (blk A b h i)) s f).trans ?_
      show _ = (fun y : S1024x256.Idx => (D.DQ b h (tok i (y 0)) (y 1) : EReal))
        ((Rect.unit (s := S1024x256) ![512, 0] S512x256.size inb_S1024x256_S512x256_512_0).emb (ix2 s f))
      rw [emb_hi]; rfl
    · obtain ⟨s, f, rfl⟩ : ∃ (s : Fin 512) (f : Fin 256), x = ix2 s f := ⟨_, _, eta2 (n0 := 512) (n1 := 256) x⟩
      refine (dQ_at (loNorm (blk A b h i)) s f).trans ?_
      show _ = (fun y : S1024x256.Idx => (D.DQ b h (tok i (y 0)) (y 1) : EReal))
        ((Rect.unit (s := S1024x256) ![0, 0] S512x256.size inb_S1024x256_S512x256_0_0).emb (ix2 s f))
      rw [emb_lo]; rfl
  · rcases half_of r with ⟨s, rfl⟩ | ⟨s, rfl⟩
    · refine ⟨_, List.mem_cons_of_mem _ List.mem_cons_self, ?_⟩
      show _ ∈ (Rect.unit (s := S1024x256) ![0, 0] S512x256.size inb_S1024x256_S512x256_0_0).set
      rw [← emb_lo]
      exact LoadRect.idx_mem _ _
    · refine ⟨_, List.mem_cons_self, ?_⟩
      show _ ∈ (Rect.unit (s := S1024x256) ![512, 0] S512x256.size inb_S1024x256_S512x256_512_0).set
      rw [← emb_hi]
      exact LoadRect.idx_mem _ _

/-- Array 1 of the seven after the run. -/
theorem arr13 (G : FVec Ideal S4096x2048 .bf16) (hG : ∀ b h i e, G (ix2 (row b i) (col h e)) = (D.DQ b h i e : EReal)) : (dats m 0 c).arrAt 13 cfg0.N = G := by
  refine (dats m 0 c).arrAt_eq_of_cover 13 G (fun t hf => ?_) (fun y => ?_)
  · obtain ⟨b, h, i, rfl⟩ := pt_of t
    rw [flushed13]
    funext y
    obtain ⟨r, e, rfl⟩ : ∃ (r : Fin 1024) (e : Fin 256), y = ix2 r e := ⟨_, _, eta2 (n0 := 1024) (n1 := 256) y⟩
    show (outsAt0 m c _ _).1 (ix2 r e) = G (((cfg0.win 13).blk (pt b h i)).view.emb (ix2 r e))
    rw [emb13, val13 A]
    exact (hG _ _ _ _).symm
  · obtain ⟨u, v, rfl⟩ : ∃ (u : Fin 4096) (v : Fin 2048), y = ix2 u v := ⟨_, _, eta2 (n0 := 4096) (n1 := 2048) y⟩
    obtain ⟨b, q, rfl⟩ := row_of u
    obtain ⟨i, r, rfl⟩ := tok_of q
    obtain ⟨h, e, rfl⟩ := col_of v
    refine ⟨pt b h i, flush0_13 _, ?_⟩
    rw [← emb13]
    exact View.emb_mem_set _ _

/-- Array 2 of the seven after the run. -/
theorem arr14 (G : FVec Ideal S4096x2048 .f32) (hG : ∀ (b : Fin 2) (h : Fin 8) (j : Fin 2048) (e : Fin 256), G (ix2 (row b j) (col h e)) = (D.DK b h ⟨j, by omega⟩ e : EReal)) : (dats m 0 c).arrAt 14 cfg0.N = G := by
  refine (dats m 0 c).arrAt_eq_of_cover 14 G (fun t hf => ?_) (fun y => ?_)
  · obtain ⟨b, h, i, rfl⟩ := pt_of t
    have hi : i = 1 := by
      have hv := (flush0_14 _).mp hf
      simp only [pt] at hv
      exact Fin.ext (by simp only [Fin.val_one]; omega)
    subst hi
    rw [flushed14]
    funext y
    obtain ⟨r, e, rfl⟩ : ∃ (r : Fin 2048) (e : Fin 256), y = ix2 r e := ⟨_, _, eta2 (n0 := 2048) (n1 := 256) y⟩
    show (outsAt0 m c _ _).2.1 (ix2 r e) = G (((cfg0.win 14).blk (pt b h 1)).view.emb (ix2 r e))
    rw [emb14, sum14 A]
    exact (hG _ _ _ _).symm
  · obtain ⟨u, v, rfl⟩ : ∃ (u : Fin 4096) (v : Fin 2048), y = ix2 u v := ⟨_, _, eta2 (n0 := 4096) (n1 := 2048) y⟩
    obtain ⟨b, r, rfl⟩ := row_of u
    obtain ⟨h, e, rfl⟩ := col_of v
    refine ⟨pt b h 1, (flush0_14 _).mpr (odd_pt b h), ?_⟩
    rw [← emb14 b h 1]
    exact View.emb_mem_set _ _

/-- Array 3 of the seven after the run. -/
theorem arr15 (G : FVec Ideal S512x2048 .f32) (hG : ∀ (b : Fin 2) (h : Fin 8) (j : Fin 256) (e : Fin 256), G (ix2 (crow b j) (col h e)) = (D.DK b h ⟨2048 + j, by omega⟩ e : EReal)) : (dats m 0 c).arrAt 15 cfg0.N = G := by
  refine (dats m 0 c).arrAt_eq_of_cover 15 G (fun t hf => ?_) (fun y => ?_)
  · obtain ⟨b, h, i, rfl⟩ := pt_of t
    have hi : i = 1 := by
      have hv := (flush0_15 _).mp hf
      simp only [pt] at hv
      exact Fin.ext (by simp only [Fin.val_one]; omega)
    subst hi
    rw [flushed15]
    funext y
    obtain ⟨r, e, rfl⟩ : ∃ (r : Fin 256) (e : Fin 256), y = ix2 r e := ⟨_, _, eta2 (n0 := 256) (n1 := 256) y⟩
    show (outsAt0 m c _ _).2.2.1 (ix2 r e) = G (((cfg0.win 15).blk (pt b h 1)).view.emb (ix2 r e))
    rw [emb15, sum15 A]
    exact (hG _ _ _ _).symm
  · obtain ⟨u, v, rfl⟩ : ∃ (u : Fin 512) (v : Fin 2048), y = ix2 u v := ⟨_, _, eta2 (n0 := 512) (n1 := 2048) y⟩
    obtain ⟨b, r, rfl⟩ := crow_of u
    obtain ⟨h, e, rfl⟩ := col_of v
    refine ⟨pt b h 1, (flush0_15 _).mpr (odd_pt b h), ?_⟩
    rw [← emb15 b h 1]
    exact View.emb_mem_set _ _

/-- Array 4 of the seven after the run. -/
theorem arr16 (G : FVec Ideal S4096x1024 .f32) (hG : ∀ (b : Fin 2) (h : Fin 8) (j : Fin 2048) (e : Fin 128), G (ix2 (row b j) (vcol h e)) = (D.DV b h ⟨j, by omega⟩ e : EReal)) : (dats m 0 c).arrAt 16 cfg0.N = G := by
  refine (dats m 0 c).arrAt_eq_of_cover 16 G (fun t hf => ?_) (fun y => ?_)
  · obtain ⟨b, h, i, rfl⟩ := pt_of t
    have hi : i = 1 := by
      have hv := (flush0_16 _).mp hf
      simp only [pt] at hv
      exact Fin.ext (by simp only [Fin.val_one]; omega)
    subst hi
    rw [flushed16]
    funext y
    obtain ⟨r, e, rfl⟩ : ∃ (r : Fin 2048) (e : Fin 128), y = ix2 r e := ⟨_, _, eta2 (n0 := 2048) (n1 := 128) y⟩
    show (outsAt0 m c _ _).2.2.2.1 (ix2 r e) = G (((cfg0.win 16).blk (pt b h 1)).view.emb (ix2 r e))
    rw [emb16, sum16 A]
    exact (hG _ _ _ _).symm
  · obtain ⟨u, v, rfl⟩ : ∃ (u : Fin 4096) (v : Fin 1024), y = ix2 u v := ⟨_, _, eta2 (n0 := 4096) (n1 := 1024) y⟩
    obtain ⟨b, r, rfl⟩ := row_of u
    obtain ⟨h, e, rfl⟩ := vcol_of v
    refine ⟨pt b h 1, (flush0_16 _).mpr (odd_pt b h), ?_⟩
    rw [← emb16 b h 1]
    exact View.emb_mem_set _ _

/-- Array 5 of the seven after the run. -/
theorem arr17 (G : FVec Ideal S512x1024 .f32) (hG : ∀ (b : Fin 2) (h : Fin 8) (j : Fin 256) (e : Fin 128), G (ix2 (crow b j) (vcol h e)) = (D.DV b h ⟨2048 + j, by omega⟩ e : EReal)) : (dats m 0 c).arrAt 17 cfg0.N = G := by
  refine (dats m 0 c).arrAt_eq_of_cover 17 G (fun t hf => ?_) (fun y => ?_)
  · obtain ⟨b, h, i, rfl⟩ := pt_of t
    have hi : i = 1 := by
      have hv := (flush0_17 _).mp hf
      simp only [pt] at hv
      exact Fin.ext (by simp only [Fin.val_one]; omega)
    subst hi
    rw [flushed17]
    funext y
    obtain ⟨r, e, rfl⟩ : ∃ (r : Fin 256) (e : Fin 128), y = ix2 r e := ⟨_, _, eta2 (n0 := 256) (n1 := 128) y⟩
    show (outsAt0 m c _ _).2.2.2.2.1 (ix2 r e) = G (((cfg0.win 17).blk (pt b h 1)).view.emb (ix2 r e))
    rw [emb17, sum17 A]
    exact (hG _ _ _ _).symm
  · obtain ⟨u, v, rfl⟩ : ∃ (u : Fin 512) (v : Fin 1024), y = ix2 u v := ⟨_, _, eta2 (n0 := 512) (n1 := 1024) y⟩
    obtain ⟨b, r, rfl⟩ := crow_of u
    obtain ⟨h, e, rfl⟩ := vcol_of v
    refine ⟨pt b h 1, (flush0_17 _).mpr (odd_pt b h), ?_⟩
    rw [← emb17 b h 1]
    exact View.emb_mem_set _ _

omit A in
/-- The sum over all points. -/
theorem total18 {b : Fin 2} {h : Fin 8} {i : Fin 2} (hn : (pt b h i).val % 32 = 31) (e : Fin 128) :
    ∑ k ∈ Finset.range ((pt b h i).val + 1), part18 D e k = ∑ b, ∑ i, ∑ h, D.GN b h i e := by
  have h31 : (pt b h i).val + 1 = 32 := by have := (pt b h i).isLt; have h2 : cfg0.N = 32 := N_0; omega
  rw [h31, sum_points _ _ fun b h i => part18_pt b h i e, sum_back fun b h r => D.GN b h r e]

/-- Array 6 of the seven after the run. -/
theorem arr18 (G : FVec Ideal S1x128 .f32) (hG : ∀ (z : Fin 1) (e : Fin 128), G (ix2 z e) = ((∑ b, ∑ i, ∑ h, D.GN b h i e : ℝ) : EReal)) : (dats m 0 c).arrAt 18 cfg0.N = G := by
  refine (dats m 0 c).arrAt_eq_of_cover 18 G (fun t hf => ?_) (fun y => ?_)
  · obtain ⟨b, h, i, rfl⟩ := pt_of t
    have hv : (pt b h i).val % 32 = 31 := (flush0_18 _).mp hf
    rw [flushed18]
    funext y
    obtain ⟨r, e, rfl⟩ : ∃ (r : Fin 1) (e : Fin 128), y = ix2 r e := ⟨_, _, eta2 (n0 := 1) (n1 := 128) y⟩
    show (outsAt0 m c _ _).2.2.2.2.2.1 (ix2 r e) = G (((cfg0.win 18).blk (pt b h i)).view.emb (ix2 r e))
    rw [emb18, run18 A]
    exact (congrArg (fun x : ℝ => (x : EReal)) (total18 hv e)).trans (hG _ _).symm
  · obtain ⟨u, v, rfl⟩ : ∃ (u : Fin 1) (v : Fin 128), y = ix2 u v := ⟨_, _, eta2 (n0 := 1) (n1 := 128) y⟩
    refine ⟨pt 1 7 1, (flush0_18 _).mpr rfl, ?_⟩
    rw [← emb18 1 7 1]
    exact View.emb_mem_set _ _

omit A in
/-- The sum over all points. -/
theorem total19 {b : Fin 2} {h : Fin 8} {i : Fin 2} (hn : (pt b h i).val % 32 = 31) (e : Fin 128) :
    ∑ k ∈ Finset.range ((pt b h i).val + 1), part19 D e k = if hl : e.val < 64 then ∑ b, ∑ i, ∑ h, D.GR b h i ⟨e, hl⟩ else 0 := by
  have h31 : (pt b h i).val + 1 = 32 := by have := (pt b h i).isLt; have h2 : cfg0.N = 32 := N_0; omega
  rw [h31, sum_points _ _ fun b h i => part19_pt b h i e, sum_back fun b h r => (if hl : e.val < 64 then D.GR b h r ⟨e, hl⟩ else 0)]
  by_cases hl : e.val < 64
  · simp only [dif_pos hl]
  · simp only [dif_neg hl, Finset.sum_const_zero]

/-- Array 7 of the seven after the run. -/
theorem arr19 (G : FVec Ideal S1x128 .f32) (hG : ∀ (z : Fin 1) (e : Fin 128), G (ix2 z e) = ((if hl : e.val < 64 then ∑ b, ∑ i, ∑ h, D.GR b h i ⟨e, hl⟩ else 0 : ℝ) : EReal)) : (dats m 0 c).arrAt 19 cfg0.N = G := by
  refine (dats m 0 c).arrAt_eq_of_cover 19 G (fun t hf => ?_) (fun y => ?_)
  · obtain ⟨b, h, i, rfl⟩ := pt_of t
    have hv : (pt b h i).val % 32 = 31 := (flush0_19 _).mp hf
    rw [flushed19]
    funext y
    obtain ⟨r, e, rfl⟩ : ∃ (r : Fin 1) (e : Fin 128), y = ix2 r e := ⟨_, _, eta2 (n0 := 1) (n1 := 128) y⟩
    show (outsAt0 m c _ _).2.2.2.2.2.2 (ix2 r e) = G (((cfg0.win 19).blk (pt b h i)).view.emb (ix2 r e))
    rw [emb19, run19 A]
    exact (congrArg (fun x : ℝ => (x : EReal)) (total19 hv e)).trans (hG _ _).symm
  · obtain ⟨u, v, rfl⟩ : ∃ (u : Fin 1) (v : Fin 128), y = ix2 u v := ⟨_, _, eta2 (n0 := 1) (n1 := 128) y⟩
    refine ⟨pt 1 7 1, (flush0_19 _).mpr rfl, ?_⟩
    rw [← emb19 1 7 1]
    exact View.emb_mem_set _ _

end Cert.Proof.Grid
-- ==== Proof.Claim.Equation.lean ====
module

public import proofs.«01_k».proof.Proof.Claim.Finite
public import proofs.«01_k».proof.Proof.Grid.Final
public import proofs.«01_k».proof.Proof.Ref.Results
public import proofs.«01_k».proof.Proof.Gen.KernelIdeal.Value
public import proofs.«01_k».proof.Proof.Gen.ReferenceIdeal.Run
public import proofs.«01_k».proof.Proof.Gen.ReferenceIdeal.Read
/-! The equation: the kernel's seven arrays are the reference's seven results. -/

@[expose] public section

set_option maxRecDepth 16384

noncomputable section

namespace Cert.Proof

open Idealize.ShloMosaic Idealize.ShloMosaic.TcCoe Idealize.SL.Sem

section

open Cert.KernelIdeal Cert.KernelIdeal.Gen Cert.Proof.Grid Cert.Proof.Host

variable {D : Inp} {m : (ℓ : Loc nD τ sig) → Buf (Elt Ideal) ℓ} {c : Dev nD} (A : Args D m c)
include A

/-- Array 1 after the kernel's run is result 1 of the reference. -/
theorem kernel_0 : (dats m 0 c).arrAt 13 cfg0.N = Cert.ReferenceIdeal.Read.val_main_v249 (F := Ideal) D.aq D.agn D.agr D.ak D.av D.ac :=
  arr13 A _ fun b h i e => Ref.dq D b i h e

/-- Array 2 after the kernel's run is result 2 of the reference. -/
theorem kernel_1 : (dats m 0 c).arrAt 14 cfg0.N = Cert.ReferenceIdeal.Read.val_main_v251 (F := Ideal) D.aq D.agn D.agr D.ak D.av D.ac :=
  arr14 A _ fun b h j e => Ref.dkl D b h j e

/-- Array 3 after the kernel's run is result 3 of the reference. -/
theorem kernel_2 : (dats m 0 c).arrAt 15 cfg0.N = Cert.ReferenceIdeal.Read.val_main_v253 (F := Ideal) D.aq D.agn D.agr D.ak D.av D.ac :=
  arr15 A _ fun b h j e => Ref.dkc D b h j e

/-- Array 4 after the kernel's run is result 4 of the reference. -/
theorem kernel_3 : (dats m 0 c).arrAt 16 cfg0.N = Cert.ReferenceIdeal.Read.val_main_v255 (F := Ideal) D.aq D.agn D.agr D.ak D.ac :=
  arr16 A _ fun b h j e => Ref.dvl D b h j e

/-- Array 5 after the kernel's run is result 5 of the reference. -/
theorem kernel_4 : (dats m 0 c).arrAt 17 cfg0.N = Cert.ReferenceIdeal.Read.val_main_v257 (F := Ideal) D.aq D.agn D.agr D.ak D.ac :=
  arr17 A _ fun b h j e => Ref.dvc D b h j e

/-- Array 6 after the kernel's run is result 6 of the reference. -/
theorem kernel_5 : (dats m 0 c).arrAt 18 cfg0.N = Cert.ReferenceIdeal.Read.val_main_v258 (F := Ideal) D.aq D.agn D.agr D.ak D.av D.ac :=
  arr18 A _ fun z e => Ref.dgn D z e

/-- Array 7 after the kernel's run is result 7 of the reference. -/
theorem kernel_6 : (dats m 0 c).arrAt 19 cfg0.N = Cert.ReferenceIdeal.Read.val_main_v260 (F := Ideal) D.aq D.agn D.agr D.ak D.av D.ac :=
  arr19 A _ fun z e => Ref.dgr D z e

end

section

open Cert.ReferenceIdeal Cert.ReferenceIdeal.Read

/-- The reference's arguments are those of `D`. -/
structure RefArgs (D : Inp) (m : (ℓ : Loc nD τ sig) → Buf (Elt Ideal) ℓ) (c : Dev nD) : Prop where
  a0 : m ((c.tc : Thread nD τ).loc main_arg0) = D.aq
  a1 : m ((c.tc : Thread nD τ).loc main_arg1) = D.agn
  a2 : m ((c.tc : Thread nD τ).loc main_arg2) = D.agr
  a3 : m ((c.tc : Thread nD τ).loc main_arg3) = D.ak
  a4 : m ((c.tc : Thread nD τ).loc main_arg4) = D.av
  a5 : m ((c.tc : Thread nD τ).loc main_arg5) = D.ac

variable {D : Inp} {m : (ℓ : Loc nD τ sig) → Buf (Elt Ideal) ℓ} {c : Dev nD} (A : RefArgs D m c)
include A

/-- Result 1 over what the reference starts from is result 1 over `D`. -/
theorem reference_0 : val_main_v249 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = val_main_v249 (F := Ideal) D.aq D.agn D.agr D.ak D.av D.ac := by rw [A.a0, A.a1, A.a2, A.a3, A.a4, A.a5]

/-- Result 2 over what the reference starts from is result 2 over `D`. -/
theorem reference_1 : val_main_v251 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = val_main_v251 (F := Ideal) D.aq D.agn D.agr D.ak D.av D.ac := by rw [A.a0, A.a1, A.a2, A.a3, A.a4, A.a5]

/-- Result 3 over what the reference starts from is result 3 over `D`. -/
theorem reference_2 : val_main_v253 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = val_main_v253 (F := Ideal) D.aq D.agn D.agr D.ak D.av D.ac := by rw [A.a0, A.a1, A.a2, A.a3, A.a4, A.a5]

/-- Result 4 over what the reference starts from is result 4 over `D`. -/
theorem reference_3 : val_main_v255 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    = val_main_v255 (F := Ideal) D.aq D.agn D.agr D.ak D.ac := by rw [A.a0, A.a1, A.a2, A.a3, A.a5]

/-- Result 5 over what the reference starts from is result 5 over `D`. -/
theorem reference_4 : val_main_v257 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    = val_main_v257 (F := Ideal) D.aq D.agn D.agr D.ak D.ac := by rw [A.a0, A.a1, A.a2, A.a3, A.a5]

/-- Result 6 over what the reference starts from is result 6 over `D`. -/
theorem reference_5 : val_main_v258 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = val_main_v258 (F := Ideal) D.aq D.agn D.agr D.ak D.av D.ac := by rw [A.a0, A.a1, A.a2, A.a3, A.a4, A.a5]

/-- Result 7 over what the reference starts from is result 7 over `D`. -/
theorem reference_6 : val_main_v260 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = val_main_v260 (F := Ideal) D.aq D.agn D.agr D.ak D.av D.ac := by rw [A.a0, A.a1, A.a2, A.a3, A.a4, A.a5]

end

/-- The kernel's seven arrays are the reference's seven results, whenever the arguments agree and meet the precondition. -/
theorem algebraic [Cert.Pre_finite.Facts] : Cert.algebraic_KernelIdeal_ReferenceIdeal_pre_finite := by
  intro m ρ m' ρ' hpre hag
  have hD := fun c => exists_args m hpre c
  choose D hA using hD
  have hR : ∀ c, RefArgs (D c) m' c := fun c =>
    ⟨((hag c).1).trans ((Host.arg m c Cert.KernelIdeal.main_arg0 (by decide)).symm.trans (hA c).a0),
      ((hag c).2.1).trans ((Host.arg m c Cert.KernelIdeal.main_arg1 (by decide)).symm.trans (hA c).a1),
      ((hag c).2.2.1).trans ((Host.arg m c Cert.KernelIdeal.main_arg2 (by decide)).symm.trans (hA c).a2),
      ((hag c).2.2.2.1).trans ((Host.arg m c Cert.KernelIdeal.main_arg3 (by decide)).symm.trans (hA c).a3),
      ((hag c).2.2.2.2.1).trans ((Host.arg m c Cert.KernelIdeal.main_arg4 (by decide)).symm.trans (hA c).a4),
      ((hag c).2.2.2.2.2).trans ((Host.arg m c Cert.KernelIdeal.main_arg5 (by decide)).symm.trans (hA c).a5)⟩
  refine ⟨fun c => Cert.ReferenceIdeal.Read.val_main_v249 (F := Ideal) (D c).aq (D c).agn (D c).agr (D c).ak (D c).av (D c).ac,
    fun c => Cert.ReferenceIdeal.Read.val_main_v251 (F := Ideal) (D c).aq (D c).agn (D c).agr (D c).ak (D c).av (D c).ac,
    fun c => Cert.ReferenceIdeal.Read.val_main_v253 (F := Ideal) (D c).aq (D c).agn (D c).agr (D c).ak (D c).av (D c).ac,
    fun c => Cert.ReferenceIdeal.Read.val_main_v255 (F := Ideal) (D c).aq (D c).agn (D c).agr (D c).ak (D c).ac,
    fun c => Cert.ReferenceIdeal.Read.val_main_v257 (F := Ideal) (D c).aq (D c).agn (D c).agr (D c).ak (D c).ac,
    fun c => Cert.ReferenceIdeal.Read.val_main_v258 (F := Ideal) (D c).aq (D c).agn (D c).agr (D c).ak (D c).av (D c).ac,
    fun c => Cert.ReferenceIdeal.Read.val_main_v260 (F := Ideal) (D c).aq (D c).agn (D c).agr (D c).ak (D c).av (D c).ac, ?_, ?_⟩
  · exact (θ_run Cert.KernelIdeal.defs _ _).mono (fun _ h c => ⟨((h c).1).trans (kernel_0 (hA c)),
        ((h c).2.1).trans (kernel_1 (hA c)),
        ((h c).2.2.1).trans (kernel_2 (hA c)),
        ((h c).2.2.2.1).trans (kernel_3 (hA c)),
        ((h c).2.2.2.2.1).trans (kernel_4 (hA c)),
        ((h c).2.2.2.2.2.1).trans (kernel_5 (hA c)),
        ((h c).2.2.2.2.2.2.1).trans (kernel_6 (hA c)),
        (h c).2.2.2.2.2.2.2⟩)
        (Cert.KernelIdeal.Value.run_blocks (F := Ideal) m ρ)
  · exact (θ_run Cert.ReferenceIdeal.defs _ _).mono (fun _ h c => ⟨(((h c).1).trans (Cert.ReferenceIdeal.Read.val_main_v249_eq (StableHlo.launchContents m' c))).trans (reference_0 (hR c)),
        (((h c).2.1).trans (Cert.ReferenceIdeal.Read.val_main_v251_eq (StableHlo.launchContents m' c))).trans (reference_1 (hR c)),
        (((h c).2.2.1).trans (Cert.ReferenceIdeal.Read.val_main_v253_eq (StableHlo.launchContents m' c))).trans (reference_2 (hR c)),
        (((h c).2.2.2.1).trans (Cert.ReferenceIdeal.Read.val_main_v255_eq (StableHlo.launchContents m' c))).trans (reference_3 (hR c)),
        (((h c).2.2.2.2.1).trans (Cert.ReferenceIdeal.Read.val_main_v257_eq (StableHlo.launchContents m' c))).trans (reference_4 (hR c)),
        (((h c).2.2.2.2.2.1).trans (Cert.ReferenceIdeal.Read.val_main_v258_eq (StableHlo.launchContents m' c))).trans (reference_5 (hR c)),
        (((h c).2.2.2.2.2.2.1).trans (Cert.ReferenceIdeal.Read.val_main_v260_eq (StableHlo.launchContents m' c))).trans (reference_6 (hR c)),
        (h c).2.2.2.2.2.2.2⟩)
        (Cert.ReferenceIdeal.Value.run (F := Ideal) m' ρ')

end Cert.Proof

end
-- ==== Proof.Fwd.Blocks.lean ====
module

public import proofs.«01_k».proof.Proof.Gen.Kernel2Ideal.Value
public import proofs.«01_k».proof.Proof.Grid.Final
/-! What the blocks of a grid point hold: batch `b`, head `h`, half `i` of the queries. -/

@[expose] public section

set_option maxRecDepth 16384

noncomputable section

namespace Cert.Proof.Fwd

open Cert.Kernel2Ideal Cert.Kernel2Ideal.Gen Idealize.ShloMosaic Idealize.ShloMosaic.TcCoe
open Idealize.ShloMosaic.Pointwise Cert.Proof.Ref
open Cert.Proof.Grid (tok eta2 row_of col_of vcol_of tok_of)

variable {F : FTy → Type} [FloatOps F]
variable (m : (ℓ : Loc nD τ sig) → Buf (Elt F) ℓ) (c : Dev nD)

/-- The grid point of batch `b`, head `h`, half `i`. -/
def pt (b : Fin 2) (h : Fin 8) (i : Fin 2) : Fin cfg0.N := ⟨b.val * 16 + h.val * 2 + i.val, by
  show _ < grid0.N
  have : grid0.N = 32 := by decide
  omega⟩

/-- Every point is one of these. -/
theorem pt_of (t : Fin cfg0.N) : ∃ b h i, t = pt b h i := by
  have ht : t.val < 32 := t.isLt
  exact ⟨⟨t.val / 16, by omega⟩, ⟨t.val % 16 / 2, by omega⟩, ⟨t.val % 2, by omega⟩, Fin.ext (by simp only [pt]; omega)⟩

/-- The block of window 0 at a point. -/
theorem idx0 : ∀ (b : Fin 2) (h : Fin 8) (i : Fin 2), win0_0.index (pt b h i) (0 : Fin 2) = b.val * 2 + i.val ∧ win0_0.index (pt b h i) (1 : Fin 2) = h.val := by
  decide +kernel

/-- Input 0 of the call, at a point. -/
theorem x0 (b : Fin 2) (h : Fin 8) (i : Fin 2) (r : Fin 1024) (e : Fin 256) :
    iblk m c 0 (pt b h i) (ix2 r e) = V m c main_v55 (ix2 (row b (tok i r)) (col h e)) := by
  obtain ⟨e0, e1⟩ := idx0 b h i
  show V m c main_v55 (((cfg0.win 0).blk (pt b h i)).view.emb _) = _
  refine congrArg (V m c main_v55) ?_
  funext a; apply Fin.ext
  match a with
  | ⟨0, _⟩ => show win0_0.index (pt b h i) (0 : Fin 2) * 1024 + 1 * r.val = (row b (tok i r)).val; rw [e0]; (try simp only [row, crow, tok]); omega
  | ⟨1, _⟩ => show win0_0.index (pt b h i) (1 : Fin 2) * 256 + 1 * e.val = (col h e).val; rw [e1]; (try simp only [col, vcol]); omega

/-- The block of window 1 at a point. -/
theorem idx1 : ∀ (b : Fin 2) (h : Fin 8) (i : Fin 2), win0_1.index (pt b h i) (0 : Fin 2) = 0 ∧ win0_1.index (pt b h i) (1 : Fin 2) = 0 := by
  decide +kernel

/-- Input 1 of the call, at a point. -/
theorem x1 (b : Fin 2) (h : Fin 8) (i : Fin 2) (r : Fin 1) (e : Fin 128) :
    iblk m c 1 (pt b h i) (ix2 r e) = V m c main_v51 (ix2 r e) := by
  obtain ⟨e0, e1⟩ := idx1 b h i
  show V m c main_v51 (((cfg0.win 1).blk (pt b h i)).view.emb _) = _
  refine congrArg (V m c main_v51) ?_
  funext a; apply Fin.ext
  match a with
  | ⟨0, _⟩ => show win0_1.index (pt b h i) (0 : Fin 2) * 1 + 1 * r.val = r.val; rw [e0]; (try simp only [row, crow, tok]); omega
  | ⟨1, _⟩ => show win0_1.index (pt b h i) (1 : Fin 2) * 128 + 1 * e.val = e.val; rw [e1]; (try simp only [col, vcol]); omega

/-- The block of window 2 at a point. -/
theorem idx2 : ∀ (b : Fin 2) (h : Fin 8) (i : Fin 2), win0_2.index (pt b h i) (0 : Fin 2) = 0 ∧ win0_2.index (pt b h i) (1 : Fin 2) = 0 := by
  decide +kernel

/-- Input 2 of the call, at a point. -/
theorem x2 (b : Fin 2) (h : Fin 8) (i : Fin 2) (r : Fin 1) (e : Fin 128) :
    iblk m c 2 (pt b h i) (ix2 r e) = V m c main_v53 (ix2 r e) := by
  obtain ⟨e0, e1⟩ := idx2 b h i
  show V m c main_v53 (((cfg0.win 2).blk (pt b h i)).view.emb _) = _
  refine congrArg (V m c main_v53) ?_
  funext a; apply Fin.ext
  match a with
  | ⟨0, _⟩ => show win0_2.index (pt b h i) (0 : Fin 2) * 1 + 1 * r.val = r.val; rw [e0]; (try simp only [row, crow, tok]); omega
  | ⟨1, _⟩ => show win0_2.index (pt b h i) (1 : Fin 2) * 128 + 1 * e.val = e.val; rw [e1]; (try simp only [col, vcol]); omega

/-- The block of window 3 at a point. -/
theorem idx3 : ∀ (b : Fin 2) (h : Fin 8) (i : Fin 2), win0_3.index (pt b h i) (0 : Fin 2) = b.val * 2 + i.val ∧ win0_3.index (pt b h i) (1 : Fin 2) = 0 := by
  decide +kernel

/-- Input 3 of the call, at a point. -/
theorem x3 (b : Fin 2) (h : Fin 8) (i : Fin 2) (r : Fin 1024) (e : Fin 128) :
    X0_3 m c (pt b h i) (ix2 r e) = V m c main_v43 (ix2 (⟨(row b (tok i r)).val, by omega⟩ : Fin 4608) e) := by
  obtain ⟨e0, e1⟩ := idx3 b h i
  unfold X0_3 Pipeline.Window.fill
  rw [dif_pos (moved0_3 (pt b h i) (ix2 r e))]
  show V m c main_v43 (((cfg0.win 3).blk (pt b h i)).view.emb _) = _
  refine congrArg (V m c main_v43) ?_
  funext a; apply Fin.ext
  match a with
  | ⟨0, _⟩ => show win0_3.index (pt b h i) (0 : Fin 2) * 1024 + 1 * r.val = (⟨(row b (tok i r)).val, by omega⟩ : Fin 4608).val; rw [e0]; (try simp only [row, crow, tok]); omega
  | ⟨1, _⟩ => show win0_3.index (pt b h i) (1 : Fin 2) * 128 + 1 * e.val = e.val; rw [e1]; (try simp only [col, vcol]); omega

/-- The block of window 4 at a point. -/
theorem idx4 : ∀ (b : Fin 2) (h : Fin 8) (i : Fin 2), win0_4.index (pt b h i) (0 : Fin 2) = b.val * 2 + i.val ∧ win0_4.index (pt b h i) (1 : Fin 2) = 0 := by
  decide +kernel

/-- Input 4 of the call, at a point. -/
theorem x4 (b : Fin 2) (h : Fin 8) (i : Fin 2) (r : Fin 1024) (e : Fin 128) :
    X0_4 m c (pt b h i) (ix2 r e) = V m c main_v48 (ix2 (⟨(row b (tok i r)).val, by omega⟩ : Fin 4608) e) := by
  obtain ⟨e0, e1⟩ := idx4 b h i
  unfold X0_4 Pipeline.Window.fill
  rw [dif_pos (moved0_4 (pt b h i) (ix2 r e))]
  show V m c main_v48 (((cfg0.win 4).blk (pt b h i)).view.emb _) = _
  refine congrArg (V m c main_v48) ?_
  funext a; apply Fin.ext
  match a with
  | ⟨0, _⟩ => show win0_4.index (pt b h i) (0 : Fin 2) * 1024 + 1 * r.val = (⟨(row b (tok i r)).val, by omega⟩ : Fin 4608).val; rw [e0]; (try simp only [row, crow, tok]); omega
  | ⟨1, _⟩ => show win0_4.index (pt b h i) (1 : Fin 2) * 128 + 1 * e.val = e.val; rw [e1]; (try simp only [col, vcol]); omega

/-- The block of window 5 at a point. -/
theorem idx5 : ∀ (b : Fin 2) (h : Fin 8) (i : Fin 2), win0_5.index (pt b h i) (0 : Fin 2) = b.val ∧ win0_5.index (pt b h i) (1 : Fin 2) = h.val := by
  decide +kernel

/-- Input 5 of the call, at a point. -/
theorem x5 (b : Fin 2) (h : Fin 8) (i : Fin 2) (r : Fin 2048) (e : Fin 256) :
    X0_5 m c (pt b h i) (ix2 r e) = V m c main_v62 (ix2 (⟨(row b r).val, by omega⟩ : Fin 4608) (col h e)) := by
  obtain ⟨e0, e1⟩ := idx5 b h i
  unfold X0_5 Pipeline.Window.fill
  rw [dif_pos (moved0_5 (pt b h i) (ix2 r e))]
  show V m c main_v62 (((cfg0.win 5).blk (pt b h i)).view.emb _) = _
  refine congrArg (V m c main_v62) ?_
  funext a; apply Fin.ext
  match a with
  | ⟨0, _⟩ => show win0_5.index (pt b h i) (0 : Fin 2) * 2048 + 1 * r.val = (⟨(row b r).val, by omega⟩ : Fin 4608).val; rw [e0]; (try simp only [row, crow, tok]); omega
  | ⟨1, _⟩ => show win0_5.index (pt b h i) (1 : Fin 2) * 256 + 1 * e.val = (col h e).val; rw [e1]; (try simp only [col, vcol]); omega

/-- The block of window 6 at a point. -/
theorem idx6 : ∀ (b : Fin 2) (h : Fin 8) (i : Fin 2), win0_6.index (pt b h i) (0 : Fin 2) = 16 + b.val ∧ win0_6.index (pt b h i) (1 : Fin 2) = h.val := by
  decide +kernel

/-- Input 6 of the call, at a point. -/
theorem x6 (b : Fin 2) (h : Fin 8) (i : Fin 2) (r : Fin 256) (e : Fin 256) :
    iblk m c 6 (pt b h i) (ix2 r e) = V m c main_v62 (ix2 (⟨4096 + (crow b r).val, by omega⟩ : Fin 4608) (col h e)) := by
  obtain ⟨e0, e1⟩ := idx6 b h i
  show V m c main_v62 (((cfg0.win 6).blk (pt b h i)).view.emb _) = _
  refine congrArg (V m c main_v62) ?_
  funext a; apply Fin.ext
  match a with
  | ⟨0, _⟩ => show win0_6.index (pt b h i) (0 : Fin 2) * 256 + 1 * r.val = (⟨4096 + (crow b r).val, by omega⟩ : Fin 4608).val; rw [e0]; (try simp only [row, crow, tok]); omega
  | ⟨1, _⟩ => show win0_6.index (pt b h i) (1 : Fin 2) * 256 + 1 * e.val = (col h e).val; rw [e1]; (try simp only [col, vcol]); omega

/-- The block of window 7 at a point. -/
theorem idx7 : ∀ (b : Fin 2) (h : Fin 8) (i : Fin 2), win0_7.index (pt b h i) (0 : Fin 2) = b.val ∧ win0_7.index (pt b h i) (1 : Fin 2) = h.val := by
  decide +kernel

/-- Input 7 of the call, at a point. -/
theorem x7 (b : Fin 2) (h : Fin 8) (i : Fin 2) (r : Fin 2048) (e : Fin 128) :
    X0_7 m c (pt b h i) (ix2 r e) = V m c main_v69 (ix2 (⟨(row b r).val, by omega⟩ : Fin 4608) (vcol h e)) := by
  obtain ⟨e0, e1⟩ := idx7 b h i
  unfold X0_7 Pipeline.Window.fill
  rw [dif_pos (moved0_7 (pt b h i) (ix2 r e))]
  show V m c main_v69 (((cfg0.win 7).blk (pt b h i)).view.emb _) = _
  refine congrArg (V m c main_v69) ?_
  funext a; apply Fin.ext
  match a with
  | ⟨0, _⟩ => show win0_7.index (pt b h i) (0 : Fin 2) * 2048 + 1 * r.val = (⟨(row b r).val, by omega⟩ : Fin 4608).val; rw [e0]; (try simp only [row, crow, tok]); omega
  | ⟨1, _⟩ => show win0_7.index (pt b h i) (1 : Fin 2) * 128 + 1 * e.val = (vcol h e).val; rw [e1]; (try simp only [col, vcol]); omega

/-- The block of window 8 at a point. -/
theorem idx8 : ∀ (b : Fin 2) (h : Fin 8) (i : Fin 2), win0_8.index (pt b h i) (0 : Fin 2) = 16 + b.val ∧ win0_8.index (pt b h i) (1 : Fin 2) = h.val := by
  decide +kernel

/-- Input 8 of the call, at a point. -/
theorem x8 (b : Fin 2) (h : Fin 8) (i : Fin 2) (r : Fin 256) (e : Fin 128) :
    iblk m c 8 (pt b h i) (ix2 r e) = V m c main_v69 (ix2 (⟨4096 + (crow b r).val, by omega⟩ : Fin 4608) (vcol h e)) := by
  obtain ⟨e0, e1⟩ := idx8 b h i
  show V m c main_v69 (((cfg0.win 8).blk (pt b h i)).view.emb _) = _
  refine congrArg (V m c main_v69) ?_
  funext a; apply Fin.ext
  match a with
  | ⟨0, _⟩ => show win0_8.index (pt b h i) (0 : Fin 2) * 256 + 1 * r.val = (⟨4096 + (crow b r).val, by omega⟩ : Fin 4608).val; rw [e0]; (try simp only [row, crow, tok]); omega
  | ⟨1, _⟩ => show win0_8.index (pt b h i) (1 : Fin 2) * 128 + 1 * e.val = (vcol h e).val; rw [e1]; (try simp only [col, vcol]); omega

/-- The block of window 9 at a point. -/
theorem idx9 : ∀ (b : Fin 2) (h : Fin 8) (i : Fin 2), win0_9.index (pt b h i) (0 : Fin 2) = b.val * 2 + i.val ∧ win0_9.index (pt b h i) (1 : Fin 2) = h.val := by
  decide +kernel

/-- Input 9 of the call, at a point. -/
theorem x9 (b : Fin 2) (h : Fin 8) (i : Fin 2) (r : Fin 1024) (e : Fin 128) :
    iblk m c 9 (pt b h i) (ix2 r e) = V m c main_v70 (ix2 (row b (tok i r)) (vcol h e)) := by
  obtain ⟨e0, e1⟩ := idx9 b h i
  show V m c main_v70 (((cfg0.win 9).blk (pt b h i)).view.emb _) = _
  refine congrArg (V m c main_v70) ?_
  funext a; apply Fin.ext
  match a with
  | ⟨0, _⟩ => show win0_9.index (pt b h i) (0 : Fin 2) * 1024 + 1 * r.val = (row b (tok i r)).val; rw [e0]; (try simp only [row, crow, tok]); omega
  | ⟨1, _⟩ => show win0_9.index (pt b h i) (1 : Fin 2) * 128 + 1 * e.val = (vcol h e).val; rw [e1]; (try simp only [col, vcol]); omega

/-- The block of window 10 at a point. -/
theorem idx10 : ∀ (b : Fin 2) (h : Fin 8) (i : Fin 2), win0_10.index (pt b h i) (0 : Fin 2) = b.val * 2 + i.val ∧ win0_10.index (pt b h i) (1 : Fin 2) = h.val := by
  decide +kernel

/-- Where an entry of output block 10 lies in its array. -/
theorem emb10 (b : Fin 2) (h : Fin 8) (i : Fin 2) (r : Fin 1024) (e : Fin 128) :
    ((cfg0.win 10).blk (pt b h i)).view.emb (ix2 r e) = (ix2 (row b (tok i r)) (vcol h e) : S4096x1024.Idx) := by
  obtain ⟨e0, e1⟩ := idx10 b h i
  funext a; apply Fin.ext
  match a with
  | ⟨0, _⟩ => show win0_10.index (pt b h i) (0 : Fin 2) * 1024 + 1 * r.val = (row b (tok i r)).val; rw [e0]; (try simp only [row, crow, tok]); omega
  | ⟨1, _⟩ => show win0_10.index (pt b h i) (1 : Fin 2) * 128 + 1 * e.val = (vcol h e).val; rw [e1]; (try simp only [col, vcol]); omega

/-- The block of window 11 at a point. -/
theorem idx11 : ∀ (b : Fin 2) (h : Fin 8) (i : Fin 2), win0_11.index (pt b h i) (0 : Fin 2) = b.val * 2 + i.val ∧ win0_11.index (pt b h i) (1 : Fin 2) = h.val := by
  decide +kernel

/-- Where an entry of output block 11 lies in its array. -/
theorem emb11 (b : Fin 2) (h : Fin 8) (i : Fin 2) (r : Fin 1024) (e : Fin 128) :
    ((cfg0.win 11).blk (pt b h i)).view.emb (ix2 r e) = (ix2 (row b (tok i r)) (vcol h e) : S4096x1024.Idx) := by
  obtain ⟨e0, e1⟩ := idx11 b h i
  funext a; apply Fin.ext
  match a with
  | ⟨0, _⟩ => show win0_11.index (pt b h i) (0 : Fin 2) * 1024 + 1 * r.val = (row b (tok i r)).val; rw [e0]; (try simp only [row, crow, tok]); omega
  | ⟨1, _⟩ => show win0_11.index (pt b h i) (1 : Fin 2) * 128 + 1 * e.val = (vcol h e).val; rw [e1]; (try simp only [col, vcol]); omega

/-- The block of window 12 at a point. -/
theorem idx12 : ∀ (b : Fin 2) (h : Fin 8) (i : Fin 2), win0_12.index (pt b h i) (0 : Fin 2) = b.val * 2 + i.val ∧ win0_12.index (pt b h i) (1 : Fin 2) = h.val := by
  decide +kernel

/-- Where an entry of output block 12 lies in its array. -/
theorem emb12 (b : Fin 2) (h : Fin 8) (i : Fin 2) (r : Fin 1024) (e : Fin 256) :
    ((cfg0.win 12).blk (pt b h i)).view.emb (ix2 r e) = (ix2 (row b (tok i r)) (col h e) : S4096x2048.Idx) := by
  obtain ⟨e0, e1⟩ := idx12 b h i
  funext a; apply Fin.ext
  match a with
  | ⟨0, _⟩ => show win0_12.index (pt b h i) (0 : Fin 2) * 1024 + 1 * r.val = (row b (tok i r)).val; rw [e0]; (try simp only [row, crow, tok]); omega
  | ⟨1, _⟩ => show win0_12.index (pt b h i) (1 : Fin 2) * 256 + 1 * e.val = (col h e).val; rw [e1]; (try simp only [col, vcol]); omega

/-- The block of window 13 at a point. -/
theorem idx13 : ∀ (b : Fin 2) (h : Fin 8) (i : Fin 2), win0_13.index (pt b h i) (0 : Fin 2) = b.val * 2 + i.val ∧ win0_13.index (pt b h i) (1 : Fin 2) = h.val := by
  decide +kernel

/-- Where an entry of output block 13 lies in its array. -/
theorem emb13 (b : Fin 2) (h : Fin 8) (i : Fin 2) (r : Fin 1024) (e : Fin 128) :
    ((cfg0.win 13).blk (pt b h i)).view.emb (ix2 r e) = (ix2 (row b (tok i r)) (vcol h e) : S4096x1024.Idx) := by
  obtain ⟨e0, e1⟩ := idx13 b h i
  funext a; apply Fin.ext
  match a with
  | ⟨0, _⟩ => show win0_13.index (pt b h i) (0 : Fin 2) * 1024 + 1 * r.val = (row b (tok i r)).val; rw [e0]; (try simp only [row, crow, tok]); omega
  | ⟨1, _⟩ => show win0_13.index (pt b h i) (1 : Fin 2) * 128 + 1 * e.val = (vcol h e).val; rw [e1]; (try simp only [col, vcol]); omega

end Cert.Proof.Fwd
-- ==== Proof.Fwd.Line.lean ====
module

public import proofs.«01_k».proof.Proof.Gen.Kernel2Ideal.Frame.Runs
public import Idealize.ShloMosaic.Lib.StableHlo.Run

/-! The host lines before the kernel, read as equations: each array written by one line holds that line's
    function of the arrays the earlier lines left. -/

@[expose] public section

set_option maxRecDepth 16384

noncomputable section

namespace Cert.Proof.Fwd

open Cert.Kernel2Ideal Cert.Kernel2Ideal.Gen Idealize.ShloMosaic Idealize.ShloMosaic.TcCoe Idealize.SL.Sem
open Idealize.ShloMosaic.StableHlo

variable {F : FTy → Type} [FloatOps F]

/-- The host lines before the kernel, in order. -/
abbrev hostLine : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- The array each of those lines writes, in order. -/
def written : List (Ref sig .tc) :=
  [main_v0, main_c, main_call0_v0, main_call0_v1, main_call0_v2, main_call0_v3, main_call0_v4, main_call0_v5,
   main_call0_v6, main_call0_v7, main_call0_v8, main_call0_c, main_call0_v9, main_call0_v10, main_call0_v11,
   main_call0_c_0, main_call0_v12, main_call0_v13, main_v1, main_v2, main_c_0, main_call1_v0, main_call1_c,
   main_call1_v1, main_call1_c_0, main_call1_v2, main_call1_v3, main_call1_v4, main_call1_c_1, main_call1_v5,
   main_call1_v6, main_call1_c_2, main_call1_v7, main_call1_v8, main_call1_c_3, main_call1_v9, main_call1_v10,
   main_call1_v11, main_call1_v12, main_call1_v13, main_call1_v14, main_v3, main_v4, main_v5, main_cst,
   main_v6, main_v7, main_cst_1, main_v8, main_v9, main_v10, main_cst_2, main_v11, main_v12, main_cst_3,
   main_v13, main_v14, main_v15, main_v16, main_v17, main_v18, main_v19, main_v20, main_v21, main_v22,
   main_v23, main_v24, main_cst_4, main_v25, main_cst_5, main_v26, main_v27, main_v28, main_v29, main_v30,
   main_v31, main_v32, main_v33, main_v34, main_v35, main_v36, main_v37, main_v38, main_v39, main_v40,
   main_v41, main_cst_6, main_v42, main_v43, main_v44, main_v45, main_v46, main_cst_7, main_v47, main_v48,
   main_v49, main_v50, main_v51, main_v52, main_c_8, main_call2_v0, main_v53, main_c_9, main_call3_v0,
   main_v54, main_v55, main_v56, main_c_10, main_call4_v0, main_v57, main_v58, main_c_11, main_call5_v0,
   main_v59, main_v60, main_v61, main_v62, main_v63, main_c_12, main_call6_v0, main_v64, main_v65, main_c_13,
   main_call7_v0, main_v66, main_v67, main_v68, main_v69, main_v70]

/-- Each line writes just its own array. -/
theorem line_writes : (hostLine (F := F)).map HloOp.writes = written.map fun r => {Proc.devRef (τ := τ) .tc r} := rfl

/-- The arrays are numbered in the order they are written, after the six arguments. -/
theorem written_idx : written.map (fun r => r.idx.val) = List.range' 6 129 := by decide +kernel

theorem not_written_later {k : Nat} {r : Ref sig .tc} (h : r.idx.val < 6 + k) : r ∉ written.drop k := by
  intro hm
  have h2 : r.idx.val ∈ (written.map (fun r => r.idx.val)).drop k := by
    rw [← List.map_drop]; exact List.mem_map_of_mem hm
  rw [written_idx, List.drop_range', List.mem_range'_1] at h2
  omega

variable (m : (ℓ : Loc nD τ sig) → Buf (Elt F) ℓ) (c : Dev nD)

/-- What an array holds when the kernel starts. -/
abbrev W (r : Ref sig .tc) : r.ty.Contents (Elt F) := Gen.V m c r

/-- What the device holds before line `k`. -/
abbrev before (k : Nat) : Valuation τ sig (Elt F) := after (hostLine.take k) (fun b => m (c, b))

/-- An array written before line `k` keeps its contents from there on. -/
theorem keep (k : Nat) (r : Ref sig .tc) (h : r.idx.val < 6 + k) : before m c k (Proc.devRef .tc r) = W m c r := by
  have e : Gen.V m c r = after (hostLine (F := F)) (fun b => m (c, b)) (Proc.devRef .tc r) := rfl
  unfold W before
  rw [e]
  conv_rhs => rw [← List.take_append_drop k (hostLine (F := F)), after_append]
  refine (after_of_writes_sub (W := written.drop k) _ _ (forall_writes_sub_of_map ?_) (not_written_later h)).symm
  rw [List.map_drop, line_writes, List.map_drop]

/-- An argument still holds what it held at the start. -/
theorem arg (r : Ref sig .tc) (h : r.idx.val < 6) : W m c r = m (c, Proc.devRef .tc r) :=
  (keep m c 0 r h).symm

/-- What line `k` writes is there when the kernel starts. -/
theorem step (k : Nat) {op : HloOp τ sig (Elt F)} (h : (hostLine (F := F))[k]? = some op) (y : Ref sig .tc)
    (hy : y.idx.val < 7 + k) : W m c y = op.result (before m c k) (Proc.devRef .tc y) := by
  rw [← keep m c (k + 1) y (by omega)]
  unfold before
  rw [List.take_succ, h, after_append]
  rfl

theorem step0 (k : Nat) {y : Ref sig .tc} {v : y.ty.Contents (Elt F)} {hy}
    (h : (hostLine (F := F))[k]? = some (nullary (τ := τ) y v hy)) (iy : y.idx.val < 7 + k) : W m c y = v := by
  rw [step m c k h y iy, nullary_result']

theorem step1 (k : Nat) {x y : Ref sig .tc} {f : x.ty.Contents (Elt F) → y.ty.Contents (Elt F)} {hx hy}
    (h : (hostLine (F := F))[k]? = some (unary (τ := τ) x y f hx hy)) (iy : y.idx.val < 7 + k) (ix : x.idx.val < 6 + k) :
    W m c y = f (W m c x) := by
  rw [step m c k h y iy, unary_result', keep m c k x ix]

theorem step2 (k : Nat) {a b y : Ref sig .tc} {f : a.ty.Contents (Elt F) → b.ty.Contents (Elt F) → y.ty.Contents (Elt F)}
    {ha hb hy} (h : (hostLine (F := F))[k]? = some (binary (τ := τ) a b y f ha hb hy)) (iy : y.idx.val < 7 + k)
    (ia : a.idx.val < 6 + k) (ib : b.idx.val < 6 + k) : W m c y = f (W m c a) (W m c b) := by
  rw [step m c k h y iy, binary_result', keep m c k a ia, keep m c k b ib]

theorem step3 (k : Nat) {p a b y : Ref sig .tc}
    {f : p.ty.Contents (Elt F) → a.ty.Contents (Elt F) → b.ty.Contents (Elt F) → y.ty.Contents (Elt F)}
    {hp ha hb hy} (h : (hostLine (F := F))[k]? = some (ternary (τ := τ) p a b y f hp ha hb hy)) (iy : y.idx.val < 7 + k)
    (ip : p.idx.val < 6 + k) (ia : a.idx.val < 6 + k) (ib : b.idx.val < 6 + k) :
    W m c y = f (W m c p) (W m c a) (W m c b) := by
  rw [step m c k h y iy, ternary_result', keep m c k p ip, keep m c k a ia, keep m c k b ib]

theorem stepCast (k : Nat) {x y : Ref sig .tc} {he hn hx hy}
    (h : (hostLine (F := F))[k]? = some (reshape (τ := τ) (Val := Elt F) x y he hn hx hy)) (iy : y.idx.val < 7 + k)
    (ix : x.idx.val < 6 + k) : W m c y = fun i => he ▸ shapeCast y.ty.shape (W m c x) hn i := by
  rw [step m c k h y iy, reshape_result', keep m c k x ix]

theorem stepN (k : Nat) {n : Nat} {xs : Fin n → Ref sig .tc} {y : Ref sig .tc}
    {f : ((j : Fin n) → (xs j).ty.Contents (Elt F)) → y.ty.Contents (Elt F)} {hxs hy}
    (h : (hostLine (F := F))[k]? = some (nary (τ := τ) xs y f hxs hy)) (iy : y.idx.val < 7 + k)
    (ix : ∀ j, (xs j).idx.val < 6 + k) : W m c y = f (fun j => W m c (xs j)) := by
  rw [step m c k h y iy, nary_result']
  exact congrArg f (funext fun j => keep m c k (xs j) (ix j))

end Cert.Proof.Fwd
-- ==== Proof.Fwd.Own.lean ====
module

public import proofs.«01_k».proof.Proof.Fwd.Line
public import proofs.«01_k».proof.Proof.Host.Stages
/-! Each array the host leaves for the forward kernel is the stage of the same content of the backward call. -/

@[expose] public section

set_option maxRecDepth 16384

noncomputable section

namespace Cert.Proof.Fwd

open Cert.Kernel2Ideal Cert.Kernel2Ideal.Gen Idealize.ShloMosaic Idealize.ShloMosaic.TcCoe Idealize.SL.Sem
open Idealize.ShloMosaic.StableHlo
open Cert.Proof.Host (o_v133 o_c_13 o_call1_v0 o_call1_v1 o_call1_v2 o_call1_v3 o_call1_v4 o_call1_v5 o_call1_v6 o_call1_v7 o_call1_v8 o_call1_c o_call1_v9 o_call1_v10 o_call1_v11 o_call1_c_0 o_call1_v12 o_call1_v13 o_v134 o_v135 o_c_14 o_call2_v0 o_call2_c o_call2_v1 o_call2_c_0 o_call2_v2 o_call2_v3 o_call2_v4 o_call2_c_1 o_call2_v5 o_call2_v6 o_call2_c_2 o_call2_v7 o_call2_v8 o_call2_c_3 o_call2_v9 o_call2_v10 o_call2_v11 o_call2_v12 o_call2_v13 o_call2_v14 o_v136 o_v137 o_v138 o_cst_15 o_v139 o_v140 o_cst_16 o_v141 o_v142 o_v143 o_cst_17 o_v144 o_v145 o_cst_18 o_v146 o_v147 o_v148 o_v149 o_v150 o_v151 o_v152 o_v153 o_v154 o_v155 o_v156 o_v157 o_cst_19 o_v158 o_cst_20 o_v159 o_v160 o_v161 o_v162 o_v163 o_v164 o_v165 o_v166 o_v167 o_v168 o_v169 o_v170 o_v171 o_v172 o_v173 o_v174 o_cst_21 o_v175 o_v176 o_v177 o_v178 o_v179 o_cst_22 o_v180 o_v181 o_v34 o_v35 o_v36 o_v37 o_c o_call0_v0 o_v38 o_c_26 o_call6_v0 o_v189 o_v190 o_v191 o_c_27 o_call7_v0 o_v192 o_v193 o_c_28 o_call8_v0 o_v194 o_v195 o_v196 o_v197 o_v198 o_c_29 o_call9_v0 o_v199 o_v200 o_c_30 o_call10_v0 o_v201 o_v202 o_v203 o_v204 o_v33)

variable {F : FTy → Type} [FloatOps F]
variable (m : (ℓ : Loc nD τ sig) → Buf (Elt F) ℓ) (c : Dev nD)

theorem t_v0 : W m c main_v0 = o_v133 (F := F) := by
  rw [step0 m c 0 (y := main_v0) rfl (by decide)]; rfl

theorem t_c : W m c main_c = o_c_13 (F := F) := by
  rw [step0 m c 1 (y := main_c) rfl (by decide)]; rfl

theorem t_call0_v0 : W m c main_call0_v0 = o_call1_v0 (F := F) := by
  rw [step1 m c 2 (x := main_c) (y := main_call0_v0) rfl (by decide) (by decide), t_c]; rfl

theorem t_call0_v1 : W m c main_call0_v1 = o_call1_v1 (F := F) := by
  rw [step1 m c 3 (x := main_call0_v0) (y := main_call0_v1) rfl (by decide) (by decide), t_call0_v0]; rfl

theorem t_call0_v2 : W m c main_call0_v2 = o_call1_v2 (F := F) := by
  rw [step2 m c 4 (a := main_v0) (b := main_call0_v1) (y := main_call0_v2) rfl (by decide) (by decide) (by decide), t_v0, t_call0_v1]; rfl

theorem t_call0_v3 : W m c main_call0_v3 = o_call1_v3 (F := F) := by
  rw [step1 m c 5 (x := main_v0) (y := main_call0_v3) rfl (by decide) (by decide), t_v0]; rfl

theorem t_call0_v4 : W m c main_call0_v4 = o_call1_v4 (F := F) := by
  rw [step1 m c 6 (x := main_call0_v0) (y := main_call0_v4) rfl (by decide) (by decide), t_call0_v0]; rfl

theorem t_call0_v5 : W m c main_call0_v5 = o_call1_v5 (F := F) := by
  rw [step1 m c 7 (x := main_call0_v4) (y := main_call0_v5) rfl (by decide) (by decide), t_call0_v4]; rfl

theorem t_call0_v6 : W m c main_call0_v6 = o_call1_v6 (F := F) := by
  rw [step2 m c 8 (a := main_call0_v3) (b := main_call0_v5) (y := main_call0_v6) rfl (by decide) (by decide) (by decide), t_call0_v3, t_call0_v5]; rfl

theorem t_call0_v7 : W m c main_call0_v7 = o_call1_v7 (F := F) := by
  rw [step1 m c 9 (x := main_call0_v0) (y := main_call0_v7) rfl (by decide) (by decide), t_call0_v0]; rfl

theorem t_call0_v8 : W m c main_call0_v8 = o_call1_v8 (F := F) := by
  rw [step2 m c 10 (a := main_v0) (b := main_call0_v7) (y := main_call0_v8) rfl (by decide) (by decide) (by decide), t_v0, t_call0_v7]; rfl

theorem t_call0_c : W m c main_call0_c = o_call1_c (F := F) := by
  rw [step0 m c 11 (y := main_call0_c) rfl (by decide)]; rfl

theorem t_call0_v9 : W m c main_call0_v9 = o_call1_v9 (F := F) := by
  rw [step1 m c 12 (x := main_call0_c) (y := main_call0_v9) rfl (by decide) (by decide), t_call0_c]; rfl

theorem t_call0_v10 : W m c main_call0_v10 = o_call1_v10 (F := F) := by
  rw [step2 m c 13 (a := main_call0_v8) (b := main_call0_v9) (y := main_call0_v10) rfl (by decide) (by decide) (by decide), t_call0_v8, t_call0_v9]; rfl

theorem t_call0_v11 : W m c main_call0_v11 = o_call1_v11 (F := F) := by
  rw [step2 m c 14 (a := main_call0_v6) (b := main_call0_v10) (y := main_call0_v11) rfl (by decide) (by decide) (by decide), t_call0_v6, t_call0_v10]; rfl

theorem t_call0_c_0 : W m c main_call0_c_0 = o_call1_c_0 (F := F) := by
  rw [step0 m c 15 (y := main_call0_c_0) rfl (by decide)]; rfl

theorem t_call0_v12 : W m c main_call0_v12 = o_call1_v12 (F := F) := by
  rw [step1 m c 16 (x := main_call0_c_0) (y := main_call0_v12) rfl (by decide) (by decide), t_call0_c_0]; rfl

theorem t_call0_v13 : W m c main_call0_v13 = o_call1_v13 (F := F) := by
  rw [step2 m c 17 (a := main_call0_v2) (b := main_call0_v12) (y := main_call0_v13) rfl (by decide) (by decide) (by decide), t_call0_v2, t_call0_v12]; rfl

theorem t_v1 : W m c main_v1 = o_v134 (F := F) := by
  rw [step3 m c 18 (p := main_call0_v11) (a := main_call0_v13) (b := main_call0_v2) (y := main_v1) rfl (by decide) (by decide) (by decide) (by decide), t_call0_v11, t_call0_v13, t_call0_v2]; rfl

theorem t_v2 : W m c main_v2 = o_v135 (F := F) := by
  rw [step1 m c 19 (x := main_v1) (y := main_v2) rfl (by decide) (by decide), t_v1]; rfl

theorem t_c_0 : W m c main_c_0 = o_c_14 (F := F) := by
  rw [step0 m c 20 (y := main_c_0) rfl (by decide)]; rfl

theorem t_call1_v0 : W m c main_call1_v0 = o_call2_v0 (F := F) := by
  rw [step1 m c 21 (x := main_c_0) (y := main_call1_v0) rfl (by decide) (by decide), t_c_0]; rfl

theorem t_call1_c : W m c main_call1_c = o_call2_c (F := F) := by
  rw [step0 m c 22 (y := main_call1_c) rfl (by decide)]; rfl

theorem t_call1_v1 : W m c main_call1_v1 = o_call2_v1 (F := F) := by
  rw [step2 m c 23 (a := main_call1_v0) (b := main_call1_c) (y := main_call1_v1) rfl (by decide) (by decide) (by decide), t_call1_v0, t_call1_c]; rfl

theorem t_call1_c_0 : W m c main_call1_c_0 = o_call2_c_0 (F := F) := by
  rw [step0 m c 24 (y := main_call1_c_0) rfl (by decide)]; rfl

theorem t_call1_v2 : W m c main_call1_v2 = o_call2_v2 (F := F) := by
  rw [step3 m c 25 (p := main_call1_v1) (a := main_call1_c_0) (b := main_call1_v0) (y := main_call1_v2) rfl (by decide) (by decide) (by decide) (by decide), t_call1_v1, t_call1_c_0, t_call1_v0]; rfl

theorem t_call1_v3 : W m c main_call1_v3 = o_call2_v3 (F := F) := by
  rw [step1 m c 26 (x := main_call1_v2) (y := main_call1_v3) rfl (by decide) (by decide), t_call1_v2]; rfl

theorem t_call1_v4 : W m c main_call1_v4 = o_call2_v4 (F := F) := by
  rw [step2 m c 27 (a := main_v0) (b := main_call1_v3) (y := main_call1_v4) rfl (by decide) (by decide) (by decide), t_v0, t_call1_v3]; rfl

theorem t_call1_c_1 : W m c main_call1_c_1 = o_call2_c_1 (F := F) := by
  rw [step0 m c 28 (y := main_call1_c_1) rfl (by decide)]; rfl

theorem t_call1_v5 : W m c main_call1_v5 = o_call2_v5 (F := F) := by
  rw [step1 m c 29 (x := main_call1_c_1) (y := main_call1_v5) rfl (by decide) (by decide), t_call1_c_1]; rfl

theorem t_call1_v6 : W m c main_call1_v6 = o_call2_v6 (F := F) := by
  rw [step2 m c 30 (a := main_call1_v4) (b := main_call1_v5) (y := main_call1_v6) rfl (by decide) (by decide) (by decide), t_call1_v4, t_call1_v5]; rfl

theorem t_call1_c_2 : W m c main_call1_c_2 = o_call2_c_2 (F := F) := by
  rw [step0 m c 31 (y := main_call1_c_2) rfl (by decide)]; rfl

theorem t_call1_v7 : W m c main_call1_v7 = o_call2_v7 (F := F) := by
  rw [step1 m c 32 (x := main_call1_c_2) (y := main_call1_v7) rfl (by decide) (by decide), t_call1_c_2]; rfl

theorem t_call1_v8 : W m c main_call1_v8 = o_call2_v8 (F := F) := by
  rw [step2 m c 33 (a := main_call1_v4) (b := main_call1_v7) (y := main_call1_v8) rfl (by decide) (by decide) (by decide), t_call1_v4, t_call1_v7]; rfl

theorem t_call1_c_3 : W m c main_call1_c_3 = o_call2_c_3 (F := F) := by
  rw [step0 m c 34 (y := main_call1_c_3) rfl (by decide)]; rfl

theorem t_call1_v9 : W m c main_call1_v9 = o_call2_v9 (F := F) := by
  rw [step2 m c 35 (a := main_call1_v2) (b := main_call1_c_3) (y := main_call1_v9) rfl (by decide) (by decide) (by decide), t_call1_v2, t_call1_c_3]; rfl

theorem t_call1_v10 : W m c main_call1_v10 = o_call2_v10 (F := F) := by
  rw [step1 m c 36 (x := main_call1_v9) (y := main_call1_v10) rfl (by decide) (by decide), t_call1_v9]; rfl

theorem t_call1_v11 : W m c main_call1_v11 = o_call2_v11 (F := F) := by
  rw [step2 m c 37 (a := main_call1_v8) (b := main_call1_v10) (y := main_call1_v11) rfl (by decide) (by decide) (by decide), t_call1_v8, t_call1_v10]; rfl

theorem t_call1_v12 : W m c main_call1_v12 = o_call2_v12 (F := F) := by
  rw [step2 m c 38 (a := main_call1_v11) (b := main_call1_v6) (y := main_call1_v12) rfl (by decide) (by decide) (by decide), t_call1_v11, t_call1_v6]; rfl

theorem t_call1_v13 : W m c main_call1_v13 = o_call2_v13 (F := F) := by
  rw [step1 m c 39 (x := main_call1_v2) (y := main_call1_v13) rfl (by decide) (by decide), t_call1_v2]; rfl

theorem t_call1_v14 : W m c main_call1_v14 = o_call2_v14 (F := F) := by
  rw [step2 m c 40 (a := main_call1_v4) (b := main_call1_v13) (y := main_call1_v14) rfl (by decide) (by decide) (by decide), t_call1_v4, t_call1_v13]; rfl

theorem t_v3 : W m c main_v3 = o_v136 (F := F) := by
  rw [step3 m c 41 (p := main_call1_v12) (a := main_call1_v14) (b := main_call1_v4) (y := main_v3) rfl (by decide) (by decide) (by decide) (by decide), t_call1_v12, t_call1_v14, t_call1_v4]; rfl

theorem t_v4 : W m c main_v4 = o_v137 (F := F) := by
  rw [step1 m c 42 (x := main_v3) (y := main_v4) rfl (by decide) (by decide), t_v3]; rfl

theorem t_v5 : W m c main_v5 = o_v138 (F := F) := by
  rw [step0 m c 43 (y := main_v5) rfl (by decide)]; rfl

theorem t_cst : W m c main_cst = o_cst_15 (F := F) := by
  rw [step0 m c 44 (y := main_cst) rfl (by decide)]; rfl

theorem t_v6 : W m c main_v6 = o_v139 (F := F) := by
  rw [step1 m c 45 (x := main_cst) (y := main_v6) rfl (by decide) (by decide), t_cst]; rfl

theorem t_v7 : W m c main_v7 = o_v140 (F := F) := by
  rw [step2 m c 46 (a := main_v6) (b := main_v5) (y := main_v7) rfl (by decide) (by decide) (by decide), t_v6, t_v5]; rfl

theorem t_cst_1 : W m c main_cst_1 = o_cst_16 (F := F) := by
  rw [step0 m c 47 (y := main_cst_1) rfl (by decide)]; rfl

theorem t_v8 : W m c main_v8 = o_v141 (F := F) := by
  rw [step1 m c 48 (x := main_cst_1) (y := main_v8) rfl (by decide) (by decide), t_cst_1]; rfl

theorem t_v9 : W m c main_v9 = o_v142 (F := F) := by
  rw [step2 m c 49 (a := main_v8) (b := main_v7) (y := main_v9) rfl (by decide) (by decide) (by decide), t_v8, t_v7]; rfl

theorem t_v10 : W m c main_v10 = o_v143 (F := F) := by
  rw [step1 m c 50 (x := main_v9) (y := main_v10) rfl (by decide) (by decide), t_v9]; rfl

theorem t_cst_2 : W m c main_cst_2 = o_cst_17 (F := F) := by
  rw [step0 m c 51 (y := main_cst_2) rfl (by decide)]; rfl

theorem t_v11 : W m c main_v11 = o_v144 (F := F) := by
  rw [step1 m c 52 (x := main_cst_2) (y := main_v11) rfl (by decide) (by decide), t_cst_2]; rfl

theorem t_v12 : W m c main_v12 = o_v145 (F := F) := by
  rw [step2 m c 53 (a := main_v10) (b := main_v11) (y := main_v12) rfl (by decide) (by decide) (by decide), t_v10, t_v11]; rfl

theorem t_cst_3 : W m c main_cst_3 = o_cst_18 (F := F) := by
  rw [step0 m c 54 (y := main_cst_3) rfl (by decide)]; rfl

theorem t_v13 : W m c main_v13 = o_v146 (F := F) := by
  rw [step1 m c 55 (x := main_cst_3) (y := main_v13) rfl (by decide) (by decide), t_cst_3]; rfl

theorem t_v14 : W m c main_v14 = o_v147 (F := F) := by
  rw [step2 m c 56 (a := main_v13) (b := main_v12) (y := main_v14) rfl (by decide) (by decide) (by decide), t_v13, t_v12]; rfl

theorem t_v15 : W m c main_v15 = o_v148 (F := F) := by
  rw [step1 m c 57 (x := main_v2) (y := main_v15) rfl (by decide) (by decide), t_v2]; rfl

theorem t_v16 : W m c main_v16 = o_v149 (F := F) := by
  rw [step1 m c 58 (x := main_v14) (y := main_v16) rfl (by decide) (by decide), t_v14]; rfl

theorem t_v17 : W m c main_v17 = o_v150 (F := F) := by
  rw [step1 m c 59 (x := main_v15) (y := main_v17) rfl (by decide) (by decide), t_v15]; rfl

theorem t_v18 : W m c main_v18 = o_v151 (F := F) := by
  rw [step1 m c 60 (x := main_v16) (y := main_v18) rfl (by decide) (by decide), t_v16]; rfl

theorem t_v19 : W m c main_v19 = o_v152 (F := F) := by
  rw [step2 m c 61 (a := main_v17) (b := main_v18) (y := main_v19) rfl (by decide) (by decide) (by decide), t_v17, t_v18]; rfl

theorem t_v20 : W m c main_v20 = o_v153 (F := F) := by
  rw [step1 m c 62 (x := main_v4) (y := main_v20) rfl (by decide) (by decide), t_v4]; rfl

theorem t_v21 : W m c main_v21 = o_v154 (F := F) := by
  rw [step1 m c 63 (x := main_v14) (y := main_v21) rfl (by decide) (by decide), t_v14]; rfl

theorem t_v22 : W m c main_v22 = o_v155 (F := F) := by
  rw [step1 m c 64 (x := main_v20) (y := main_v22) rfl (by decide) (by decide), t_v20]; rfl

theorem t_v23 : W m c main_v23 = o_v156 (F := F) := by
  rw [step1 m c 65 (x := main_v21) (y := main_v23) rfl (by decide) (by decide), t_v21]; rfl

theorem t_v24 : W m c main_v24 = o_v157 (F := F) := by
  rw [step2 m c 66 (a := main_v22) (b := main_v23) (y := main_v24) rfl (by decide) (by decide) (by decide), t_v22, t_v23]; rfl

theorem t_cst_4 : W m c main_cst_4 = o_cst_19 (F := F) := by
  rw [step0 m c 67 (y := main_cst_4) rfl (by decide)]; rfl

theorem t_v25 : W m c main_v25 = o_v158 (F := F) := by
  rw [step1 m c 68 (x := main_cst_4) (y := main_v25) rfl (by decide) (by decide), t_cst_4]; rfl

theorem t_cst_5 : W m c main_cst_5 = o_cst_20 (F := F) := by
  rw [step0 m c 69 (y := main_cst_5) rfl (by decide)]; rfl

theorem t_v26 : W m c main_v26 = o_v159 (F := F) := by
  rw [step1 m c 70 (x := main_cst_5) (y := main_v26) rfl (by decide) (by decide), t_cst_5]; rfl

theorem t_v27 : W m c main_v27 = o_v160 (F := F) := by
  rw [step1 m c 71 (x := main_v19) (y := main_v27) rfl (by decide) (by decide), t_v19]; rfl

theorem t_v28 : W m c main_v28 = o_v161 (F := F) := by
  rw [step1 m c 72 (x := main_v19) (y := main_v28) rfl (by decide) (by decide), t_v19]; rfl

theorem t_v29 : W m c main_v29 = o_v162 (F := F) := by
  rw [step1 m c 73 (x := main_v24) (y := main_v29) rfl (by decide) (by decide), t_v24]; rfl

theorem t_v30 : W m c main_v30 = o_v163 (F := F) := by
  rw [step1 m c 74 (x := main_v24) (y := main_v30) rfl (by decide) (by decide), t_v24]; rfl

/-- The five pieces of line 75. -/
theorem five_v31 (p0 : (⟨S2048x16, .f32⟩ : BufTy).Contents (Elt F)) (e0 : W m c main_v27 = p0) (p1 : (⟨S2048x16, .f32⟩ : BufTy).Contents (Elt F)) (e1 : W m c main_v28 = p1) (p2 : (⟨S2048x16, .f32⟩ : BufTy).Contents (Elt F)) (e2 : W m c main_v29 = p2) (p3 : (⟨S2048x16, .f32⟩ : BufTy).Contents (Elt F)) (e3 : W m c main_v30 = p3) (p4 : (⟨S2048x64, .f32⟩ : BufTy).Contents (Elt F)) (e4 : W m c main_v25 = p4) :
    W m c main_v31 = concatenate S2048x128 1 [⟨S2048x16, p0⟩, ⟨S2048x16, p1⟩, ⟨S2048x16, p2⟩, ⟨S2048x16, p3⟩, ⟨S2048x64, p4⟩] concatenates_S2048x16_S2048x16_S2048x16_S2048x16_S2048x64_S2048x128_d1 := by
  subst e0 e1 e2 e3 e4
  exact stepN m c 75 (y := main_v31) rfl (by decide) (by decide)

theorem t_v31 : W m c main_v31 = o_v164 (F := F) :=
  five_v31 m c _ (t_v27 m c) _ (t_v28 m c) _ (t_v29 m c) _ (t_v30 m c) _ (t_v25 m c)

theorem t_v32 : W m c main_v32 = o_v165 (F := F) := by
  rw [step1 m c 76 (x := main_v19) (y := main_v32) rfl (by decide) (by decide), t_v19]; rfl

theorem t_v33 : W m c main_v33 = o_v166 (F := F) := by
  rw [step1 m c 77 (x := main_v32) (y := main_v33) rfl (by decide) (by decide), t_v32]; rfl

theorem t_v34 : W m c main_v34 = o_v167 (F := F) := by
  rw [step1 m c 78 (x := main_v19) (y := main_v34) rfl (by decide) (by decide), t_v19]; rfl

theorem t_v35 : W m c main_v35 = o_v168 (F := F) := by
  rw [step1 m c 79 (x := main_v24) (y := main_v35) rfl (by decide) (by decide), t_v24]; rfl

theorem t_v36 : W m c main_v36 = o_v169 (F := F) := by
  rw [step1 m c 80 (x := main_v35) (y := main_v36) rfl (by decide) (by decide), t_v35]; rfl

theorem t_v37 : W m c main_v37 = o_v170 (F := F) := by
  rw [step1 m c 81 (x := main_v24) (y := main_v37) rfl (by decide) (by decide), t_v24]; rfl

/-- The five pieces of line 82. -/
theorem five_v38 (p0 : (⟨S2048x16, .f32⟩ : BufTy).Contents (Elt F)) (e0 : W m c main_v33 = p0) (p1 : (⟨S2048x16, .f32⟩ : BufTy).Contents (Elt F)) (e1 : W m c main_v34 = p1) (p2 : (⟨S2048x16, .f32⟩ : BufTy).Contents (Elt F)) (e2 : W m c main_v36 = p2) (p3 : (⟨S2048x16, .f32⟩ : BufTy).Contents (Elt F)) (e3 : W m c main_v37 = p3) (p4 : (⟨S2048x64, .f32⟩ : BufTy).Contents (Elt F)) (e4 : W m c main_v26 = p4) :
    W m c main_v38 = concatenate S2048x128 1 [⟨S2048x16, p0⟩, ⟨S2048x16, p1⟩, ⟨S2048x16, p2⟩, ⟨S2048x16, p3⟩, ⟨S2048x64, p4⟩] concatenates_S2048x16_S2048x16_S2048x16_S2048x16_S2048x64_S2048x128_d1 := by
  subst e0 e1 e2 e3 e4
  exact stepN m c 82 (y := main_v38) rfl (by decide) (by decide)

theorem t_v38 : W m c main_v38 = o_v171 (F := F) :=
  five_v38 m c _ (t_v33 m c) _ (t_v34 m c) _ (t_v36 m c) _ (t_v37 m c) _ (t_v26 m c)

theorem t_v39 : W m c main_v39 = o_v172 (F := F) := by
  rw [stepCast m c 83 (x := main_v31) (y := main_v39) rfl (by decide) (by decide), t_v31]; rfl

theorem t_v40 : W m c main_v40 = o_v173 (F := F) := by
  rw [step1 m c 84 (x := main_v39) (y := main_v40) rfl (by decide) (by decide), t_v39]; rfl

theorem t_v41 : W m c main_v41 = o_v174 (F := F) := by
  rw [stepCast m c 85 (x := main_v40) (y := main_v41) rfl (by decide) (by decide), t_v40]; rfl

theorem t_cst_6 : W m c main_cst_6 = o_cst_21 (F := F) := by
  rw [step0 m c 86 (y := main_cst_6) rfl (by decide)]; rfl

theorem t_v42 : W m c main_v42 = o_v175 (F := F) := by
  rw [step1 m c 87 (x := main_cst_6) (y := main_v42) rfl (by decide) (by decide), t_cst_6]; rfl

theorem t_v43 : W m c main_v43 = o_v176 (F := F) := by
  rw [step2 m c 88 (a := main_v41) (b := main_v42) (y := main_v43) rfl (by decide) (by decide) (by decide), t_v41, t_v42]; rfl

theorem t_v44 : W m c main_v44 = o_v177 (F := F) := by
  rw [stepCast m c 89 (x := main_v38) (y := main_v44) rfl (by decide) (by decide), t_v38]; rfl

theorem t_v45 : W m c main_v45 = o_v178 (F := F) := by
  rw [step1 m c 90 (x := main_v44) (y := main_v45) rfl (by decide) (by decide), t_v44]; rfl

theorem t_v46 : W m c main_v46 = o_v179 (F := F) := by
  rw [stepCast m c 91 (x := main_v45) (y := main_v46) rfl (by decide) (by decide), t_v45]; rfl

theorem t_cst_7 : W m c main_cst_7 = o_cst_22 (F := F) := by
  rw [step0 m c 92 (y := main_cst_7) rfl (by decide)]; rfl

theorem t_v47 : W m c main_v47 = o_v180 (F := F) := by
  rw [step1 m c 93 (x := main_cst_7) (y := main_v47) rfl (by decide) (by decide), t_cst_7]; rfl

theorem t_v48 : W m c main_v48 = o_v181 (F := F) := by
  rw [step2 m c 94 (a := main_v46) (b := main_v47) (y := main_v48) rfl (by decide) (by decide) (by decide), t_v46, t_v47]; rfl

theorem t_v49 : W m c main_v49 = o_v34 (F := F) (W m c main_arg3) := by
  rw [step1 m c 95 (x := main_arg3) (y := main_v49) rfl (by decide) (by decide)]; rfl

theorem t_v50 : W m c main_v50 = o_v35 (F := F) (W m c main_arg4) := by
  rw [step1 m c 96 (x := main_arg4) (y := main_v50) rfl (by decide) (by decide)]; rfl

theorem t_v51 : W m c main_v51 = o_v36 (F := F) (W m c main_arg1) := by
  rw [step1 m c 97 (x := main_arg1) (y := main_v51) rfl (by decide) (by decide)]; rfl

theorem t_v52 : W m c main_v52 = o_v37 (F := F) (W m c main_arg2) := by
  rw [step1 m c 98 (x := main_arg2) (y := main_v52) rfl (by decide) (by decide)]; rfl

theorem t_c_8 : W m c main_c_8 = o_c (F := F) := by
  rw [step0 m c 99 (y := main_c_8) rfl (by decide)]; rfl

theorem t_call2_v0 : W m c main_call2_v0 = o_call0_v0 (F := F) := by
  rw [step1 m c 100 (x := main_c_8) (y := main_call2_v0) rfl (by decide) (by decide), t_c_8]; rfl

theorem t_v53 : W m c main_v53 = o_v38 (F := F) (W m c main_arg2) := by
  rw [step2 m c 101 (a := main_v52) (b := main_call2_v0) (y := main_v53) rfl (by decide) (by decide) (by decide), t_v52, t_call2_v0]; rfl

theorem t_c_9 : W m c main_c_9 = o_c_26 (F := F) := by
  rw [step0 m c 102 (y := main_c_9) rfl (by decide)]; rfl

theorem t_call3_v0 : W m c main_call3_v0 = o_call6_v0 (F := F) := by
  rw [step1 m c 103 (x := main_c_9) (y := main_call3_v0) rfl (by decide) (by decide), t_c_9]; rfl

theorem t_v54 : W m c main_v54 = o_v189 (F := F) (W m c main_arg0) := by
  rw [step2 m c 104 (a := main_arg0) (b := main_call3_v0) (y := main_v54) rfl (by decide) (by decide) (by decide), t_call3_v0]; rfl

theorem t_v55 : W m c main_v55 = o_v190 (F := F) (W m c main_arg0) := by
  rw [stepCast m c 105 (x := main_v54) (y := main_v55) rfl (by decide) (by decide), t_v54]; rfl

theorem t_v56 : W m c main_v56 = o_v191 (F := F) (W m c main_arg3) := by
  rw [step1 m c 106 (x := main_arg3) (y := main_v56) rfl (by decide) (by decide)]; rfl

theorem t_c_10 : W m c main_c_10 = o_c_27 (F := F) := by
  rw [step0 m c 107 (y := main_c_10) rfl (by decide)]; rfl

theorem t_call4_v0 : W m c main_call4_v0 = o_call7_v0 (F := F) := by
  rw [step1 m c 108 (x := main_c_10) (y := main_call4_v0) rfl (by decide) (by decide), t_c_10]; rfl

theorem t_v57 : W m c main_v57 = o_v192 (F := F) (W m c main_arg3) := by
  rw [step2 m c 109 (a := main_v56) (b := main_call4_v0) (y := main_v57) rfl (by decide) (by decide) (by decide), t_v56, t_call4_v0]; rfl

theorem t_v58 : W m c main_v58 = o_v193 (F := F) (W m c main_arg3) := by
  rw [stepCast m c 110 (x := main_v57) (y := main_v58) rfl (by decide) (by decide), t_v57]; rfl

theorem t_c_11 : W m c main_c_11 = o_c_28 (F := F) := by
  rw [step0 m c 111 (y := main_c_11) rfl (by decide)]; rfl

theorem t_call5_v0 : W m c main_call5_v0 = o_call8_v0 (F := F) := by
  rw [step1 m c 112 (x := main_c_11) (y := main_call5_v0) rfl (by decide) (by decide), t_c_11]; rfl

theorem t_v59 : W m c main_v59 = o_v194 (F := F) (W m c main_arg3) := by
  rw [step2 m c 113 (a := main_v49) (b := main_call5_v0) (y := main_v59) rfl (by decide) (by decide) (by decide), t_v49, t_call5_v0]; rfl

theorem t_v60 : W m c main_v60 = o_v195 (F := F) (W m c main_arg3) := by
  rw [stepCast m c 114 (x := main_v59) (y := main_v60) rfl (by decide) (by decide), t_v59]; rfl

theorem t_v61 : W m c main_v61 = o_v196 (F := F) (W m c main_arg3) := by
  rw [step2 m c 115 (a := main_v58) (b := main_v60) (y := main_v61) rfl (by decide) (by decide) (by decide), t_v58, t_v60]; rfl

theorem t_v62 : W m c main_v62 = o_v197 (F := F) (W m c main_arg3) := by
  rw [step1 m c 116 (x := main_v61) (y := main_v62) rfl (by decide) (by decide), t_v61]; rfl

theorem t_v63 : W m c main_v63 = o_v198 (F := F) (W m c main_arg4) := by
  rw [step1 m c 117 (x := main_arg4) (y := main_v63) rfl (by decide) (by decide)]; rfl

theorem t_c_12 : W m c main_c_12 = o_c_29 (F := F) := by
  rw [step0 m c 118 (y := main_c_12) rfl (by decide)]; rfl

theorem t_call6_v0 : W m c main_call6_v0 = o_call9_v0 (F := F) := by
  rw [step1 m c 119 (x := main_c_12) (y := main_call6_v0) rfl (by decide) (by decide), t_c_12]; rfl

theorem t_v64 : W m c main_v64 = o_v199 (F := F) (W m c main_arg4) := by
  rw [step2 m c 120 (a := main_v63) (b := main_call6_v0) (y := main_v64) rfl (by decide) (by decide) (by decide), t_v63, t_call6_v0]; rfl

theorem t_v65 : W m c main_v65 = o_v200 (F := F) (W m c main_arg4) := by
  rw [stepCast m c 121 (x := main_v64) (y := main_v65) rfl (by decide) (by decide), t_v64]; rfl

theorem t_c_13 : W m c main_c_13 = o_c_30 (F := F) := by
  rw [step0 m c 122 (y := main_c_13) rfl (by decide)]; rfl

theorem t_call7_v0 : W m c main_call7_v0 = o_call10_v0 (F := F) := by
  rw [step1 m c 123 (x := main_c_13) (y := main_call7_v0) rfl (by decide) (by decide), t_c_13]; rfl

theorem t_v66 : W m c main_v66 = o_v201 (F := F) (W m c main_arg4) := by
  rw [step2 m c 124 (a := main_v50) (b := main_call7_v0) (y := main_v66) rfl (by decide) (by decide) (by decide), t_v50, t_call7_v0]; rfl

theorem t_v67 : W m c main_v67 = o_v202 (F := F) (W m c main_arg4) := by
  rw [stepCast m c 125 (x := main_v66) (y := main_v67) rfl (by decide) (by decide), t_v66]; rfl

theorem t_v68 : W m c main_v68 = o_v203 (F := F) (W m c main_arg4) := by
  rw [step2 m c 126 (a := main_v65) (b := main_v67) (y := main_v68) rfl (by decide) (by decide) (by decide), t_v65, t_v67]; rfl

theorem t_v69 : W m c main_v69 = o_v204 (F := F) (W m c main_arg4) := by
  rw [step1 m c 127 (x := main_v68) (y := main_v69) rfl (by decide) (by decide), t_v68]; rfl

theorem t_v70 : W m c main_v70 = o_v33 (F := F) (W m c main_arg5) := by
  rw [stepCast m c 128 (x := main_arg5) (y := main_v70) rfl (by decide) (by decide)]; rfl

end Cert.Proof.Fwd
-- ==== Proof.Fwd.Chain.lean ====
module

public import proofs.«01_k».proof.Proof.Gen.Kernel2Ideal.Skeleton
/-! What one chain of 256 query rows computes against a head's keys and values; the four chains compute the same. -/

@[expose] public section

set_option maxRecDepth 16384

noncomputable section

namespace Cert.Proof.Fwd

open Cert.Kernel2Ideal Cert.Kernel2Ideal.Gen Idealize.ShloMosaic

variable {F : FTy → Type} [FloatOps F]

/-- Rows 0 to 255 of a block: of its 128 columns, of the first and the last 128 of 256. -/
def s0 (x : Vec F S1024x128 .f32) : Vec F S256x128 .f32 := extractStridedSlice ⟨_, S256x128.size⟩ ![0, 0] x ⟨rfl, inb_S1024x128_S256x128_0_0⟩
def n0 (x : Vec F S1024x256 .f32) : Vec F S256x128 .f32 := extractStridedSlice ⟨_, S256x128.size⟩ ![0, 0] x ⟨rfl, inb_S1024x256_S256x128_0_0⟩
def r0 (x : Vec F S1024x256 .f32) : Vec F S256x128 .f32 := extractStridedSlice ⟨_, S256x128.size⟩ ![0, 128] x ⟨rfl, inb_S1024x256_S256x128_0_128⟩

/-- Rows 256 to 511 of a block: of its 128 columns, of the first and the last 128 of 256. -/
def s1 (x : Vec F S1024x128 .f32) : Vec F S256x128 .f32 := extractStridedSlice ⟨_, S256x128.size⟩ ![256, 0] x ⟨rfl, inb_S1024x128_S256x128_256_0⟩
def n1 (x : Vec F S1024x256 .f32) : Vec F S256x128 .f32 := extractStridedSlice ⟨_, S256x128.size⟩ ![256, 0] x ⟨rfl, inb_S1024x256_S256x128_256_0⟩
def r1 (x : Vec F S1024x256 .f32) : Vec F S256x128 .f32 := extractStridedSlice ⟨_, S256x128.size⟩ ![256, 128] x ⟨rfl, inb_S1024x256_S256x128_256_128⟩

/-- Rows 512 to 767 of a block: of its 128 columns, of the first and the last 128 of 256. -/
def s2 (x : Vec F S1024x128 .f32) : Vec F S256x128 .f32 := extractStridedSlice ⟨_, S256x128.size⟩ ![512, 0] x ⟨rfl, inb_S1024x128_S256x128_512_0⟩
def n2 (x : Vec F S1024x256 .f32) : Vec F S256x128 .f32 := extractStridedSlice ⟨_, S256x128.size⟩ ![512, 0] x ⟨rfl, inb_S1024x256_S256x128_512_0⟩
def r2 (x : Vec F S1024x256 .f32) : Vec F S256x128 .f32 := extractStridedSlice ⟨_, S256x128.size⟩ ![512, 128] x ⟨rfl, inb_S1024x256_S256x128_512_128⟩

/-- Rows 768 to 1023 of a block: of its 128 columns, of the first and the last 128 of 256. -/
def s3 (x : Vec F S1024x128 .f32) : Vec F S256x128 .f32 := extractStridedSlice ⟨_, S256x128.size⟩ ![768, 0] x ⟨rfl, inb_S1024x128_S256x128_768_0⟩
def n3 (x : Vec F S1024x256 .f32) : Vec F S256x128 .f32 := extractStridedSlice ⟨_, S256x128.size⟩ ![768, 0] x ⟨rfl, inb_S1024x256_S256x128_768_0⟩
def r3 (x : Vec F S1024x256 .f32) : Vec F S256x128 .f32 := extractStridedSlice ⟨_, S256x128.size⟩ ![768, 128] x ⟨rfl, inb_S1024x256_S256x128_768_128⟩

/-- The lane numbers. -/
abbrev lanes : IVec S256x128 32 := iota .tc S256x128 32 [1] iota_S256x128_d1_w32

section
variable (X XR : Vec F S256x128 .f32) (GN GR : Vec F S1x128 .f32) (CT ST : Vec F S256x128 .f32)
  (KL : Vec F S2048x256 .bf16) (KC : Vec F S256x256 .bf16) (VL : Vec F S2048x128 .bf16) (VC : Vec F S256x128 .bf16)
  (G : Vec F S256x128 .f32)

/-- The queries, normed, turned and scaled. -/
def qf : FVec F S256x256 .bf16 := k0_pay6 (k0_pay2 X GN) (k0_pay3 XR GR) (k0_pay4 ST) (k0_pay5 XR GR CT) lanes 32#32
/-- The scores against the latents' keys and the contexts' keys. -/
def sL : FVec F S256x2048 .f32 := k0_pay7 (k0_pay2 X GN) (k0_pay3 XR GR) (k0_pay4 ST) (k0_pay5 XR GR CT) lanes 32#32 KL
def sC : FVec F S256x256 .f32 := k0_pay8 (k0_pay2 X GN) (k0_pay3 XR GR) (k0_pay4 ST) (k0_pay5 XR GR CT) lanes 32#32 KC
/-- The rows' largest scores, and these over the latents' keys. -/
def mx : FVec F S256x1 .f32 := k0_pay9 (k0_pay2 X GN) (k0_pay3 XR GR) (k0_pay4 ST) (k0_pay5 XR GR CT) lanes 32#32 KL KC
def mb : FVec F S256x2048 .f32 := k0_pay10 (k0_pay2 X GN) (k0_pay3 XR GR) (k0_pay4 ST) (k0_pay5 XR GR CT) lanes 32#32 KL KC
/-- The attention's result, the gated result, and the rows' logarithms. -/
def oo : FVec F S256x128 .f32 := k0_pay14 (sL X XR GN GR CT ST KL) (sC X XR GN GR CT ST KC) (mx X XR GN GR CT ST KL KC) (mb X XR GN GR CT ST KL KC) VL VC
def og : FVec F S256x128 .bf16 := k0_pay15 (sL X XR GN GR CT ST KL) (sC X XR GN GR CT ST KC) (mx X XR GN GR CT ST KL KC) (mb X XR GN GR CT ST KL KC) VL VC G
def ls : FVec F S256x128 .f32 := k0_pay16 (sL X XR GN GR CT ST KL) (sC X XR GN GR CT ST KC) (mx X XR GN GR CT ST KL KC) (mb X XR GN GR CT ST KL KC)
end

section
variable (a b c d : FVec F S256x128 .f32) (e : IVec S256x128 32) (f : BitVec 32)
  (x : Vec F S2048x256 .bf16) (y : Vec F S256x256 .bf16) (p q : FVec F S256x2048 .f32) (t : FVec F S256x256 .f32) (z : FVec F S256x1 .f32)
  (u : Vec F S2048x128 .bf16) (v : Vec F S256x128 .bf16) (g : Vec F S256x128 .f32)

theorem e17 : @k0_pay17 F _ = k0_pay2 := rfl
theorem e18 : @k0_pay18 F _ = k0_pay3 := rfl
theorem e19 : @k0_pay19 F = k0_pay4 := rfl
theorem e20 : @k0_pay20 F _ = k0_pay5 := rfl
theorem e21 : k0_pay21 a b c d e f 0#32 = k0_pay6 a b c d e f := rfl
theorem e22 : k0_pay22 a b c d e f 0#32 x = k0_pay7 a b c d e f x := rfl
theorem e23 : k0_pay23 a b c d e f 0#32 y = k0_pay8 a b c d e f y := rfl
theorem e24 : k0_pay24 a b c d e f 0#32 x y = k0_pay9 a b c d e f x y := rfl
theorem e32 : @k0_pay32 F _ = k0_pay2 := rfl
theorem e33 : @k0_pay33 F _ = k0_pay3 := rfl
theorem e34 : @k0_pay34 F = k0_pay4 := rfl
theorem e35 : @k0_pay35 F _ = k0_pay5 := rfl
theorem e36 : k0_pay36 a b c d e f (Scalar.cmpi .eq f 0#32) = k0_pay6 a b c d e f := rfl
theorem e37 : k0_pay37 a b c d e f (Scalar.cmpi .eq f 0#32) x = k0_pay7 a b c d e f x := rfl
theorem e38 : k0_pay38 a b c d e f (Scalar.cmpi .eq f 0#32) y = k0_pay8 a b c d e f y := rfl
theorem e39 : k0_pay39 a b c d e f (Scalar.cmpi .eq f 0#32) x y = k0_pay9 a b c d e f x y := rfl
theorem e46 : @k0_pay46 F _ = k0_pay2 := rfl
theorem e47 : @k0_pay47 F _ = k0_pay3 := rfl
theorem e48 : @k0_pay48 F = k0_pay4 := rfl
theorem e49 : @k0_pay49 F _ = k0_pay5 := rfl
theorem e50 : k0_pay50 a b c d e f (Scalar.cmpi .eq f 0#32) 1#32 = k0_pay6 a b c d e f := rfl
theorem e51 : k0_pay51 a b c d e f (Scalar.cmpi .eq f 0#32) 1#32 x = k0_pay7 a b c d e f x := rfl
theorem e52 : k0_pay52 a b c d e f (Scalar.cmpi .eq f 0#32) 1#32 y = k0_pay8 a b c d e f y := rfl
theorem e53 : k0_pay53 a b c d e f (Scalar.cmpi .eq f 0#32) 1#32 x y = k0_pay9 a b c d e f x y := rfl
theorem e25 : k0_pay25 a b c d e f 0#32 x y = subf (k0_pay7 a b c d e f x) (k0_pay10 a b c d e f x y) := rfl
theorem e29 : k0_pay29 t z (subf p q) u v = k0_pay14 p t z q u v := rfl
theorem e30 : k0_pay30 t z (subf p q) u v g = k0_pay15 p t z q u v g := rfl
theorem e31 : k0_pay31 t z (subf p q) = k0_pay16 p t z q := rfl
theorem e40 : k0_pay40 a b c d e f (Scalar.cmpi .eq f 0#32) x y = k0_pay11 (k0_pay7 a b c d e f x) (k0_pay10 a b c d e f x y) := rfl
theorem e43 : k0_pay43 t z (k0_pay11 p q) u v = k0_pay14 p t z q u v := rfl
theorem e44 : k0_pay44 t z (k0_pay11 p q) u v g = k0_pay15 p t z q u v g := rfl
theorem e45 : k0_pay45 t z (k0_pay11 p q) = k0_pay16 p t z q := rfl
theorem e54 : k0_pay54 a b c d e f (Scalar.cmpi .eq f 0#32) 1#32 x y = k0_pay11 (k0_pay7 a b c d e f x) (k0_pay10 a b c d e f x y) := rfl
theorem e55 : k0_pay55 a b c d e f (Scalar.cmpi .eq f 0#32) 1#32 x y = broadcastTo S256x256 (k0_pay9 a b c d e f x y) broadcasts_S256x1_S256x256 := rfl
theorem e58 : k0_pay58 t (k0_pay11 p q) (broadcastTo S256x256 z broadcasts_S256x1_S256x256) u v = k0_pay14 p t z q u v := rfl
theorem e59 : k0_pay59 t (k0_pay11 p q) (broadcastTo S256x256 z broadcasts_S256x1_S256x256) u v g = k0_pay15 p t z q u v g := rfl
theorem e1 : k0_pay1 z (k0_pay57 t (k0_pay11 p q) (broadcastTo S256x256 z broadcasts_S256x1_S256x256)) = k0_pay16 p t z q := rfl
end

end Cert.Proof.Fwd
-- ==== Proof.Fwd.Rows.lean ====
module

public import proofs.«01_k».proof.Proof.Math.Spec
/-! The attention's result with values and gates of any extended real. -/

@[expose] public section

set_option maxRecDepth 16384

noncomputable section

namespace Cert.Proof.Fwd

open Idealize.ShloMosaic

/-- A positive real goes into a sum of two extended reals. -/
theorem add_mul_pos (x y : EReal) {w : ℝ} (hw : 0 < w) : (x + y) * (w : EReal) = x * (w : EReal) + y * (w : EReal) := by
  induction x with
  | bot => rw [EReal.bot_add, EReal.bot_mul_coe_of_pos hw, EReal.bot_add]
  | top =>
    induction y with
    | bot => rw [EReal.add_bot, EReal.bot_mul_coe_of_pos hw, EReal.add_bot]
    | top => rw [EReal.top_add_top, EReal.top_mul_coe_of_pos hw, EReal.top_add_top]
    | coe y => rw [EReal.top_add_coe, EReal.top_mul_coe_of_pos hw, ← EReal.coe_mul, EReal.top_add_coe]
  | coe x =>
    induction y with
    | bot => rw [EReal.add_bot, EReal.bot_mul_coe_of_pos hw, EReal.add_bot]
    | top => rw [EReal.coe_add_top, EReal.top_mul_coe_of_pos hw, ← EReal.coe_mul, EReal.coe_add_top]
    | coe y => rw [← EReal.coe_add, ← EReal.coe_mul, ← EReal.coe_mul, ← EReal.coe_mul, ← EReal.coe_add, add_mul]

/-- A positive real goes into a sum of extended reals. -/
theorem sum_mul_pos {ι : Type*} (s : Finset ι) (f : ι → EReal) {w : ℝ} (hw : 0 < w) :
    (∑ j ∈ s, f j) * (w : EReal) = ∑ j ∈ s, f j * (w : EReal) := by
  classical
  induction s using Finset.induction_on with
  | empty => simp
  | insert a s ha ih => rw [Finset.sum_insert ha, Finset.sum_insert ha, add_mul_pos _ _ hw, ih]

/-- The attention's result over values `v`. -/
def OV (D : Inp) (v : Fin 2 → Fin 2304 → Fin 8 → Fin 128 → EReal) (b : Fin 2) (h : Fin 8) (i : Fin 2048) (d : Fin 128) : EReal :=
  ∑ j, v b j h d * (D.P b h i j : EReal)

/-- The gate's factor. -/
def gate (g : EReal) : EReal := g * Ideal.div 1 (1 + Ideal.exp (-g))

/-- The sums over the latents and the contexts, divided by the row's sum, are the weighted sum. -/
theorem OV_eq (D : Inp) (v : Fin 2 → Fin 2304 → Fin 8 → Fin 128 → EReal) (b : Fin 2) (h : Fin 8) (i : Fin 2048) (d : Fin 128) :
    Ideal.div ((∑ j : Fin 2048, (D.E b h i ⟨j, by omega⟩ : EReal) * v b ⟨j, by omega⟩ h d)
      + ∑ j : Fin 256, (D.E b h i ⟨2048 + j, by omega⟩ : EReal) * v b ⟨2048 + j, by omega⟩ h d) (D.DEN b h i : EReal) = OV D v b h i d := by
  have hs := Fin.sum_univ_add (a := 2048) (b := 256) (fun j : Fin 2304 => (D.E b h i j : EReal) * v b j h d)
  refine Eq.trans (congrArg (fun z => Ideal.div z (D.DEN b h i : EReal)) hs.symm) ?_
  rw [Ideal.div_coe (D.DEN_pos b h i).ne', sum_mul_pos _ _ (by have := D.DEN_pos b h i; positivity)]
  refine Finset.sum_congr rfl fun j _ => ?_
  rw [mul_comm (D.E b h i j : EReal), mul_assoc, ← EReal.coe_mul, D.P_eq]
  congr 2; ring

/-- The larger of the latents' and the contexts' largest scores is the row's. -/
theorem M_eq (D : Inp) (b : Fin 2) (h : Fin 8) (i : Fin 2048) :
    max ((Finset.univ : Finset (Fin 2048)).sup fun j => (D.S b h i ⟨j, by omega⟩ : EReal))
      ((Finset.univ : Finset (Fin 256)).sup fun j => (D.S b h i ⟨2048 + j, by omega⟩ : EReal)) = (D.M b h i : EReal) := by
  rw [← D.sup_eq b h i]
  apply le_antisymm
  · refine max_le (Finset.sup_le fun j _ => ?_) (Finset.sup_le fun j _ => ?_)
    · exact Finset.le_sup (f := fun j : Fin 2304 => (D.S b h i j : EReal)) (Finset.mem_univ _)
    · exact Finset.le_sup (f := fun j : Fin 2304 => (D.S b h i j : EReal)) (Finset.mem_univ _)
  · refine Finset.sup_le fun j _ => ?_
    by_cases hj : j.val < 2048
    · exact le_max_of_le_left (Finset.le_sup (f := fun j : Fin 2048 => (D.S b h i ⟨j, by omega⟩ : EReal)) (Finset.mem_univ ⟨j.val, hj⟩))
    · refine le_max_of_le_right ((le_of_eq ?_).trans (Finset.le_sup (f := fun j : Fin 256 => (D.S b h i ⟨2048 + j, by omega⟩ : EReal))
        (Finset.mem_univ ⟨j.val - 2048, by omega⟩)))
      refine congrArg (fun j => (D.S b h i j : EReal)) (Fin.ext ?_)
      simp only; omega

/-- The row's sum of exponentials in its two parts. -/
theorem DEN_eq (D : Inp) (b : Fin 2) (h : Fin 8) (i : Fin 2048) :
    (∑ j : Fin 2048, D.E b h i ⟨j, by omega⟩) + (∑ j : Fin 256, D.E b h i ⟨2048 + j, by omega⟩) = D.DEN b h i :=
  (Fin.sum_univ_add (a := 2048) (b := 256) (fun j : Fin 2304 => D.E b h i j)).symm

/-- A real and the logarithm of a positive real. -/
theorem add_log (x y : ℝ) (hy : 0 < y) : (x : EReal) + Ideal.log (y : EReal) = ((x + Real.log y : ℝ) : EReal) := by
  rw [Ideal.log_coe, if_neg (not_le.mpr hy), EReal.coe_add]

/-- The logarithm of the row's sum of exponentials of the scores themselves. -/
theorem lse_eq (D : Inp) (b : Fin 2) (h : Fin 8) (i : Fin 2048) :
    Ideal.log ((∑ j, Real.exp (D.S b h i j) : ℝ) : EReal) = (D.LSE b h i : EReal) := by
  have h1 : ∑ j, Real.exp (D.S b h i j) = Real.exp (D.M b h i) * D.DEN b h i := by
    unfold Inp.DEN
    refine Eq.trans (Finset.sum_congr rfl fun j _ => ?_) (Finset.mul_sum _ _ _).symm
    rw [Inp.E, ← Real.exp_add]
    exact congrArg Real.exp (by ring)
  have hp : 0 < Real.exp (D.M b h i) * D.DEN b h i := mul_pos (Real.exp_pos _) (D.DEN_pos b h i)
  rw [h1, Ideal.log_coe, if_neg (not_le.mpr hp), Real.log_mul (Real.exp_pos _).ne' (D.DEN_pos b h i).ne', Real.log_exp]
  rfl

end Cert.Proof.Fwd
-- ==== Proof.Fwd.Entry.lean ====
module

public import proofs.«01_k».proof.Proof.Fwd.Chain
public import proofs.«01_k».proof.Proof.Fwd.Rows
public import proofs.«01_k».proof.Proof.Block.Norm
public import Idealize.ShloMosaic.Lib.Pointwise
/-! What one chain of the forward pass computes, entry by entry. -/

@[expose] public section

set_option maxRecDepth 16384

noncomputable section

namespace Cert.Proof.Fwd

open Cert.Kernel2Ideal Cert.Kernel2Ideal.Gen Idealize.ShloMosaic Idealize.ShloMosaic.Pointwise
open Cert.Proof.Block (angle_up angle_down sel_one sel_zero sum_128)

/-- What a chain's operands hold: `ρ` the query tokens of its 256 rows. -/
structure Holds (D : Inp) (v : Fin 2 → Fin 2304 → Fin 8 → Fin 128 → EReal) (g : Fin 2 → Fin 2048 → Fin 1024 → EReal)
    (b : Fin 2) (h : Fin 8) (ρ : Fin 256 → Fin 2048)
    (X XR : Vec Ideal S256x128 .f32) (GN GR : Vec Ideal S1x128 .f32) (CT ST : Vec Ideal S256x128 .f32)
    (KL : Vec Ideal S2048x256 .bf16) (KC : Vec Ideal S256x256 .bf16) (VL : Vec Ideal S2048x128 .bf16) (VC : Vec Ideal S256x128 .bf16)
    (G : Vec Ideal S256x128 .f32) : Prop where
  x : ∀ r d, X (ix2 r d) = D.qn b h (ρ r) d
  xr : ∀ r (l : Fin 128), XR (ix2 r l) = if hl : l.val < 64 then D.qr b h (ρ r) ⟨l, hl⟩ else 0
  gn : ∀ z d, GN (ix2 z d) = (D.gn d : EReal)
  gr : ∀ z (l : Fin 128), GR (ix2 z l) = ((if hl : l.val < 64 then D.gr ⟨l, hl⟩ else 0 : ℝ) : EReal)
  ct : ∀ r (l : Fin 128), CT (ix2 r l) = ((if l.val < 64 then Real.cos (angle (ρ r) l) else 1 : ℝ) : EReal)
  st : ∀ r (l : Fin 128), ST (ix2 r l) = ((if l.val < 64 then
    (if l.val % 32 < 16 then -Real.sin (angle (ρ r) l) else Real.sin (angle (ρ r) l)) else 0 : ℝ) : EReal)
  kl : ∀ (j : Fin 2048) e, KL (ix2 j e) = (D.KA b h ⟨j, by omega⟩ e : EReal)
  kc : ∀ (j : Fin 256) e, KC (ix2 j e) = (D.KA b h ⟨2048 + j, by omega⟩ e : EReal)
  vl : ∀ (j : Fin 2048) d, VL (ix2 j d) = v b ⟨j, by omega⟩ h d
  vc : ∀ (j : Fin 256) d, VC (ix2 j d) = v b ⟨2048 + j, by omega⟩ h d
  g : ∀ r (d : Fin 128), G (ix2 r d) = g b (ρ r) ⟨h * 128 + d, by omega⟩

variable {D : Inp} {v : Fin 2 → Fin 2304 → Fin 8 → Fin 128 → EReal} {g : Fin 2 → Fin 2048 → Fin 1024 → EReal}
    {b : Fin 2} {h : Fin 8} {ρ : Fin 256 → Fin 2048}
    {X XR : Vec Ideal S256x128 .f32} {GN GR : Vec Ideal S1x128 .f32} {CT ST : Vec Ideal S256x128 .f32}
    {KL : Vec Ideal S2048x256 .bf16} {KC : Vec Ideal S256x256 .bf16} {VL : Vec Ideal S2048x128 .bf16} {VC : Vec Ideal S256x128 .bf16}
    {G : Vec Ideal S256x128 .f32}
    (H : Holds D v g b h ρ X XR GN GR CT ST KL KC VL VC G)
include H

/-- The first lanes, normed and scaled. -/
theorem xn_at (r : Fin 256) (d : Fin 128) : k0_pay2 X GN (ix2 r d) = (D.QN b h (ρ r) d : EReal) := by
  pointwise [k0_pay2]
  simp only [H.x, H.gn, ofBits_128th, ofBits_eps]
  have e := D.nrm_n b h (ρ r)
  unfold meanSq at e
  rw [e, D.mul_n, ← EReal.coe_mul]
  rfl

/-- The last lanes, normed and scaled: nothing beyond the 64th. -/
theorem xr_at (r : Fin 256) (l : Fin 128) : k0_pay3 XR GR (ix2 r l)
    = ((if hl : l.val < 64 then D.XR b h (ρ r) ⟨l, hl⟩ * D.gr ⟨l, hl⟩ else 0 : ℝ) : EReal) := by
  have e : Ideal.rsqrt ((∑ l : Fin 128, XR (ix2 r l) * XR (ix2 r l)) * ((1 / 64 : ℝ) : EReal) + (eps : EReal)) = (D.RR b h (ρ r) : EReal) := by
    simp only [H.xr]
    rw [sum_128 _ (fun l hl => by rw [dif_neg (by omega), zero_mul]), ← D.nrm_r]
    simp only [meanSq, Fin.is_lt, dif_pos]
  pointwise [k0_pay3]
  rw [ofBits_64th, ofBits_eps, e, H.xr, H.gr]
  split_ifs with hl
  · rw [D.mul_r b h (ρ r) ⟨l, hl⟩, ← EReal.coe_mul]
  · rw [zero_mul, zero_mul]; rfl

omit H in
/-- Which lanes are the first sixteen of their 32. -/
theorem lane_word (n : ℕ) (hn : n < 128) : IntOp.cmpi CmpIPredicate.slt (Scalar.select (IntOp.andi (IntOp.xori
      (IntOp.cmpi CmpIPredicate.slt (IntOp.remsi ArithUnit.vector (BitVec.ofNat 32 n) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32))
      (IntOp.cmpi CmpIPredicate.ne (IntOp.remsi ArithUnit.vector (BitVec.ofNat 32 n) (Scalar.select (Scalar.cmpi CmpIPredicate.eq 32#32 0#32) 1#32 32#32)) 0#32))
      (IntOp.addi (IntOp.remsi ArithUnit.vector (BitVec.ofNat 32 n) (Scalar.select (Scalar.cmpi CmpIPredicate.eq 32#32 0#32) 1#32 32#32)) (Scalar.select (Scalar.cmpi CmpIPredicate.eq 32#32 0#32) 1#32 32#32))
      (IntOp.remsi ArithUnit.vector (BitVec.ofNat 32 n) (Scalar.select (Scalar.cmpi CmpIPredicate.eq 32#32 0#32) 1#32 32#32))) 16#32
      = if n % 32 < 16 then 1#1 else 0#1 := by
  have h : ∀ l : Fin 128, IntOp.cmpi CmpIPredicate.slt (Scalar.select (IntOp.andi (IntOp.xori
      (IntOp.cmpi CmpIPredicate.slt (IntOp.remsi ArithUnit.vector (BitVec.ofNat 32 l.val) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32))
      (IntOp.cmpi CmpIPredicate.ne (IntOp.remsi ArithUnit.vector (BitVec.ofNat 32 l.val) (Scalar.select (Scalar.cmpi CmpIPredicate.eq 32#32 0#32) 1#32 32#32)) 0#32))
      (IntOp.addi (IntOp.remsi ArithUnit.vector (BitVec.ofNat 32 l.val) (Scalar.select (Scalar.cmpi CmpIPredicate.eq 32#32 0#32) 1#32 32#32)) (Scalar.select (Scalar.cmpi CmpIPredicate.eq 32#32 0#32) 1#32 32#32))
      (IntOp.remsi ArithUnit.vector (BitVec.ofNat 32 l.val) (Scalar.select (Scalar.cmpi CmpIPredicate.eq 32#32 0#32) 1#32 32#32))) 16#32
      = if l.val % 32 < 16 then 1#1 else 0#1 := by decide +kernel
  exact h ⟨n, hn⟩

omit H in
/-- The turn as the chain writes it: a lane with its cosine, the lane sixteen away with its signed sine. -/
theorem turned_at (i : Fin 2048) (y : Fin 64 → ℝ) (l : Fin 128) :
    ((if hl : l.val < 64 then y ⟨l.val, hl⟩ else 0 : ℝ) : EReal) * ((if l.val < 64 then Real.cos (angle i l.val) else 1 : ℝ) : EReal)
      + Scalar.select (if l.val % 32 < 16 then 1#1 else 0#1)
          ((if hl : (l.val + 128 - 112) % 128 < 64 then y ⟨(l.val + 128 - 112) % 128, hl⟩ else 0 : ℝ) : EReal)
          ((if hl : (l.val + 128 - 16) % 128 < 64 then y ⟨(l.val + 128 - 16) % 128, hl⟩ else 0 : ℝ) : EReal)
        * ((if l.val < 64 then (if l.val % 32 < 16 then -Real.sin (angle i l.val) else Real.sin (angle i l.val)) else 0 : ℝ) : EReal)
      = ((if hl : l.val < 64 then turn i y ⟨l.val, hl⟩ else 0 : ℝ) : EReal) := by
  by_cases h3 : l.val < 64
  · rw [dif_pos h3, dif_pos h3, if_pos h3, if_pos h3]
    by_cases h16 : l.val % 32 < 16
    · rw [if_pos h16, if_pos h16, sel_one]
      have e1 : (l.val + 128 - 112) % 128 = l.val + 16 := by omega
      simp only [e1]
      rw [dif_pos (by omega), ← EReal.coe_mul, ← EReal.coe_mul, ← EReal.coe_add]
      refine congrArg (fun z : ℝ => (z : EReal)) ?_
      refine Eq.trans ?_ (turn_lo i y ⟨l, h3⟩ h16 (by simp only; omega)).symm
      rw [mul_neg, ← sub_eq_add_neg]
    · rw [if_neg h16, if_neg h16, sel_zero]
      have e1 : (l.val + 128 - 16) % 128 = l.val - 16 := by omega
      simp only [e1]
      rw [dif_pos (by omega), ← EReal.coe_mul, ← EReal.coe_mul, ← EReal.coe_add]
      refine congrArg (fun z : ℝ => (z : EReal)) ?_
      refine Eq.trans ?_ (turn_hi i y ⟨l, h3⟩ h16 (by simp only; omega)).symm
      rw [add_comm]
  · rw [dif_neg h3, dif_neg h3, if_neg h3, if_neg h3, EReal.coe_zero, zero_mul, mul_zero, zero_add]

/-- The queries: normed, scaled, turned, with the score's scale in them. -/
theorem qf_at (r : Fin 256) (e : Fin 256) : qf X XR GN GR CT ST (ix2 r e) = (D.QA b h (ρ r) e : EReal) := by
  pointwise [qf, k0_pay6, k0_pay4, k0_pay5, lanes]
  simp only [xn_at H, xr_at H, H.ct, H.st, ofBits_sc]
  unfold Inp.QA
  by_cases h1 : e.val < 128
  · rw [dif_pos h1, dif_pos h1, ← EReal.coe_mul]
  · rw [dif_neg h1, dif_neg h1]
    obtain ⟨l, hl⟩ : ∃ l : Fin 128, l.val = e.val - 128 := ⟨⟨e.val - 128, by omega⟩, rfl⟩
    simp only [← hl]
    rw [lane_word l.val l.isLt]
    refine (congrArg (fun z => z * (sc : EReal)) (turned_at (ρ r) (fun l => D.XR b h (ρ r) l * D.gr l) l)).trans ?_
    by_cases h2 : e.val < 192
    · have h3 : l.val < 64 := by omega
      simp only [dif_pos h2, dif_pos h3, EReal.coe_mul]
      rfl
    · have h3 : ¬ l.val < 64 := by omega
      simp only [dif_neg h2, dif_neg h3, EReal.coe_zero, zero_mul]

/-- The scores against the latents' keys. -/
theorem sL_at (r : Fin 256) (j : Fin 2048) : sL X XR GN GR CT ST KL (ix2 r j) = (D.S b h (ρ r) ⟨j, by omega⟩ : EReal) := by
  have hq := qf_at H
  unfold qf at hq
  unfold sL k0_pay7
  pointwise []
  simp only [hq, H.kl, ← EReal.coe_mul, ← coe_sum]
  rfl

/-- The scores against the contexts' keys. -/
theorem sC_at (r : Fin 256) (j : Fin 256) : sC X XR GN GR CT ST KC (ix2 r j) = (D.S b h (ρ r) ⟨2048 + j, by omega⟩ : EReal) := by
  have hq := qf_at H
  unfold qf at hq
  unfold sC k0_pay8
  pointwise []
  simp only [hq, H.kc, ← EReal.coe_mul, ← coe_sum]
  rfl

/-- The rows' largest scores. -/
theorem mx_at (r : Fin 256) (z : Fin 1) : mx X XR GN GR CT ST KL KC (ix2 r z) = (D.M b h (ρ r) : EReal) := by
  have hl := fun j => sL_at H r j
  have hc := fun j => sC_at H r j
  unfold sL at hl
  unfold sC at hc
  unfold mx k0_pay9
  generalize k0_pay7 (k0_pay2 X GN) (k0_pay3 XR GR) (k0_pay4 ST) (k0_pay5 XR GR CT) lanes 32#32 KL = y at hl ⊢
  generalize k0_pay8 (k0_pay2 X GN) (k0_pay3 XR GR) (k0_pay4 ST) (k0_pay5 XR GR CT) lanes 32#32 KC = w at hc ⊢
  pointwise []
  rw [ofBits_bot, ← M_eq D b h (ρ r), ← funext hl, ← funext hc]
  rfl

/-- The rows' largest scores over the latents' keys. -/
theorem mb_at (r : Fin 256) (j : Fin 2048) : mb X XR GN GR CT ST KL KC (ix2 r j) = (D.M b h (ρ r) : EReal) := by
  have e := mx_at H r 0
  unfold mx at e
  unfold mb k0_pay10
  pointwise []
  exact e

/-- The exponentials. -/
theorem eL_at (r : Fin 256) (j : Fin 2048) : k0_pay11 (sL X XR GN GR CT ST KL) (mb X XR GN GR CT ST KL KC) (ix2 r j)
    = (D.E b h (ρ r) ⟨j, by omega⟩ : EReal) := by
  pointwise [k0_pay11]
  rw [sL_at H, mb_at H, ← EReal.coe_sub, Ideal.exp_coe]
  rfl

theorem eC_at (r : Fin 256) (j : Fin 256) : k0_pay12 (sC X XR GN GR CT ST KC) (mx X XR GN GR CT ST KL KC) (ix2 r j)
    = (D.E b h (ρ r) ⟨2048 + j, by omega⟩ : EReal) := by
  pointwise [k0_pay12]
  rw [sC_at H, mx_at H, ← EReal.coe_sub, Ideal.exp_coe]
  rfl

/-- The rows' sums of exponentials. -/
theorem den_at (r : Fin 256) (z : Fin 1) :
    k0_pay13 (sL X XR GN GR CT ST KL) (sC X XR GN GR CT ST KC) (mx X XR GN GR CT ST KL KC) (mb X XR GN GR CT ST KL KC) (ix2 r z)
    = (D.DEN b h (ρ r) : EReal) := by
  unfold k0_pay13
  pointwise []
  simp only [eL_at H, eC_at H, ← coe_sum, ← EReal.coe_add]
  exact congrArg _ (DEN_eq D b h (ρ r))

/-- The attention's result. -/
theorem oo_at (r : Fin 256) (d : Fin 128) : oo X XR GN GR CT ST KL KC VL VC (ix2 r d) = OV D v b h (ρ r) d := by
  unfold oo k0_pay14
  pointwise []
  simp only [eL_at H, eC_at H, den_at H, H.vl, H.vc]
  exact OV_eq D v b h (ρ r) d

/-- The gated result. -/
theorem og_at (r : Fin 256) (d : Fin 128) : og X XR GN GR CT ST KL KC VL VC G (ix2 r d)
    = OV D v b h (ρ r) d * gate (g b (ρ r) ⟨h * 128 + d, by omega⟩) := by
  have e := oo_at H r d
  unfold oo at e
  unfold og k0_pay15
  pointwise []
  rw [e, H.g, gate, zero_sub]

/-- The logarithms of the rows' sums, over the lanes. -/
theorem ls_at (r : Fin 256) (d : Fin 128) : ls X XR GN GR CT ST KL KC (ix2 r d) = (D.LSE b h (ρ r) : EReal) := by
  unfold ls k0_pay16
  pointwise []
  rw [den_at H, mx_at H]
  exact add_log _ _ (D.DEN_pos b h (ρ r))

end Cert.Proof.Fwd
-- ==== Proof.Fwd.Held.lean ====
module

public import proofs.«01_k».proof.Proof.Fwd.Blocks
public import proofs.«01_k».proof.Proof.Fwd.Own
public import proofs.«01_k».proof.Proof.Fwd.Entry
public import proofs.«01_k».proof.Proof.Host.Arrays
public import proofs.«01_k».proof.Proof.Host.Lay
/-! What the operands of the chains hold at a grid point, from the arguments. -/

@[expose] public section

set_option maxRecDepth 16384

noncomputable section

namespace Cert.Proof.Fwd

open Cert.Kernel2Ideal Cert.Kernel2Ideal.Gen Idealize.ShloMosaic Idealize.ShloMosaic.TcCoe
open Idealize.ShloMosaic.Pointwise Cert.Proof.Ref
open Cert.Proof.Host (a_q a_gn a_gr a_cos a_sin a_kl a_kc o_v33 o_v35 o_v198 o_v199 o_v200 o_v201 o_v202 o_v203 o_v204)
open Cert.Proof.Grid (tok eta2 row_of col_of vcol_of tok_of)

section
variable (xv : FVec Ideal S2x2304x8x128 .f32) (xg : FVec Ideal S2x2048x1024 .f32) (b : Fin 2) (h : Fin 8)

/-- The latents' values as laid out. -/
theorem b_vl (j : Fin 2048) (d : Fin 128) :
    o_v204 (F := Ideal) xv (ix2 ⟨(row b j).val, by omega⟩ (vcol h d)) = xv (ix4 b ⟨j, by omega⟩ h d) := by
  have hr : b.val * 2048 + j.val < 4096 := by omega
  pointwise [o_v204, o_v203, o_v200, o_v199, o_v198, row, vcol]
  simp only [hr, dif_pos]

/-- The values: the latents' rows, then the contexts'. -/
theorem v_rows (r : Fin 4608) (k : Fin 1024) : o_v204 (F := Ideal) xv (ix2 r k)
    = if hr : r.val < 4096 then o_v200 (F := Ideal) xv (ix2 ⟨r, hr⟩ k) else o_v202 (F := Ideal) xv (ix2 ⟨r - 4096, by omega⟩ k) := by
  pointwise [o_v204, o_v203]

theorem v202 (j : Fin 256) (d : Fin 128) : o_v202 (F := Ideal) xv (ix2 (crow b j) (vcol h d)) = xv (ix4 b ⟨2048 + j, by omega⟩ h d) := by
  pointwise [o_v202, o_v201, o_v35, crow, vcol]

/-- The contexts' values as laid out. -/
theorem b_vc (j : Fin 256) (d : Fin 128) :
    o_v204 (F := Ideal) xv (ix2 ⟨4096 + (crow b j).val, by omega⟩ (vcol h d)) = xv (ix4 b ⟨2048 + j, by omega⟩ h d) := by
  rw [v_rows, dif_neg (Nat.not_lt.mpr (Nat.le_add_right 4096 _))]
  refine Eq.trans (congrArg (fun r => o_v202 (F := Ideal) xv (ix2 r (vcol h d))) (Fin.ext ?_)) (v202 xv b h j d)
  exact Nat.add_sub_cancel_left 4096 _

/-- The gate as laid out. -/
theorem b_g (i : Fin 2048) (d : Fin 128) : o_v33 (F := Ideal) xg (ix2 (row b i) (vcol h d)) = xg (ix3 b i ⟨h * 128 + d, by omega⟩) := by
  pointwise [o_v33, row, vcol]
end

/-- The values and the gate by their coordinates. -/
abbrev vals (xv : FVec Ideal S2x2304x8x128 .f32) : Fin 2 → Fin 2304 → Fin 8 → Fin 128 → EReal := fun b j h d => xv (ix4 b j h d)
abbrev gates (xg : FVec Ideal S2x2048x1024 .f32) : Fin 2 → Fin 2048 → Fin 1024 → EReal := fun b i e => xg (ix3 b i e)

/-- The kernel's arguments: those of `D`, and any values and gate. -/
structure Args (D : Inp) (xv : FVec Ideal S2x2304x8x128 .f32) (xg : FVec Ideal S2x2048x1024 .f32)
    (m : (ℓ : Loc nD τ sig) → Buf (Elt Ideal) ℓ) (c : Dev nD) : Prop where
  a0 : W m c main_arg0 = D.aq
  a1 : W m c main_arg1 = D.agn
  a2 : W m c main_arg2 = D.agr
  a3 : W m c main_arg3 = D.ak
  a4 : W m c main_arg4 = xv
  a5 : W m c main_arg5 = xg

/-- The query token of row `r` of chain `k`. -/
def rho (i : Fin 2) (k : Fin 4) (r : Fin 256) : Fin 2048 := tok i ⟨k.val * 256 + r.val, by omega⟩

section
variable {F : FTy → Type} [FloatOps F] (x : Vec F S1024x128 .f32) (y : Vec F S1024x256 .f32) (r : Fin 256) (l : Fin 128)

theorem s0_at : s0 x (ix2 r l) = x (ix2 (⟨0 * 256 + r.val, by omega⟩ : Fin 1024) l) := by
  unfold s0
  pointwise []
  (try exact congrArg (fun q => x (ix2 q l)) (Fin.ext (by simp only; omega)))
theorem n0_at : n0 y (ix2 r l) = y (ix2 (⟨0 * 256 + r.val, by omega⟩ : Fin 1024) (⟨l.val, by omega⟩ : Fin 256)) := by
  unfold n0
  pointwise []
  (try exact congrArg (fun q => y (ix2 q (⟨l.val, by omega⟩ : Fin 256))) (Fin.ext (by simp only; omega)))
theorem r0_at : r0 y (ix2 r l) = y (ix2 (⟨0 * 256 + r.val, by omega⟩ : Fin 1024) (⟨128 + l.val, by omega⟩ : Fin 256)) := by
  unfold r0
  pointwise []
  (try exact congrArg (fun q => y (ix2 q (⟨128 + l.val, by omega⟩ : Fin 256))) (Fin.ext (by simp only; omega)))

theorem s1_at : s1 x (ix2 r l) = x (ix2 (⟨1 * 256 + r.val, by omega⟩ : Fin 1024) l) := by
  unfold s1
  pointwise []
  (try exact congrArg (fun q => x (ix2 q l)) (Fin.ext (by simp only; omega)))
theorem n1_at : n1 y (ix2 r l) = y (ix2 (⟨1 * 256 + r.val, by omega⟩ : Fin 1024) (⟨l.val, by omega⟩ : Fin 256)) := by
  unfold n1
  pointwise []
  (try exact congrArg (fun q => y (ix2 q (⟨l.val, by omega⟩ : Fin 256))) (Fin.ext (by simp only; omega)))
theorem r1_at : r1 y (ix2 r l) = y (ix2 (⟨1 * 256 + r.val, by omega⟩ : Fin 1024) (⟨128 + l.val, by omega⟩ : Fin 256)) := by
  unfold r1
  pointwise []
  (try exact congrArg (fun q => y (ix2 q (⟨128 + l.val, by omega⟩ : Fin 256))) (Fin.ext (by simp only; omega)))

theorem s2_at : s2 x (ix2 r l) = x (ix2 (⟨2 * 256 + r.val, by omega⟩ : Fin 1024) l) := by
  unfold s2
  pointwise []
  (try exact congrArg (fun q => x (ix2 q l)) (Fin.ext (by simp only; omega)))
theorem n2_at : n2 y (ix2 r l) = y (ix2 (⟨2 * 256 + r.val, by omega⟩ : Fin 1024) (⟨l.val, by omega⟩ : Fin 256)) := by
  unfold n2
  pointwise []
  (try exact congrArg (fun q => y (ix2 q (⟨l.val, by omega⟩ : Fin 256))) (Fin.ext (by simp only; omega)))
theorem r2_at : r2 y (ix2 r l) = y (ix2 (⟨2 * 256 + r.val, by omega⟩ : Fin 1024) (⟨128 + l.val, by omega⟩ : Fin 256)) := by
  unfold r2
  pointwise []
  (try exact congrArg (fun q => y (ix2 q (⟨128 + l.val, by omega⟩ : Fin 256))) (Fin.ext (by simp only; omega)))

theorem s3_at : s3 x (ix2 r l) = x (ix2 (⟨3 * 256 + r.val, by omega⟩ : Fin 1024) l) := by
  unfold s3
  pointwise []
  (try exact congrArg (fun q => x (ix2 q l)) (Fin.ext (by simp only; omega)))
theorem n3_at : n3 y (ix2 r l) = y (ix2 (⟨3 * 256 + r.val, by omega⟩ : Fin 1024) (⟨l.val, by omega⟩ : Fin 256)) := by
  unfold n3
  pointwise []
  (try exact congrArg (fun q => y (ix2 q (⟨l.val, by omega⟩ : Fin 256))) (Fin.ext (by simp only; omega)))
theorem r3_at : r3 y (ix2 r l) = y (ix2 (⟨3 * 256 + r.val, by omega⟩ : Fin 1024) (⟨128 + l.val, by omega⟩ : Fin 256)) := by
  unfold r3
  pointwise []
  (try exact congrArg (fun q => y (ix2 q (⟨128 + l.val, by omega⟩ : Fin 256))) (Fin.ext (by simp only; omega)))

end

variable {D : Inp} {xv : FVec Ideal S2x2304x8x128 .f32} {xg : FVec Ideal S2x2048x1024 .f32}
  {m : (ℓ : Loc nD τ sig) → Buf (Elt Ideal) ℓ} {c : Dev nD} (A : Args D xv xg m c)
include A

section
variable (b : Fin 2) (h : Fin 8) (i : Fin 2)
theorem h0 (r : Fin 1024) (e : Fin 256) : iblk m c 0 (pt b h i) (ix2 r e) = if he : e.val < 192 then D.q b (tok i r) h ⟨e, he⟩ else (0 : EReal) :=
  (x0 m c b h i r e).trans (by show W m c main_v55 _ = _; rw [t_v55, A.a0]; exact a_q D b (tok i r) h e)
theorem h1 (z : Fin 1) (d : Fin 128) : iblk m c 1 (pt b h i) (ix2 z d) = (D.gn d : EReal) :=
  (x1 m c b h i z d).trans (by show W m c main_v51 _ = _; rw [t_v51, A.a1]; exact a_gn D z d)
theorem h2 (z : Fin 1) (l : Fin 128) : iblk m c 2 (pt b h i) (ix2 z l) = ((if hl : l.val < 64 then D.gr ⟨l, hl⟩ else 0 : ℝ) : EReal) :=
  (x2 m c b h i z l).trans (by show W m c main_v53 _ = _; rw [t_v53, A.a2]; exact a_gr D z l)
omit A in
theorem h3 (r : Fin 1024) (l : Fin 128) : X0_3 m c (pt b h i) (ix2 r l) = ((if l.val < 64 then Real.cos (angle (tok i r) l) else 1 : ℝ) : EReal) :=
  (x3 m c b h i r l).trans (by show W m c main_v43 _ = _; rw [t_v43]; exact a_cos b (tok i r) l)
omit A in
theorem h4 (r : Fin 1024) (l : Fin 128) : X0_4 m c (pt b h i) (ix2 r l) = ((if l.val < 64 then
    (if l.val % 32 < 16 then -Real.sin (angle (tok i r) l) else Real.sin (angle (tok i r) l)) else 0 : ℝ) : EReal) :=
  (x4 m c b h i r l).trans (by show W m c main_v48 _ = _; rw [t_v48]; exact a_sin b (tok i r) l)
theorem h5 (j : Fin 2048) (e : Fin 256) : X0_5 m c (pt b h i) (ix2 j e) = (D.KA b h ⟨j, by omega⟩ e : EReal) :=
  (x5 m c b h i j e).trans (by show W m c main_v62 _ = _; rw [t_v62, A.a3]; exact a_kl D b h j e)
theorem h6 (j : Fin 256) (e : Fin 256) : iblk m c 6 (pt b h i) (ix2 j e) = (D.KA b h ⟨2048 + j, by omega⟩ e : EReal) :=
  (x6 m c b h i j e).trans (by show W m c main_v62 _ = _; rw [t_v62, A.a3]; exact a_kc D b h j e)
theorem h7 (j : Fin 2048) (d : Fin 128) : X0_7 m c (pt b h i) (ix2 j d) = xv (ix4 b ⟨j, by omega⟩ h d) :=
  (x7 m c b h i j d).trans (by show W m c main_v69 _ = _; rw [t_v69, A.a4]; exact b_vl xv b h j d)
theorem h8 (j : Fin 256) (d : Fin 128) : iblk m c 8 (pt b h i) (ix2 j d) = xv (ix4 b ⟨2048 + j, by omega⟩ h d) :=
  (x8 m c b h i j d).trans (by show W m c main_v69 _ = _; rw [t_v69, A.a4]; exact b_vc xv b h j d)
theorem h9 (r : Fin 1024) (d : Fin 128) : iblk m c 9 (pt b h i) (ix2 r d) = xg (ix3 b (tok i r) ⟨h * 128 + d, by omega⟩) :=
  (x9 m c b h i r d).trans (by show W m c main_v70 _ = _; rw [t_v70, A.a5]; exact b_g xg b h (tok i r) d)

/-- The operands of chain 0. -/
theorem held0 : Holds D (vals xv) (gates xg) b h (rho i 0) (n0 (iblk m c 0 (pt b h i))) (r0 (iblk m c 0 (pt b h i)))
    (iblk m c 1 (pt b h i)) (iblk m c 2 (pt b h i)) (s0 (X0_3 m c (pt b h i))) (s0 (X0_4 m c (pt b h i)))
    (X0_5 m c (pt b h i)) (iblk m c 6 (pt b h i)) (X0_7 m c (pt b h i)) (iblk m c 8 (pt b h i)) (s0 (iblk m c 9 (pt b h i))) where
  x r d := (n0_at _ r d).trans ((h0 A b h i _ _).trans (dif_pos (show d.val < 192 by omega)))
  xr r l := (r0_at _ r l).trans ((h0 A b h i _ _).trans (by
    by_cases hl : l.val < 64
    · rw [dif_pos hl, dif_pos (show 128 + l.val < 192 by omega)]; rfl
    · rw [dif_neg hl, dif_neg (show ¬ 128 + l.val < 192 by omega)]))
  gn z d := h1 A b h i z d
  gr z l := h2 A b h i z l
  ct r l := (s0_at _ r l).trans (h3 b h i _ l)
  st r l := (s0_at _ r l).trans (h4 b h i _ l)
  kl j e := h5 A b h i j e
  kc j e := h6 A b h i j e
  vl j d := h7 A b h i j d
  vc j d := h8 A b h i j d
  g r d := (s0_at _ r d).trans (h9 A b h i _ d)

/-- The operands of chain 1. -/
theorem held1 : Holds D (vals xv) (gates xg) b h (rho i 1) (n1 (iblk m c 0 (pt b h i))) (r1 (iblk m c 0 (pt b h i)))
    (iblk m c 1 (pt b h i)) (iblk m c 2 (pt b h i)) (s1 (X0_3 m c (pt b h i))) (s1 (X0_4 m c (pt b h i)))
    (X0_5 m c (pt b h i)) (iblk m c 6 (pt b h i)) (X0_7 m c (pt b h i)) (iblk m c 8 (pt b h i)) (s1 (iblk m c 9 (pt b h i))) where
  x r d := (n1_at _ r d).trans ((h0 A b h i _ _).trans (dif_pos (show d.val < 192 by omega)))
  xr r l := (r1_at _ r l).trans ((h0 A b h i _ _).trans (by
    by_cases hl : l.val < 64
    · rw [dif_pos hl, dif_pos (show 128 + l.val < 192 by omega)]; rfl
    · rw [dif_neg hl, dif_neg (show ¬ 128 + l.val < 192 by omega)]))
  gn z d := h1 A b h i z d
  gr z l := h2 A b h i z l
  ct r l := (s1_at _ r l).trans (h3 b h i _ l)
  st r l := (s1_at _ r l).trans (h4 b h i _ l)
  kl j e := h5 A b h i j e
  kc j e := h6 A b h i j e
  vl j d := h7 A b h i j d
  vc j d := h8 A b h i j d
  g r d := (s1_at _ r d).trans (h9 A b h i _ d)

/-- The operands of chain 2. -/
theorem held2 : Holds D (vals xv) (gates xg) b h (rho i 2) (n2 (iblk m c 0 (pt b h i))) (r2 (iblk m c 0 (pt b h i)))
    (iblk m c 1 (pt b h i)) (iblk m c 2 (pt b h i)) (s2 (X0_3 m c (pt b h i))) (s2 (X0_4 m c (pt b h i)))
    (X0_5 m c (pt b h i)) (iblk m c 6 (pt b h i)) (X0_7 m c (pt b h i)) (iblk m c 8 (pt b h i)) (s2 (iblk m c 9 (pt b h i))) where
  x r d := (n2_at _ r d).trans ((h0 A b h i _ _).trans (dif_pos (show d.val < 192 by omega)))
  xr r l := (r2_at _ r l).trans ((h0 A b h i _ _).trans (by
    by_cases hl : l.val < 64
    · rw [dif_pos hl, dif_pos (show 128 + l.val < 192 by omega)]; rfl
    · rw [dif_neg hl, dif_neg (show ¬ 128 + l.val < 192 by omega)]))
  gn z d := h1 A b h i z d
  gr z l := h2 A b h i z l
  ct r l := (s2_at _ r l).trans (h3 b h i _ l)
  st r l := (s2_at _ r l).trans (h4 b h i _ l)
  kl j e := h5 A b h i j e
  kc j e := h6 A b h i j e
  vl j d := h7 A b h i j d
  vc j d := h8 A b h i j d
  g r d := (s2_at _ r d).trans (h9 A b h i _ d)

/-- The operands of chain 3. -/
theorem held3 : Holds D (vals xv) (gates xg) b h (rho i 3) (n3 (iblk m c 0 (pt b h i))) (r3 (iblk m c 0 (pt b h i)))
    (iblk m c 1 (pt b h i)) (iblk m c 2 (pt b h i)) (s3 (X0_3 m c (pt b h i))) (s3 (X0_4 m c (pt b h i)))
    (X0_5 m c (pt b h i)) (iblk m c 6 (pt b h i)) (X0_7 m c (pt b h i)) (iblk m c 8 (pt b h i)) (s3 (iblk m c 9 (pt b h i))) where
  x r d := (n3_at _ r d).trans ((h0 A b h i _ _).trans (dif_pos (show d.val < 192 by omega)))
  xr r l := (r3_at _ r l).trans ((h0 A b h i _ _).trans (by
    by_cases hl : l.val < 64
    · rw [dif_pos hl, dif_pos (show 128 + l.val < 192 by omega)]; rfl
    · rw [dif_neg hl, dif_neg (show ¬ 128 + l.val < 192 by omega)]))
  gn z d := h1 A b h i z d
  gr z l := h2 A b h i z l
  ct r l := (s3_at _ r l).trans (h3 b h i _ l)
  st r l := (s3_at _ r l).trans (h4 b h i _ l)
  kl j e := h5 A b h i j e
  kc j e := h6 A b h i j e
  vl j d := h7 A b h i j d
  vc j d := h8 A b h i j d
  g r d := (s3_at _ r d).trans (h9 A b h i _ d)

end

end Cert.Proof.Fwd
-- ==== Proof.Fwd.Point.lean ====
module

public import proofs.«01_k».proof.Proof.Gen.Kernel2Ideal.Frame
public import proofs.«01_k».proof.Proof.Fwd.Chain
public import Idealize.ShloMosaic.Lib.Pipeline.Value
/-! What a point of the grid leaves in its blocks, in the chains' words. -/

@[expose] public section

set_option maxRecDepth 16384

noncomputable section

namespace Cert.Proof.Fwd

open Cert.Kernel2Ideal Cert.Kernel2Ideal.Gen Idealize.ShloMosaic Idealize.ShloMosaic.TcCoe Idealize.SL.Sem

variable {F : FTy → Type} [FloatOps F]

/-- No offset. -/
theorem zz : (![0, 0] : Fin 2 → ℕ) = fun _ => 0 := by funext a; fin_cases a <;> rfl

/-- Output 1 of the four, as a point leaves it. -/
theorem out_10 (c : Dev nD) (i : grid0.Coords) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S2048x256 .bf16) (harg8 : arg8.IsWhole) (arg9 : Memref sig .tc .vmem S256x256 .bf16) (harg9 : arg9.IsWhole) (arg10 : Memref sig .tc .vmem S2048x128 .bf16) (harg10 : arg10.IsWhole) (arg11 : Memref sig .tc .vmem S256x128 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x256 .bf16) (harg15 : arg15.IsWhole) (arg16 : Memref sig .tc .vmem S1024x128 .bf16) (harg16 : arg16.IsWhole)
    (x0 : Vec F S1024x256 .f32) (x1 : Vec F S1x128 .f32) (x2 : Vec F S1x128 .f32) (x3 : Vec F S1024x128 .f32) (x4 : Vec F S1024x128 .f32) (x5 : Vec F S2048x256 .bf16) (x6 : Vec F S256x256 .bf16) (x7 : Vec F S2048x128 .bf16) (x8 : Vec F S256x128 .bf16) (x9 : Vec F S1024x128 .f32) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
    = View.canon [⟨Rect.unit (s := S1024x128) ![768, 0] S256x128.size inb_S1024x128_S256x128_768_0, oo (n3 x0) (r3 x0) x1 x2 (s3 x3) (s3 x4) x5 x6 x7 x8⟩,
      ⟨Rect.unit (s := S1024x128) ![512, 0] S256x128.size inb_S1024x128_S256x128_512_0, oo (n2 x0) (r2 x0) x1 x2 (s2 x3) (s2 x4) x5 x6 x7 x8⟩,
      ⟨Rect.unit (s := S1024x128) ![256, 0] S256x128.size inb_S1024x128_S256x128_256_0, oo (n1 x0) (r1 x0) x1 x2 (s1 x3) (s1 x4) x5 x6 x7 x8⟩,
      ⟨Rect.unit (s := S1024x128) ![0, 0] S256x128.size inb_S1024x128_S256x128_0_0, oo (n0 x0) (r0 x0) x1 x2 (s0 x3) (s0 x4) x5 x6 x7 x8⟩] := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x256) zz, View.ld_unit_zero (S := S256x256) zz, View.ld_unit_zero (S := S2048x128) zz, View.ld_unit_zero (S := S256x128) zz, View.ld_unit_zero (S := S1x128) zz, View.ld_unit, e17, e18, e19, e20, e21, e22, e23, e24, e32, e33, e34, e35, e36, e37, e38, e39, e46, e47, e48, e49, e50, e51, e52, e53, e25, e29, e30, e31, e40, e43, e44, e45, e54, e55, e58, e59, e1]
  rfl

/-- Output 2 of the four, as a point leaves it. -/
theorem out_11 (c : Dev nD) (i : grid0.Coords) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S2048x256 .bf16) (harg8 : arg8.IsWhole) (arg9 : Memref sig .tc .vmem S256x256 .bf16) (harg9 : arg9.IsWhole) (arg10 : Memref sig .tc .vmem S2048x128 .bf16) (harg10 : arg10.IsWhole) (arg11 : Memref sig .tc .vmem S256x128 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x256 .bf16) (harg15 : arg15.IsWhole) (arg16 : Memref sig .tc .vmem S1024x128 .bf16) (harg16 : arg16.IsWhole)
    (x0 : Vec F S1024x256 .f32) (x1 : Vec F S1x128 .f32) (x2 : Vec F S1x128 .f32) (x3 : Vec F S1024x128 .f32) (x4 : Vec F S1024x128 .f32) (x5 : Vec F S2048x256 .bf16) (x6 : Vec F S256x256 .bf16) (x7 : Vec F S2048x128 .bf16) (x8 : Vec F S256x128 .bf16) (x9 : Vec F S1024x128 .f32) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
    = View.canon [⟨Rect.unit (s := S1024x128) ![768, 0] S256x128.size inb_S1024x128_S256x128_768_0, ls (n3 x0) (r3 x0) x1 x2 (s3 x3) (s3 x4) x5 x6⟩,
      ⟨Rect.unit (s := S1024x128) ![512, 0] S256x128.size inb_S1024x128_S256x128_512_0, ls (n2 x0) (r2 x0) x1 x2 (s2 x3) (s2 x4) x5 x6⟩,
      ⟨Rect.unit (s := S1024x128) ![256, 0] S256x128.size inb_S1024x128_S256x128_256_0, ls (n1 x0) (r1 x0) x1 x2 (s1 x3) (s1 x4) x5 x6⟩,
      ⟨Rect.unit (s := S1024x128) ![0, 0] S256x128.size inb_S1024x128_S256x128_0_0, ls (n0 x0) (r0 x0) x1 x2 (s0 x3) (s0 x4) x5 x6⟩] := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x256) zz, View.ld_unit_zero (S := S256x256) zz, View.ld_unit_zero (S := S2048x128) zz, View.ld_unit_zero (S := S256x128) zz, View.ld_unit_zero (S := S1x128) zz, View.ld_unit, e17, e18, e19, e20, e21, e22, e23, e24, e32, e33, e34, e35, e36, e37, e38, e39, e46, e47, e48, e49, e50, e51, e52, e53, e25, e29, e30, e31, e40, e43, e44, e45, e54, e55, e58, e59, e1]
  rfl

/-- Output 3 of the four, as a point leaves it. -/
theorem out_12 (c : Dev nD) (i : grid0.Coords) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S2048x256 .bf16) (harg8 : arg8.IsWhole) (arg9 : Memref sig .tc .vmem S256x256 .bf16) (harg9 : arg9.IsWhole) (arg10 : Memref sig .tc .vmem S2048x128 .bf16) (harg10 : arg10.IsWhole) (arg11 : Memref sig .tc .vmem S256x128 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x256 .bf16) (harg15 : arg15.IsWhole) (arg16 : Memref sig .tc .vmem S1024x128 .bf16) (harg16 : arg16.IsWhole)
    (x0 : Vec F S1024x256 .f32) (x1 : Vec F S1x128 .f32) (x2 : Vec F S1x128 .f32) (x3 : Vec F S1024x128 .f32) (x4 : Vec F S1024x128 .f32) (x5 : Vec F S2048x256 .bf16) (x6 : Vec F S256x256 .bf16) (x7 : Vec F S2048x128 .bf16) (x8 : Vec F S256x128 .bf16) (x9 : Vec F S1024x128 .f32) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
    = View.canon [⟨Rect.unit (s := S1024x256) ![768, 0] S256x256.size inb_S1024x256_S256x256_768_0, qf (n3 x0) (r3 x0) x1 x2 (s3 x3) (s3 x4)⟩,
      ⟨Rect.unit (s := S1024x256) ![512, 0] S256x256.size inb_S1024x256_S256x256_512_0, qf (n2 x0) (r2 x0) x1 x2 (s2 x3) (s2 x4)⟩,
      ⟨Rect.unit (s := S1024x256) ![256, 0] S256x256.size inb_S1024x256_S256x256_256_0, qf (n1 x0) (r1 x0) x1 x2 (s1 x3) (s1 x4)⟩,
      ⟨Rect.unit (s := S1024x256) ![0, 0] S256x256.size inb_S1024x256_S256x256_0_0, qf (n0 x0) (r0 x0) x1 x2 (s0 x3) (s0 x4)⟩] := by
  unfold out0_A_12
  rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x256) zz, View.ld_unit_zero (S := S256x256) zz, View.ld_unit_zero (S := S2048x128) zz, View.ld_unit_zero (S := S256x128) zz, View.ld_unit_zero (S := S1x128) zz, View.ld_unit, e17, e18, e19, e20, e21, e22, e23, e24, e32, e33, e34, e35, e36, e37, e38, e39, e46, e47, e48, e49, e50, e51, e52, e53, e25, e29, e30, e31, e40, e43, e44, e45, e54, e55, e58, e59, e1]
  rfl

/-- Output 4 of the four, as a point leaves it. -/
theorem out_13 (c : Dev nD) (i : grid0.Coords) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S2048x256 .bf16) (harg8 : arg8.IsWhole) (arg9 : Memref sig .tc .vmem S256x256 .bf16) (harg9 : arg9.IsWhole) (arg10 : Memref sig .tc .vmem S2048x128 .bf16) (harg10 : arg10.IsWhole) (arg11 : Memref sig .tc .vmem S256x128 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x256 .bf16) (harg15 : arg15.IsWhole) (arg16 : Memref sig .tc .vmem S1024x128 .bf16) (harg16 : arg16.IsWhole)
    (x0 : Vec F S1024x256 .f32) (x1 : Vec F S1x128 .f32) (x2 : Vec F S1x128 .f32) (x3 : Vec F S1024x128 .f32) (x4 : Vec F S1024x128 .f32) (x5 : Vec F S2048x256 .bf16) (x6 : Vec F S256x256 .bf16) (x7 : Vec F S2048x128 .bf16) (x8 : Vec F S256x128 .bf16) (x9 : Vec F S1024x128 .f32) :
    out0_A_13 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
    = View.canon [⟨Rect.unit (s := S1024x128) ![768, 0] S256x128.size inb_S1024x128_S256x128_768_0, og (n3 x0) (r3 x0) x1 x2 (s3 x3) (s3 x4) x5 x6 x7 x8 (s3 x9)⟩,
      ⟨Rect.unit (s := S1024x128) ![512, 0] S256x128.size inb_S1024x128_S256x128_512_0, og (n2 x0) (r2 x0) x1 x2 (s2 x3) (s2 x4) x5 x6 x7 x8 (s2 x9)⟩,
      ⟨Rect.unit (s := S1024x128) ![256, 0] S256x128.size inb_S1024x128_S256x128_256_0, og (n1 x0) (r1 x0) x1 x2 (s1 x3) (s1 x4) x5 x6 x7 x8 (s1 x9)⟩,
      ⟨Rect.unit (s := S1024x128) ![0, 0] S256x128.size inb_S1024x128_S256x128_0_0, og (n0 x0) (r0 x0) x1 x2 (s0 x3) (s0 x4) x5 x6 x7 x8 (s0 x9)⟩] := by
  unfold out0_A_13
  rw [View.read_writes_eq_canon _ _ _ (cover0_A_13 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S2048x256) zz, View.ld_unit_zero (S := S256x256) zz, View.ld_unit_zero (S := S2048x128) zz, View.ld_unit_zero (S := S256x128) zz, View.ld_unit_zero (S := S1x128) zz, View.ld_unit, e17, e18, e19, e20, e21, e22, e23, e24, e32, e33, e34, e35, e36, e37, e38, e39, e46, e47, e48, e49, e50, e51, e52, e53, e25, e29, e30, e31, e40, e43, e44, e45, e54, e55, e58, e59, e1]
  rfl

end Cert.Proof.Fwd
-- ==== Proof.Fwd.Final.lean ====
module

public import proofs.«01_k».proof.Proof.Fwd.Held
public import proofs.«01_k».proof.Proof.Fwd.Point
/-! The four arrays of the forward call after the run, entry by entry. -/

@[expose] public section

set_option maxRecDepth 16384

noncomputable section

namespace Cert.Proof.Fwd

open Cert.Kernel2Ideal Cert.Kernel2Ideal.Gen Idealize.ShloMosaic Idealize.ShloMosaic.TcCoe
open Idealize.ShloMosaic.Pointwise Cert.Proof.Ref Cert.Kernel2Ideal.Value
open Cert.Proof.Grid (tok eta2 row_of col_of vcol_of tok_of)

/-- Four pieces of 256 rows make a block of 128 columns. -/
theorem four128 {e : EltTy} (f : Fin 1024 → Fin 128 → Elt Ideal e) (p0 p1 p2 p3 : Vec Ideal S256x128 e)
    (q0 : ∀ (s : Fin 256) (d : Fin 128), p0 (ix2 s d) = f ⟨0 * 256 + s.val, by omega⟩ d)
    (q1 : ∀ (s : Fin 256) (d : Fin 128), p1 (ix2 s d) = f ⟨1 * 256 + s.val, by omega⟩ d)
    (q2 : ∀ (s : Fin 256) (d : Fin 128), p2 (ix2 s d) = f ⟨2 * 256 + s.val, by omega⟩ d)
    (q3 : ∀ (s : Fin 256) (d : Fin 128), p3 (ix2 s d) = f ⟨3 * 256 + s.val, by omega⟩ d)
    (r : Fin 1024) (d : Fin 128) :
    View.canon (Val := Elt Ideal) (s := S1024x128) (e := e) [⟨Rect.unit (s := S1024x128) ![768, 0] S256x128.size inb_S1024x128_S256x128_768_0, p3⟩, ⟨Rect.unit (s := S1024x128) ![512, 0] S256x128.size inb_S1024x128_S256x128_512_0, p2⟩, ⟨Rect.unit (s := S1024x128) ![256, 0] S256x128.size inb_S1024x128_S256x128_256_0, p1⟩, ⟨Rect.unit (s := S1024x128) ![0, 0] S256x128.size inb_S1024x128_S256x128_0_0, p0⟩] (ix2 r d) = f r d := by
  have e0 : ∀ (s : Fin 256) (d : Fin 128), (Rect.unit (s := S1024x128) ![0, 0] S256x128.size inb_S1024x128_S256x128_0_0).emb (ix2 s d) = ix2 (⟨0 * 256 + s.val, by omega⟩ : Fin 1024) d := fun s d => by
    funext a; apply Fin.ext
    match a with
    | ⟨0, _⟩ => show 0 + 1 * s.val = 0 * 256 + s.val; omega
    | ⟨1, _⟩ => show 0 + 1 * d.val = d.val; omega
  have e1 : ∀ (s : Fin 256) (d : Fin 128), (Rect.unit (s := S1024x128) ![256, 0] S256x128.size inb_S1024x128_S256x128_256_0).emb (ix2 s d) = ix2 (⟨1 * 256 + s.val, by omega⟩ : Fin 1024) d := fun s d => by
    funext a; apply Fin.ext
    match a with
    | ⟨0, _⟩ => show 256 + 1 * s.val = 1 * 256 + s.val; omega
    | ⟨1, _⟩ => show 0 + 1 * d.val = d.val; omega
  have e2 : ∀ (s : Fin 256) (d : Fin 128), (Rect.unit (s := S1024x128) ![512, 0] S256x128.size inb_S1024x128_S256x128_512_0).emb (ix2 s d) = ix2 (⟨2 * 256 + s.val, by omega⟩ : Fin 1024) d := fun s d => by
    funext a; apply Fin.ext
    match a with
    | ⟨0, _⟩ => show 512 + 1 * s.val = 2 * 256 + s.val; omega
    | ⟨1, _⟩ => show 0 + 1 * d.val = d.val; omega
  have e3 : ∀ (s : Fin 256) (d : Fin 128), (Rect.unit (s := S1024x128) ![768, 0] S256x128.size inb_S1024x128_S256x128_768_0).emb (ix2 s d) = ix2 (⟨3 * 256 + s.val, by omega⟩ : Fin 1024) d := fun s d => by
    funext a; apply Fin.ext
    match a with
    | ⟨0, _⟩ => show 768 + 1 * s.val = 3 * 256 + s.val; omega
    | ⟨1, _⟩ => show 0 + 1 * d.val = d.val; omega
  refine View.canon_apply_of_pieces (Val := Elt Ideal) (S := S1024x128) (e := e) (fun y => f (y 0) (y 1)) _ ?_ (ix2 r d) ?_
  · intro p hp x
    simp only [List.mem_cons, List.not_mem_nil, or_false] at hp
    rcases hp with rfl | rfl | rfl | rfl
    · obtain ⟨s, d, rfl⟩ : ∃ (s : Fin 256) (d : Fin 128), x = ix2 s d := ⟨_, _, eta2 (n0 := 256) (n1 := 128) x⟩
      refine (q3 s d).trans ?_
      show _ = (fun y : S1024x128.Idx => f (y 0) (y 1)) ((Rect.unit (s := S1024x128) ![768, 0] S256x128.size inb_S1024x128_S256x128_768_0).emb (ix2 s d))
      rw [e3]; rfl
    · obtain ⟨s, d, rfl⟩ : ∃ (s : Fin 256) (d : Fin 128), x = ix2 s d := ⟨_, _, eta2 (n0 := 256) (n1 := 128) x⟩
      refine (q2 s d).trans ?_
      show _ = (fun y : S1024x128.Idx => f (y 0) (y 1)) ((Rect.unit (s := S1024x128) ![512, 0] S256x128.size inb_S1024x128_S256x128_512_0).emb (ix2 s d))
      rw [e2]; rfl
    · obtain ⟨s, d, rfl⟩ : ∃ (s : Fin 256) (d : Fin 128), x = ix2 s d := ⟨_, _, eta2 (n0 := 256) (n1 := 128) x⟩
      refine (q1 s d).trans ?_
      show _ = (fun y : S1024x128.Idx => f (y 0) (y 1)) ((Rect.unit (s := S1024x128) ![256, 0] S256x128.size inb_S1024x128_S256x128_256_0).emb (ix2 s d))
      rw [e1]; rfl
    · obtain ⟨s, d, rfl⟩ : ∃ (s : Fin 256) (d : Fin 128), x = ix2 s d := ⟨_, _, eta2 (n0 := 256) (n1 := 128) x⟩
      refine (q0 s d).trans ?_
      show _ = (fun y : S1024x128.Idx => f (y 0) (y 1)) ((Rect.unit (s := S1024x128) ![0, 0] S256x128.size inb_S1024x128_S256x128_0_0).emb (ix2 s d))
      rw [e0]; rfl
  · obtain ⟨k, s, rfl⟩ : ∃ (k : Fin 4) (s : Fin 256), r = ⟨k.val * 256 + s.val, by omega⟩ :=
      ⟨⟨r.val / 256, by omega⟩, ⟨r.val % 256, by omega⟩, Fin.ext (by simp only; omega)⟩
    fin_cases k
    · refine ⟨_, (List.mem_cons_of_mem _ (List.mem_cons_of_mem _ (List.mem_cons_of_mem _ List.mem_cons_self))), ?_⟩
      show (ix2 (⟨0 * 256 + s.val, by omega⟩ : Fin 1024) d : S1024x128.Idx) ∈ (Rect.unit (s := S1024x128) ![0, 0] S256x128.size inb_S1024x128_S256x128_0_0).set
      rw [← e0]
      exact LoadRect.idx_mem _ _
    · refine ⟨_, (List.mem_cons_of_mem _ (List.mem_cons_of_mem _ List.mem_cons_self)), ?_⟩
      show (ix2 (⟨1 * 256 + s.val, by omega⟩ : Fin 1024) d : S1024x128.Idx) ∈ (Rect.unit (s := S1024x128) ![256, 0] S256x128.size inb_S1024x128_S256x128_256_0).set
      rw [← e1]
      exact LoadRect.idx_mem _ _
    · refine ⟨_, (List.mem_cons_of_mem _ List.mem_cons_self), ?_⟩
      show (ix2 (⟨2 * 256 + s.val, by omega⟩ : Fin 1024) d : S1024x128.Idx) ∈ (Rect.unit (s := S1024x128) ![512, 0] S256x128.size inb_S1024x128_S256x128_512_0).set
      rw [← e2]
      exact LoadRect.idx_mem _ _
    · refine ⟨_, List.mem_cons_self, ?_⟩
      show (ix2 (⟨3 * 256 + s.val, by omega⟩ : Fin 1024) d : S1024x128.Idx) ∈ (Rect.unit (s := S1024x128) ![768, 0] S256x128.size inb_S1024x128_S256x128_768_0).set
      rw [← e3]
      exact LoadRect.idx_mem _ _

/-- Four pieces of 256 rows make a block of 256 columns. -/
theorem four256 {e : EltTy} (f : Fin 1024 → Fin 256 → Elt Ideal e) (p0 p1 p2 p3 : Vec Ideal S256x256 e)
    (q0 : ∀ (s : Fin 256) (d : Fin 256), p0 (ix2 s d) = f ⟨0 * 256 + s.val, by omega⟩ d)
    (q1 : ∀ (s : Fin 256) (d : Fin 256), p1 (ix2 s d) = f ⟨1 * 256 + s.val, by omega⟩ d)
    (q2 : ∀ (s : Fin 256) (d : Fin 256), p2 (ix2 s d) = f ⟨2 * 256 + s.val, by omega⟩ d)
    (q3 : ∀ (s : Fin 256) (d : Fin 256), p3 (ix2 s d) = f ⟨3 * 256 + s.val, by omega⟩ d)
    (r : Fin 1024) (d : Fin 256) :
    View.canon (Val := Elt Ideal) (s := S1024x256) (e := e) [⟨Rect.unit (s := S1024x256) ![768, 0] S256x256.size inb_S1024x256_S256x256_768_0, p3⟩, ⟨Rect.unit (s := S1024x256) ![512, 0] S256x256.size inb_S1024x256_S256x256_512_0, p2⟩, ⟨Rect.unit (s := S1024x256) ![256, 0] S256x256.size inb_S1024x256_S256x256_256_0, p1⟩, ⟨Rect.unit (s := S1024x256) ![0, 0] S256x256.size inb_S1024x256_S256x256_0_0, p0⟩] (ix2 r d) = f r d := by
  have e0 : ∀ (s : Fin 256) (d : Fin 256), (Rect.unit (s := S1024x256) ![0, 0] S256x256.size inb_S1024x256_S256x256_0_0).emb (ix2 s d) = ix2 (⟨0 * 256 + s.val, by omega⟩ : Fin 1024) d := fun s d => by
    funext a; apply Fin.ext
    match a with
    | ⟨0, _⟩ => show 0 + 1 * s.val = 0 * 256 + s.val; omega
    | ⟨1, _⟩ => show 0 + 1 * d.val = d.val; omega
  have e1 : ∀ (s : Fin 256) (d : Fin 256), (Rect.unit (s := S1024x256) ![256, 0] S256x256.size inb_S1024x256_S256x256_256_0).emb (ix2 s d) = ix2 (⟨1 * 256 + s.val, by omega⟩ : Fin 1024) d := fun s d => by
    funext a; apply Fin.ext
    match a with
    | ⟨0, _⟩ => show 256 + 1 * s.val = 1 * 256 + s.val; omega
    | ⟨1, _⟩ => show 0 + 1 * d.val = d.val; omega
  have e2 : ∀ (s : Fin 256) (d : Fin 256), (Rect.unit (s := S1024x256) ![512, 0] S256x256.size inb_S1024x256_S256x256_512_0).emb (ix2 s d) = ix2 (⟨2 * 256 + s.val, by omega⟩ : Fin 1024) d := fun s d => by
    funext a; apply Fin.ext
    match a with
    | ⟨0, _⟩ => show 512 + 1 * s.val = 2 * 256 + s.val; omega
    | ⟨1, _⟩ => show 0 + 1 * d.val = d.val; omega
  have e3 : ∀ (s : Fin 256) (d : Fin 256), (Rect.unit (s := S1024x256) ![768, 0] S256x256.size inb_S1024x256_S256x256_768_0).emb (ix2 s d) = ix2 (⟨3 * 256 + s.val, by omega⟩ : Fin 1024) d := fun s d => by
    funext a; apply Fin.ext
    match a with
    | ⟨0, _⟩ => show 768 + 1 * s.val = 3 * 256 + s.val; omega
    | ⟨1, _⟩ => show 0 + 1 * d.val = d.val; omega
  refine View.canon_apply_of_pieces (Val := Elt Ideal) (S := S1024x256) (e := e) (fun y => f (y 0) (y 1)) _ ?_ (ix2 r d) ?_
  · intro p hp x
    simp only [List.mem_cons, List.not_mem_nil, or_false] at hp
    rcases hp with rfl | rfl | rfl | rfl
    · obtain ⟨s, d, rfl⟩ : ∃ (s : Fin 256) (d : Fin 256), x = ix2 s d := ⟨_, _, eta2 (n0 := 256) (n1 := 256) x⟩
      refine (q3 s d).trans ?_
      show _ = (fun y : S1024x256.Idx => f (y 0) (y 1)) ((Rect.unit (s := S1024x256) ![768, 0] S256x256.size inb_S1024x256_S256x256_768_0).emb (ix2 s d))
      rw [e3]; rfl
    · obtain ⟨s, d, rfl⟩ : ∃ (s : Fin 256) (d : Fin 256), x = ix2 s d := ⟨_, _, eta2 (n0 := 256) (n1 := 256) x⟩
      refine (q2 s d).trans ?_
      show _ = (fun y : S1024x256.Idx => f (y 0) (y 1)) ((Rect.unit (s := S1024x256) ![512, 0] S256x256.size inb_S1024x256_S256x256_512_0).emb (ix2 s d))
      rw [e2]; rfl
    · obtain ⟨s, d, rfl⟩ : ∃ (s : Fin 256) (d : Fin 256), x = ix2 s d := ⟨_, _, eta2 (n0 := 256) (n1 := 256) x⟩
      refine (q1 s d).trans ?_
      show _ = (fun y : S1024x256.Idx => f (y 0) (y 1)) ((Rect.unit (s := S1024x256) ![256, 0] S256x256.size inb_S1024x256_S256x256_256_0).emb (ix2 s d))
      rw [e1]; rfl
    · obtain ⟨s, d, rfl⟩ : ∃ (s : Fin 256) (d : Fin 256), x = ix2 s d := ⟨_, _, eta2 (n0 := 256) (n1 := 256) x⟩
      refine (q0 s d).trans ?_
      show _ = (fun y : S1024x256.Idx => f (y 0) (y 1)) ((Rect.unit (s := S1024x256) ![0, 0] S256x256.size inb_S1024x256_S256x256_0_0).emb (ix2 s d))
      rw [e0]; rfl
  · obtain ⟨k, s, rfl⟩ : ∃ (k : Fin 4) (s : Fin 256), r = ⟨k.val * 256 + s.val, by omega⟩ :=
      ⟨⟨r.val / 256, by omega⟩, ⟨r.val % 256, by omega⟩, Fin.ext (by simp only; omega)⟩
    fin_cases k
    · refine ⟨_, (List.mem_cons_of_mem _ (List.mem_cons_of_mem _ (List.mem_cons_of_mem _ List.mem_cons_self))), ?_⟩
      show (ix2 (⟨0 * 256 + s.val, by omega⟩ : Fin 1024) d : S1024x256.Idx) ∈ (Rect.unit (s := S1024x256) ![0, 0] S256x256.size inb_S1024x256_S256x256_0_0).set
      rw [← e0]
      exact LoadRect.idx_mem _ _
    · refine ⟨_, (List.mem_cons_of_mem _ (List.mem_cons_of_mem _ List.mem_cons_self)), ?_⟩
      show (ix2 (⟨1 * 256 + s.val, by omega⟩ : Fin 1024) d : S1024x256.Idx) ∈ (Rect.unit (s := S1024x256) ![256, 0] S256x256.size inb_S1024x256_S256x256_256_0).set
      rw [← e1]
      exact LoadRect.idx_mem _ _
    · refine ⟨_, (List.mem_cons_of_mem _ List.mem_cons_self), ?_⟩
      show (ix2 (⟨2 * 256 + s.val, by omega⟩ : Fin 1024) d : S1024x256.Idx) ∈ (Rect.unit (s := S1024x256) ![512, 0] S256x256.size inb_S1024x256_S256x256_512_0).set
      rw [← e2]
      exact LoadRect.idx_mem _ _
    · refine ⟨_, List.mem_cons_self, ?_⟩
      show (ix2 (⟨3 * 256 + s.val, by omega⟩ : Fin 1024) d : S1024x256.Idx) ∈ (Rect.unit (s := S1024x256) ![768, 0] S256x256.size inb_S1024x256_S256x256_768_0).set
      rw [← e3]
      exact LoadRect.idx_mem _ _

variable {D : Inp} {xv : FVec Ideal S2x2304x8x128 .f32} {xg : FVec Ideal S2x2048x1024 .f32}
  {m : (ℓ : Loc nD τ sig) → Buf (Elt Ideal) ℓ} {c : Dev nD} (A : Args D xv xg m c)
include A

/-- The attention's result in a block. -/
theorem val10 (b : Fin 2) (h : Fin 8) (i : Fin 2) (r : Fin 1024) (e : Fin 128) :
    out0_A_10 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = OV D (vals xv) b h (tok i r) e := by
  rw [out_10]
  exact four128 (e := .f32) (fun r e => (OV D (vals xv) b h (tok i r) e : EReal)) _ _ _ _
    (oo_at (held0 A b h i)) (oo_at (held1 A b h i)) (oo_at (held2 A b h i)) (oo_at (held3 A b h i)) r e

/-- The attention's result after the run. -/
theorem arr10 (G : FVec Ideal S4096x1024 .f32) (hG : ∀ (b : Fin 2) (h : Fin 8) (i : Fin 2048) (e : Fin 128), G (ix2 (row b i) (vcol h e)) = OV D (vals xv) b h i e) :
    (dats m 0 c).arrAt 10 cfg0.N = G := by
  refine (dats m 0 c).arrAt_eq_of_cover 10 G (fun t hf => ?_) (fun y => ?_)
  · obtain ⟨b, h, i, rfl⟩ := pt_of t
    rw [flushed10_A]
    funext y
    obtain ⟨r, e, rfl⟩ : ∃ (r : Fin 1024) (e : Fin 128), y = ix2 r e := ⟨_, _, eta2 (n0 := 1024) (n1 := 128) y⟩
    show out0_A_10 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = G (((cfg0.win 10).blk (pt b h i)).view.emb (ix2 r e))
    rw [emb10, val10 A]
    exact (hG _ _ _ _).symm
  · obtain ⟨u, v, rfl⟩ : ∃ (u : Fin 4096) (v : Fin 1024), y = ix2 u v := ⟨_, _, eta2 (n0 := 4096) (n1 := 1024) y⟩
    obtain ⟨b, q, rfl⟩ := row_of u
    obtain ⟨i, r, rfl⟩ := tok_of q
    obtain ⟨h, e, rfl⟩ := vcol_of v
    refine ⟨pt b h i, flush0_10 _, ?_⟩
    rw [← emb10]
    exact View.emb_mem_set _ _

/-- The rows' logarithms in a block. -/
theorem val11 (b : Fin 2) (h : Fin 8) (i : Fin 2) (r : Fin 1024) (e : Fin 128) :
    out0_A_11 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = (D.LSE b h (tok i r) : EReal) := by
  rw [out_11]
  exact four128 (e := .f32) (fun r e => ((D.LSE b h (tok i r) : EReal) : EReal)) _ _ _ _
    (ls_at (held0 A b h i)) (ls_at (held1 A b h i)) (ls_at (held2 A b h i)) (ls_at (held3 A b h i)) r e

/-- The rows' logarithms after the run. -/
theorem arr11 (G : FVec Ideal S4096x1024 .f32) (hG : ∀ (b : Fin 2) (h : Fin 8) (i : Fin 2048) (e : Fin 128), G (ix2 (row b i) (vcol h e)) = (D.LSE b h i : EReal)) :
    (dats m 0 c).arrAt 11 cfg0.N = G := by
  refine (dats m 0 c).arrAt_eq_of_cover 11 G (fun t hf => ?_) (fun y => ?_)
  · obtain ⟨b, h, i, rfl⟩ := pt_of t
    rw [flushed11_A]
    funext y
    obtain ⟨r, e, rfl⟩ : ∃ (r : Fin 1024) (e : Fin 128), y = ix2 r e := ⟨_, _, eta2 (n0 := 1024) (n1 := 128) y⟩
    show out0_A_11 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = G (((cfg0.win 11).blk (pt b h i)).view.emb (ix2 r e))
    rw [emb11, val11 A]
    exact (hG _ _ _ _).symm
  · obtain ⟨u, v, rfl⟩ : ∃ (u : Fin 4096) (v : Fin 1024), y = ix2 u v := ⟨_, _, eta2 (n0 := 4096) (n1 := 1024) y⟩
    obtain ⟨b, q, rfl⟩ := row_of u
    obtain ⟨i, r, rfl⟩ := tok_of q
    obtain ⟨h, e, rfl⟩ := vcol_of v
    refine ⟨pt b h i, flush0_11 _, ?_⟩
    rw [← emb11]
    exact View.emb_mem_set _ _

/-- The normed, turned and scaled queries in a block. -/
theorem val12 (b : Fin 2) (h : Fin 8) (i : Fin 2) (r : Fin 1024) (e : Fin 256) :
    out0_A_12 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = (D.QA b h (tok i r) e : EReal) := by
  rw [out_12]
  exact four256 (e := .bf16) (fun r e => ((D.QA b h (tok i r) e : EReal) : EReal)) _ _ _ _
    (qf_at (held0 A b h i)) (qf_at (held1 A b h i)) (qf_at (held2 A b h i)) (qf_at (held3 A b h i)) r e

/-- The normed, turned and scaled queries after the run. -/
theorem arr12 (G : FVec Ideal S4096x2048 .bf16) (hG : ∀ (b : Fin 2) (h : Fin 8) (i : Fin 2048) (e : Fin 256), G (ix2 (row b i) (col h e)) = (D.QA b h i e : EReal)) :
    (dats m 0 c).arrAt 12 cfg0.N = G := by
  refine (dats m 0 c).arrAt_eq_of_cover 12 G (fun t hf => ?_) (fun y => ?_)
  · obtain ⟨b, h, i, rfl⟩ := pt_of t
    rw [flushed12_A]
    funext y
    obtain ⟨r, e, rfl⟩ : ∃ (r : Fin 1024) (e : Fin 256), y = ix2 r e := ⟨_, _, eta2 (n0 := 1024) (n1 := 256) y⟩
    show out0_A_12 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = G (((cfg0.win 12).blk (pt b h i)).view.emb (ix2 r e))
    rw [emb12, val12 A]
    exact (hG _ _ _ _).symm
  · obtain ⟨u, v, rfl⟩ : ∃ (u : Fin 4096) (v : Fin 2048), y = ix2 u v := ⟨_, _, eta2 (n0 := 4096) (n1 := 2048) y⟩
    obtain ⟨b, q, rfl⟩ := row_of u
    obtain ⟨i, r, rfl⟩ := tok_of q
    obtain ⟨h, e, rfl⟩ := col_of v
    refine ⟨pt b h i, flush0_12 _, ?_⟩
    rw [← emb12]
    exact View.emb_mem_set _ _

/-- The gated result in a block. -/
theorem val13 (b : Fin 2) (h : Fin 8) (i : Fin 2) (r : Fin 1024) (e : Fin 128) :
    out0_A_13 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = OV D (vals xv) b h (tok i r) e * gate (xg (ix3 b (tok i r) ⟨h * 128 + e, by omega⟩)) := by
  rw [out_13]
  exact four128 (e := .bf16) (fun r e => (OV D (vals xv) b h (tok i r) e * gate (xg (ix3 b (tok i r) ⟨h * 128 + e, by omega⟩)) : EReal)) _ _ _ _
    (og_at (held0 A b h i)) (og_at (held1 A b h i)) (og_at (held2 A b h i)) (og_at (held3 A b h i)) r e

/-- The gated result after the run. -/
theorem arr13 (G : FVec Ideal S4096x1024 .bf16) (hG : ∀ (b : Fin 2) (h : Fin 8) (i : Fin 2048) (e : Fin 128), G (ix2 (row b i) (vcol h e)) = OV D (vals xv) b h i e * gate (xg (ix3 b i ⟨h * 128 + e, by omega⟩))) :
    (dats m 0 c).arrAt 13 cfg0.N = G := by
  refine (dats m 0 c).arrAt_eq_of_cover 13 G (fun t hf => ?_) (fun y => ?_)
  · obtain ⟨b, h, i, rfl⟩ := pt_of t
    rw [flushed13_A]
    funext y
    obtain ⟨r, e, rfl⟩ : ∃ (r : Fin 1024) (e : Fin 128), y = ix2 r e := ⟨_, _, eta2 (n0 := 1024) (n1 := 128) y⟩
    show out0_A_13 c (grid0.coords (pt b h i)) (ms0_0 (pt b h i)) (hs0_0 (pt b h i)) (ms0_1 (pt b h i)) (hs0_1 (pt b h i)) (ms0_2 (pt b h i)) (hs0_2 (pt b h i)) (ms0_3 (pt b h i)) (hs0_3 (pt b h i)) (ms0_4 (pt b h i)) (hs0_4 (pt b h i)) (ms0_5 (pt b h i)) (hs0_5 (pt b h i)) (ms0_6 (pt b h i)) (hs0_6 (pt b h i)) (ms0_7 (pt b h i)) (hs0_7 (pt b h i)) (ms0_8 (pt b h i)) (hs0_8 (pt b h i)) (ms0_9 (pt b h i)) (hs0_9 (pt b h i)) (ms0_10 (pt b h i)) (hs0_10 (pt b h i)) (ms0_11 (pt b h i)) (hs0_11 (pt b h i)) (ms0_12 (pt b h i)) (hs0_12 (pt b h i)) (ms0_13 (pt b h i)) (hs0_13 (pt b h i)) (iblk m c 0 (pt b h i)) (iblk m c 1 (pt b h i)) (iblk m c 2 (pt b h i)) (X0_3 m c (pt b h i)) (X0_4 m c (pt b h i)) (X0_5 m c (pt b h i)) (iblk m c 6 (pt b h i)) (X0_7 m c (pt b h i)) (iblk m c 8 (pt b h i)) (iblk m c 9 (pt b h i)) (ix2 r e) = G (((cfg0.win 13).blk (pt b h i)).view.emb (ix2 r e))
    rw [emb13, val13 A]
    exact (hG _ _ _ _).symm
  · obtain ⟨u, v, rfl⟩ : ∃ (u : Fin 4096) (v : Fin 1024), y = ix2 u v := ⟨_, _, eta2 (n0 := 4096) (n1 := 1024) y⟩
    obtain ⟨b, q, rfl⟩ := row_of u
    obtain ⟨i, r, rfl⟩ := tok_of q
    obtain ⟨h, e, rfl⟩ := vcol_of v
    refine ⟨pt b h i, flush0_13 _, ?_⟩
    rw [← emb13]
    exact View.emb_mem_set _ _

end Cert.Proof.Fwd
-- ==== Proof.Fwd.Bridge.lean ====
module

public import proofs.«01_k».proof.Proof.Ref.Forward
public import proofs.«01_k».proof.Proof.Gen.Reference2Ideal.Read
/-! The forward reference's first stages are the backward reference's. -/

@[expose] public section

set_option maxRecDepth 16384

noncomputable section

namespace Cert.Proof.Fwd

open Idealize.ShloMosaic

variable {F : FTy → Type} [FloatOps F]

theorem b14 : Cert.Reference2Ideal.Read.val_main_v14 (F := F) = Cert.ReferenceIdeal.Read.val_main_v17 := rfl
theorem b101 : Cert.Reference2Ideal.Read.val_main_v101 (F := F) = Cert.ReferenceIdeal.Read.val_main_v107 := rfl
theorem b108 : Cert.Reference2Ideal.Read.val_main_v108 (F := F) = Cert.ReferenceIdeal.Read.val_main_v114 := rfl

end Cert.Proof.Fwd
-- ==== Proof.Fwd.Results.lean ====
module

public import proofs.«01_k».proof.Proof.Fwd.Bridge
public import proofs.«01_k».proof.Proof.Fwd.Rows
public import proofs.«01_k».proof.Proof.Ref.Results
/-! The forward reference's four results, entry by entry. -/

@[expose] public section

set_option maxRecDepth 16384

noncomputable section

namespace Cert.Proof.Fwd

open Idealize.ShloMosaic Idealize.ShloMosaic.Pointwise Cert.Reference2Ideal Cert.Reference2Ideal.Read
open Cert.Proof.Ref (row col vcol)

variable (D : Inp) (xv : FVec Ideal S2x2304x8x128 .f32) (xg : FVec Ideal S2x2048x1024 .f32) (b : Fin 2) (i : Fin 2048) (h : Fin 8)

/-- The normed queries. -/
theorem q14 (d : Fin 128) : val_main_v14 (F := Ideal) D.aq D.agn (ix4 b i h d) = (D.QN b h i d : EReal) := by
  rw [b14]; exact Ref.v17 D b i h d

/-- The turned queries. -/
theorem q101 (l : Fin 64) : val_main_v101 (F := Ideal) D.aq D.agr (ix4 b i h l) = (D.QR b h i l : EReal) := by
  rw [b101]; exact Ref.v107 D b i h l

/-- The scores. -/
theorem q108 (j : Fin 2304) : val_main_v108 (F := Ideal) D.aq D.agn D.agr D.ak (ix4 b h i j) = (D.S b h i j : EReal) := by
  rw [b108]; exact Ref.v114 D b i h j

/-- The rows' largest scores. -/
theorem q109 : val_main_v109 (F := Ideal) D.aq D.agn D.agr D.ak (ix3 b h i) = (D.M b h i : EReal) := by
  have e : ∀ j, val_main_v108 (F := Ideal) D.aq D.agn D.agr D.ak (ix4 b h i j) = (D.S b h i j : EReal) := q108 D b i h
  unfold val_main_v109
  generalize val_main_v108 (F := Ideal) D.aq D.agn D.agr D.ak = y at e
  pointwise [val_main_cst_10]
  rw [← D.sup_eq b h i, ofBits_bot, ← funext e]
  generalize (Finset.univ : Finset (Fin 2304)) = s
  exact fold_max s _

/-- The larger of minus infinity and an entry is the entry. -/
theorem max_init (y : FVec Ideal S2x8x2048 .f32) :
    maximumf (φ := .f32) (val_main_v110 (F := Ideal)) y (ix3 b h i) = y (ix3 b h i) := by
  pointwise [val_main_v110, val_main_cst_11]
  rw [ofBits_bot]
  generalize y (ix3 b h i) = z
  exact max_eq_right bot_le

theorem q111 : val_main_v111 (F := Ideal) D.aq D.agn D.agr D.ak (ix3 b h i) = (D.M b h i : EReal) :=
  (max_init b i h _).trans (q109 D b i h)

/-- The exponentials of the scores over the rows' largest. -/
theorem q115 (j : Fin 2304) : val_main_v115 (F := Ideal) D.aq D.agn D.agr D.ak (ix4 b h i j) = (D.E b h i j : EReal) := by
  pointwise [val_main_v115, val_main_v114, val_main_v113, val_main_v112]
  rw [q111, q108, ← EReal.coe_sub, Ideal.exp_coe]
  rfl

/-- The rows' sums of exponentials. -/
theorem q117 (z : Fin 1) : val_main_v117 (F := Ideal) D.aq D.agn D.agr D.ak (ix4 b h i z) = (D.DEN b h i : EReal) := by
  pointwise [val_main_v117, val_main_v116, val_main_cst_12]
  simp only [q115, ← coe_sum]
  rfl

/-- The weights. -/
theorem q119 (j : Fin 2304) : val_main_v119 (F := Ideal) D.aq D.agn D.agr D.ak (ix4 b h i j) = (D.P b h i j : EReal) := by
  pointwise [val_main_v119, val_main_v118]
  rw [q117, q115, Ideal.div_coe (D.DEN_pos b h i).ne', ← EReal.coe_mul, D.P_eq]
  congr 1; ring

/-- The attention's result. -/
theorem q122 (d : Fin 128) : val_main_v122 (F := Ideal) D.aq D.agn D.agr D.ak xv (ix3 b i ⟨h * 128 + d, by omega⟩)
    = OV D (fun b j h d => xv (ix4 b j h d)) b h i d := by
  pointwise [val_main_v122, val_main_v121, val_main_v120]
  simp only [q119]
  rfl

/-- The gate's factor. -/
theorem q123 (k : Fin 1024) : val_main_v123 (F := Ideal) xg (ix3 b i k) = gate (xg (ix3 b i k)) := by
  pointwise [val_main_v123, val_main_call0_v5, val_main_call0_v4, val_main_call0_cst_0, val_main_call0_v3, val_main_call0_v2,
    val_main_call0_cst, val_main_call0_v1, val_main_call0_v0]
  rfl

/-- The logarithms of the rows' sums of exponentials of the scores. -/
theorem q127 : val_main_v127 (F := Ideal) D.aq D.agn D.agr D.ak (ix3 b h i) = (D.LSE b h i : EReal) := by
  pointwise [val_main_v127, val_main_v126, val_main_cst_13, val_main_v125]
  simp only [q108, Ideal.exp_coe, ← coe_sum]
  exact lse_eq D b h i

/-- Result 1: the attention's result. -/
theorem o_at (d : Fin 128) : val_main_v135 (F := Ideal) D.aq D.agn D.agr D.ak xv (ix2 (row b i) (vcol h d))
    = OV D (fun b j h d => xv (ix4 b j h d)) b h i d := by
  rw [← q122 D xv b i h d]
  pointwise [val_main_v135, row, vcol]

/-- Result 2: the rows' logarithms. -/
theorem lse_at (d : Fin 128) : val_main_v136 (F := Ideal) D.aq D.agn D.agr D.ak (ix2 (row b i) (vcol h d)) = (D.LSE b h i : EReal) := by
  rw [← q127 D b i h]
  pointwise [val_main_v136, val_main_v130, val_main_v129, val_main_v128, row, vcol]

theorem pad1 (k : S_.Idx) : val_main_call1_v0 (F := Ideal) k = 0 := by
  pointwise [val_main_call1_v0, val_main_c]; exact Ref.sitofp_zero0

/-- Result 3: the normed, turned and scaled queries. -/
theorem qf_res (e : Fin 256) : val_main_v138 (F := Ideal) D.aq D.agn D.agr (ix2 (row b i) (col h e)) = (D.QA b h i e : EReal) := by
  pointwise [val_main_v138, val_main_v137, val_main_v134, val_main_v133, val_main_v132, val_main_cst_14, val_main_v131, row, col]
  simp only [q14, q101, pad1, ofBits_sc]
  unfold Inp.QA
  split_ifs <;> first | rfl | omega

/-- Result 4: the gated result. -/
theorem og_res (d : Fin 128) : val_main_v140 (F := Ideal) D.aq D.agn D.agr D.ak xv xg (ix2 (row b i) (vcol h d))
    = OV D (fun b j h d => xv (ix4 b j h d)) b h i d * gate (xg (ix3 b i ⟨h * 128 + d, by omega⟩)) := by
  rw [← q122 D xv b i h d, ← q123 xg b i]
  pointwise [val_main_v140, val_main_v139, val_main_v124, row, vcol]

end Cert.Proof.Fwd
-- ==== Proof.Fwd.Equation.lean ====
module

public import proofs.«01_k».proof.Proof.Claim.Finite
public import proofs.«01_k».proof.Proof.Fwd.Final
public import proofs.«01_k».proof.Proof.Fwd.Results
public import proofs.«01_k».proof.Proof.Gen.Kernel2Ideal.Value
public import proofs.«01_k».proof.Proof.Gen.Reference2Ideal.Run
public import proofs.«01_k».proof.Proof.Gen.Reference2Ideal.Read
/-! The forward call's equation: the kernel's four arrays are the reference's four results. -/

@[expose] public section

set_option maxRecDepth 16384

noncomputable section

namespace Cert.Proof.Fwd

open Idealize.ShloMosaic Idealize.ShloMosaic.TcCoe Idealize.SL.Sem

/-- The shape relations the precondition's broadcasts take. -/
theorem preFacts : Cert.Pre_finite2.Facts where
  bcast_S_S128 := by decide
  bcast_S_S64 := by decide
  bcast_S_S2x2304x8x192 := by decide

section

open Cert.Kernel2Ideal Cert.Kernel2Ideal.Gen Cert.Proof.Grid

/-- Arguments satisfying the precondition are those of some `D`, some values and some gate. -/
theorem exists_args [Cert.Pre_finite2.Facts] (m : (ℓ : Loc nD τ sig) → Buf (Elt Ideal) ℓ) (h : Cert.Pre_Kernel2Ideal_finite2 m) (c : Dev nD) :
    ∃ (D : Inp) (xv : FVec Ideal S2x2304x8x128 .f32) (xg : FVec Ideal S2x2048x1024 .f32), Args D xv xg m c := by
  obtain ⟨h1, h2, h3⟩ := h c
  let a0 : FVec Ideal S2x2048x8x192 .f32 := m ((c : Thread nD τ).loc main_arg0)
  let a1 : FVec Ideal S128 .f32 := m ((c : Thread nD τ).loc main_arg1)
  let a2 : FVec Ideal S64 .f32 := m ((c : Thread nD τ).loc main_arg2)
  let a3 : FVec Ideal S2x2304x8x192 .f32 := m ((c : Thread nD τ).loc main_arg3)
  let a4 : FVec Ideal S2x2304x8x128 .f32 := m ((c : Thread nD τ).loc main_arg4)
  let a5 : FVec Ideal S2x2048x1024 .f32 := m ((c : Thread nD τ).loc main_arg5)
  refine ⟨{ q := fun b i h e => a0 (ix4 b i h e)
            gn := fun d => EReal.toReal (a1 (ix1 d))
            gr := fun d => EReal.toReal (a2 (ix1 d))
            k := fun b i h e => EReal.toReal (a3 (ix4 b i h e))
            v := fun _ _ _ _ => 0
            c := fun _ _ _ => 0 }, a4, a5, ?_, ?_, ?_, ?_, arg m c main_arg4 (by decide), arg m c main_arg5 (by decide)⟩
  · refine (arg m c main_arg0 (by decide)).trans ?_
    funext y
    exact (congrArg a0 (eta4 y)).symm
  · refine (arg m c main_arg1 (by decide)).trans ?_
    funext y
    refine (real_of (a1 y) (congrFun h1 y)).trans ?_
    exact congrArg (fun z => ((EReal.toReal (a1 z) : ℝ) : EReal)) (eta1 y).symm
  · refine (arg m c main_arg2 (by decide)).trans ?_
    funext y
    refine (real_of (a2 y) (congrFun h2 y)).trans ?_
    exact congrArg (fun z => ((EReal.toReal (a2 z) : ℝ) : EReal)) (eta1 y).symm
  · refine (arg m c main_arg3 (by decide)).trans ?_
    funext y
    refine (real_of (a3 y) (congrFun h3 y)).trans ?_
    exact congrArg (fun z => ((EReal.toReal (a3 z) : ℝ) : EReal)) (eta4 y).symm

variable {D : Inp} {xv : FVec Ideal S2x2304x8x128 .f32} {xg : FVec Ideal S2x2048x1024 .f32}
  {m : (ℓ : Loc nD τ sig) → Buf (Elt Ideal) ℓ} {c : Dev nD} (A : Args D xv xg m c)
include A

/-- Array 1 after the kernel's run is result 1 of the reference. -/
theorem kernel_0 : (dats m 0 c).arrAt 10 cfg0.N = Cert.Reference2Ideal.Read.val_main_v135 (F := Ideal) D.aq D.agn D.agr D.ak xv :=
  arr10 A _ fun b h i e => o_at D xv b i h e

/-- Array 2 after the kernel's run is result 2 of the reference. -/
theorem kernel_1 : (dats m 0 c).arrAt 11 cfg0.N = Cert.Reference2Ideal.Read.val_main_v136 (F := Ideal) D.aq D.agn D.agr D.ak :=
  arr11 A _ fun b h i e => lse_at D b i h e

/-- Array 3 after the kernel's run is result 3 of the reference. -/
theorem kernel_2 : (dats m 0 c).arrAt 12 cfg0.N = Cert.Reference2Ideal.Read.val_main_v138 (F := Ideal) D.aq D.agn D.agr :=
  arr12 A _ fun b h i e => qf_res D b i h e

/-- Array 4 after the kernel's run is result 4 of the reference. -/
theorem kernel_3 : (dats m 0 c).arrAt 13 cfg0.N = Cert.Reference2Ideal.Read.val_main_v140 (F := Ideal) D.aq D.agn D.agr D.ak xv xg :=
  arr13 A _ fun b h i e => og_res D xv xg b i h e

end

section

open Cert.Reference2Ideal Cert.Reference2Ideal.Read

/-- The reference's arguments are those of `D`, the values and the gate. -/
structure RefArgs (D : Inp) (xv : FVec Ideal S2x2304x8x128 .f32) (xg : FVec Ideal S2x2048x1024 .f32)
    (m : (ℓ : Loc nD τ sig) → Buf (Elt Ideal) ℓ) (c : Dev nD) : Prop where
  a0 : m ((c.tc : Thread nD τ).loc main_arg0) = D.aq
  a1 : m ((c.tc : Thread nD τ).loc main_arg1) = D.agn
  a2 : m ((c.tc : Thread nD τ).loc main_arg2) = D.agr
  a3 : m ((c.tc : Thread nD τ).loc main_arg3) = D.ak
  a4 : m ((c.tc : Thread nD τ).loc main_arg4) = xv
  a5 : m ((c.tc : Thread nD τ).loc main_arg5) = xg

variable {D : Inp} {xv : FVec Ideal S2x2304x8x128 .f32} {xg : FVec Ideal S2x2048x1024 .f32}
  {m : (ℓ : Loc nD τ sig) → Buf (Elt Ideal) ℓ} {c : Dev nD} (A : RefArgs D xv xg m c)
include A

/-- Result 1 over what the reference starts from is result 1 over `D`. -/
theorem reference_0 : val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    = val_main_v135 (F := Ideal) D.aq D.agn D.agr D.ak xv := by rw [A.a0, A.a1, A.a2, A.a3, A.a4]

/-- Result 2 over what the reference starts from is result 2 over `D`. -/
theorem reference_1 : val_main_v136 (F := Ideal) (m ((c.tc : Thread nD τ).loc main_arg0)) (m ((c.tc : Thread nD τ).loc main_arg1)) (m ((c.tc : Thread nD τ).loc main_arg2)) (m ((c.tc : Thread nD τ).loc main_arg3))
    = val_main_v136 (F := Ideal) D.aq D.agn D.agr D.ak := by rw [A.a0, A.a1, A.a2, A.a3]

/-- Result 3 over what the reference starts from is result 3 over `D`. -/
theorem reference_2 : val_main_v138 (F := Ideal) (m ((c.tc : Thread nD τ).loc main_arg0)) (m ((c.tc : Thread nD τ).loc main_arg1)) (m ((c.tc : Thread nD τ).loc main_arg2))
    = val_main_v138 (F := Ideal) D.aq D.agn D.agr := by rw [A.a0, A.a1, A.a2]

/-- Result 4 over what the reference starts from is result 4 over `D`. -/
theorem reference_3 : val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = val_main_v140 (F := Ideal) D.aq D.agn D.agr D.ak xv xg := by rw [A.a0, A.a1, A.a2, A.a3, A.a4, A.a5]

end

/-- The kernel's four arrays are the reference's four results, whenever the arguments agree and meet the precondition. -/
theorem algebraic [Cert.Pre_finite2.Facts] : Cert.algebraic_Kernel2Ideal_Reference2Ideal_pre_finite2 := by
  intro m ρ m' ρ' hpre hag
  have hD := fun c => exists_args m hpre c
  choose D xv xg hA using hD
  have hR : ∀ c, RefArgs (D c) (xv c) (xg c) m' c := fun c =>
    ⟨((hag c).1).trans ((arg m c Cert.Kernel2Ideal.main_arg0 (by decide)).symm.trans (hA c).a0),
      ((hag c).2.1).trans ((arg m c Cert.Kernel2Ideal.main_arg1 (by decide)).symm.trans (hA c).a1),
      ((hag c).2.2.1).trans ((arg m c Cert.Kernel2Ideal.main_arg2 (by decide)).symm.trans (hA c).a2),
      ((hag c).2.2.2.1).trans ((arg m c Cert.Kernel2Ideal.main_arg3 (by decide)).symm.trans (hA c).a3),
      ((hag c).2.2.2.2.1).trans ((arg m c Cert.Kernel2Ideal.main_arg4 (by decide)).symm.trans (hA c).a4),
      ((hag c).2.2.2.2.2).trans ((arg m c Cert.Kernel2Ideal.main_arg5 (by decide)).symm.trans (hA c).a5)⟩
  refine ⟨fun c => Cert.Reference2Ideal.Read.val_main_v135 (F := Ideal) (D c).aq (D c).agn (D c).agr (D c).ak (xv c),
    fun c => Cert.Reference2Ideal.Read.val_main_v136 (F := Ideal) (D c).aq (D c).agn (D c).agr (D c).ak,
    fun c => Cert.Reference2Ideal.Read.val_main_v138 (F := Ideal) (D c).aq (D c).agn (D c).agr,
    fun c => Cert.Reference2Ideal.Read.val_main_v140 (F := Ideal) (D c).aq (D c).agn (D c).agr (D c).ak (xv c) (xg c), ?_, ?_⟩
  · exact (θ_run Cert.Kernel2Ideal.defs _ _).mono (fun _ h c => ⟨((h c).1).trans (kernel_0 (hA c)),
        ((h c).2.1).trans (kernel_1 (hA c)),
        ((h c).2.2.1).trans (kernel_2 (hA c)),
        ((h c).2.2.2.1).trans (kernel_3 (hA c)),
        (h c).2.2.2.2⟩)
        (Cert.Kernel2Ideal.Value.run_blocks (F := Ideal) m ρ)
  · exact (θ_run Cert.Reference2Ideal.defs _ _).mono (fun _ h c => ⟨(((h c).1).trans (Cert.Reference2Ideal.Read.val_main_v135_eq m' c)).trans (reference_0 (hR c)),
        (((h c).2.1).trans (Cert.Reference2Ideal.Read.val_main_v136_eq m' c)).trans (reference_1 (hR c)),
        (((h c).2.2.1).trans (Cert.Reference2Ideal.Read.val_main_v138_eq m' c)).trans (reference_2 (hR c)),
        (((h c).2.2.2.1).trans (Cert.Reference2Ideal.Read.val_main_v140_eq m' c)).trans (reference_3 (hR c)),
        (h c).2.2.2.2⟩)
        (Cert.Reference2Ideal.Value.run (F := Ideal) m' ρ')

end Cert.Proof.Fwd

end
-- ==== Proof.Pool.Chain.lean ====
module

public import proofs.«01_k».proof.Proof.Gen.Kernel3Ideal.Frame
public import Idealize.ShloMosaic.Lib.Pipeline.Value
public import Idealize.ShloMosaic.Lib.Pipeline.ReadBack
public import Idealize.ShloMosaic.Lib.Pointwise
/-! What a point of the grid leaves in its blocks: four groups of 256 columns, one chain of operations for each. -/

@[expose] public section

set_option maxRecDepth 16384

noncomputable section

namespace Cert.Proof.Pool

open Cert.Kernel3Ideal Cert.Kernel3Ideal.Gen Idealize.ShloMosaic Idealize.ShloMosaic.TcCoe Idealize.ShloMosaic.Pointwise

variable {F : FTy → Type} [FloatOps F] {e : EltTy}

/-- Column `j` of group `k`. -/
def gcol (k : Fin 4) (j : Fin 256) : Fin 1024 := ⟨k.val * 256 + j.val, by omega⟩

/-- Every column is one of these. -/
theorem gcol_of (v : Fin 1024) : ∃ k j, v = gcol k j :=
  ⟨⟨v.val / 256, by omega⟩, ⟨v.val % 256, by omega⟩, Fin.ext (by simp only [gcol]; omega)⟩

/-- Group `k`'s columns of a block of 256 rows, of one row, and its matrix. -/
def cut (k : Fin 4) (x : Vec F S256x1024 e) : Vec F S256x256 e := fun i => x (ix2 (i 0) (gcol k (i 1)))
def row (k : Fin 4) (x : Vec F S1x1024 e) : Vec F S1x256 e := fun i => x (ix2 (i 0) (gcol k (i 1)))
def mat (k : Fin 4) (x : Vec F S4x256x256 e) : Vec F S1x256x256 e := fun i => x (ix3 k (i 1) (i 2))

theorem cut0 (x : Vec F S256x1024 e) : View.ld x (Rect.unit (s := S256x1024) ![0, 0] ![256, 256] inb_S256x1024_S256x256_0_0) = cut 0 x := by
  funext i; refine congrArg x (funext fun a => Fin.ext ?_)
  match a with
  | ⟨0, _⟩ => show 0 + 1 * (i 0).val = (i 0).val; omega
  | ⟨1, _⟩ => show 0 + 1 * (i 1).val = 0 * 256 + (i 1).val; omega
theorem row0 (x : Vec F S1x1024 e) : View.ld x (Rect.unit (s := S1x1024) ![0, 0] ![1, 256] inb_S1x1024_S1x256_0_0) = row 0 x := by
  funext i; refine congrArg x (funext fun a => Fin.ext ?_)
  match a with
  | ⟨0, _⟩ => show 0 + 1 * (i 0).val = (i 0).val; omega
  | ⟨1, _⟩ => show 0 + 1 * (i 1).val = 0 * 256 + (i 1).val; omega
theorem mat0 (x : Vec F S4x256x256 e) : View.ld x (Rect.unit (s := S4x256x256) ![0, 0, 0] ![1, 256, 256] inb_S4x256x256_S1x256x256_0_0_0) = mat 0 x := by
  funext i; refine congrArg x (funext fun a => Fin.ext ?_)
  match a with
  | ⟨0, _⟩ => show 0 + 1 * (i 0).val = 0; have h : (i 0).val < 1 := (i 0).isLt; omega
  | ⟨1, _⟩ => show 0 + 1 * (i 1).val = (i 1).val; omega
  | ⟨2, _⟩ => show 0 + 1 * (i 2).val = (i 2).val; omega

theorem cut1 (x : Vec F S256x1024 e) : View.ld x (Rect.unit (s := S256x1024) ![0, 256] ![256, 256] inb_S256x1024_S256x256_0_256) = cut 1 x := by
  funext i; refine congrArg x (funext fun a => Fin.ext ?_)
  match a with
  | ⟨0, _⟩ => show 0 + 1 * (i 0).val = (i 0).val; omega
  | ⟨1, _⟩ => show 256 + 1 * (i 1).val = 1 * 256 + (i 1).val; omega
theorem row1 (x : Vec F S1x1024 e) : View.ld x (Rect.unit (s := S1x1024) ![0, 256] ![1, 256] inb_S1x1024_S1x256_0_256) = row 1 x := by
  funext i; refine congrArg x (funext fun a => Fin.ext ?_)
  match a with
  | ⟨0, _⟩ => show 0 + 1 * (i 0).val = (i 0).val; omega
  | ⟨1, _⟩ => show 256 + 1 * (i 1).val = 1 * 256 + (i 1).val; omega
theorem mat1 (x : Vec F S4x256x256 e) : View.ld x (Rect.unit (s := S4x256x256) ![1, 0, 0] ![1, 256, 256] inb_S4x256x256_S1x256x256_1_0_0) = mat 1 x := by
  funext i; refine congrArg x (funext fun a => Fin.ext ?_)
  match a with
  | ⟨0, _⟩ => show 1 + 1 * (i 0).val = 1; have h : (i 0).val < 1 := (i 0).isLt; omega
  | ⟨1, _⟩ => show 0 + 1 * (i 1).val = (i 1).val; omega
  | ⟨2, _⟩ => show 0 + 1 * (i 2).val = (i 2).val; omega

theorem cut2 (x : Vec F S256x1024 e) : View.ld x (Rect.unit (s := S256x1024) ![0, 512] ![256, 256] inb_S256x1024_S256x256_0_512) = cut 2 x := by
  funext i; refine congrArg x (funext fun a => Fin.ext ?_)
  match a with
  | ⟨0, _⟩ => show 0 + 1 * (i 0).val = (i 0).val; omega
  | ⟨1, _⟩ => show 512 + 1 * (i 1).val = 2 * 256 + (i 1).val; omega
theorem row2 (x : Vec F S1x1024 e) : View.ld x (Rect.unit (s := S1x1024) ![0, 512] ![1, 256] inb_S1x1024_S1x256_0_512) = row 2 x := by
  funext i; refine congrArg x (funext fun a => Fin.ext ?_)
  match a with
  | ⟨0, _⟩ => show 0 + 1 * (i 0).val = (i 0).val; omega
  | ⟨1, _⟩ => show 512 + 1 * (i 1).val = 2 * 256 + (i 1).val; omega
theorem mat2 (x : Vec F S4x256x256 e) : View.ld x (Rect.unit (s := S4x256x256) ![2, 0, 0] ![1, 256, 256] inb_S4x256x256_S1x256x256_2_0_0) = mat 2 x := by
  funext i; refine congrArg x (funext fun a => Fin.ext ?_)
  match a with
  | ⟨0, _⟩ => show 2 + 1 * (i 0).val = 2; have h : (i 0).val < 1 := (i 0).isLt; omega
  | ⟨1, _⟩ => show 0 + 1 * (i 1).val = (i 1).val; omega
  | ⟨2, _⟩ => show 0 + 1 * (i 2).val = (i 2).val; omega

theorem cut3 (x : Vec F S256x1024 e) : View.ld x (Rect.unit (s := S256x1024) ![0, 768] ![256, 256] inb_S256x1024_S256x256_0_768) = cut 3 x := by
  funext i; refine congrArg x (funext fun a => Fin.ext ?_)
  match a with
  | ⟨0, _⟩ => show 0 + 1 * (i 0).val = (i 0).val; omega
  | ⟨1, _⟩ => show 768 + 1 * (i 1).val = 3 * 256 + (i 1).val; omega
theorem row3 (x : Vec F S1x1024 e) : View.ld x (Rect.unit (s := S1x1024) ![0, 768] ![1, 256] inb_S1x1024_S1x256_0_768) = row 3 x := by
  funext i; refine congrArg x (funext fun a => Fin.ext ?_)
  match a with
  | ⟨0, _⟩ => show 0 + 1 * (i 0).val = (i 0).val; omega
  | ⟨1, _⟩ => show 768 + 1 * (i 1).val = 3 * 256 + (i 1).val; omega
theorem mat3 (x : Vec F S4x256x256 e) : View.ld x (Rect.unit (s := S4x256x256) ![3, 0, 0] ![1, 256, 256] inb_S4x256x256_S1x256x256_3_0_0) = mat 3 x := by
  funext i; refine congrArg x (funext fun a => Fin.ext ?_)
  match a with
  | ⟨0, _⟩ => show 3 + 1 * (i 0).val = 3; have h : (i 0).val < 1 := (i 0).isLt; omega
  | ⟨1, _⟩ => show 0 + 1 * (i 1).val = (i 1).val; omega
  | ⟨2, _⟩ => show 0 + 1 * (i 2).val = (i 2).val; omega

section
variable (X G : Vec F S256x256 .f32) (S : Vec F S1x256 .f32) (P : Vec F S256x256 .bf16) (M : Vec F S1x256x256 .bf16)
  (O : Vec F S1x256 .f32) (Q : Vec F S1x256x256 .f32)

/-- One. -/
abbrev one : F .f32 := FloatOps.ofBits .f32 1065353216#32

/-- A group's gradients: of the pooled windows, of the gate, of the scale and of the weights (these two added to what is there). -/
def gP : FVec F S256x256 .f32 := k0_pay12 X G (k0_pay4 S) (k0_pay8 G) one M
def gG : FVec F S256x256 .bf16 := k0_pay7 X G S P M
def gS : FVec F S1x256 .f32 := k0_pay10 X G (k0_pay6 P M) (k0_pay8 G) one O
def gW : FVec F S1x256x256 .f32 := k0_pay13 X G (k0_pay4 S) (k0_pay5 P) (k0_pay8 G) one Q

theorem p0 : k0_pay12 X G (k0_pay4 S) (k0_pay8 G) one M = gP X G S M := rfl
theorem p1 : k0_pay21 (k0_pay14 S) (k0_pay18 X G) M = gP X G S M := rfl
theorem p2 : k0_pay32 X G (k0_pay23 S) M = gP X G S M := rfl
theorem p3 : k0_pay41 X G (k0_pay34 S) M = gP X G S M := rfl
theorem g0 : k0_pay7 X G S P M = gG X G S P M := rfl
theorem g1 : k0_pay17 X G (k0_pay14 S) P M = gG X G S P M := rfl
theorem g2 : k0_pay28 G (k0_pay26 X S P M) (k0_pay27 G) = gG X G S P M := rfl
theorem g3 : k0_pay37 X G S P M = gG X G S P M := rfl
theorem s0 : k0_pay10 X G (k0_pay6 P M) (k0_pay8 G) one O = gS X G P M O := rfl
theorem s1 : k0_pay19 X G P M O = gS X G P M O := rfl
theorem s2 : k0_pay30 X G (k0_pay25 P M) O = gS X G P M O := rfl
theorem s3 : k0_pay39 X G (k0_pay36 P M) O = gS X G P M O := rfl
theorem w0 : k0_pay13 X G (k0_pay4 S) (k0_pay5 P) (k0_pay8 G) one Q = gW X G S P Q := rfl
theorem w1 : k0_pay22 (k0_pay14 S) (k0_pay15 P) (k0_pay18 X G) Q = gW X G S P Q := rfl
theorem w2 : k0_pay33 (k0_pay24 P) (k0_pay31 X G (k0_pay23 S)) Q = gW X G S P Q := rfl
theorem w3 : k0_pay1 (k0_pay42 X G (k0_pay34 S) (k0_pay35 P) Q) = gW X G S P Q := rfl
end

/-- The four groups' pieces of a block, the last group's first, over what was there. -/
abbrev cols (q : Fin 4 → Vec F S256x256 e) (L : List (View.Piece (Elt F) S256x1024 e)) : List (View.Piece (Elt F) S256x1024 e) :=
  [⟨Rect.unit (s := S256x1024) ![0, 768] ![256, 256] inb_S256x1024_S256x256_0_768, q 3⟩, ⟨Rect.unit (s := S256x1024) ![0, 512] ![256, 256] inb_S256x1024_S256x256_0_512, q 2⟩, ⟨Rect.unit (s := S256x1024) ![0, 256] ![256, 256] inb_S256x1024_S256x256_0_256, q 1⟩, ⟨Rect.unit (s := S256x1024) ![0, 0] ![256, 256] inb_S256x1024_S256x256_0_0, q 0⟩] ++ L

/-- What such a block holds. -/
theorem cols_at (q : Fin 4 → Vec F S256x256 e) (L : List (View.Piece (Elt F) S256x1024 e)) (r : Fin 256) (k : Fin 4) (j : Fin 256) :
    View.canon (cols q L) (ix2 r (gcol k j)) = q k (ix2 r j) := by
  have em : ∀ (off : Fin 2 → ℕ) (inb) (k : Fin 4) (r : Fin 256) (j : Fin 256), off = ![0, k.val * 256] →
      (Rect.unit (s := S256x1024) off ![256, 256] inb).emb (ix2 r j) = ix2 r (gcol k j) := by
    rintro off inb k r j rfl
    funext a; apply Fin.ext
    match a with
    | ⟨0, _⟩ => show 0 + 1 * r.val = r.val; omega
    | ⟨1, _⟩ => show k.val * 256 + 1 * j.val = k.val * 256 + j.val; omega
  have hc : ∀ (k : Fin 4) (j : Fin 256), (⟨(gcol k j).val / 256, by omega⟩ : Fin 4) = k ∧ (⟨(gcol k j).val % 256, by omega⟩ : Fin 256) = j :=
    fun k j => ⟨Fin.ext (by simp only [gcol]; omega), Fin.ext (by simp only [gcol]; omega)⟩
  let f : S256x1024.Idx → Elt F e := fun y => q ⟨(y 1).val / 256, by have : (y 1).val < 1024 := (y 1).isLt; omega⟩ (ix2 (y 0) ⟨(y 1).val % 256, by omega⟩)
  have hf : ∀ (r : Fin 256) (k : Fin 4) (j : Fin 256), f (ix2 r (gcol k j)) = q k (ix2 r j) := fun r k j => by
    show q ⟨(gcol k j).val / 256, _⟩ (ix2 r ⟨(gcol k j).val % 256, _⟩) = _
    rw [(hc k j).1, (hc k j).2]
  have hp : ∀ (off : Fin 2 → ℕ) (inb) (k : Fin 4), off = ![0, k.val * 256] → ∀ x : (Rect.unit (s := S256x1024) off ![256, 256] inb).shape.Idx,
      q k x = f ((Rect.unit (s := S256x1024) off ![256, 256] inb).emb x) := fun off inb k ho x => by
    obtain ⟨r, j, rfl⟩ : ∃ (r : Fin 256) (j : Fin 256), x = ix2 r j := ⟨x 0, x 1, funext fun a => match a with | ⟨0, _⟩ => rfl | ⟨1, _⟩ => rfl⟩
    rw [em off inb k r j ho, hf]
  rw [← hf r k j]
  refine View.canon_append_of_piecesOf f L [⟨Rect.unit (s := S256x1024) ![0, 768] ![256, 256] inb_S256x1024_S256x256_0_768, q 3⟩, ⟨Rect.unit (s := S256x1024) ![0, 512] ![256, 256] inb_S256x1024_S256x256_0_512, q 2⟩, ⟨Rect.unit (s := S256x1024) ![0, 256] ![256, 256] inb_S256x1024_S256x256_0_256, q 1⟩, ⟨Rect.unit (s := S256x1024) ![0, 0] ![256, 256] inb_S256x1024_S256x256_0_0, q 0⟩] ⟨hp ![0, 768] inb_S256x1024_S256x256_0_768 3 rfl, hp ![0, 512] inb_S256x1024_S256x256_0_512 2 rfl, hp ![0, 256] inb_S256x1024_S256x256_0_256 1 rfl, hp ![0, 0] inb_S256x1024_S256x256_0_0 0 rfl, trivial⟩ _ ?_
  fin_cases k
  · refine ⟨_, (List.mem_cons_of_mem _ (List.mem_cons_of_mem _ (List.mem_cons_of_mem _ List.mem_cons_self))), ?_⟩
    show ix2 r (gcol 0 j) ∈ (Rect.unit (s := S256x1024) ![0, 0] ![256, 256] inb_S256x1024_S256x256_0_0).set
    rw [← em ![0, 0] inb_S256x1024_S256x256_0_0 0 r j rfl]
    exact LoadRect.idx_mem _ _
  · refine ⟨_, (List.mem_cons_of_mem _ (List.mem_cons_of_mem _ List.mem_cons_self)), ?_⟩
    show ix2 r (gcol 1 j) ∈ (Rect.unit (s := S256x1024) ![0, 256] ![256, 256] inb_S256x1024_S256x256_0_256).set
    rw [← em ![0, 256] inb_S256x1024_S256x256_0_256 1 r j rfl]
    exact LoadRect.idx_mem _ _
  · refine ⟨_, (List.mem_cons_of_mem _ List.mem_cons_self), ?_⟩
    show ix2 r (gcol 2 j) ∈ (Rect.unit (s := S256x1024) ![0, 512] ![256, 256] inb_S256x1024_S256x256_0_512).set
    rw [← em ![0, 512] inb_S256x1024_S256x256_0_512 2 r j rfl]
    exact LoadRect.idx_mem _ _
  · refine ⟨_, List.mem_cons_self, ?_⟩
    show ix2 r (gcol 3 j) ∈ (Rect.unit (s := S256x1024) ![0, 768] ![256, 256] inb_S256x1024_S256x256_0_768).set
    rw [← em ![0, 768] inb_S256x1024_S256x256_0_768 3 r j rfl]
    exact LoadRect.idx_mem _ _

abbrev rows (q : Fin 4 → Vec F S1x256 e) (L : List (View.Piece (Elt F) S1x1024 e)) : List (View.Piece (Elt F) S1x1024 e) :=
  [⟨Rect.unit (s := S1x1024) ![0, 768] ![1, 256] inb_S1x1024_S1x256_0_768, q 3⟩, ⟨Rect.unit (s := S1x1024) ![0, 512] ![1, 256] inb_S1x1024_S1x256_0_512, q 2⟩, ⟨Rect.unit (s := S1x1024) ![0, 256] ![1, 256] inb_S1x1024_S1x256_0_256, q 1⟩, ⟨Rect.unit (s := S1x1024) ![0, 0] ![1, 256] inb_S1x1024_S1x256_0_0, q 0⟩] ++ L

/-- What such a block holds. -/
theorem rows_at (q : Fin 4 → Vec F S1x256 e) (L : List (View.Piece (Elt F) S1x1024 e)) (r : Fin 1) (k : Fin 4) (j : Fin 256) :
    View.canon (rows q L) (ix2 r (gcol k j)) = q k (ix2 r j) := by
  have em : ∀ (off : Fin 2 → ℕ) (inb) (k : Fin 4) (r : Fin 1) (j : Fin 256), off = ![0, k.val * 256] →
      (Rect.unit (s := S1x1024) off ![1, 256] inb).emb (ix2 r j) = ix2 r (gcol k j) := by
    rintro off inb k r j rfl
    funext a; apply Fin.ext
    match a with
    | ⟨0, _⟩ => show 0 + 1 * r.val = r.val; omega
    | ⟨1, _⟩ => show k.val * 256 + 1 * j.val = k.val * 256 + j.val; omega
  have hc : ∀ (k : Fin 4) (j : Fin 256), (⟨(gcol k j).val / 256, by omega⟩ : Fin 4) = k ∧ (⟨(gcol k j).val % 256, by omega⟩ : Fin 256) = j :=
    fun k j => ⟨Fin.ext (by simp only [gcol]; omega), Fin.ext (by simp only [gcol]; omega)⟩
  let f : S1x1024.Idx → Elt F e := fun y => q ⟨(y 1).val / 256, by have : (y 1).val < 1024 := (y 1).isLt; omega⟩ (ix2 (y 0) ⟨(y 1).val % 256, by omega⟩)
  have hf : ∀ (r : Fin 1) (k : Fin 4) (j : Fin 256), f (ix2 r (gcol k j)) = q k (ix2 r j) := fun r k j => by
    show q ⟨(gcol k j).val / 256, _⟩ (ix2 r ⟨(gcol k j).val % 256, _⟩) = _
    rw [(hc k j).1, (hc k j).2]
  have hp : ∀ (off : Fin 2 → ℕ) (inb) (k : Fin 4), off = ![0, k.val * 256] → ∀ x : (Rect.unit (s := S1x1024) off ![1, 256] inb).shape.Idx,
      q k x = f ((Rect.unit (s := S1x1024) off ![1, 256] inb).emb x) := fun off inb k ho x => by
    obtain ⟨r, j, rfl⟩ : ∃ (r : Fin 1) (j : Fin 256), x = ix2 r j := ⟨x 0, x 1, funext fun a => match a with | ⟨0, _⟩ => rfl | ⟨1, _⟩ => rfl⟩
    rw [em off inb k r j ho, hf]
  rw [← hf r k j]
  refine View.canon_append_of_piecesOf f L [⟨Rect.unit (s := S1x1024) ![0, 768] ![1, 256] inb_S1x1024_S1x256_0_768, q 3⟩, ⟨Rect.unit (s := S1x1024) ![0, 512] ![1, 256] inb_S1x1024_S1x256_0_512, q 2⟩, ⟨Rect.unit (s := S1x1024) ![0, 256] ![1, 256] inb_S1x1024_S1x256_0_256, q 1⟩, ⟨Rect.unit (s := S1x1024) ![0, 0] ![1, 256] inb_S1x1024_S1x256_0_0, q 0⟩] ⟨hp ![0, 768] inb_S1x1024_S1x256_0_768 3 rfl, hp ![0, 512] inb_S1x1024_S1x256_0_512 2 rfl, hp ![0, 256] inb_S1x1024_S1x256_0_256 1 rfl, hp ![0, 0] inb_S1x1024_S1x256_0_0 0 rfl, trivial⟩ _ ?_
  fin_cases k
  · refine ⟨_, (List.mem_cons_of_mem _ (List.mem_cons_of_mem _ (List.mem_cons_of_mem _ List.mem_cons_self))), ?_⟩
    show ix2 r (gcol 0 j) ∈ (Rect.unit (s := S1x1024) ![0, 0] ![1, 256] inb_S1x1024_S1x256_0_0).set
    rw [← em ![0, 0] inb_S1x1024_S1x256_0_0 0 r j rfl]
    exact LoadRect.idx_mem _ _
  · refine ⟨_, (List.mem_cons_of_mem _ (List.mem_cons_of_mem _ List.mem_cons_self)), ?_⟩
    show ix2 r (gcol 1 j) ∈ (Rect.unit (s := S1x1024) ![0, 256] ![1, 256] inb_S1x1024_S1x256_0_256).set
    rw [← em ![0, 256] inb_S1x1024_S1x256_0_256 1 r j rfl]
    exact LoadRect.idx_mem _ _
  · refine ⟨_, (List.mem_cons_of_mem _ List.mem_cons_self), ?_⟩
    show ix2 r (gcol 2 j) ∈ (Rect.unit (s := S1x1024) ![0, 512] ![1, 256] inb_S1x1024_S1x256_0_512).set
    rw [← em ![0, 512] inb_S1x1024_S1x256_0_512 2 r j rfl]
    exact LoadRect.idx_mem _ _
  · refine ⟨_, List.mem_cons_self, ?_⟩
    show ix2 r (gcol 3 j) ∈ (Rect.unit (s := S1x1024) ![0, 768] ![1, 256] inb_S1x1024_S1x256_0_768).set
    rw [← em ![0, 768] inb_S1x1024_S1x256_0_768 3 r j rfl]
    exact LoadRect.idx_mem _ _

abbrev mats (q : Fin 4 → Vec F S1x256x256 e) (L : List (View.Piece (Elt F) S4x256x256 e)) : List (View.Piece (Elt F) S4x256x256 e) :=
  [⟨Rect.unit (s := S4x256x256) ![3, 0, 0] ![1, 256, 256] inb_S4x256x256_S1x256x256_3_0_0, q 3⟩, ⟨Rect.unit (s := S4x256x256) ![2, 0, 0] ![1, 256, 256] inb_S4x256x256_S1x256x256_2_0_0, q 2⟩, ⟨Rect.unit (s := S4x256x256) ![1, 0, 0] ![1, 256, 256] inb_S4x256x256_S1x256x256_1_0_0, q 1⟩, ⟨Rect.unit (s := S4x256x256) ![0, 0, 0] ![1, 256, 256] inb_S4x256x256_S1x256x256_0_0_0, q 0⟩] ++ L

/-- What such a block holds. -/
theorem mats_at (q : Fin 4 → Vec F S1x256x256 e) (L : List (View.Piece (Elt F) S4x256x256 e)) (k : Fin 4) (i j : Fin 256) :
    View.canon (mats q L) (ix3 k i j) = q k (ix3 0 i j) := by
  have em : ∀ (off : Fin 3 → ℕ) (inb) (k : Fin 4) (z : Fin 1) (i j : Fin 256), off = ![k.val, 0, 0] →
      (Rect.unit (s := S4x256x256) off ![1, 256, 256] inb).emb (ix3 z i j) = ix3 k i j := by
    rintro off inb k z i j rfl
    funext a; apply Fin.ext
    match a with
    | ⟨0, _⟩ => show k.val + 1 * z.val = k.val; omega
    | ⟨1, _⟩ => show 0 + 1 * i.val = i.val; omega
    | ⟨2, _⟩ => show 0 + 1 * j.val = j.val; omega
  let f : S4x256x256.Idx → Elt F e := fun y => q (y 0) (ix3 0 (y 1) (y 2))
  have hp : ∀ (off : Fin 3 → ℕ) (inb) (k : Fin 4), off = ![k.val, 0, 0] → ∀ x : (Rect.unit (s := S4x256x256) off ![1, 256, 256] inb).shape.Idx,
      q k x = f ((Rect.unit (s := S4x256x256) off ![1, 256, 256] inb).emb x) := fun off inb k ho x => by
    obtain ⟨z, i, j, rfl⟩ : ∃ (z : Fin 1) (i j : Fin 256), x = ix3 z i j :=
      ⟨x 0, x 1, x 2, funext fun a => match a with | ⟨0, _⟩ => rfl | ⟨1, _⟩ => rfl | ⟨2, _⟩ => rfl⟩
    obtain rfl : z = 0 := Fin.ext (by omega)
    rw [em off inb k 0 i j ho]
    rfl
  refine View.canon_append_of_piecesOf f L [⟨Rect.unit (s := S4x256x256) ![3, 0, 0] ![1, 256, 256] inb_S4x256x256_S1x256x256_3_0_0, q 3⟩, ⟨Rect.unit (s := S4x256x256) ![2, 0, 0] ![1, 256, 256] inb_S4x256x256_S1x256x256_2_0_0, q 2⟩, ⟨Rect.unit (s := S4x256x256) ![1, 0, 0] ![1, 256, 256] inb_S4x256x256_S1x256x256_1_0_0, q 1⟩, ⟨Rect.unit (s := S4x256x256) ![0, 0, 0] ![1, 256, 256] inb_S4x256x256_S1x256x256_0_0_0, q 0⟩] ⟨hp ![3, 0, 0] inb_S4x256x256_S1x256x256_3_0_0 3 rfl, hp ![2, 0, 0] inb_S4x256x256_S1x256x256_2_0_0 2 rfl, hp ![1, 0, 0] inb_S4x256x256_S1x256x256_1_0_0 1 rfl, hp ![0, 0, 0] inb_S4x256x256_S1x256x256_0_0_0 0 rfl, trivial⟩ _ ?_
  fin_cases k
  · refine ⟨_, (List.mem_cons_of_mem _ (List.mem_cons_of_mem _ (List.mem_cons_of_mem _ List.mem_cons_self))), ?_⟩
    show ix3 0 i j ∈ (Rect.unit (s := S4x256x256) ![0, 0, 0] ![1, 256, 256] inb_S4x256x256_S1x256x256_0_0_0).set
    rw [← em ![0, 0, 0] inb_S4x256x256_S1x256x256_0_0_0 0 0 i j rfl]
    exact LoadRect.idx_mem _ _
  · refine ⟨_, (List.mem_cons_of_mem _ (List.mem_cons_of_mem _ List.mem_cons_self)), ?_⟩
    show ix3 1 i j ∈ (Rect.unit (s := S4x256x256) ![1, 0, 0] ![1, 256, 256] inb_S4x256x256_S1x256x256_1_0_0).set
    rw [← em ![1, 0, 0] inb_S4x256x256_S1x256x256_1_0_0 1 0 i j rfl]
    exact LoadRect.idx_mem _ _
  · refine ⟨_, (List.mem_cons_of_mem _ List.mem_cons_self), ?_⟩
    show ix3 2 i j ∈ (Rect.unit (s := S4x256x256) ![2, 0, 0] ![1, 256, 256] inb_S4x256x256_S1x256x256_2_0_0).set
    rw [← em ![2, 0, 0] inb_S4x256x256_S1x256x256_2_0_0 2 0 i j rfl]
    exact LoadRect.idx_mem _ _
  · refine ⟨_, List.mem_cons_self, ?_⟩
    show ix3 3 i j ∈ (Rect.unit (s := S4x256x256) ![3, 0, 0] ![1, 256, 256] inb_S4x256x256_S1x256x256_3_0_0).set
    rw [← em ![3, 0, 0] inb_S4x256x256_S1x256x256_3_0_0 3 0 i j rfl]
    exact LoadRect.idx_mem _ _

end Cert.Proof.Pool
-- ==== Proof.Pool.Point.lean ====
module

public import proofs.«01_k».proof.Proof.Pool.Chain
/-! What a point of the grid leaves in each of its four blocks, in the chains' words. -/

@[expose] public section

set_option maxRecDepth 16384

noncomputable section

namespace Cert.Proof.Pool

open Cert.Kernel3Ideal Cert.Kernel3Ideal.Gen Idealize.ShloMosaic Idealize.ShloMosaic.TcCoe Idealize.SL.Sem

variable {F : FTy → Type} [FloatOps F]

section
variable {sig' : RefSig} {κ : Kind} {sp : Space} {e : EltTy}

theorem row_fill0 (v : View sig' κ sp S1x1024 e) (Z : Vec F S1x1024 e) :
    v.readCov [⟨Rect.unit (s := S1x1024) ![0, 0] ![1, 1024] inb_S1x1024_S1x1024_0_0, Z⟩] (Rect.unit (s := S1x1024) ![0, 0] ![1, 256] inb_S1x1024_S1x256_0_0).toLoadRect = row 0 Z :=
  (View.readCov_fill v _ Z [] (Rect.unit (s := S1x1024) ![0, 0] ![1, 256] inb_S1x1024_S1x256_0_0) (by decide)).trans (row0 Z)
theorem row_skip01 (v : View sig' κ sp S1x1024 e) (w : (Rect.unit (s := S1x1024) ![0, 0] ![1, 256] inb_S1x1024_S1x256_0_0).shape.Idx → Elt F e) (L : List (View.Piece (Elt F) S1x1024 e)) :
    v.readCov (⟨(Rect.unit (s := S1x1024) ![0, 0] ![1, 256] inb_S1x1024_S1x256_0_0), w⟩ :: L) (Rect.unit (s := S1x1024) ![0, 256] ![1, 256] inb_S1x1024_S1x256_0_256).toLoadRect = v.readCov L (Rect.unit (s := S1x1024) ![0, 256] ![1, 256] inb_S1x1024_S1x256_0_256).toLoadRect :=
  View.readCov_skip v _ w L _ (by decide)
theorem row_fill1 (v : View sig' κ sp S1x1024 e) (Z : Vec F S1x1024 e) :
    v.readCov [⟨Rect.unit (s := S1x1024) ![0, 0] ![1, 1024] inb_S1x1024_S1x1024_0_0, Z⟩] (Rect.unit (s := S1x1024) ![0, 256] ![1, 256] inb_S1x1024_S1x256_0_256).toLoadRect = row 1 Z :=
  (View.readCov_fill v _ Z [] (Rect.unit (s := S1x1024) ![0, 256] ![1, 256] inb_S1x1024_S1x256_0_256) (by decide)).trans (row1 Z)
theorem row_skip02 (v : View sig' κ sp S1x1024 e) (w : (Rect.unit (s := S1x1024) ![0, 0] ![1, 256] inb_S1x1024_S1x256_0_0).shape.Idx → Elt F e) (L : List (View.Piece (Elt F) S1x1024 e)) :
    v.readCov (⟨(Rect.unit (s := S1x1024) ![0, 0] ![1, 256] inb_S1x1024_S1x256_0_0), w⟩ :: L) (Rect.unit (s := S1x1024) ![0, 512] ![1, 256] inb_S1x1024_S1x256_0_512).toLoadRect = v.readCov L (Rect.unit (s := S1x1024) ![0, 512] ![1, 256] inb_S1x1024_S1x256_0_512).toLoadRect :=
  View.readCov_skip v _ w L _ (by decide)
theorem row_skip12 (v : View sig' κ sp S1x1024 e) (w : (Rect.unit (s := S1x1024) ![0, 256] ![1, 256] inb_S1x1024_S1x256_0_256).shape.Idx → Elt F e) (L : List (View.Piece (Elt F) S1x1024 e)) :
    v.readCov (⟨(Rect.unit (s := S1x1024) ![0, 256] ![1, 256] inb_S1x1024_S1x256_0_256), w⟩ :: L) (Rect.unit (s := S1x1024) ![0, 512] ![1, 256] inb_S1x1024_S1x256_0_512).toLoadRect = v.readCov L (Rect.unit (s := S1x1024) ![0, 512] ![1, 256] inb_S1x1024_S1x256_0_512).toLoadRect :=
  View.readCov_skip v _ w L _ (by decide)
theorem row_fill2 (v : View sig' κ sp S1x1024 e) (Z : Vec F S1x1024 e) :
    v.readCov [⟨Rect.unit (s := S1x1024) ![0, 0] ![1, 1024] inb_S1x1024_S1x1024_0_0, Z⟩] (Rect.unit (s := S1x1024) ![0, 512] ![1, 256] inb_S1x1024_S1x256_0_512).toLoadRect = row 2 Z :=
  (View.readCov_fill v _ Z [] (Rect.unit (s := S1x1024) ![0, 512] ![1, 256] inb_S1x1024_S1x256_0_512) (by decide)).trans (row2 Z)
theorem row_skip03 (v : View sig' κ sp S1x1024 e) (w : (Rect.unit (s := S1x1024) ![0, 0] ![1, 256] inb_S1x1024_S1x256_0_0).shape.Idx → Elt F e) (L : List (View.Piece (Elt F) S1x1024 e)) :
    v.readCov (⟨(Rect.unit (s := S1x1024) ![0, 0] ![1, 256] inb_S1x1024_S1x256_0_0), w⟩ :: L) (Rect.unit (s := S1x1024) ![0, 768] ![1, 256] inb_S1x1024_S1x256_0_768).toLoadRect = v.readCov L (Rect.unit (s := S1x1024) ![0, 768] ![1, 256] inb_S1x1024_S1x256_0_768).toLoadRect :=
  View.readCov_skip v _ w L _ (by decide)
theorem row_skip13 (v : View sig' κ sp S1x1024 e) (w : (Rect.unit (s := S1x1024) ![0, 256] ![1, 256] inb_S1x1024_S1x256_0_256).shape.Idx → Elt F e) (L : List (View.Piece (Elt F) S1x1024 e)) :
    v.readCov (⟨(Rect.unit (s := S1x1024) ![0, 256] ![1, 256] inb_S1x1024_S1x256_0_256), w⟩ :: L) (Rect.unit (s := S1x1024) ![0, 768] ![1, 256] inb_S1x1024_S1x256_0_768).toLoadRect = v.readCov L (Rect.unit (s := S1x1024) ![0, 768] ![1, 256] inb_S1x1024_S1x256_0_768).toLoadRect :=
  View.readCov_skip v _ w L _ (by decide)
theorem row_skip23 (v : View sig' κ sp S1x1024 e) (w : (Rect.unit (s := S1x1024) ![0, 512] ![1, 256] inb_S1x1024_S1x256_0_512).shape.Idx → Elt F e) (L : List (View.Piece (Elt F) S1x1024 e)) :
    v.readCov (⟨(Rect.unit (s := S1x1024) ![0, 512] ![1, 256] inb_S1x1024_S1x256_0_512), w⟩ :: L) (Rect.unit (s := S1x1024) ![0, 768] ![1, 256] inb_S1x1024_S1x256_0_768).toLoadRect = v.readCov L (Rect.unit (s := S1x1024) ![0, 768] ![1, 256] inb_S1x1024_S1x256_0_768).toLoadRect :=
  View.readCov_skip v _ w L _ (by decide)
theorem row_fill3 (v : View sig' κ sp S1x1024 e) (Z : Vec F S1x1024 e) :
    v.readCov [⟨Rect.unit (s := S1x1024) ![0, 0] ![1, 1024] inb_S1x1024_S1x1024_0_0, Z⟩] (Rect.unit (s := S1x1024) ![0, 768] ![1, 256] inb_S1x1024_S1x256_0_768).toLoadRect = row 3 Z :=
  (View.readCov_fill v _ Z [] (Rect.unit (s := S1x1024) ![0, 768] ![1, 256] inb_S1x1024_S1x256_0_768) (by decide)).trans (row3 Z)
theorem mat_fill0 (v : View sig' κ sp S4x256x256 e) (Z : Vec F S4x256x256 e) :
    v.readCov [⟨Rect.unit (s := S4x256x256) ![0, 0, 0] ![4, 256, 256] inb_S4x256x256_S4x256x256_0_0_0, Z⟩] (Rect.unit (s := S4x256x256) ![0, 0, 0] ![1, 256, 256] inb_S4x256x256_S1x256x256_0_0_0).toLoadRect = mat 0 Z :=
  (View.readCov_fill v _ Z [] (Rect.unit (s := S4x256x256) ![0, 0, 0] ![1, 256, 256] inb_S4x256x256_S1x256x256_0_0_0) (by decide)).trans (mat0 Z)
theorem mat_skip01 (v : View sig' κ sp S4x256x256 e) (w : (Rect.unit (s := S4x256x256) ![0, 0, 0] ![1, 256, 256] inb_S4x256x256_S1x256x256_0_0_0).shape.Idx → Elt F e) (L : List (View.Piece (Elt F) S4x256x256 e)) :
    v.readCov (⟨(Rect.unit (s := S4x256x256) ![0, 0, 0] ![1, 256, 256] inb_S4x256x256_S1x256x256_0_0_0), w⟩ :: L) (Rect.unit (s := S4x256x256) ![1, 0, 0] ![1, 256, 256] inb_S4x256x256_S1x256x256_1_0_0).toLoadRect = v.readCov L (Rect.unit (s := S4x256x256) ![1, 0, 0] ![1, 256, 256] inb_S4x256x256_S1x256x256_1_0_0).toLoadRect :=
  View.readCov_skip v _ w L _ (by decide)
theorem mat_fill1 (v : View sig' κ sp S4x256x256 e) (Z : Vec F S4x256x256 e) :
    v.readCov [⟨Rect.unit (s := S4x256x256) ![0, 0, 0] ![4, 256, 256] inb_S4x256x256_S4x256x256_0_0_0, Z⟩] (Rect.unit (s := S4x256x256) ![1, 0, 0] ![1, 256, 256] inb_S4x256x256_S1x256x256_1_0_0).toLoadRect = mat 1 Z :=
  (View.readCov_fill v _ Z [] (Rect.unit (s := S4x256x256) ![1, 0, 0] ![1, 256, 256] inb_S4x256x256_S1x256x256_1_0_0) (by decide)).trans (mat1 Z)
theorem mat_skip02 (v : View sig' κ sp S4x256x256 e) (w : (Rect.unit (s := S4x256x256) ![0, 0, 0] ![1, 256, 256] inb_S4x256x256_S1x256x256_0_0_0).shape.Idx → Elt F e) (L : List (View.Piece (Elt F) S4x256x256 e)) :
    v.readCov (⟨(Rect.unit (s := S4x256x256) ![0, 0, 0] ![1, 256, 256] inb_S4x256x256_S1x256x256_0_0_0), w⟩ :: L) (Rect.unit (s := S4x256x256) ![2, 0, 0] ![1, 256, 256] inb_S4x256x256_S1x256x256_2_0_0).toLoadRect = v.readCov L (Rect.unit (s := S4x256x256) ![2, 0, 0] ![1, 256, 256] inb_S4x256x256_S1x256x256_2_0_0).toLoadRect :=
  View.readCov_skip v _ w L _ (by decide)
theorem mat_skip12 (v : View sig' κ sp S4x256x256 e) (w : (Rect.unit (s := S4x256x256) ![1, 0, 0] ![1, 256, 256] inb_S4x256x256_S1x256x256_1_0_0).shape.Idx → Elt F e) (L : List (View.Piece (Elt F) S4x256x256 e)) :
    v.readCov (⟨(Rect.unit (s := S4x256x256) ![1, 0, 0] ![1, 256, 256] inb_S4x256x256_S1x256x256_1_0_0), w⟩ :: L) (Rect.unit (s := S4x256x256) ![2, 0, 0] ![1, 256, 256] inb_S4x256x256_S1x256x256_2_0_0).toLoadRect = v.readCov L (Rect.unit (s := S4x256x256) ![2, 0, 0] ![1, 256, 256] inb_S4x256x256_S1x256x256_2_0_0).toLoadRect :=
  View.readCov_skip v _ w L _ (by decide)
theorem mat_fill2 (v : View sig' κ sp S4x256x256 e) (Z : Vec F S4x256x256 e) :
    v.readCov [⟨Rect.unit (s := S4x256x256) ![0, 0, 0] ![4, 256, 256] inb_S4x256x256_S4x256x256_0_0_0, Z⟩] (Rect.unit (s := S4x256x256) ![2, 0, 0] ![1, 256, 256] inb_S4x256x256_S1x256x256_2_0_0).toLoadRect = mat 2 Z :=
  (View.readCov_fill v _ Z [] (Rect.unit (s := S4x256x256) ![2, 0, 0] ![1, 256, 256] inb_S4x256x256_S1x256x256_2_0_0) (by decide)).trans (mat2 Z)
theorem mat_skip03 (v : View sig' κ sp S4x256x256 e) (w : (Rect.unit (s := S4x256x256) ![0, 0, 0] ![1, 256, 256] inb_S4x256x256_S1x256x256_0_0_0).shape.Idx → Elt F e) (L : List (View.Piece (Elt F) S4x256x256 e)) :
    v.readCov (⟨(Rect.unit (s := S4x256x256) ![0, 0, 0] ![1, 256, 256] inb_S4x256x256_S1x256x256_0_0_0), w⟩ :: L) (Rect.unit (s := S4x256x256) ![3, 0, 0] ![1, 256, 256] inb_S4x256x256_S1x256x256_3_0_0).toLoadRect = v.readCov L (Rect.unit (s := S4x256x256) ![3, 0, 0] ![1, 256, 256] inb_S4x256x256_S1x256x256_3_0_0).toLoadRect :=
  View.readCov_skip v _ w L _ (by decide)
theorem mat_skip13 (v : View sig' κ sp S4x256x256 e) (w : (Rect.unit (s := S4x256x256) ![1, 0, 0] ![1, 256, 256] inb_S4x256x256_S1x256x256_1_0_0).shape.Idx → Elt F e) (L : List (View.Piece (Elt F) S4x256x256 e)) :
    v.readCov (⟨(Rect.unit (s := S4x256x256) ![1, 0, 0] ![1, 256, 256] inb_S4x256x256_S1x256x256_1_0_0), w⟩ :: L) (Rect.unit (s := S4x256x256) ![3, 0, 0] ![1, 256, 256] inb_S4x256x256_S1x256x256_3_0_0).toLoadRect = v.readCov L (Rect.unit (s := S4x256x256) ![3, 0, 0] ![1, 256, 256] inb_S4x256x256_S1x256x256_3_0_0).toLoadRect :=
  View.readCov_skip v _ w L _ (by decide)
theorem mat_skip23 (v : View sig' κ sp S4x256x256 e) (w : (Rect.unit (s := S4x256x256) ![2, 0, 0] ![1, 256, 256] inb_S4x256x256_S1x256x256_2_0_0).shape.Idx → Elt F e) (L : List (View.Piece (Elt F) S4x256x256 e)) :
    v.readCov (⟨(Rect.unit (s := S4x256x256) ![2, 0, 0] ![1, 256, 256] inb_S4x256x256_S1x256x256_2_0_0), w⟩ :: L) (Rect.unit (s := S4x256x256) ![3, 0, 0] ![1, 256, 256] inb_S4x256x256_S1x256x256_3_0_0).toLoadRect = v.readCov L (Rect.unit (s := S4x256x256) ![3, 0, 0] ![1, 256, 256] inb_S4x256x256_S1x256x256_3_0_0).toLoadRect :=
  View.readCov_skip v _ w L _ (by decide)
theorem mat_fill3 (v : View sig' κ sp S4x256x256 e) (Z : Vec F S4x256x256 e) :
    v.readCov [⟨Rect.unit (s := S4x256x256) ![0, 0, 0] ![4, 256, 256] inb_S4x256x256_S4x256x256_0_0_0, Z⟩] (Rect.unit (s := S4x256x256) ![3, 0, 0] ![1, 256, 256] inb_S4x256x256_S1x256x256_3_0_0).toLoadRect = mat 3 Z :=
  (View.readCov_fill v _ Z [] (Rect.unit (s := S4x256x256) ![3, 0, 0] ![1, 256, 256] inb_S4x256x256_S1x256x256_3_0_0) (by decide)).trans (mat3 Z)

end

/-- The pooled windows' gradient, as the first point leaves it. -/
theorem out_A_5 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : cond0_0 i)
    (x0 : Vec F S256x1024 .f32) (x1 : Vec F S256x1024 .bf16) (x2 : Vec F S4x256x256 .bf16) (x3 : Vec F S1x1024 .f32) (x4 : Vec F S256x1024 .f32) :
    out0_A_5 c i arg1 harg1 arg2 harg2 arg3 harg3 arg4 harg4 arg5 harg5 arg6 harg6 arg7 harg7 arg8 harg8 arg9 harg9 hc0 x0 x1 x2 x3 x4
      = View.canon (cols (fun k => gP (cut k x0) (cut k x4) (row k x3) (mat k x2)) []) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

/-- The gate's gradient, as the first point leaves it. -/
theorem out_A_6 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : cond0_0 i)
    (x0 : Vec F S256x1024 .f32) (x1 : Vec F S256x1024 .bf16) (x2 : Vec F S4x256x256 .bf16) (x3 : Vec F S1x1024 .f32) (x4 : Vec F S256x1024 .f32) :
    out0_A_6 c i arg1 harg1 arg2 harg2 arg3 harg3 arg4 harg4 arg5 harg5 arg6 harg6 arg7 harg7 arg8 harg8 arg9 harg9 hc0 x0 x1 x2 x3 x4
      = View.canon (cols (fun k => gG (cut k x0) (cut k x4) (row k x3) (cut k x1) (mat k x2)) []) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

/-- The scale's gradient, as the first point leaves it. -/
theorem out_A_7 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : cond0_0 i)
    (x0 : Vec F S256x1024 .f32) (x1 : Vec F S256x1024 .bf16) (x2 : Vec F S4x256x256 .bf16) (x3 : Vec F S1x1024 .f32) (x4 : Vec F S256x1024 .f32) :
    out0_A_7 c i arg1 harg1 arg2 harg2 arg3 harg3 arg4 harg4 arg5 harg5 arg6 harg6 arg7 harg7 arg8 harg8 arg9 harg9 hc0 x0 x1 x2 x3 x4
      = View.canon (rows (fun k => gS (cut k x0) (cut k x4) (cut k x1) (mat k x2) (row k k0_pay2)) [⟨Rect.unit (s := S1x1024) ![0, 0] ![1, 1024] inb_S1x1024_S1x1024_0_0, k0_pay2⟩]) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [↓row_skip01, ↓row_skip02, ↓row_skip12, ↓row_skip03, ↓row_skip13, ↓row_skip23, ↓mat_skip01, ↓mat_skip02, ↓mat_skip12, ↓mat_skip03, ↓mat_skip13, ↓mat_skip23, row_fill0, row_fill1, row_fill2, row_fill3, mat_fill0, mat_fill1, mat_fill2, mat_fill3, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

/-- The weights' gradient, as the first point leaves it. -/
theorem out_A_8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : cond0_0 i)
    (x0 : Vec F S256x1024 .f32) (x1 : Vec F S256x1024 .bf16) (x2 : Vec F S4x256x256 .bf16) (x3 : Vec F S1x1024 .f32) (x4 : Vec F S256x1024 .f32) :
    out0_A_8 c i arg1 harg1 arg2 harg2 arg3 harg3 arg4 harg4 arg5 harg5 arg6 harg6 arg7 harg7 arg8 harg8 arg9 harg9 hc0 x0 x1 x2 x3 x4
      = View.canon (mats (fun k => gW (cut k x0) (cut k x4) (row k x3) (cut k x1) (mat k k0_pay3)) [⟨Rect.unit (s := S4x256x256) ![0, 0, 0] ![4, 256, 256] inb_S4x256x256_S4x256x256_0_0_0, k0_pay3⟩]) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [↓row_skip01, ↓row_skip02, ↓row_skip12, ↓row_skip03, ↓row_skip13, ↓row_skip23, ↓mat_skip01, ↓mat_skip02, ↓mat_skip12, ↓mat_skip03, ↓mat_skip13, ↓mat_skip23, row_fill0, row_fill1, row_fill2, row_fill3, mat_fill0, mat_fill1, mat_fill2, mat_fill3, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

/-- The pooled windows' gradient, as a later point leaves it. -/
theorem out_B_5 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : ¬cond0_0 i)
    (x0 : Vec F S256x1024 .f32) (x1 : Vec F S256x1024 .bf16) (x2 : Vec F S4x256x256 .bf16) (x3 : Vec F S1x1024 .f32) (x4 : Vec F S256x1024 .f32) (xo7 : Vec F S1x1024 .f32) (xo8 : Vec F S4x256x256 .f32) :
    out0_B_5 c i arg1 harg1 arg2 harg2 arg3 harg3 arg4 harg4 arg5 harg5 arg6 harg6 arg7 harg7 arg8 harg8 arg9 harg9 hc0 x0 x1 x2 x3 x4 xo7 xo8
      = View.canon (cols (fun k => gP (cut k x0) (cut k x4) (row k x3) (mat k x2)) []) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  simp only [View.readAt_eq_ld, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

/-- The gate's gradient, as a later point leaves it. -/
theorem out_B_6 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : ¬cond0_0 i)
    (x0 : Vec F S256x1024 .f32) (x1 : Vec F S256x1024 .bf16) (x2 : Vec F S4x256x256 .bf16) (x3 : Vec F S1x1024 .f32) (x4 : Vec F S256x1024 .f32) (xo7 : Vec F S1x1024 .f32) (xo8 : Vec F S4x256x256 .f32) :
    out0_B_6 c i arg1 harg1 arg2 harg2 arg3 harg3 arg4 harg4 arg5 harg5 arg6 harg6 arg7 harg7 arg8 harg8 arg9 harg9 hc0 x0 x1 x2 x3 x4 xo7 xo8
      = View.canon (cols (fun k => gG (cut k x0) (cut k x4) (row k x3) (cut k x1) (mat k x2)) []) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  simp only [View.readAt_eq_ld, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

/-- The scale's gradient, as a later point leaves it. -/
theorem out_B_7 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : ¬cond0_0 i)
    (x0 : Vec F S256x1024 .f32) (x1 : Vec F S256x1024 .bf16) (x2 : Vec F S4x256x256 .bf16) (x3 : Vec F S1x1024 .f32) (x4 : Vec F S256x1024 .f32) (xo7 : Vec F S1x1024 .f32) (xo8 : Vec F S4x256x256 .f32) :
    out0_B_7 c i arg1 harg1 arg2 harg2 arg3 harg3 arg4 harg4 arg5 harg5 arg6 harg6 arg7 harg7 arg8 harg8 arg9 harg9 hc0 x0 x1 x2 x3 x4 xo7 xo8
      = View.canon (rows (fun k => gS (cut k x0) (cut k x4) (cut k x1) (mat k x2) (row k xo7)) []) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  simp only [View.readAt_eq_ld, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

/-- The weights' gradient, as a later point leaves it. -/
theorem out_B_8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S4x256x256 .f32) (harg9 : arg9.IsWhole) (hc0 : ¬cond0_0 i)
    (x0 : Vec F S256x1024 .f32) (x1 : Vec F S256x1024 .bf16) (x2 : Vec F S4x256x256 .bf16) (x3 : Vec F S1x1024 .f32) (x4 : Vec F S256x1024 .f32) (xo7 : Vec F S1x1024 .f32) (xo8 : Vec F S4x256x256 .f32) :
    out0_B_8 c i arg1 harg1 arg2 harg2 arg3 harg3 arg4 harg4 arg5 harg5 arg6 harg6 arg7 harg7 arg8 harg8 arg9 harg9 hc0 x0 x1 x2 x3 x4 xo7 xo8
      = View.canon (mats (fun k => gW (cut k x0) (cut k x4) (row k x3) (cut k x1) (mat k xo8)) []) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  simp only [View.readAt_eq_ld, View.readAt_eq_ld, harg1.read_unread, harg2.read_unread, harg3.read_unread, harg4.read_unread, harg5.read_unread, harg6.read_unread, harg7.read_unread, harg8.read_unread, harg9.read_unread]
  simp only [cut0, cut1, cut2, cut3, row0, row1, row2, row3, mat0, mat1, mat2, mat3]
  rfl

end Cert.Proof.Pool
-- ==== Proof.Pool.Entry.lean ====
module

public import proofs.«01_k».proof.Proof.Pool.Chain
/-! What one group's chain computes, entry by entry. -/

@[expose] public section

set_option maxRecDepth 16384

noncomputable section

namespace Cert.Proof.Pool

open Cert.Kernel3Ideal Cert.Kernel3Ideal.Gen Idealize.ShloMosaic Idealize.ShloMosaic.Pointwise

/-- The logistic function. -/
def sg (x : EReal) : EReal := Ideal.div 1 (1 + Ideal.exp (-x))

variable (X G : Vec Ideal S256x256 .f32) (S : Vec Ideal S1x256 .f32) (P : Vec Ideal S256x256 .bf16) (M : Vec Ideal S1x256x256 .bf16)
  (O : Vec Ideal S1x256 .f32) (Q : Vec Ideal S1x256x256 .f32)

/-- The cotangent through the gate. -/
theorem pay9_at (r j : Fin 256) : k0_pay9 (F := Ideal) X G (k0_pay8 G) (1 : EReal) (ix2 r j) = X (ix2 r j) * (G (ix2 r j) * sg (G (ix2 r j))) := by
  pointwise [k0_pay9, k0_pay8]
  simp only [sg, zero_sub]

/-- The grouped product. -/
theorem pay6_at (r j : Fin 256) : k0_pay6 (F := Ideal) P M (ix2 r j) = ∑ l : Fin 256, P (ix2 r l) * M (ix3 0 l j) := by
  pointwise [k0_pay6, k0_pay5]

/-- The pooled windows' gradient. -/
theorem gP_at (r i : Fin 256) : gP (F := Ideal) X G S M (ix2 r i)
    = ∑ j : Fin 256, X (ix2 r j) * (G (ix2 r j) * sg (G (ix2 r j))) * S (ix2 0 j) * M (ix3 0 i j) := by
  unfold gP
  pointwise [k0_pay12, k0_pay11, k0_pay4]
  simp only [pay9_at]

/-- The scale's gradient, added to what is there. -/
theorem gS_at (j : Fin 256) : gS (F := Ideal) X G P M O (ix2 0 j)
    = O (ix2 0 j) + ∑ r : Fin 256, X (ix2 r j) * (G (ix2 r j) * sg (G (ix2 r j))) * ∑ l : Fin 256, P (ix2 r l) * M (ix3 0 l j) := by
  unfold gS
  pointwise [k0_pay10]
  simp only [pay9_at, pay6_at]

/-- The weights' gradient, added to what is there. -/
theorem gW_at (i j : Fin 256) : gW (F := Ideal) X G S P Q (ix3 0 i j)
    = Q (ix3 0 i j) + ∑ r : Fin 256, P (ix2 r i) * (X (ix2 r j) * (G (ix2 r j) * sg (G (ix2 r j))) * S (ix2 0 j)) := by
  unfold gW
  pointwise [k0_pay13, k0_pay11, k0_pay4, k0_pay5]
  simp only [pay9_at]

/-- The gate's gradient. -/
theorem gG_at (r j : Fin 256) : gG (F := Ideal) X G S P M (ix2 r j)
    = X (ix2 r j) * ((∑ l : Fin 256, P (ix2 r l) * M (ix3 0 l j)) * S (ix2 0 j))
      * (sg (G (ix2 r j)) * (1 + G (ix2 r j) * (1 - sg (G (ix2 r j))))) := by
  unfold gG
  pointwise [k0_pay7, k0_pay4]
  simp only [pay6_at, sg, zero_sub]

/-- Nothing yet. -/
theorem zS (j : Fin 1024) : k0_pay2 (F := Ideal) (ix2 0 j) = (0 : EReal) := by pointwise [k0_pay2]
theorem zW (k : Fin 4) (i j : Fin 256) : k0_pay3 (F := Ideal) (ix3 k i j) = (0 : EReal) := by pointwise [k0_pay3]

end Cert.Proof.Pool
-- ==== Proof.Pool.Blocks.lean ====
module

public import proofs.«01_k».proof.Proof.Gen.Kernel3Ideal.Value
public import proofs.«01_k».proof.Proof.Pool.Point
public import proofs.«01_k».proof.Proof.Pool.Entry
public import Idealize.ShloMosaic.Lib.StableHlo.Run
/-! What the blocks of a grid point hold, from the arguments: 256 tokens for each of the 18 points. -/

@[expose] public section

set_option maxRecDepth 16384

noncomputable section

namespace Cert.Proof.Pool

open Cert.Kernel3Ideal Cert.Kernel3Ideal.Gen Idealize.ShloMosaic Idealize.ShloMosaic.TcCoe
open Idealize.ShloMosaic.Pointwise Idealize.ShloMosaic.StableHlo

/-- Row `r` of point `n`. -/
def tk (n : ℕ) (r : Fin 256) : Fin 4608 := ⟨n % 18 * 256 + r.val, by omega⟩

/-- Every token is one of these. -/
theorem tk_of (u : Fin 4608) : ∃ (n : ℕ) (r : Fin 256), n < 18 ∧ u = tk n r :=
  ⟨u.val / 256, ⟨u.val % 256, by omega⟩, by omega, Fin.ext (by simp only [tk]; omega)⟩

/-- The gate's column. -/
def zcol (v : Fin 1024) : Fin 2048 := ⟨1024 + v.val, by omega⟩

section
variable {F : FTy → Type} [FloatOps F] (m : (ℓ : Loc nD τ sig) → Buf (Elt F) ℓ) (c : Dev nD)

/-- The arrays the call reads, from the arguments. -/
theorem v_0 : V m c main_v0 = truncf .bf16 (m (c, Proc.devRef .tc main_arg0)) bitsLt_bf16_f32 := by
  unfold V hostOps0
  rfl
theorem v_1 : V m c main_v1 = truncf .bf16 (m (c, Proc.devRef .tc main_arg1)) bitsLt_bf16_f32 := by
  rfl
theorem v_2 : V m c main_v2 = broadcastInDim S1x1024 ![1] bcast_S1024_S1x1024_1 (m (c, Proc.devRef .tc main_arg2)) := by
  rfl
theorem v_3 : V m c main_arg3 = m (c, Proc.devRef .tc main_arg3) := by
  rfl
theorem v_4 : V m c main_arg4 = m (c, Proc.devRef .tc main_arg4) := by
  rfl

theorem N18 (t : Fin cfg0.N) : t.val < 18 := t.isLt

/-- The block of window 0 at a point. -/
theorem idx0 : ∀ (t : Fin cfg0.N), win0_0.index t (0 : Fin 2) = t.val ∧ win0_0.index t (1 : Fin 2) = 0 := by
  decide +kernel

/-- Input 0 of the call, at a point. -/
theorem x0 (t : Fin cfg0.N) (r : Fin 256) (v : Fin 1024) : iblk m c 0 t (ix2 r v) = V m c main_arg4 (ix2 (tk t.val r) v) := by
  obtain ⟨e0, e1⟩ := idx0 t
  have ht := N18 t
  show V m c main_arg4 (((cfg0.win 0).blk t).view.emb _) = _
  refine congrArg (V m c main_arg4) ?_
  funext a; apply Fin.ext
  match a with
  | ⟨0, _⟩ => show win0_0.index t (0 : Fin 2) * 256 + 1 * r.val = (tk t.val r).val; rw [e0]; (try simp only [tk, zcol]); omega
  | ⟨1, _⟩ => show win0_0.index t (1 : Fin 2) * 1024 + 1 * v.val = (v).val; rw [e1]; (try simp only [tk, zcol]); omega

/-- The block of window 1 at a point. -/
theorem idx1 : ∀ (t : Fin cfg0.N), win0_1.index t (0 : Fin 2) = t.val ∧ win0_1.index t (1 : Fin 2) = 0 := by
  decide +kernel

/-- Input 1 of the call, at a point. -/
theorem x1 (t : Fin cfg0.N) (r : Fin 256) (v : Fin 1024) : iblk m c 1 t (ix2 r v) = V m c main_v0 (ix2 (tk t.val r) v) := by
  obtain ⟨e0, e1⟩ := idx1 t
  have ht := N18 t
  show V m c main_v0 (((cfg0.win 1).blk t).view.emb _) = _
  refine congrArg (V m c main_v0) ?_
  funext a; apply Fin.ext
  match a with
  | ⟨0, _⟩ => show win0_1.index t (0 : Fin 2) * 256 + 1 * r.val = (tk t.val r).val; rw [e0]; (try simp only [tk, zcol]); omega
  | ⟨1, _⟩ => show win0_1.index t (1 : Fin 2) * 1024 + 1 * v.val = (v).val; rw [e1]; (try simp only [tk, zcol]); omega

/-- The block of window 2 at a point. -/
theorem idx2 : ∀ (t : Fin cfg0.N), win0_2.index t (0 : Fin 3) = 0 ∧ win0_2.index t (1 : Fin 3) = 0 ∧ win0_2.index t (2 : Fin 3) = 0 := by
  decide +kernel

/-- Input 2 of the call, at a point. -/
theorem x2 (t : Fin cfg0.N) (k : Fin 4) (i : Fin 256) (j : Fin 256) : iblk m c 2 t (ix3 k i j) = V m c main_v1 (ix3 k i j) := by
  obtain ⟨e0, e1, e2⟩ := idx2 t
  have ht := N18 t
  show V m c main_v1 (((cfg0.win 2).blk t).view.emb _) = _
  refine congrArg (V m c main_v1) ?_
  funext a; apply Fin.ext
  match a with
  | ⟨0, _⟩ => show win0_2.index t (0 : Fin 3) * 4 + 1 * k.val = (k).val; rw [e0]; (try simp only [tk, zcol]); omega
  | ⟨1, _⟩ => show win0_2.index t (1 : Fin 3) * 256 + 1 * i.val = (i).val; rw [e1]; (try simp only [tk, zcol]); omega
  | ⟨2, _⟩ => show win0_2.index t (2 : Fin 3) * 256 + 1 * j.val = (j).val; rw [e2]; (try simp only [tk, zcol]); omega

/-- The block of window 3 at a point. -/
theorem idx3 : ∀ (t : Fin cfg0.N), win0_3.index t (0 : Fin 2) = 0 ∧ win0_3.index t (1 : Fin 2) = 0 := by
  decide +kernel

/-- Input 3 of the call, at a point. -/
theorem x3 (t : Fin cfg0.N) (r : Fin 1) (v : Fin 1024) : iblk m c 3 t (ix2 r v) = V m c main_v2 (ix2 r v) := by
  obtain ⟨e0, e1⟩ := idx3 t
  have ht := N18 t
  show V m c main_v2 (((cfg0.win 3).blk t).view.emb _) = _
  refine congrArg (V m c main_v2) ?_
  funext a; apply Fin.ext
  match a with
  | ⟨0, _⟩ => show win0_3.index t (0 : Fin 2) * 1 + 1 * r.val = (r).val; rw [e0]; (try simp only [tk, zcol]); omega
  | ⟨1, _⟩ => show win0_3.index t (1 : Fin 2) * 1024 + 1 * v.val = (v).val; rw [e1]; (try simp only [tk, zcol]); omega

/-- The block of window 4 at a point. -/
theorem idx4 : ∀ (t : Fin cfg0.N), win0_4.index t (0 : Fin 2) = t.val ∧ win0_4.index t (1 : Fin 2) = 1 := by
  decide +kernel

/-- Input 4 of the call, at a point. -/
theorem x4 (t : Fin cfg0.N) (r : Fin 256) (v : Fin 1024) : iblk m c 4 t (ix2 r v) = V m c main_arg3 (ix2 (tk t.val r) (zcol v)) := by
  obtain ⟨e0, e1⟩ := idx4 t
  have ht := N18 t
  show V m c main_arg3 (((cfg0.win 4).blk t).view.emb _) = _
  refine congrArg (V m c main_arg3) ?_
  funext a; apply Fin.ext
  match a with
  | ⟨0, _⟩ => show win0_4.index t (0 : Fin 2) * 256 + 1 * r.val = (tk t.val r).val; rw [e0]; (try simp only [tk, zcol]); omega
  | ⟨1, _⟩ => show win0_4.index t (1 : Fin 2) * 1024 + 1 * v.val = (zcol v).val; rw [e1]; (try simp only [tk, zcol]); omega

end

/-- The block of window 5 at a point. -/
theorem idx5 : ∀ (t : Fin cfg0.N), win0_5.index t (0 : Fin 2) = t.val ∧ win0_5.index t (1 : Fin 2) = 0 := by
  decide +kernel

/-- Where the block of output 5 lies. -/
theorem emb5 (t : Fin cfg0.N) (r : Fin 256) (v : Fin 1024) : ((cfg0.win 5).blk t).view.emb (ix2 r v) = ix2 (tk t.val r) v := by
  obtain ⟨e0, e1⟩ := idx5 t
  have ht := N18 t
  funext a; apply Fin.ext
  match a with
  | ⟨0, _⟩ => show win0_5.index t (0 : Fin 2) * 256 + 1 * r.val = (tk t.val r).val; rw [e0]; (try simp only [tk, zcol]); omega
  | ⟨1, _⟩ => show win0_5.index t (1 : Fin 2) * 1024 + 1 * v.val = (v).val; rw [e1]; (try simp only [tk, zcol]); omega

/-- The block of window 6 at a point. -/
theorem idx6 : ∀ (t : Fin cfg0.N), win0_6.index t (0 : Fin 2) = t.val ∧ win0_6.index t (1 : Fin 2) = 0 := by
  decide +kernel

/-- Where the block of output 6 lies. -/
theorem emb6 (t : Fin cfg0.N) (r : Fin 256) (v : Fin 1024) : ((cfg0.win 6).blk t).view.emb (ix2 r v) = ix2 (tk t.val r) v := by
  obtain ⟨e0, e1⟩ := idx6 t
  have ht := N18 t
  funext a; apply Fin.ext
  match a with
  | ⟨0, _⟩ => show win0_6.index t (0 : Fin 2) * 256 + 1 * r.val = (tk t.val r).val; rw [e0]; (try simp only [tk, zcol]); omega
  | ⟨1, _⟩ => show win0_6.index t (1 : Fin 2) * 1024 + 1 * v.val = (v).val; rw [e1]; (try simp only [tk, zcol]); omega

/-- The block of window 7 at a point. -/
theorem idx7 : ∀ (t : Fin cfg0.N), win0_7.index t (0 : Fin 2) = 0 ∧ win0_7.index t (1 : Fin 2) = 0 := by
  decide +kernel

/-- Where the block of output 7 lies. -/
theorem emb7 (t : Fin cfg0.N) (r : Fin 1) (v : Fin 1024) : ((cfg0.win 7).blk t).view.emb (ix2 r v) = ix2 r v := by
  obtain ⟨e0, e1⟩ := idx7 t
  have ht := N18 t
  funext a; apply Fin.ext
  match a with
  | ⟨0, _⟩ => show win0_7.index t (0 : Fin 2) * 1 + 1 * r.val = (r).val; rw [e0]; (try simp only [tk, zcol]); omega
  | ⟨1, _⟩ => show win0_7.index t (1 : Fin 2) * 1024 + 1 * v.val = (v).val; rw [e1]; (try simp only [tk, zcol]); omega

/-- The block of window 8 at a point. -/
theorem idx8 : ∀ (t : Fin cfg0.N), win0_8.index t (0 : Fin 3) = 0 ∧ win0_8.index t (1 : Fin 3) = 0 ∧ win0_8.index t (2 : Fin 3) = 0 := by
  decide +kernel

/-- Where the block of output 8 lies. -/
theorem emb8 (t : Fin cfg0.N) (k : Fin 4) (i : Fin 256) (j : Fin 256) : ((cfg0.win 8).blk t).view.emb (ix3 k i j) = ix3 k i j := by
  obtain ⟨e0, e1, e2⟩ := idx8 t
  have ht := N18 t
  funext a; apply Fin.ext
  match a with
  | ⟨0, _⟩ => show win0_8.index t (0 : Fin 3) * 4 + 1 * k.val = (k).val; rw [e0]; (try simp only [tk, zcol]); omega
  | ⟨1, _⟩ => show win0_8.index t (1 : Fin 3) * 256 + 1 * i.val = (i).val; rw [e1]; (try simp only [tk, zcol]); omega
  | ⟨2, _⟩ => show win0_8.index t (2 : Fin 3) * 256 + 1 * j.val = (j).val; rw [e2]; (try simp only [tk, zcol]); omega

end Cert.Proof.Pool
-- ==== Proof.Pool.Final.lean ====
module

public import proofs.«01_k».proof.Proof.Pool.Blocks
/-! What the call leaves in its four arrays, entry by entry: two by blocks, two as sums over the points. -/

@[expose] public section

set_option maxRecDepth 16384

noncomputable section

namespace Cert.Proof.Pool

open Cert.Kernel3Ideal Cert.Kernel3Ideal.Gen Cert.Kernel3Ideal.Value Idealize.ShloMosaic Idealize.ShloMosaic.TcCoe
open Idealize.ShloMosaic.Pointwise Idealize.ShloMosaic.StableHlo

/-- The call's five arguments, any entries: the pooled rows, the groups' matrices, the scale, the array with the gate in its
second half, and the gradient coming in. -/
structure In where
  p : FVec Ideal S4608x1024 .f32
  w : FVec Ideal S4x256x256 .f32
  s : FVec Ideal S1024 .f32
  z : FVec Ideal S4608x2048 .f32
  c : FVec Ideal S4608x1024 .f32

namespace In
variable (I : In) (R : Fin 4608) (k : Fin 4) (i j : Fin 256)

/-- The gate, the gradient of the scaled product, the product, and the scaled product's gradient before the scale. -/
def G : EReal := I.z (ix2 R (zcol (gcol k j)))
def D : EReal := I.c (ix2 R (gcol k j)) * (I.G R k j * sg (I.G R k j))
def Y : EReal := ∑ l : Fin 256, I.p (ix2 R (gcol k l)) * I.w (ix3 k l j)
def L : EReal := I.s (ix1 (gcol k j))

/-- The four results' entries. -/
def rP : EReal := ∑ j : Fin 256, I.D R k j * I.L k j * I.w (ix3 k i j)
def rG : EReal := I.c (ix2 R (gcol k j)) * (I.Y R k j * I.L k j) * (sg (I.G R k j) * (1 + I.G R k j * (1 - sg (I.G R k j))))
def rS : EReal := ∑ R : Fin 4608, I.D R k j * I.Y R k j
def rW : EReal := ∑ R : Fin 4608, I.p (ix2 R (gcol k i)) * (I.D R k j * I.L k j)

/-- What point `n` adds to the two sums. -/
def aS (n : ℕ) : EReal := ∑ r : Fin 256, I.D (tk n r) k j * I.Y (tk n r) k j
def aW (n : ℕ) : EReal := ∑ r : Fin 256, I.p (ix2 (tk n r) (gcol k i)) * (I.D (tk n r) k j * I.L k j)

end In

/-- An index is its coordinates. -/
theorem eta2 {n0 n1 : ℕ} (y : (⟨2, ![n0, n1]⟩ : Shape).Idx) : y = ix2 (y 0) (y 1) := by
  funext a
  match a with
  | ⟨0, _⟩ => rfl
  | ⟨1, _⟩ => rfl
theorem eta3 {n0 n1 n2 : ℕ} (y : (⟨3, ![n0, n1, n2]⟩ : Shape).Idx) : y = ix3 (y 0) (y 1) (y 2) := by
  funext a
  match a with
  | ⟨0, _⟩ => rfl
  | ⟨1, _⟩ => rfl
  | ⟨2, _⟩ => rfl

/-- The points' rows are all rows. -/
theorem sum_points (f : Fin 4608 → EReal) : ∑ n ∈ Finset.range 18, ∑ r : Fin 256, f (tk n r) = ∑ R, f R := by
  rw [Finset.sum_range fun n => ∑ r : Fin 256, f (tk n r), ← Fintype.sum_prod_type']
  refine Fintype.sum_equiv finProdFinEquiv _ _ fun x => congrArg f (Fin.ext ?_)
  have h := x.1.isLt
  show x.1.val % 18 * 256 + x.2.val = x.2.val + 256 * x.1.val
  omega

/-- The call finds these arguments. -/
structure Args (I : In) (m : (ℓ : Loc nD τ sig) → Buf (Elt Ideal) ℓ) (c : Dev nD) : Prop where
  a0 : m (c, Proc.devRef .tc main_arg0) = I.p
  a1 : m (c, Proc.devRef .tc main_arg1) = I.w
  a2 : m (c, Proc.devRef .tc main_arg2) = I.s
  a3 : m (c, Proc.devRef .tc main_arg3) = I.z
  a4 : m (c, Proc.devRef .tc main_arg4) = I.c

section
variable {I : In} {m : (ℓ : Loc nD τ sig) → Buf (Elt Ideal) ℓ} {c : Dev nD} (A : Args I m c)
include A

/-- The five blocks at a point. -/
theorem in0 (t : Fin cfg0.N) (r : Fin 256) (v : Fin 1024) : iblk m c 0 t (ix2 r v) = I.c (ix2 (tk t.val r) v) := by
  rw [x0, v_4, A.a4]
theorem in1 (t : Fin cfg0.N) (r : Fin 256) (v : Fin 1024) : iblk m c 1 t (ix2 r v) = I.p (ix2 (tk t.val r) v) := by
  rw [x1, v_0, A.a0]; rfl
theorem in2 (t : Fin cfg0.N) (k : Fin 4) (i j : Fin 256) : iblk m c 2 t (ix3 k i j) = I.w (ix3 k i j) := by
  rw [x2, v_1, A.a1]; rfl
theorem in3 (t : Fin cfg0.N) (r : Fin 1) (v : Fin 1024) : iblk m c 3 t (ix2 r v) = I.s (ix1 v) := by
  rw [x3, v_2, A.a2]
  generalize I.s = s
  pointwise
theorem in4 (t : Fin cfg0.N) (r : Fin 256) (v : Fin 1024) : iblk m c 4 t (ix2 r v) = I.z (ix2 (tk t.val r) (zcol v)) := by
  rw [x4, v_3, A.a3]

/-- The groups' parts of them. -/
theorem cut_0 (t : Fin cfg0.N) (k : Fin 4) (r j : Fin 256) : cut (F := Ideal) (e := .f32) k (iblk m c 0 t) (ix2 r j) = I.c (ix2 (tk t.val r) (gcol k j)) := in0 A t r (gcol k j)
theorem cut_1 (t : Fin cfg0.N) (k : Fin 4) (r j : Fin 256) : cut (F := Ideal) (e := .bf16) k (iblk m c 1 t) (ix2 r j) = I.p (ix2 (tk t.val r) (gcol k j)) := in1 A t r (gcol k j)
theorem mat_2 (t : Fin cfg0.N) (k : Fin 4) (i j : Fin 256) : mat (F := Ideal) (e := .bf16) k (iblk m c 2 t) (ix3 0 i j) = I.w (ix3 k i j) := in2 A t k i j
theorem row_3 (t : Fin cfg0.N) (k : Fin 4) (j : Fin 256) : row (F := Ideal) (e := .f32) k (iblk m c 3 t) (ix2 0 j) = I.L k j := in3 A t 0 (gcol k j)
theorem cut_4 (t : Fin cfg0.N) (k : Fin 4) (r j : Fin 256) : cut (F := Ideal) (e := .f32) k (iblk m c 4 t) (ix2 r j) = I.G (tk t.val r) k j := in4 A t r (gcol k j)

/-- The first result at a point. -/
theorem val5 (t : Fin cfg0.N) (r : Fin 256) (k : Fin 4) (i : Fin 256) : (outsAt0 m c t.val t.isLt).1 (ix2 r (gcol k i)) = I.rP (tk t.val r) k i := by
  have e : (outsAt0 m c t.val t.isLt).1 = View.canon (cols (fun k => gP (F := Ideal) (cut k (iblk m c 0 t)) (cut k (iblk m c 4 t)) (row k (iblk m c 3 t)) (mat k (iblk m c 2 t))) []) := by
    by_cases h0 : t.val % 18 = 0
    · simp only [outsAt0_A m c t h0]
      exact out_A_5 ..
    · simp only [outsAt0_B m c t h0]
      exact out_B_5 ..
  rw [e, cols_at, gP_at]
  simp only [cut_0 A, cut_4 A, row_3 A, mat_2 A]
  rfl

/-- The second result at a point. -/
theorem val6 (t : Fin cfg0.N) (r : Fin 256) (k : Fin 4) (j : Fin 256) : (outsAt0 m c t.val t.isLt).2.1 (ix2 r (gcol k j)) = I.rG (tk t.val r) k j := by
  have e : (outsAt0 m c t.val t.isLt).2.1 = View.canon (cols (fun k => gG (F := Ideal) (cut k (iblk m c 0 t)) (cut k (iblk m c 4 t)) (row k (iblk m c 3 t)) (cut k (iblk m c 1 t)) (mat k (iblk m c 2 t))) []) := by
    by_cases h0 : t.val % 18 = 0
    · simp only [outsAt0_A m c t h0]
      exact out_A_6 ..
    · simp only [outsAt0_B m c t h0]
      exact out_B_6 ..
  rw [e, cols_at, gG_at]
  simp only [cut_0 A, cut_1 A, cut_4 A, row_3 A, mat_2 A]
  rfl

omit A in
/-- The running sum of array 7 at the first point, and at a later one. -/
theorem first7 (t : Fin cfg0.N) (h0 : t.val % 18 = 0) : (outsAt0 m c t.val t.isLt).2.2.1 = View.canon (rows (fun k => gS (F := Ideal) (cut k (iblk m c 0 t)) (cut k (iblk m c 4 t)) (cut k (iblk m c 1 t)) (mat k (iblk m c 2 t)) (row k (k0_pay2 (F := Ideal)))) [⟨Rect.unit (s := S1x1024) ![0, 0] ![1, 1024] inb_S1x1024_S1x1024_0_0, k0_pay2 (F := Ideal)⟩]) := by
  simp only [outsAt0_A m c t h0]
  exact out_A_7 ..
omit A in
theorem next7 (t : Fin cfg0.N) (h0 : ¬ t.val % 18 = 0) : (outsAt0 m c t.val t.isLt).2.2.1 = View.canon (rows (fun k => gS (F := Ideal) (cut k (iblk m c 0 t)) (cut k (iblk m c 4 t)) (cut k (iblk m c 1 t)) (mat k (iblk m c 2 t)) (row k (outsAt0 m c (t.val - 1) (Nat.lt_of_le_of_lt (Nat.sub_le _ _) t.isLt)).2.2.1)) []) := by
  simp only [outsAt0_B m c t h0]
  exact out_B_7 ..

omit A in
/-- The running sum of array 8 at the first point, and at a later one. -/
theorem first8 (t : Fin cfg0.N) (h0 : t.val % 18 = 0) : (outsAt0 m c t.val t.isLt).2.2.2 = View.canon (mats (fun k => gW (F := Ideal) (cut k (iblk m c 0 t)) (cut k (iblk m c 4 t)) (row k (iblk m c 3 t)) (cut k (iblk m c 1 t)) (mat k (k0_pay3 (F := Ideal)))) [⟨Rect.unit (s := S4x256x256) ![0, 0, 0] ![4, 256, 256] inb_S4x256x256_S4x256x256_0_0_0, k0_pay3 (F := Ideal)⟩]) := by
  simp only [outsAt0_A m c t h0]
  exact out_A_8 ..
omit A in
theorem next8 (t : Fin cfg0.N) (h0 : ¬ t.val % 18 = 0) : (outsAt0 m c t.val t.isLt).2.2.2 = View.canon (mats (fun k => gW (F := Ideal) (cut k (iblk m c 0 t)) (cut k (iblk m c 4 t)) (row k (iblk m c 3 t)) (cut k (iblk m c 1 t)) (mat k (outsAt0 m c (t.val - 1) (Nat.lt_of_le_of_lt (Nat.sub_le _ _) t.isLt)).2.2.2)) []) := by
  simp only [outsAt0_B m c t h0]
  exact out_B_8 ..

/-- The third result after point `n`: what the points to it have added. -/
theorem run7 (k : Fin 4) (j : Fin 256) : ∀ (n : ℕ) (hn : n < cfg0.N),
    (outsAt0 m c n hn).2.2.1 (ix2 0 (gcol k j)) = ∑ q ∈ Finset.range (n + 1), I.aS k j q
  | 0, hn => by
    have e : (outsAt0 m c 0 hn).2.2.1 = _ := first7 ⟨0, hn⟩ rfl
    rw [e, rows_at, gS_at, zero_add, Finset.sum_range_one]
    simp only [cut_0 A, cut_1 A, cut_4 A, mat_2 A]
    have z : row (F := Ideal) (e := .f32) k (k0_pay2 (F := Ideal)) (ix2 0 j) = (0 : EReal) := zS (gcol k j)
    rw [z, zero_add]
    rfl
  | n + 1, hn => by
    have ih := run7 k j n (by omega)
    have hlt : n + 1 < 18 := hn
    have e : (outsAt0 m c (n + 1) hn).2.2.1 = _ := next7 ⟨n + 1, hn⟩ (by show ¬ (n + 1) % 18 = 0; omega)
    rw [e, rows_at, gS_at, Finset.sum_range_succ, ← ih]
    simp only [cut_0 A, cut_1 A, cut_4 A, mat_2 A]
    rfl

/-- The fourth result after point `n`: what the points to it have added. -/
theorem run8 (k : Fin 4) (i j : Fin 256) : ∀ (n : ℕ) (hn : n < cfg0.N),
    (outsAt0 m c n hn).2.2.2 (ix3 k i j) = ∑ q ∈ Finset.range (n + 1), I.aW k i j q
  | 0, hn => by
    have e : (outsAt0 m c 0 hn).2.2.2 = _ := first8 ⟨0, hn⟩ rfl
    rw [e, mats_at, gW_at, zero_add, Finset.sum_range_one]
    simp only [cut_0 A, cut_1 A, cut_4 A, row_3 A]
    have z : mat (F := Ideal) (e := .f32) k (k0_pay3 (F := Ideal)) (ix3 0 i j) = (0 : EReal) := zW k i j
    rw [z, zero_add]
    rfl
  | n + 1, hn => by
    have ih := run8 k i j n (by omega)
    have hlt : n + 1 < 18 := hn
    have e : (outsAt0 m c (n + 1) hn).2.2.2 = _ := next8 ⟨n + 1, hn⟩ (by show ¬ (n + 1) % 18 = 0; omega)
    rw [e, mats_at, gW_at, Finset.sum_range_succ, ← ih]
    simp only [cut_0 A, cut_1 A, cut_4 A, row_3 A]
    rfl

/-- The first result after the run. -/
theorem arr5 (X : FVec Ideal S4608x1024 .f32) (hX : ∀ R k j, X (ix2 R (gcol k j)) = I.rP R k j) : (dats m 0 c).arrAt 5 cfg0.N = X := by
  refine (dats m 0 c).arrAt_eq_of_cover 5 X (fun t hf => ?_) (fun y => ?_)
  · rw [flushed5]
    funext y
    obtain ⟨r, v, rfl⟩ : ∃ (r : Fin 256) (v : Fin 1024), y = ix2 r v := ⟨_, _, eta2 (n0 := 256) (n1 := 1024) y⟩
    obtain ⟨k, j, rfl⟩ := gcol_of v
    show (outsAt0 m c t.val t.isLt).1 (ix2 r (gcol k j)) = X (((cfg0.win 5).blk t).view.emb (ix2 r (gcol k j)))
    rw [emb5, val5 A]
    exact (hX _ _ _).symm
  · obtain ⟨u, v, rfl⟩ : ∃ (u : Fin 4608) (v : Fin 1024), y = ix2 u v := ⟨_, _, eta2 (n0 := 4608) (n1 := 1024) y⟩
    obtain ⟨n, r, hn, rfl⟩ := tk_of u
    refine ⟨⟨n, hn⟩, flush0_5 _, ?_⟩
    have e := emb5 ⟨n, hn⟩ r v
    rw [← e]
    exact View.emb_mem_set _ _

/-- The second result after the run. -/
theorem arr6 (X : FVec Ideal S4608x1024 .bf16) (hX : ∀ R k j, X (ix2 R (gcol k j)) = I.rG R k j) : (dats m 0 c).arrAt 6 cfg0.N = X := by
  refine (dats m 0 c).arrAt_eq_of_cover 6 X (fun t hf => ?_) (fun y => ?_)
  · rw [flushed6]
    funext y
    obtain ⟨r, v, rfl⟩ : ∃ (r : Fin 256) (v : Fin 1024), y = ix2 r v := ⟨_, _, eta2 (n0 := 256) (n1 := 1024) y⟩
    obtain ⟨k, j, rfl⟩ := gcol_of v
    show (outsAt0 m c t.val t.isLt).2.1 (ix2 r (gcol k j)) = X (((cfg0.win 6).blk t).view.emb (ix2 r (gcol k j)))
    rw [emb6, val6 A]
    exact (hX _ _ _).symm
  · obtain ⟨u, v, rfl⟩ : ∃ (u : Fin 4608) (v : Fin 1024), y = ix2 u v := ⟨_, _, eta2 (n0 := 4608) (n1 := 1024) y⟩
    obtain ⟨n, r, hn, rfl⟩ := tk_of u
    refine ⟨⟨n, hn⟩, flush0_6 _, ?_⟩
    have e := emb6 ⟨n, hn⟩ r v
    rw [← e]
    exact View.emb_mem_set _ _

/-- The third result after the run. -/
theorem arr7 (X : FVec Ideal S1x1024 .f32) (hX : ∀ k j, X (ix2 0 (gcol k j)) = I.rS k j) : (dats m 0 c).arrAt 7 cfg0.N = X := by
  refine (dats m 0 c).arrAt_eq_of_cover 7 X (fun t hf => ?_) (fun y => ?_)
  · have hv : t.val + 1 = 18 := by have h := (flush0_7 t).mp hf; have h2 := N18 t; omega
    rw [flushed7]
    funext y
    obtain ⟨r, v, rfl⟩ : ∃ (r : Fin 1) (v : Fin 1024), y = ix2 r v := ⟨_, _, eta2 (n0 := 1) (n1 := 1024) y⟩
    obtain ⟨k, j, rfl⟩ := gcol_of v
    obtain rfl : r = 0 := Subsingleton.elim _ _
    show (outsAt0 m c t.val t.isLt).2.2.1 (ix2 0 (gcol k j)) = X (((cfg0.win 7).blk t).view.emb (ix2 0 (gcol k j)))
    rw [emb7, run7 A, hv, hX]
    exact sum_points fun R => I.D R k j * I.Y R k j
  · obtain ⟨u, v, rfl⟩ : ∃ (u : Fin 1) (v : Fin 1024), y = ix2 u v := ⟨_, _, eta2 (n0 := 1) (n1 := 1024) y⟩
    have hn : 17 < cfg0.N := by decide
    refine ⟨⟨17, hn⟩, (flush0_7 _).mpr rfl, ?_⟩
    have e := emb7 ⟨17, hn⟩ u v
    have h := View.emb_mem_set ((cfg0.win 7).blk ⟨17, hn⟩).view (ix2 u v)
    rw [e] at h
    exact h

/-- The fourth result after the run. -/
theorem arr8 (X : FVec Ideal S4x256x256 .f32) (hX : ∀ k i j, X (ix3 k i j) = I.rW k i j) : (dats m 0 c).arrAt 8 cfg0.N = X := by
  refine (dats m 0 c).arrAt_eq_of_cover 8 X (fun t hf => ?_) (fun y => ?_)
  · have hv : t.val + 1 = 18 := by have h := (flush0_8 t).mp hf; have h2 := N18 t; omega
    rw [flushed8]
    funext y
    obtain ⟨k, i, j, rfl⟩ : ∃ (k : Fin 4) (i j : Fin 256), y = ix3 k i j := ⟨_, _, _, eta3 (n0 := 4) (n1 := 256) (n2 := 256) y⟩
    show (outsAt0 m c t.val t.isLt).2.2.2 (ix3 k i j) = X (((cfg0.win 8).blk t).view.emb (ix3 k i j))
    rw [emb8, run8 A, hv, hX]
    exact sum_points fun R => I.p (ix2 R (gcol k i)) * (I.D R k j * I.L k j)
  · obtain ⟨k, i, j, rfl⟩ : ∃ (k : Fin 4) (i j : Fin 256), y = ix3 k i j := ⟨_, _, _, eta3 (n0 := 4) (n1 := 256) (n2 := 256) y⟩
    have hn : 17 < cfg0.N := by decide
    refine ⟨⟨17, hn⟩, (flush0_8 _).mpr rfl, ?_⟩
    have e := emb8 ⟨17, hn⟩ k i j
    have h := View.emb_mem_set ((cfg0.win 8).blk ⟨17, hn⟩).view (ix3 k i j)
    rw [e] at h
    exact h

end

end Cert.Proof.Pool
-- ==== Proof.Pool.Results.lean ====
module

public import proofs.«01_k».proof.Proof.Pool.Final
public import proofs.«01_k».proof.Proof.Gen.Reference3Ideal.Read
public import Idealize.ShloMosaic.Lib.Pointwise
/-! The reference's four results, entry by entry. -/

@[expose] public section

set_option maxRecDepth 16384

noncomputable section

namespace Cert.Proof.Pool

open Idealize.ShloMosaic Idealize.ShloMosaic.Pointwise Cert.Reference3Ideal Cert.Reference3Ideal.Read

variable (I : In) (R : Fin 4608) (k : Fin 4) (i j : Fin 256)

/-- The product of the groups. -/
theorem y_at : val_main_v5 (F := Ideal) I.p I.w (ix2 R (gcol k j)) = I.Y R k j := by
  have e5 : idx_main_v5 (ix2 R (gcol k j)) = ix3 R k j := by
    funext a; apply Fin.ext
    match a with
    | ⟨0, _⟩ => show (R.val * 1024 + (k.val * 256 + j.val)) / 1024 = R.val; omega
    | ⟨1, _⟩ => show (R.val * 1024 + (k.val * 256 + j.val)) / 256 % 4 = k.val; omega
    | ⟨2, _⟩ => show (R.val * 1024 + (k.val * 256 + j.val)) % 256 = j.val; omega
  rw [val_main_v5_apply, e5, val_main_v4_apply, val_main_v3_apply]
  refine Finset.sum_congr rfl fun l _ => ?_
  rw [val_main_v2_apply, mul_comm]
  refine congr (congrArg (fun x y => x * y) (congrArg I.p ?_)) (congrArg I.w ?_)
  · funext a; apply Fin.ext
    match a with
    | ⟨0, _⟩ => show ((R.val * 4 + k.val) * 256 + l.val) / 1024 = R.val; omega
    | ⟨1, _⟩ => show ((R.val * 4 + k.val) * 256 + l.val) % 1024 = k.val * 256 + l.val; omega
  · funext a
    match a with
    | ⟨0, _⟩ => rfl
    | ⟨1, _⟩ => rfl
    | ⟨2, _⟩ => rfl

/-- The gate, and the scale over all rows. -/
theorem g_at : val_main_v1 (F := Ideal) I.z (ix2 R (gcol k j)) = I.G R k j := by pointwise [val_main_v1]; rfl
theorem l_at : val_main_v7 (F := Ideal) I.s (ix2 R (gcol k j)) = I.L k j := by pointwise [val_main_v7, val_main_v6]; rfl

/-- The gate's logistic. -/
theorem s_at : val_main_v9_2 (F := Ideal) I.z (ix2 R (gcol k j)) = sg (I.G R k j) := by
  have e := g_at I R k j
  unfold val_main_v9_2 val_main_call0_v3 val_main_call0_v1 val_main_call0_v0
  generalize val_main_v1 (F := Ideal) I.z = y at e
  pointwise [val_main_call0_v4, val_main_call0_cst_0, val_main_call0_v2, val_main_call0_cst]
  rw [e]
  rfl

/-- The incoming gradient times the gate's activation. -/
theorem d_at : val_main_v12 (F := Ideal) I.z I.c (ix2 R (gcol k j)) = I.D R k j := by
  rw [val_main_v12_apply, val_main_v9_0_apply, s_at, g_at]
  rfl

/-- … and times the scale. -/
theorem ds_at : val_main_v18 (F := Ideal) I.s I.z I.c (ix2 R (gcol k j)) = I.D R k j * I.L k j := by
  have e : val_main_v17 (F := Ideal) I.s (ix2 R (gcol k j)) = I.L k j := l_at I R k j
  rw [val_main_v18_apply, d_at, e]
  rfl

theorem ds21 : val_main_v21 (F := Ideal) I.s I.z I.c (ix3 k j R) = I.D R k j * I.L k j := by
  rw [val_main_v21_apply, val_main_v20_apply, ← ds_at]
  refine congrArg (val_main_v18 (F := Ideal) I.s I.z I.c) ?_
  funext a; apply Fin.ext
  match a with
  | ⟨0, _⟩ => show ((R.val * 4 + k.val) * 256 + j.val) / 1024 = R.val; omega
  | ⟨1, _⟩ => show ((R.val * 4 + k.val) * 256 + j.val) % 1024 = k.val * 256 + j.val; omega

/-- The first result: the pooled rows' gradient. -/
theorem p_res : val_main_v26 (F := Ideal) I.w I.s I.z I.c (ix2 R (gcol k i)) = I.rP R k i := by
  have e : idx_main_v26 (ix2 R (gcol k i)) = ix3 R k i := by
    funext a; apply Fin.ext
    match a with
    | ⟨0, _⟩ => show (R.val * 1024 + (k.val * 256 + i.val)) / 1024 = R.val; omega
    | ⟨1, _⟩ => show (R.val * 1024 + (k.val * 256 + i.val)) / 256 % 4 = k.val; omega
    | ⟨2, _⟩ => show (R.val * 1024 + (k.val * 256 + i.val)) % 256 = i.val; omega
  rw [val_main_v26_apply, e, val_main_v23_apply, val_main_v22_apply]
  refine Finset.sum_congr rfl fun l _ => ?_
  refine congr (congrArg (fun x y => x * y) (Eq.trans (congrArg (val_main_v21 (F := Ideal) I.s I.z I.c) ?_) (ds21 I R k l))) (congrArg I.w ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The fourth result: the matrices' gradients. -/
theorem w_res : val_main_v25 (F := Ideal) I.p I.s I.z I.c (ix3 k i j) = I.rW k i j := by
  rw [val_main_v25_apply, val_main_v24_apply]
  refine Finset.sum_congr rfl fun l _ => ?_
  rw [mul_comm, val_main_v2_apply]
  refine congr (congrArg (fun x y => x * y) (congrArg I.p ?_)) (Eq.trans (congrArg (val_main_v21 (F := Ideal) I.s I.z I.c) ?_) (ds21 I l k j))
  · funext a; apply Fin.ext
    match a with
    | ⟨0, _⟩ => show ((l.val * 4 + k.val) * 256 + i.val) / 1024 = l.val; omega
    | ⟨1, _⟩ => show ((l.val * 4 + k.val) * 256 + i.val) % 1024 = k.val * 256 + i.val; omega
  · funext a
    match a with
    | ⟨0, _⟩ => rfl
    | ⟨1, _⟩ => rfl
    | ⟨2, _⟩ => rfl

theorem v14_at : val_main_v14 (F := Ideal) I.p I.w I.z I.c (ix2 R (gcol k j)) = I.D R k j * I.Y R k j := by
  rw [val_main_v14_apply, y_at, d_at, mul_comm (I.D R k j)]
  rfl

theorem v15_at : val_main_v15 (F := Ideal) I.p I.w I.z I.c (ix1 (gcol k j)) = I.rS k j := by
  have e := fun R => v14_at I R k j
  unfold val_main_v15
  generalize val_main_v14 (F := Ideal) I.p I.w I.z I.c = y at e
  generalize gcol k j = v at e
  pointwise [val_main_cst]
  simp only [e]
  rfl

/-- The third result: the scale's gradient. -/
theorem s_res : val_main_v31 (F := Ideal) I.p I.w I.z I.c (ix2 0 (gcol k j)) = I.rS k j := by
  have e := v15_at I k j
  unfold val_main_v31 val_main_v19 val_main_v16
  generalize val_main_v15 (F := Ideal) I.p I.w I.z I.c = y at e
  generalize gcol k j = v at e
  pointwise [val_main_cst_0]
  simp [e]

/-- The second result as the reference has it. -/
theorem g_ref : val_main_v30 (F := Ideal) I.p I.w I.s I.z I.c (ix2 R (gcol k j))
    = (I.Y R k j * I.L k j * I.c (ix2 R (gcol k j))) * sg (I.G R k j)
      + I.G R k j * (I.Y R k j * I.L k j * I.c (ix2 R (gcol k j))) * (sg (I.G R k j) * (1 - sg (I.G R k j))) := by
  have o : val_main_call0_v6 (F := Ideal) (ix2 R (gcol k j)) = (1 : EReal) := by pointwise [val_main_call0_v6, val_main_call0_cst_1]
  have e13 : val_main_v13 (F := Ideal) I.p I.w I.s I.z I.c (ix2 R (gcol k j)) = (I.Y R k j * I.L k j * I.c (ix2 R (gcol k j))) * sg (I.G R k j)
      + I.G R k j * (I.Y R k j * I.L k j * I.c (ix2 R (gcol k j))) * (sg (I.G R k j) * (1 - sg (I.G R k j))) := by
    rw [val_main_v13_apply, val_main_call1_v1_apply, val_main_call1_v2_apply, val_main_call1_v0_apply, val_main_v11_apply, val_main_v8_apply,
      val_main_v9_1_apply, val_main_call0_v7_apply, s_at, y_at, l_at, g_at, o]
    rfl
  have h : val_main_v30 (F := Ideal) I.p I.w I.s I.z I.c (ix2 R (gcol k j)) = val_main_v13 (F := Ideal) I.p I.w I.s I.z I.c (ix2 R (gcol k j)) := by
    unfold val_main_v30 val_main_v29 val_main_v28
    generalize val_main_v13 (F := Ideal) I.p I.w I.s I.z I.c = y
    generalize val_main_v27 (F := Ideal) = w
    generalize gcol k j = v
    pointwise
  rw [h, e13]

end Cert.Proof.Pool
-- ==== Proof.Pool.Equation.lean ====
module

public import proofs.«01_k».proof.Defs
public import proofs.«01_k».proof.Proof.Claim.Finite
public import proofs.«01_k».proof.Proof.Pool.Results
public import proofs.«01_k».proof.Proof.Gen.Kernel3Ideal.Value
public import proofs.«01_k».proof.Proof.Gen.Reference3Ideal.Run
public import proofs.«01_k».proof.Proof.Gen.Reference3Ideal.Read
/-! The pooling call's equation: the kernel's four arrays are the reference's four results. -/

@[expose] public section

set_option maxRecDepth 16384

noncomputable section

namespace Cert.Proof.Pool

open Idealize.ShloMosaic Idealize.ShloMosaic.TcCoe Idealize.ShloMosaic.Pointwise Idealize.SL.Sem

/-- The shape relations the precondition's broadcasts take. -/
theorem preFacts : Cert.Pre_finite3.Facts where
  bcast_S_S4608x1024 := by decide
  bcast_S_S4x256x256 := by decide
  bcast_S_S1024 := by decide

/-- A sum of real numbers is a real number. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- The two forms of the gate's derivative agree on a real factor, whatever the gate. -/
theorem gate_eq (a : ℝ) (x : EReal) : (a : EReal) * sg x + x * a * (sg x * (1 - sg x)) = a * (sg x * (1 + x * (1 - sg x))) := by
  have o : (1 : EReal) - 1 = 0 := by
    rw [← EReal.coe_one, ← EReal.coe_sub, sub_self, EReal.coe_zero]
  induction x using EReal.rec with
  | bot =>
    have t : (1 : EReal) + ⊤ = ⊤ := EReal.add_top_of_ne_bot (by rw [← EReal.coe_one]; exact EReal.coe_ne_bot 1)
    have h : sg ⊥ = 0 := by
      simp [sg, Ideal.div, t]
    rw [h]; simp
  | top =>
    have h : sg ⊤ = 1 := by
      simp [sg, Ideal.div]
    rw [h, o]; simp
  | coe x =>
    have hp : (1 + Real.exp (-x)) ≠ 0 := by positivity
    have h : sg (x : EReal) = ((1 / (1 + Real.exp (-x)) : ℝ) : EReal) := by
      unfold sg
      rw [← EReal.coe_neg, Ideal.exp_coe, ← EReal.coe_one, ← EReal.coe_add, Ideal.div_coe hp, EReal.coe_one, one_mul]
    rw [h]
    generalize 1 / (1 + Real.exp (-x)) = s
    rw [← EReal.coe_one]
    simp only [← EReal.coe_mul, ← EReal.coe_sub, ← EReal.coe_add]
    congr 1; ring

/-- Every entry but the gate's is a real number. -/
structure In.Real (I : In) : Prop where
  p : ∀ y, ∃ r : ℝ, I.p y = r
  w : ∀ y, ∃ r : ℝ, I.w y = r
  s : ∀ y, ∃ r : ℝ, I.s y = r
  c : ∀ y, ∃ r : ℝ, I.c y = r

/-- The second result: the gate's gradient. -/
theorem g_res {I : In} (H : I.Real) (R : Fin 4608) (k : Fin 4) (j : Fin 256) :
    Cert.Reference3Ideal.Read.val_main_v30 (F := Ideal) I.p I.w I.s I.z I.c (ix2 R (gcol k j)) = I.rG R k j := by
  obtain ⟨y, hy⟩ : ∃ r : ℝ, I.Y R k j = r := sum_real _ _ fun l _ => by
    obtain ⟨a, ha⟩ := H.p (ix2 R (gcol k l))
    obtain ⟨b, hb⟩ := H.w (ix3 k l j)
    exact ⟨a * b, by rw [ha, hb, EReal.coe_mul]⟩
  obtain ⟨s, hs⟩ : ∃ r : ℝ, I.L k j = r := H.s (ix1 (gcol k j))
  obtain ⟨d, hd⟩ := H.c (ix2 R (gcol k j))
  rw [g_ref]
  unfold In.rG
  rw [hy, hs, hd, mul_comm (d : EReal), ← EReal.coe_mul, ← EReal.coe_mul]
  exact gate_eq _ _

section

open Cert.Kernel3Ideal Cert.Kernel3Ideal.Gen

/-- What the call finds: the arguments. -/
def inputs (m : (ℓ : Loc nD τ sig) → Buf (Elt Ideal) ℓ) (c : Dev nD) : In where
  p := m (c, Proc.devRef .tc main_arg0)
  w := m (c, Proc.devRef .tc main_arg1)
  s := m (c, Proc.devRef .tc main_arg2)
  z := m (c, Proc.devRef .tc main_arg3)
  c := m (c, Proc.devRef .tc main_arg4)

theorem inputs_args (m : (ℓ : Loc nD τ sig) → Buf (Elt Ideal) ℓ) (c : Dev nD) : Args (inputs m c) m c := ⟨rfl, rfl, rfl, rfl, rfl⟩

/-- Under the precondition all but the gate is real. -/
theorem inputs_real [Cert.Pre_finite3.Facts] (m : (ℓ : Loc nD τ sig) → Buf (Elt Ideal) ℓ) (h : Cert.Pre_Kernel3Ideal_finite3 m) (c : Dev nD) :
    (inputs m c).Real := by
  obtain ⟨h1, h2, h3, h4⟩ := h c
  exact ⟨fun y => ⟨_, real_of _ (congrFun h1 y)⟩, fun y => ⟨_, real_of _ (congrFun h2 y)⟩,
    fun y => ⟨_, real_of _ (congrFun h3 y)⟩, fun y => ⟨_, real_of _ (congrFun h4 y)⟩⟩

variable {I : In} {m : (ℓ : Loc nD τ sig) → Buf (Elt Ideal) ℓ} {c : Dev nD} (A : Args I m c)
include A

/-- Each array after the kernel's run is the reference's result. -/
theorem kernel_0 : (dats m 0 c).arrAt 5 cfg0.N = Cert.Reference3Ideal.Read.val_main_v26 (F := Ideal) I.w I.s I.z I.c :=
  arr5 A _ fun R k j => p_res I R k j
theorem kernel_1 (H : I.Real) : (dats m 0 c).arrAt 6 cfg0.N = Cert.Reference3Ideal.Read.val_main_v30 (F := Ideal) I.p I.w I.s I.z I.c :=
  arr6 A _ fun R k j => g_res H R k j
theorem kernel_2 : (dats m 0 c).arrAt 7 cfg0.N = Cert.Reference3Ideal.Read.val_main_v31 (F := Ideal) I.p I.w I.z I.c :=
  arr7 A _ fun k j => s_res I k j
theorem kernel_3 : (dats m 0 c).arrAt 8 cfg0.N = Cert.Reference3Ideal.Read.val_main_v25 (F := Ideal) I.p I.s I.z I.c :=
  arr8 A _ fun k i j => w_res I k i j

end

section

open Cert.Reference3Ideal Cert.Reference3Ideal.Read

/-- The reference starts from these arguments. -/
structure RefArgs (I : In) (m : (ℓ : Loc nD τ sig) → Buf (Elt Ideal) ℓ) (c : Dev nD) : Prop where
  a0 : m ((c.tc : Thread nD τ).loc main_arg0) = I.p
  a1 : m ((c.tc : Thread nD τ).loc main_arg1) = I.w
  a2 : m ((c.tc : Thread nD τ).loc main_arg2) = I.s
  a3 : m ((c.tc : Thread nD τ).loc main_arg3) = I.z
  a4 : m ((c.tc : Thread nD τ).loc main_arg4) = I.c

variable {I : In} {m : (ℓ : Loc nD τ sig) → Buf (Elt Ideal) ℓ} {c : Dev nD} (A : RefArgs I m c)
include A

/-- Each result over what the reference starts from is the result over these arguments. -/
theorem reference_0 : val_main_v26 (F := Ideal) (m ((c.tc : Thread nD τ).loc main_arg1)) (m ((c.tc : Thread nD τ).loc main_arg2)) (m ((c.tc : Thread nD τ).loc main_arg3)) (m ((c.tc : Thread nD τ).loc main_arg4))
    = val_main_v26 (F := Ideal) I.w I.s I.z I.c := by rw [A.a1, A.a2, A.a3, A.a4]
theorem reference_1 : val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    = val_main_v30 (F := Ideal) I.p I.w I.s I.z I.c := by rw [A.a0, A.a1, A.a2, A.a3, A.a4]
theorem reference_2 : val_main_v31 (F := Ideal) (m ((c.tc : Thread nD τ).loc main_arg0)) (m ((c.tc : Thread nD τ).loc main_arg1)) (m ((c.tc : Thread nD τ).loc main_arg3)) (m ((c.tc : Thread nD τ).loc main_arg4))
    = val_main_v31 (F := Ideal) I.p I.w I.z I.c := by rw [A.a0, A.a1, A.a3, A.a4]
theorem reference_3 : val_main_v25 (F := Ideal) (m ((c.tc : Thread nD τ).loc main_arg0)) (m ((c.tc : Thread nD τ).loc main_arg2)) (m ((c.tc : Thread nD τ).loc main_arg3)) (m ((c.tc : Thread nD τ).loc main_arg4))
    = val_main_v25 (F := Ideal) I.p I.s I.z I.c := by rw [A.a0, A.a2, A.a3, A.a4]

end

/-- The kernel's four arrays are the reference's four results, whenever the arguments agree and meet the precondition. -/
theorem algebraic [Cert.Pre_finite3.Facts] : Cert.algebraic_Kernel3Ideal_Reference3Ideal_pre_finite3 := by
  intro m ρ m' ρ' hpre hag
  have hA := fun c => inputs_args m c
  have hH := fun c => inputs_real m hpre c
  have hR : ∀ c, RefArgs (inputs m c) m' c := fun c =>
    ⟨(hag c).1, (hag c).2.1, (hag c).2.2.1, (hag c).2.2.2.1, (hag c).2.2.2.2⟩
  refine ⟨fun c => Cert.Reference3Ideal.Read.val_main_v26 (F := Ideal) (inputs m c).w (inputs m c).s (inputs m c).z (inputs m c).c,
    fun c => Cert.Reference3Ideal.Read.val_main_v30 (F := Ideal) (inputs m c).p (inputs m c).w (inputs m c).s (inputs m c).z (inputs m c).c,
    fun c => Cert.Reference3Ideal.Read.val_main_v31 (F := Ideal) (inputs m c).p (inputs m c).w (inputs m c).z (inputs m c).c,
    fun c => Cert.Reference3Ideal.Read.val_main_v25 (F := Ideal) (inputs m c).p (inputs m c).s (inputs m c).z (inputs m c).c, ?_, ?_⟩
  · exact (θ_run Cert.Kernel3Ideal.defs _ _).mono (fun _ h c => ⟨((h c).1).trans (kernel_0 (hA c)),
        ((h c).2.1).trans (kernel_1 (hA c) (hH c)),
        ((h c).2.2.1).trans (kernel_2 (hA c)),
        ((h c).2.2.2.1).trans (kernel_3 (hA c)),
        (h c).2.2.2.2⟩)
        (Cert.Kernel3Ideal.Value.run_blocks (F := Ideal) m ρ)
  · exact (θ_run Cert.Reference3Ideal.defs _ _).mono (fun _ h c => ⟨(((h c).1).trans (Cert.Reference3Ideal.Read.val_main_v26_eq _ _ _ _)).trans (reference_0 (hR c)),
        (((h c).2.1).trans (Cert.Reference3Ideal.Read.val_main_v30_eq _ _ _ _ _)).trans (reference_1 (hR c)),
        (((h c).2.2.1).trans (Cert.Reference3Ideal.Read.val_main_v31_eq _ _ _ _)).trans (reference_2 (hR c)),
        (((h c).2.2.2.1).trans (Cert.Reference3Ideal.Read.val_main_v25_eq _ _ _ _)).trans (reference_3 (hR c)),
        (h c).2.2.2.2⟩)
        (Cert.Reference3Ideal.Value.run (F := Ideal) m' ρ')

end Cert.Proof.Pool
-- ==== Proof.Lin.Product.lean ====
module

public import proofs.«01_k».proof.Defs
public import proofs.«01_k».proof.Proof.Gen.Kernel6Ideal.Value
public import proofs.«01_k».proof.Proof.Gen.Reference6Ideal.Read
public import proofs.«01_k».proof.Proof.Gen.Reference6Ideal.Run
public import proofs.«01_k».proof.Proof.Pool.Final
/-! The projection itself: a grid of three column tiles by three row tiles, each point the product of 1536 rows of the tokens
with 1024 columns of the weight, so the array is the reference's product, entry by entry. -/

@[expose] public section

set_option maxRecDepth 16384

noncomputable section

namespace Cert.Proof.Lin.Product

open Cert.Kernel6Ideal Cert.Kernel6Ideal.Gen Cert.Kernel6Ideal.Value Idealize.ShloMosaic Idealize.ShloMosaic.TcCoe
open Idealize.ShloMosaic.Pointwise Idealize.ShloMosaic.StableHlo

/-- One tile's product, entry by entry. -/
theorem pay_at (a : Vec Ideal S1536x1024 .bf16) (b : Vec Ideal S1024x1024 .bf16) (r : Fin 1536) (j : Fin 1024) :
    k0_pay1 (F := Ideal) a b (ix2 r j) = ∑ l : Fin 1024, a (ix2 r l) * b (ix2 l j) := by
  pointwise [k0_pay1]

/-- Row `r` and column `j` of the tile of point `n`. -/
def tk (n : ℕ) (r : Fin 1536) : Fin 4608 := ⟨n % 3 * 1536 + r.val, by omega⟩
def cl (n : ℕ) (j : Fin 1024) : Fin 3072 := ⟨n / 3 % 3 * 1024 + j.val, by omega⟩

theorem N9 (t : Fin cfg0.N) : t.val < 9 := t.isLt

/-- The windows' blocks at a point. -/
theorem idx0 : ∀ t : Fin cfg0.N, win0_0.index t (0 : Fin 2) = t.val % 3 ∧ win0_0.index t (1 : Fin 2) = 0 := by decide +kernel
theorem idx1 : ∀ t : Fin cfg0.N, win0_1.index t (0 : Fin 2) = 0 ∧ win0_1.index t (1 : Fin 2) = t.val / 3 := by decide +kernel
theorem idx2 : ∀ t : Fin cfg0.N, win0_2.index t (0 : Fin 2) = t.val % 3 ∧ win0_2.index t (1 : Fin 2) = t.val / 3 := by decide +kernel

section
variable {F : FTy → Type} [FloatOps F] (m : (ℓ : Loc nD τ sig) → Buf (Elt F) ℓ) (c : Dev nD)

/-- What the call finds in its two arrays. -/
theorem v_0 : V m c main_v0 = truncf .bf16 (m (c, Proc.devRef .tc main_arg0)) bitsLt_bf16_f32 := by
  unfold V hostOps0
  rfl
theorem v_1 : V m c main_v1 = truncf .bf16 (m (c, Proc.devRef .tc main_arg1)) bitsLt_bf16_f32 := by
  unfold V hostOps0
  rfl

end

section
variable (m : (ℓ : Loc nD τ sig) → Buf (Elt Ideal) ℓ) (c : Dev nD)

/-- The two blocks at a point. -/
theorem x0 (t : Fin cfg0.N) (r : Fin 1536) (v : Fin 1024) :
    iblk m c 0 t (ix2 r v) = m (c, Proc.devRef .tc main_arg0) (ix2 (tk t.val r) v) := by
  obtain ⟨e0, e1⟩ := idx0 t
  refine Eq.trans (b := V m c main_v0 (ix2 (tk t.val r) v)) ?_ (by rw [v_0]; rfl)
  show V m c main_v0 (((cfg0.win 0).blk t).view.emb _) = _
  refine congrArg (V m c main_v0) ?_
  funext a; apply Fin.ext
  match a with
  | ⟨0, _⟩ => show win0_0.index t (0 : Fin 2) * 1536 + 1 * r.val = (tk t.val r).val; rw [e0]; simp only [tk]; omega
  | ⟨1, _⟩ => show win0_0.index t (1 : Fin 2) * 1024 + 1 * v.val = v.val; rw [e1]; omega
theorem x1 (t : Fin cfg0.N) (r v : Fin 1024) :
    iblk m c 1 t (ix2 r v) = m (c, Proc.devRef .tc main_arg1) (ix2 r (cl t.val v)) := by
  obtain ⟨e0, e1⟩ := idx1 t
  have ht := N9 t
  refine Eq.trans (b := V m c main_v1 (ix2 r (cl t.val v))) ?_ (by rw [v_1]; rfl)
  show V m c main_v1 (((cfg0.win 1).blk t).view.emb _) = _
  refine congrArg (V m c main_v1) ?_
  funext a; apply Fin.ext
  match a with
  | ⟨0, _⟩ => show win0_1.index t (0 : Fin 2) * 1024 + 1 * r.val = r.val; rw [e0]; omega
  | ⟨1, _⟩ => show win0_1.index t (1 : Fin 2) * 1024 + 1 * v.val = (cl t.val v).val; rw [e1]; simp only [cl]; omega

/-- Where a point writes. -/
theorem emb2 (t : Fin cfg0.N) (r : Fin 1536) (j : Fin 1024) :
    ((cfg0.win 2).blk t).view.emb (ix2 r j) = ix2 (tk t.val r) (cl t.val j) := by
  obtain ⟨e0, e1⟩ := idx2 t
  have ht := N9 t
  funext a; apply Fin.ext
  match a with
  | ⟨0, _⟩ => show win0_2.index t (0 : Fin 2) * 1536 + 1 * r.val = (tk t.val r).val; rw [e0]; simp only [tk]; omega
  | ⟨1, _⟩ => show win0_2.index t (1 : Fin 2) * 1024 + 1 * j.val = (cl t.val j).val; rw [e1]; simp only [cl]; omega

/-- A point's tile is the product of its two blocks. -/
theorem out_eq (a : Vec Ideal S1536x1024 .bf16) (b : Vec Ideal S1024x1024 .bf16) : out0_2 a b = k0_pay1 (F := Ideal) a b := by
  unfold out0_2
  have hz : (![0, 0] : Fin 2 → ℕ) = fun _ => 0 := funext fun a => by fin_cases a <;> rfl
  rw [View.canon_unit_zero hz, View.ld_unit_zero hz, View.ld_unit_zero hz]

/-- The call's array is the reference's product. -/
theorem array (x0' : FVec Ideal S4608x1024 .f32) (x1' : FVec Ideal S1024x3072 .f32)
    (h0 : m (c, Proc.devRef .tc main_arg0) = x0') (h1 : m (c, Proc.devRef .tc main_arg1) = x1') :
    (dats m 0 c).arrAt 2 cfg0.N = Cert.Reference6Ideal.Read.val_main_v0 (F := Ideal) x0' x1' := by
  refine (dats m 0 c).arrAt_eq_of_cover 2 _ (fun t _ => ?_) (fun y => ?_)
  · rw [flushed2, out_eq]
    funext y
    obtain ⟨r, j, rfl⟩ : ∃ (r : Fin 1536) (j : Fin 1024), y = ix2 r j := ⟨y 0, y 1, Pool.eta2 y⟩
    show k0_pay1 (F := Ideal) (iblk m c 0 t) (iblk m c 1 t) (ix2 r j) = Cert.Reference6Ideal.Read.val_main_v0 (F := Ideal) x0' x1' (((cfg0.win 2).blk t).view.emb (ix2 r j))
    rw [emb2, pay_at, Cert.Reference6Ideal.Read.val_main_v0_apply]
    refine Finset.sum_congr rfl fun l _ => ?_
    rw [x0, x1, h0, h1]
    exact congrArg₂ (· * ·) (congrArg x0' (Pool.eta2 _).symm) (congrArg x1' (Pool.eta2 _).symm)
  · have hy : (y 0).val < 4608 := (y 0).isLt
    have hz : (y 1).val < 3072 := (y 1).isLt
    let t : Fin cfg0.N := ⟨(y 1).val / 1024 * 3 + (y 0).val / 1536, show _ < 9 by omega⟩
    refine ⟨t, flush0_2 _, ?_⟩
    refine (congrArg (· ∈ _) ?_).mp (View.emb_mem_set _ (ix2 ⟨(y 0).val % 1536, by omega⟩ ⟨(y 1).val % 1024, by omega⟩))
    refine (emb2 t _ _).trans ((congrArg₂ ix2 (Fin.ext ?_) (Fin.ext ?_)).trans (Pool.eta2 y).symm)
    · show ((y 1).val / 1024 * 3 + (y 0).val / 1536) % 3 * 1536 + (y 0).val % 1536 = (y 0).val; omega
    · show ((y 1).val / 1024 * 3 + (y 0).val / 1536) / 3 % 3 * 1024 + (y 1).val % 1024 = (y 1).val; omega

end

/-- The kernel's array is the reference's result, whenever the arguments agree. -/
theorem algebraic : Cert.algebraic_Kernel6Ideal_Reference6Ideal := by
  intro m ρ m' ρ' _ hag
  refine ⟨fun c => Cert.Reference6Ideal.Read.val_main_v0 (F := Ideal) (m' ((c.tc : Thread _ _).loc Cert.Reference6Ideal.main_arg0)) (m' ((c.tc : Thread _ _).loc Cert.Reference6Ideal.main_arg1)), ?_, ?_⟩
  · exact (θ_run Cert.Kernel6Ideal.defs _ _).mono (fun _ h c => ⟨((h c).1).trans (array m c _ _ (hag c).1.symm (hag c).2.symm), (h c).2⟩)
      (Cert.Kernel6Ideal.Value.run_blocks (F := Ideal) m ρ)
  · exact (θ_run Cert.Reference6Ideal.defs _ _).mono (fun _ h c => ⟨((h c).1).trans (Cert.Reference6Ideal.Read.val_main_v0_eq _ _), (h c).2⟩)
      (Cert.Reference6Ideal.Value.run (F := Ideal) m' ρ')

end Cert.Proof.Lin.Product
-- ==== Proof.Lin.Tokens.lean ====
module

public import proofs.«01_k».proof.Defs
public import proofs.«01_k».proof.Proof.Gen.Kernel4Ideal.Value
public import proofs.«01_k».proof.Proof.Gen.Reference4Ideal.Read
public import proofs.«01_k».proof.Proof.Gen.Reference4Ideal.Run
public import proofs.«01_k».proof.Proof.Pool.Final
/-! The projection's gradient in its tokens: each of the nine points multiplies 512 rows of the incoming gradient with the
whole transposed weight, so the array is the reference's product, entry by entry. -/

@[expose] public section

set_option maxRecDepth 16384

noncomputable section

namespace Cert.Proof.Lin.Tokens

open Cert.Kernel4Ideal Cert.Kernel4Ideal.Gen Cert.Kernel4Ideal.Value Idealize.ShloMosaic Idealize.ShloMosaic.TcCoe
open Idealize.ShloMosaic.Pointwise Idealize.ShloMosaic.StableHlo

/-- One tile's product, entry by entry. -/
theorem pay_at (a : Vec Ideal S512x3072 .bf16) (b : Vec Ideal S1024x3072 .bf16) (r : Fin 512) (j : Fin 1024) :
    k0_pay1 (F := Ideal) a b (ix2 r j) = ∑ l : Fin 3072, a (ix2 r l) * b (ix2 j l) := by
  pointwise [k0_pay1]

/-- Row `r` of point `n`. -/
def tk (n : ℕ) (r : Fin 512) : Fin 4608 := ⟨n % 9 * 512 + r.val, by omega⟩

theorem N9 (t : Fin cfg0.N) : t.val < 9 := t.isLt

/-- The windows' blocks at a point. -/
theorem idx0 : ∀ t : Fin cfg0.N, win0_0.index t (0 : Fin 2) = t.val ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = t.val ∧ win0_2.index t (1 : Fin 2) = 0 := by decide +kernel

section
variable {F : FTy → Type} [FloatOps F] (m : (ℓ : Loc nD τ sig) → Buf (Elt F) ℓ) (c : Dev nD)

/-- What the call finds in its two arrays. -/
theorem v_0 : V m c main_v0 = truncf .bf16 (m (c, Proc.devRef .tc main_arg2)) bitsLt_bf16_f32 := by
  unfold V hostOps0
  rfl
theorem v_1 : V m c main_v1 = truncf .bf16 (m (c, Proc.devRef .tc main_arg1)) bitsLt_bf16_f32 := by
  unfold V hostOps0
  rfl

end

section
variable (m : (ℓ : Loc nD τ sig) → Buf (Elt Ideal) ℓ) (c : Dev nD)

/-- The two blocks at a point. -/
theorem x0 (t : Fin cfg0.N) (r : Fin 512) (v : Fin 3072) :
    iblk m c 0 t (ix2 r v) = m (c, Proc.devRef .tc main_arg2) (ix2 (tk t.val r) v) := by
  obtain ⟨e0, e1⟩ := idx0 t
  have ht := N9 t
  refine Eq.trans (b := V m c main_v0 (ix2 (tk t.val r) v)) ?_ (by rw [v_0]; rfl)
  show V m c main_v0 (((cfg0.win 0).blk t).view.emb _) = _
  refine congrArg (V m c main_v0) ?_
  funext a; apply Fin.ext
  match a with
  | ⟨0, _⟩ => show win0_0.index t (0 : Fin 2) * 512 + 1 * r.val = (tk t.val r).val; rw [e0]; simp only [tk]; omega
  | ⟨1, _⟩ => show win0_0.index t (1 : Fin 2) * 3072 + 1 * v.val = v.val; rw [e1]; omega
theorem x1 (t : Fin cfg0.N) (r : Fin 1024) (v : Fin 3072) :
    iblk m c 1 t (ix2 r v) = m (c, Proc.devRef .tc main_arg1) (ix2 r v) := by
  obtain ⟨e0, e1⟩ := idx1 t
  refine Eq.trans (b := V m c main_v1 (ix2 r v)) ?_ (by rw [v_1]; rfl)
  show V m c main_v1 (((cfg0.win 1).blk t).view.emb _) = _
  refine congrArg (V m c main_v1) ?_
  funext a; apply Fin.ext
  match a with
  | ⟨0, _⟩ => show win0_1.index t (0 : Fin 2) * 1024 + 1 * r.val = r.val; rw [e0]; omega
  | ⟨1, _⟩ => show win0_1.index t (1 : Fin 2) * 3072 + 1 * v.val = v.val; rw [e1]; omega

/-- Where a point writes. -/
theorem emb2 (t : Fin cfg0.N) (r : Fin 512) (j : Fin 1024) : ((cfg0.win 2).blk t).view.emb (ix2 r j) = ix2 (tk t.val r) j := by
  obtain ⟨e0, e1⟩ := idx2 t
  have ht := N9 t
  funext a; apply Fin.ext
  match a with
  | ⟨0, _⟩ => show win0_2.index t (0 : Fin 2) * 512 + 1 * r.val = (tk t.val r).val; rw [e0]; simp only [tk]; omega
  | ⟨1, _⟩ => show win0_2.index t (1 : Fin 2) * 1024 + 1 * j.val = j.val; rw [e1]; omega

/-- A point's tile is the product of its two blocks. -/
theorem out_eq (a : Vec Ideal S512x3072 .bf16) (b : Vec Ideal S1024x3072 .bf16) : out0_2 a b = k0_pay1 (F := Ideal) a b := by
  unfold out0_2
  have hz : (![0, 0] : Fin 2 → ℕ) = fun _ => 0 := funext fun a => by fin_cases a <;> rfl
  rw [View.canon_unit_zero hz, View.ld_unit_zero hz, View.ld_unit_zero hz]

/-- The call's array is the reference's product. -/
theorem array (x2 : FVec Ideal S4608x3072 .f32) (x1' : FVec Ideal S1024x3072 .f32)
    (h2 : m (c, Proc.devRef .tc main_arg2) = x2) (h1 : m (c, Proc.devRef .tc main_arg1) = x1') :
    (dats m 0 c).arrAt 2 cfg0.N = Cert.Reference4Ideal.Read.val_main_v3 (F := Ideal) x1' x2 := by
  refine (dats m 0 c).arrAt_eq_of_cover 2 _ (fun t _ => ?_) (fun y => ?_)
  · rw [flushed2, out_eq]
    funext y
    obtain ⟨r, j, rfl⟩ : ∃ (r : Fin 512) (j : Fin 1024), y = ix2 r j := ⟨y 0, y 1, Pool.eta2 y⟩
    show k0_pay1 (F := Ideal) (iblk m c 0 t) (iblk m c 1 t) (ix2 r j) = Cert.Reference4Ideal.Read.val_main_v3 (F := Ideal) x1' x2 (((cfg0.win 2).blk t).view.emb (ix2 r j))
    rw [emb2, pay_at, Cert.Reference4Ideal.Read.val_main_v3_apply]
    refine Finset.sum_congr rfl fun l _ => ?_
    rw [x0, x1, h2, h1]
    exact congrArg₂ (· * ·) (congrArg x2 (Pool.eta2 _).symm) (congrArg x1' (Pool.eta2 _).symm)
  · have hy : (y 0).val < 4608 := (y 0).isLt
    let t : Fin cfg0.N := ⟨(y 0).val / 512, show _ < 9 by omega⟩
    refine ⟨t, flush0_2 _, ?_⟩
    · refine (congrArg (· ∈ _) ?_).mp (View.emb_mem_set _ (ix2 ⟨(y 0).val % 512, by omega⟩ (y 1)))
      refine (emb2 t _ _).trans ?_
      refine (congrArg (fun u => ix2 u (y 1)) (Fin.ext ?_)).trans (Pool.eta2 y).symm
      show (y 0).val / 512 % 9 * 512 + (y 0).val % 512 = (y 0).val; omega

end

/-- The kernel's array is the reference's result, whenever the arguments agree. -/
theorem algebraic : Cert.algebraic_Kernel4Ideal_Reference4Ideal := by
  intro m ρ m' ρ' _ hag
  refine ⟨fun c => Cert.Reference4Ideal.Read.val_main_v3 (F := Ideal) (m' ((c.tc : Thread _ _).loc Cert.Reference4Ideal.main_arg1)) (m' ((c.tc : Thread _ _).loc Cert.Reference4Ideal.main_arg2)), ?_, ?_⟩
  · exact (θ_run Cert.Kernel4Ideal.defs _ _).mono (fun _ h c => ⟨((h c).1).trans (array m c _ _ (hag c).2.2.symm (hag c).2.1.symm), (h c).2⟩)
      (Cert.Kernel4Ideal.Value.run_blocks (F := Ideal) m ρ)
  · exact (θ_run Cert.Reference4Ideal.defs _ _).mono (fun _ h c => ⟨((h c).1).trans (Cert.Reference4Ideal.Read.val_main_v3_eq _ _), (h c).2⟩)
      (Cert.Reference4Ideal.Value.run (F := Ideal) m' ρ')

end Cert.Proof.Lin.Tokens
-- ==== Proof.Lin.Sums.lean ====
module

public import proofs.«01_k».proof.Proof.Gen.Kernel5Ideal.Value
public import proofs.«01_k».proof.Proof.Pool.Final
/-! What the weight gradient's points leave in the sum kept between them and in the output block. -/

@[expose] public section

set_option maxRecDepth 16384

noncomputable section

namespace Cert.Proof.Lin.Weights

open Cert.Kernel5Ideal Cert.Kernel5Ideal.Gen Idealize.ShloMosaic Idealize.ShloMosaic.TcCoe
open Idealize.ShloMosaic.Pointwise Idealize.ShloMosaic.StableHlo

theorem hz2 : (![0, 0] : Fin 2 → ℕ) = fun _ => 0 := funext fun a => by fin_cases a <;> rfl

section
variable {F : FTy → Type} [FloatOps F]

/-- The sum after a first token tile: the tile's product added to zeros. -/
theorem sout_A (c : Dev nD) (i : grid0.Coords) (arg3 : Memref sig .tc .vmem S1536x1024 .bf16) (harg3 : arg3.IsWhole) (arg4 : Memref sig .tc .vmem S1536x768 .bf16) (harg4 : arg4.IsWhole) (arg5 : Memref sig .tc .vmem S2x1024x384 .bf16) (harg5 : arg5.IsWhole) (arg6 : Memref sig .tc .vmem S1024x768 .f32) (harg6 : arg6.IsWhole) (hc0 : cond0_0 i) (hc1 : ¬cond0_1 i)
    (x0 : Vec F S1536x1024 .bf16) (x1 : Vec F S1536x768 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread]
  rw [View.canon_cons_unit_zero hz2, View.readCov_unit_zero _ hz2, View.ld_unit_zero hz2, View.ld_unit_zero hz2]

/-- The sum after a middle token tile: the tile's product added to it. -/
theorem sout_B (c : Dev nD) (i : grid0.Coords) (arg3 : Memref sig .tc .vmem S1536x1024 .bf16) (harg3 : arg3.IsWhole) (arg4 : Memref sig .tc .vmem S1536x768 .bf16) (harg4 : arg4.IsWhole) (arg5 : Memref sig .tc .vmem S2x1024x384 .bf16) (harg5 : arg5.IsWhole) (arg6 : Memref sig .tc .vmem S1024x768 .f32) (harg6 : arg6.IsWhole) (hc0 : ¬cond0_0 i) (hc1 : ¬cond0_1 i)
    (x0 : Vec F S1536x1024 .bf16) (x1 : Vec F S1536x768 .bf16) (xs0 : Vec F S1024x768 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread]
  rw [View.canon_unit_zero hz2, View.ld_unit_zero hz2, View.ld_unit_zero hz2, View.ld_unit_zero hz2]

/-- The two halves of the sum's columns. -/
def half (k : Fin 2) (j : Fin 384) : Fin 768 := ⟨k.val * 384 + j.val, by omega⟩

theorem fill0 {sig' : RefSig} {κ : Kind} {sp : Space} (v : View sig' κ sp S1024x768 .f32) (Z : Vec F S1024x768 .f32) :
    v.readCov [⟨Rect.unit (s := S1024x768) ![0, 0] ![1024, 768] inb_S1024x768_S1024x768_0_0, Z⟩] (Rect.unit (s := S1024x768) ![0, 0] ![1024, 384] inb_S1024x768_S1024x384_0_0).toLoadRect
      = fun i => Z (ix2 (i 0) (half 0 (i 1))) := by
  refine (View.readCov_fill v _ Z [] (Rect.unit (s := S1024x768) ![0, 0] ![1024, 384] inb_S1024x768_S1024x384_0_0) (by decide)).trans ?_
  funext i; refine congrArg Z (funext fun a => Fin.ext ?_)
  match a with
  | ⟨0, _⟩ => show 0 + 1 * (i 0).val = (i 0).val; omega
  | ⟨1, _⟩ => show 0 + 1 * (i 1).val = 0 * 384 + (i 1).val; omega
theorem fill1 {sig' : RefSig} {κ : Kind} {sp : Space} (v : View sig' κ sp S1024x768 .f32) (Z : Vec F S1024x768 .f32) :
    v.readCov [⟨Rect.unit (s := S1024x768) ![0, 0] ![1024, 768] inb_S1024x768_S1024x768_0_0, Z⟩] (Rect.unit (s := S1024x768) ![0, 384] ![1024, 384] inb_S1024x768_S1024x384_0_384).toLoadRect
      = fun i => Z (ix2 (i 0) (half 1 (i 1))) := by
  refine (View.readCov_fill v _ Z [] (Rect.unit (s := S1024x768) ![0, 384] ![1024, 384] inb_S1024x768_S1024x384_0_384) (by decide)).trans ?_
  funext i; refine congrArg Z (funext fun a => Fin.ext ?_)
  match a with
  | ⟨0, _⟩ => show 0 + 1 * (i 0).val = (i 0).val; omega
  | ⟨1, _⟩ => show 384 + 1 * (i 1).val = 1 * 384 + (i 1).val; omega

/-- The output block after a last token tile: the finished sum's halves, one behind the other. -/
theorem out_C (c : Dev nD) (i : grid0.Coords) (arg3 : Memref sig .tc .vmem S1536x1024 .bf16) (harg3 : arg3.IsWhole) (arg4 : Memref sig .tc .vmem S1536x768 .bf16) (harg4 : arg4.IsWhole) (arg5 : Memref sig .tc .vmem S2x1024x384 .bf16) (harg5 : arg5.IsWhole) (arg6 : Memref sig .tc .vmem S1024x768 .f32) (harg6 : arg6.IsWhole) (hc0 : ¬cond0_0 i) (hc1 : cond0_1 i)
    (x0 : Vec F S1536x1024 .bf16) (x1 : Vec F S1536x768 .bf16) (xs0 : Vec F S1024x768 .f32) :
    out0_C_2 c i arg3 harg3 arg4 harg4 arg5 harg5 arg6 harg6 hc0 hc1 x0 x1 xs0
      = View.canon [⟨Rect.unit (s := S2x1024x384) ![1, 0, 0] ![1, 1024, 384] inb_S2x1024x384_S1x1024x384_1_0_0, k0_pay4 fun i => k0_pay2 xs0 x0 x1 (ix2 (i 0) (half 1 (i 1)))⟩,
          ⟨Rect.unit (s := S2x1024x384) ![0, 0, 0] ![1, 1024, 384] inb_S2x1024x384_S1x1024x384_0_0_0, k0_pay3 fun i => k0_pay2 xs0 x0 x1 (ix2 (i 0) (half 0 (i 1)))⟩] := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp only [fill0, fill1, View.readAt_eq_ld, harg3.read_unread, harg4.read_unread, harg5.read_unread, harg6.read_unread]
  rw [View.ld_unit_zero hz2, View.ld_unit_zero hz2, View.ld_unit_zero hz2]
  rfl

end

/-- The entries of what the points store. -/
theorem pay1_at (r : Fin 1024) (v : Fin 768) : k0_pay1 (F := Ideal) (ix2 r v) = (0 : EReal) := by
  pointwise [k0_pay1]
theorem pay2_at (s : Vec Ideal S1024x768 .f32) (a : Vec Ideal S1536x1024 .bf16) (b : Vec Ideal S1536x768 .bf16) (r : Fin 1024) (v : Fin 768) :
    k0_pay2 (F := Ideal) s a b (ix2 r v) = s (ix2 r v) + ∑ l : Fin 1536, a (ix2 l r) * b (ix2 l v) := by
  pointwise [k0_pay2]
theorem pay3_at (s : Vec Ideal S1024x384 .f32) (r : Fin 1024) (j : Fin 384) : k0_pay3 (F := Ideal) s (ix3 0 r j) = s (ix2 r j) := by
  pointwise [k0_pay3]
theorem pay4_at (s : Vec Ideal S1024x384 .f32) (r : Fin 1024) (j : Fin 384) : k0_pay4 (F := Ideal) s (ix3 0 r j) = s (ix2 r j) := by
  pointwise [k0_pay4]

/-- The stored block, entry by entry. -/
theorem block_at (Y : Vec Ideal S1024x768 .f32) (k : Fin 2) (r : Fin 1024) (j : Fin 384) :
    View.canon (Val := Elt Ideal) [⟨Rect.unit (s := S2x1024x384) ![1, 0, 0] ![1, 1024, 384] inb_S2x1024x384_S1x1024x384_1_0_0, k0_pay4 (F := Ideal) fun i => Y (ix2 (i 0) (half 1 (i 1)))⟩,
          ⟨Rect.unit (s := S2x1024x384) ![0, 0, 0] ![1, 1024, 384] inb_S2x1024x384_S1x1024x384_0_0_0, k0_pay3 (F := Ideal) fun i => Y (ix2 (i 0) (half 0 (i 1)))⟩] (ix3 k r j)
      = Y (ix2 r (half k j)) := by
  have em : ∀ (off : Fin 3 → ℕ) (inb) (k : Fin 2), off = ![k.val, 0, 0] →
      ix3 k r j = (Rect.unit (s := S2x1024x384) off ![1, 1024, 384] inb).emb (ix3 (0 : Fin 1) r j) := by
    rintro off inb k rfl
    funext a; apply Fin.ext
    match a with
    | ⟨0, _⟩ => show k.val = k.val + 1 * 0; omega
    | ⟨1, _⟩ => show r.val = 0 + 1 * r.val; omega
    | ⟨2, _⟩ => show j.val = 0 + 1 * j.val; omega
  match k with
  | 0 =>
    rw [View.canon_cons_of_not_mem]
    · rw [em ![0, 0, 0] inb_S2x1024x384_S1x1024x384_0_0_0 0 rfl]
      exact (View.canon_cons_emb _ _ _ _).trans (pay3_at _ r j)
    · rw [Rect.mem_set_unit]
      intro h
      exact absurd (h 0).1 (by show ¬ 1 ≤ 0; decide)
  | 1 =>
    rw [em ![1, 0, 0] inb_S2x1024x384_S1x1024x384_1_0_0 1 rfl]
    exact (View.canon_cons_emb _ _ _ _).trans (pay4_at _ r j)

end Cert.Proof.Lin.Weights
-- ==== Proof.Lin.Weights.lean ====
module

public import proofs.«01_k».proof.Defs
public import proofs.«01_k».proof.Proof.Gen.Reference5Ideal.Read
public import proofs.«01_k».proof.Proof.Gen.Reference5Ideal.Run
public import proofs.«01_k».proof.Proof.Lin.Sums
/-! The projection's gradient in its weight: for each of four column tiles the sum over three token tiles, written as two of
the eight column blocks, so the array is the reference's, entry by entry. -/

@[expose] public section

set_option maxRecDepth 16384

noncomputable section

namespace Cert.Proof.Lin.Weights

open Cert.Kernel5Ideal Cert.Kernel5Ideal.Gen Cert.Kernel5Ideal.Value Idealize.ShloMosaic Idealize.ShloMosaic.TcCoe
open Idealize.ShloMosaic.Pointwise Idealize.ShloMosaic.StableHlo

/-- Row `s` of token tile `q`, column `v` of column tile `p`, and the block `k` of column tile `p`. -/
def tk (q : ℕ) (s : Fin 1536) : Fin 4608 := ⟨q % 3 * 1536 + s.val, by omega⟩
def cl (p : ℕ) (v : Fin 768) : Fin 3072 := ⟨p % 4 * 768 + v.val, by omega⟩
def bk (p : ℕ) (k : Fin 2) : Fin 8 := ⟨p % 4 * 2 + k.val, by omega⟩

/-- The tiles' rows are all rows. -/
theorem sum_tiles (f : Fin 4608 → EReal) : ∑ q ∈ Finset.range 3, ∑ s : Fin 1536, f (tk q s) = ∑ R, f R := by
  rw [Finset.sum_range fun q => ∑ s : Fin 1536, f (tk q s), ← Fintype.sum_prod_type']
  refine Fintype.sum_equiv finProdFinEquiv _ _ fun x => congrArg f (Fin.ext ?_)
  have h := x.1.isLt
  show x.1.val % 3 * 1536 + x.2.val = x.2.val + 1536 * x.1.val
  omega

theorem N12 (t : Fin cfg0.N) : t.val < 12 := t.isLt

/-- The windows' blocks at a point. -/
theorem idx0 : ∀ t : Fin cfg0.N, win0_0.index t (0 : Fin 2) = t.val % 3 ∧ win0_0.index t (1 : Fin 2) = 0 := by decide +kernel
theorem idx1 : ∀ t : Fin cfg0.N, win0_1.index t (0 : Fin 2) = t.val % 3 ∧ win0_1.index t (1 : Fin 2) = t.val / 3 := by decide +kernel
theorem idx2 : ∀ t : Fin cfg0.N, win0_2.index t (0 : Fin 3) = t.val / 3 ∧ win0_2.index t (1 : Fin 3) = 0 ∧ win0_2.index t (2 : Fin 3) = 0 := by decide +kernel

section
variable {F : FTy → Type} [FloatOps F] (m : (ℓ : Loc nD τ sig) → Buf (Elt F) ℓ) (c : Dev nD)

/-- What the call finds in its two arrays. -/
theorem v_0 : V m c main_v0 = truncf .bf16 (m (c, Proc.devRef .tc main_arg0)) bitsLt_bf16_f32 := by
  unfold V hostOps0
  rfl
theorem v_1 : V m c main_v1 = truncf .bf16 (m (c, Proc.devRef .tc main_arg2)) bitsLt_bf16_f32 := by
  unfold V hostOps0
  rfl

end

section
variable (m : (ℓ : Loc nD τ sig) → Buf (Elt Ideal) ℓ) (c : Dev nD)

/-- The two blocks at a point. -/
theorem x0 (t : Fin cfg0.N) (r : Fin 1536) (v : Fin 1024) :
    iblk m c 0 t (ix2 r v) = m (c, Proc.devRef .tc main_arg0) (ix2 (tk t.val r) v) := by
  obtain ⟨e0, e1⟩ := idx0 t
  refine Eq.trans (b := V m c main_v0 (ix2 (tk t.val r) v)) ?_ (by rw [v_0]; rfl)
  show V m c main_v0 (((cfg0.win 0).blk t).view.emb _) = _
  refine congrArg (V m c main_v0) ?_
  funext a; apply Fin.ext
  match a with
  | ⟨0, _⟩ => show win0_0.index t (0 : Fin 2) * 1536 + 1 * r.val = (tk t.val r).val; rw [e0]; simp only [tk]; omega
  | ⟨1, _⟩ => show win0_0.index t (1 : Fin 2) * 1024 + 1 * v.val = v.val; rw [e1]; omega
theorem x1 (t : Fin cfg0.N) (r : Fin 1536) (v : Fin 768) :
    iblk m c 1 t (ix2 r v) = m (c, Proc.devRef .tc main_arg2) (ix2 (tk t.val r) (cl (t.val / 3) v)) := by
  obtain ⟨e0, e1⟩ := idx1 t
  have ht := N12 t
  refine Eq.trans (b := V m c main_v1 (ix2 (tk t.val r) (cl (t.val / 3) v))) ?_ (by rw [v_1]; rfl)
  show V m c main_v1 (((cfg0.win 1).blk t).view.emb _) = _
  refine congrArg (V m c main_v1) ?_
  funext a; apply Fin.ext
  match a with
  | ⟨0, _⟩ => show win0_1.index t (0 : Fin 2) * 1536 + 1 * r.val = (tk t.val r).val; rw [e0]; simp only [tk]; omega
  | ⟨1, _⟩ => show win0_1.index t (1 : Fin 2) * 768 + 1 * v.val = (cl (t.val / 3) v).val; rw [e1]; simp only [cl]; omega

/-- Where a point writes. -/
theorem emb2 (t : Fin cfg0.N) (k : Fin 2) (r : Fin 1024) (j : Fin 384) :
    ((cfg0.win 2).blk t).view.emb (ix3 k r j) = ix3 (bk (t.val / 3) k) r j := by
  obtain ⟨e0, e1, e2⟩ := idx2 t
  have ht := N12 t
  funext a; apply Fin.ext
  match a with
  | ⟨0, _⟩ => show win0_2.index t (0 : Fin 3) * 2 + 1 * k.val = (bk (t.val / 3) k).val; rw [e0]; simp only [bk]; omega
  | ⟨1, _⟩ => show win0_2.index t (1 : Fin 3) * 1024 + 1 * r.val = r.val; rw [e1]; omega
  | ⟨2, _⟩ => show win0_2.index t (2 : Fin 3) * 384 + 1 * j.val = j.val; rw [e2]; omega

variable (h : FVec Ideal S4608x1024 .f32) (g : FVec Ideal S4608x3072 .f32)

/-- What token tile `q` adds. -/
def part (q : ℕ) (r : Fin 1024) (w : Fin 3072) : EReal := ∑ s : Fin 1536, h (ix2 (tk q s) r) * g (ix2 (tk q s) w)

variable (hh : m (c, Proc.devRef .tc main_arg0) = h) (hg : m (c, Proc.devRef .tc main_arg2) = g)
include hh hg

/-- A point's product is its token tile's part. -/
theorem point_part (t : Fin cfg0.N) (r : Fin 1024) (v : Fin 768) (q : ℕ) (hq : t.val % 3 = q)
    (a : Vec Ideal S1536x1024 .bf16) (b : Vec Ideal S1536x768 .bf16) (ha : a = iblk m c 0 t) (hb : b = iblk m c 1 t) :
    ∑ l : Fin 1536, a (ix2 l r) * b (ix2 l v) = part h g q r (cl (t.val / 3) v) := by
  subst hq
  refine Finset.sum_congr rfl fun l _ => ?_
  have e : tk (t.val % 3) l = tk t.val l := Fin.ext (by simp only [tk]; omega)
  rw [ha, hb, x0, x1, hh, hg, e]

/-- The sum after a first token tile, and after the second. -/
theorem sum_first (t : Fin cfg0.N) (h0 : t.val % 3 = 0) (r : Fin 1024) (v : Fin 768) :
    (outsAt0 m c t.val t.isLt).2 (ix2 r v) = part h g 0 r (cl (t.val / 3) v) := by
  have e : (outsAt0 m c t.val t.isLt).2 = k0_pay2 (k0_pay1 (F := Ideal)) (iblk m c 0 t) (iblk m c 1 t) := by
    simp only [outsAt0_A m c t h0 (by omega)]
    exact sout_A ..
  rw [e, pay2_at, pay1_at, zero_add]
  exact point_part m c h g hh hg t r v 0 h0 _ _ rfl rfl
theorem sum_second (t : Fin cfg0.N) (h0 : t.val % 3 = 1) (r : Fin 1024) (v : Fin 768) :
    (outsAt0 m c t.val t.isLt).2 (ix2 r v) = part h g 0 r (cl (t.val / 3) v) + part h g 1 r (cl (t.val / 3) v) := by
  have ht := N12 t
  have e : (outsAt0 m c t.val t.isLt).2 = k0_pay2 (outsAt0 m c (t.val - 1) (Nat.lt_of_le_of_lt (Nat.sub_le _ _) t.isLt)).2 (iblk m c 0 t) (iblk m c 1 t) := by
    simp only [outsAt0_B m c t (by omega) (by omega)]
    exact sout_B ..
  have d : (t.val - 1) / 3 = t.val / 3 := by omega
  have p := sum_first m c h g hh hg ⟨t.val - 1, by omega⟩ (by show (t.val - 1) % 3 = 0; omega) r v
  rw [e, pay2_at, p, point_part m c h g hh hg t r v 1 h0 _ _ rfl rfl, d]

/-- The output block after a last token tile: all three parts. -/
theorem block_last (t : Fin cfg0.N) (h0 : t.val % 3 = 2) (k : Fin 2) (r : Fin 1024) (j : Fin 384) :
    (outsAt0 m c t.val t.isLt).1 (ix3 k r j) = ∑ R : Fin 4608, h (ix2 R r) * g (ix2 R (cl (t.val / 3) (half k j))) := by
  have ht := N12 t
  have e := block_at (k0_pay2 (F := Ideal) (outsAt0 m c (t.val - 1) (Nat.lt_of_le_of_lt (Nat.sub_le _ _) t.isLt)).2 (iblk m c 0 t) (iblk m c 1 t)) k r j
  have e' : (outsAt0 m c t.val t.isLt).1 (ix3 k r j) = k0_pay2 (F := Ideal) (outsAt0 m c (t.val - 1) (Nat.lt_of_le_of_lt (Nat.sub_le _ _) t.isLt)).2 (iblk m c 0 t) (iblk m c 1 t) (ix2 r (half k j)) := by
    simp only [outsAt0_C m c t (by omega) h0]
    exact (congrFun (out_C ..) _).trans e
  have d : (t.val - 1) / 3 = t.val / 3 := by omega
  have p := sum_second m c h g hh hg ⟨t.val - 1, by omega⟩ (by show (t.val - 1) % 3 = 1; omega) r (half k j)
  rw [e', pay2_at, p, point_part m c h g hh hg t r (half k j) 2 h0 _ _ rfl rfl, d,
    ← sum_tiles fun R => h (ix2 R r) * g (ix2 R (cl (t.val / 3) (half k j))), Finset.sum_range_succ, Finset.sum_range_succ, Finset.sum_range_one]
  rfl

omit hh hg in
/-- An entry of the reference's result. -/
theorem ref_at (p : ℕ) (k : Fin 2) (r : Fin 1024) (j : Fin 384) :
    Cert.Reference5Ideal.Read.val_main_v6 (F := Ideal) h g (ix3 (bk p k) r j) = ∑ R : Fin 4608, h (ix2 R r) * g (ix2 R (cl p (half k j))) := by
  refine Eq.trans (b := Cert.Reference5Ideal.Read.val_main_v5 (F := Ideal) h g (ix3 (bk p k) r j)) rfl ?_
  rw [Cert.Reference5Ideal.Read.val_main_v5_apply, Cert.Reference5Ideal.Read.val_main_v4_apply, Cert.Reference5Ideal.Read.val_main_v2_apply,
    Cert.Reference5Ideal.Read.val_main_v1_apply]
  refine Finset.sum_congr rfl fun R _ => ?_
  rw [mul_comm]
  have hr := r.isLt
  have hj := j.isLt
  refine congrArg₂ (· * ·) (congrArg h ?_) (congrArg g ?_)
  · funext a; apply Fin.ext
    match a with
    | ⟨0, _⟩ => rfl
    | ⟨1, _⟩ => show ((r.val * 8 + (bk p k).val) * 384 + j.val) / 3072 = r.val; simp only [bk]; omega
  · funext a; apply Fin.ext
    match a with
    | ⟨0, _⟩ => rfl
    | ⟨1, _⟩ => show ((r.val * 8 + (bk p k).val) * 384 + j.val) % 3072 = (cl p (half k j)).val; simp only [bk, cl, half]; omega

/-- The call's array is the reference's result. -/
theorem array : (dats m 0 c).arrAt 2 cfg0.N = Cert.Reference5Ideal.Read.val_main_v6 (F := Ideal) h g := by
  refine (dats m 0 c).arrAt_eq_of_cover 2 _ (fun t hf => ?_) (fun y => ?_)
  · rw [flushed2]
    funext y
    obtain ⟨k, r, j, rfl⟩ : ∃ (k : Fin 2) (r : Fin 1024) (j : Fin 384), y = ix3 k r j := ⟨y 0, y 1, y 2, Pool.eta3 y⟩
    show (outsAt0 m c t.val t.isLt).1 (ix3 k r j) = Cert.Reference5Ideal.Read.val_main_v6 (F := Ideal) h g (((cfg0.win 2).blk t).view.emb (ix3 k r j))
    rw [emb2, ref_at]
    exact block_last m c h g hh hg t ((flush0_2 t).mp hf) k r j
  · have hy : (y 0).val < 8 := (y 0).isLt
    let t : Fin cfg0.N := ⟨(y 0).val / 2 * 3 + 2, show _ < 12 by omega⟩
    refine ⟨t, (flush0_2 t).mpr (show ((y 0).val / 2 * 3 + 2) % 3 = 2 by omega), ?_⟩
    refine (congrArg (· ∈ _) ?_).mp (View.emb_mem_set _ (ix3 ⟨(y 0).val % 2, by omega⟩ (y 1) (y 2)))
    refine (emb2 t _ _ _).trans ((congrArg (fun u => ix3 u (y 1) (y 2)) (Fin.ext ?_)).trans (Pool.eta3 y).symm)
    show ((y 0).val / 2 * 3 + 2) / 3 % 4 * 2 + (y 0).val % 2 = (y 0).val; omega

end

/-- The kernel's array is the reference's result, whenever the arguments agree. -/
theorem algebraic : Cert.algebraic_Kernel5Ideal_Reference5Ideal := by
  intro m ρ m' ρ' _ hag
  refine ⟨fun c => Cert.Reference5Ideal.Read.val_main_v6 (F := Ideal) (m' ((c.tc : Thread _ _).loc Cert.Reference5Ideal.main_arg0)) (m' ((c.tc : Thread _ _).loc Cert.Reference5Ideal.main_arg2)), ?_, ?_⟩
  · exact (θ_run Cert.Kernel5Ideal.defs _ _).mono (fun _ h c => ⟨((h c).1).trans (array m c _ _ (hag c).1.symm (hag c).2.2.symm), (h c).2⟩)
      (Cert.Kernel5Ideal.Value.run_blocks (F := Ideal) m ρ)
  · exact (θ_run Cert.Reference5Ideal.defs _ _).mono (fun _ h c => ⟨((h c).1).trans (Cert.Reference5Ideal.Read.val_main_v6_eq _ _), (h c).2⟩)
      (Cert.Reference5Ideal.Value.run (F := Ideal) m' ρ')

end Cert.Proof.Lin.Weights
-- ==== Proof.Lin.ChunkProduct.lean ====
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import proofs.«01_k».proof.Proof.Pool.Final
/-! The chunk mixer's projection: a grid of three column tiles by four row tiles, each point the product of 1024 rows of the tokens
with 1024 columns of the weight, so the array is the reference's product, entry by entry. -/

@[expose] public section

set_option maxRecDepth 16384

noncomputable section

namespace Cert.Proof.Lin.ChunkProduct

open Cert.Kernel8Ideal Cert.Kernel8Ideal.Gen Cert.Kernel8Ideal.Value Idealize.ShloMosaic Idealize.ShloMosaic.TcCoe
open Idealize.ShloMosaic.Pointwise Idealize.ShloMosaic.StableHlo

/-- One tile's product, entry by entry. -/
theorem pay_at (a : Vec Ideal S1024x1024 .bf16) (b : Vec Ideal S1024x1024 .bf16) (r : Fin 1024) (j : Fin 1024) :
    k0_pay1 (F := Ideal) a b (ix2 r j) = ∑ l : Fin 1024, a (ix2 r l) * b (ix2 l j) := by
  pointwise [k0_pay1]

/-- Row `r` and column `j` of the tile of point `n`. -/
def tk (n : ℕ) (r : Fin 1024) : Fin 4096 := ⟨n % 4 * 1024 + r.val, by omega⟩
def cl (n : ℕ) (j : Fin 1024) : Fin 3072 := ⟨n / 4 % 3 * 1024 + j.val, by omega⟩

theorem N12 (t : Fin cfg0.N) : t.val < 12 := t.isLt

/-- The windows' blocks at a point. -/
theorem idx0 : ∀ t : Fin cfg0.N, win0_0.index t (0 : Fin 2) = t.val % 4 ∧ win0_0.index t (1 : Fin 2) = 0 := by decide +kernel
theorem idx1 : ∀ t : Fin cfg0.N, win0_1.index t (0 : Fin 2) = 0 ∧ win0_1.index t (1 : Fin 2) = t.val / 4 := by decide +kernel
theorem idx2 : ∀ t : Fin cfg0.N, win0_2.index t (0 : Fin 2) = t.val % 4 ∧ win0_2.index t (1 : Fin 2) = t.val / 4 := by decide +kernel

section
variable {F : FTy → Type} [FloatOps F] (m : (ℓ : Loc nD τ sig) → Buf (Elt F) ℓ) (c : Dev nD)

/-- What the call finds in its two arrays. -/
theorem v_0 : V m c main_v0 = truncf .bf16 (m (c, Proc.devRef .tc main_arg0)) bitsLt_bf16_f32 := by
  unfold V hostOps0
  rfl
theorem v_1 : V m c main_v1 = truncf .bf16 (m (c, Proc.devRef .tc main_arg1)) bitsLt_bf16_f32 := by
  unfold V hostOps0
  rfl

end

section
variable (m : (ℓ : Loc nD τ sig) → Buf (Elt Ideal) ℓ) (c : Dev nD)

/-- The two blocks at a point. -/
theorem x0 (t : Fin cfg0.N) (r : Fin 1024) (v : Fin 1024) :
    iblk m c 0 t (ix2 r v) = m (c, Proc.devRef .tc main_arg0) (ix2 (tk t.val r) v) := by
  obtain ⟨e0, e1⟩ := idx0 t
  refine Eq.trans (b := V m c main_v0 (ix2 (tk t.val r) v)) ?_ (by rw [v_0]; rfl)
  show V m c main_v0 (((cfg0.win 0).blk t).view.emb _) = _
  refine congrArg (V m c main_v0) ?_
  funext a; apply Fin.ext
  match a with
  | ⟨0, _⟩ => show win0_0.index t (0 : Fin 2) * 1024 + 1 * r.val = (tk t.val r).val; rw [e0]; simp only [tk]; omega
  | ⟨1, _⟩ => show win0_0.index t (1 : Fin 2) * 1024 + 1 * v.val = v.val; rw [e1]; omega
theorem x1 (t : Fin cfg0.N) (r v : Fin 1024) :
    iblk m c 1 t (ix2 r v) = m (c, Proc.devRef .tc main_arg1) (ix2 r (cl t.val v)) := by
  obtain ⟨e0, e1⟩ := idx1 t
  have ht := N12 t
  refine Eq.trans (b := V m c main_v1 (ix2 r (cl t.val v))) ?_ (by rw [v_1]; rfl)
  show V m c main_v1 (((cfg0.win 1).blk t).view.emb _) = _
  refine congrArg (V m c main_v1) ?_
  funext a; apply Fin.ext
  match a with
  | ⟨0, _⟩ => show win0_1.index t (0 : Fin 2) * 1024 + 1 * r.val = r.val; rw [e0]; omega
  | ⟨1, _⟩ => show win0_1.index t (1 : Fin 2) * 1024 + 1 * v.val = (cl t.val v).val; rw [e1]; simp only [cl]; omega

/-- Where a point writes. -/
theorem emb2 (t : Fin cfg0.N) (r : Fin 1024) (j : Fin 1024) :
    ((cfg0.win 2).blk t).view.emb (ix2 r j) = ix2 (tk t.val r) (cl t.val j) := by
  obtain ⟨e0, e1⟩ := idx2 t
  have ht := N12 t
  funext a; apply Fin.ext
  match a with
  | ⟨0, _⟩ => show win0_2.index t (0 : Fin 2) * 1024 + 1 * r.val = (tk t.val r).val; rw [e0]; simp only [tk]; omega
  | ⟨1, _⟩ => show win0_2.index t (1 : Fin 2) * 1024 + 1 * j.val = (cl t.val j).val; rw [e1]; simp only [cl]; omega

/-- A point's tile is the product of its two blocks. -/
theorem out_eq (a : Vec Ideal S1024x1024 .bf16) (b : Vec Ideal S1024x1024 .bf16) : out0_2 a b = k0_pay1 (F := Ideal) a b := by
  unfold out0_2
  have hz : (![0, 0] : Fin 2 → ℕ) = fun _ => 0 := funext fun a => by fin_cases a <;> rfl
  rw [View.canon_unit_zero hz, View.ld_unit_zero hz, View.ld_unit_zero hz]

/-- The call's array is the reference's product. -/
theorem array (x0' : FVec Ideal S4096x1024 .f32) (x1' : FVec Ideal S1024x3072 .f32)
    (h0 : m (c, Proc.devRef .tc main_arg0) = x0') (h1 : m (c, Proc.devRef .tc main_arg1) = x1') :
    (dats m 0 c).arrAt 2 cfg0.N = Cert.Reference8Ideal.Read.val_main_v0 (F := Ideal) x0' x1' := by
  refine (dats m 0 c).arrAt_eq_of_cover 2 _ (fun t _ => ?_) (fun y => ?_)
  · rw [flushed2, out_eq]
    funext y
    obtain ⟨r, j, rfl⟩ : ∃ (r : Fin 1024) (j : Fin 1024), y = ix2 r j := ⟨y 0, y 1, Pool.eta2 y⟩
    show k0_pay1 (F := Ideal) (iblk m c 0 t) (iblk m c 1 t) (ix2 r j) = Cert.Reference8Ideal.Read.val_main_v0 (F := Ideal) x0' x1' (((cfg0.win 2).blk t).view.emb (ix2 r j))
    rw [emb2, pay_at, Cert.Reference8Ideal.Read.val_main_v0_apply]
    refine Finset.sum_congr rfl fun l _ => ?_
    rw [x0, x1, h0, h1]
    exact congrArg₂ (· * ·) (congrArg x0' (Pool.eta2 _).symm) (congrArg x1' (Pool.eta2 _).symm)
  · have hy : (y 0).val < 4096 := (y 0).isLt
    have hz : (y 1).val < 3072 := (y 1).isLt
    let t : Fin cfg0.N := ⟨(y 1).val / 1024 * 4 + (y 0).val / 1024, show _ < 12 by omega⟩
    refine ⟨t, flush0_2 _, ?_⟩
    refine (congrArg (· ∈ _) ?_).mp (View.emb_mem_set _ (ix2 ⟨(y 0).val % 1024, by omega⟩ ⟨(y 1).val % 1024, by omega⟩))
    refine (emb2 t _ _).trans ((congrArg₂ ix2 (Fin.ext ?_) (Fin.ext ?_)).trans (Pool.eta2 y).symm)
    · show ((y 1).val / 1024 * 4 + (y 0).val / 1024) % 4 * 1024 + (y 0).val % 1024 = (y 0).val; omega
    · show ((y 1).val / 1024 * 4 + (y 0).val / 1024) / 4 % 3 * 1024 + (y 1).val % 1024 = (y 1).val; omega

end

/-- The kernel's array is the reference's result, whenever the arguments agree. -/
theorem algebraic : Cert.algebraic_Kernel8Ideal_Reference8Ideal := by
  intro m ρ m' ρ' _ hag
  refine ⟨fun c => Cert.Reference8Ideal.Read.val_main_v0 (F := Ideal) (m' ((c.tc : Thread _ _).loc Cert.Reference8Ideal.main_arg0)) (m' ((c.tc : Thread _ _).loc Cert.Reference8Ideal.main_arg1)), ?_, ?_⟩
  · exact (θ_run Cert.Kernel8Ideal.defs _ _).mono (fun _ h c => ⟨((h c).1).trans (array m c _ _ (hag c).1.symm (hag c).2.symm), (h c).2⟩)
      (Cert.Kernel8Ideal.Value.run_blocks (F := Ideal) m ρ)
  · exact (θ_run Cert.Reference8Ideal.defs _ _).mono (fun _ h c => ⟨((h c).1).trans (Cert.Reference8Ideal.Read.val_main_v0_eq _ _), (h c).2⟩)
      (Cert.Reference8Ideal.Value.run (F := Ideal) m' ρ')

end Cert.Proof.Lin.ChunkProduct
-- ==== Proof.Lin.ChunkTokens.lean ====
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import proofs.«01_k».proof.Proof.Pool.Final
/-! The same gradient for the chunk mixer's projection, over latent tokens alone: each of the eight points multiplies 512 rows of the incoming gradient with the
whole transposed weight, so the array is the reference's product, entry by entry. -/

@[expose] public section

set_option maxRecDepth 16384

noncomputable section

namespace Cert.Proof.Lin.ChunkTokens

open Cert.Kernel7Ideal Cert.Kernel7Ideal.Gen Cert.Kernel7Ideal.Value Idealize.ShloMosaic Idealize.ShloMosaic.TcCoe
open Idealize.ShloMosaic.Pointwise Idealize.ShloMosaic.StableHlo

/-- One tile's product, entry by entry. -/
theorem pay_at (a : Vec Ideal S512x3072 .bf16) (b : Vec Ideal S1024x3072 .bf16) (r : Fin 512) (j : Fin 1024) :
    k0_pay1 (F := Ideal) a b (ix2 r j) = ∑ l : Fin 3072, a (ix2 r l) * b (ix2 j l) := by
  pointwise [k0_pay1]

/-- Row `r` of point `n`. -/
def tk (n : ℕ) (r : Fin 512) : Fin 4096 := ⟨n % 8 * 512 + r.val, by omega⟩

theorem N8 (t : Fin cfg0.N) : t.val < 8 := t.isLt

/-- The windows' blocks at a point. -/
theorem idx0 : ∀ t : Fin cfg0.N, win0_0.index t (0 : Fin 2) = t.val ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = t.val ∧ win0_2.index t (1 : Fin 2) = 0 := by decide +kernel

section
variable {F : FTy → Type} [FloatOps F] (m : (ℓ : Loc nD τ sig) → Buf (Elt F) ℓ) (c : Dev nD)

/-- What the call finds in its two arrays. -/
theorem v_0 : V m c main_v0 = truncf .bf16 (m (c, Proc.devRef .tc main_arg2)) bitsLt_bf16_f32 := by
  unfold V hostOps0
  rfl
theorem v_1 : V m c main_v1 = truncf .bf16 (m (c, Proc.devRef .tc main_arg1)) bitsLt_bf16_f32 := by
  unfold V hostOps0
  rfl

end

section
variable (m : (ℓ : Loc nD τ sig) → Buf (Elt Ideal) ℓ) (c : Dev nD)

/-- The two blocks at a point. -/
theorem x0 (t : Fin cfg0.N) (r : Fin 512) (v : Fin 3072) :
    iblk m c 0 t (ix2 r v) = m (c, Proc.devRef .tc main_arg2) (ix2 (tk t.val r) v) := by
  obtain ⟨e0, e1⟩ := idx0 t
  have ht := N8 t
  refine Eq.trans (b := V m c main_v0 (ix2 (tk t.val r) v)) ?_ (by rw [v_0]; rfl)
  show V m c main_v0 (((cfg0.win 0).blk t).view.emb _) = _
  refine congrArg (V m c main_v0) ?_
  funext a; apply Fin.ext
  match a with
  | ⟨0, _⟩ => show win0_0.index t (0 : Fin 2) * 512 + 1 * r.val = (tk t.val r).val; rw [e0]; simp only [tk]; omega
  | ⟨1, _⟩ => show win0_0.index t (1 : Fin 2) * 3072 + 1 * v.val = v.val; rw [e1]; omega
theorem x1 (t : Fin cfg0.N) (r : Fin 1024) (v : Fin 3072) :
    iblk m c 1 t (ix2 r v) = m (c, Proc.devRef .tc main_arg1) (ix2 r v) := by
  obtain ⟨e0, e1⟩ := idx1 t
  refine Eq.trans (b := V m c main_v1 (ix2 r v)) ?_ (by rw [v_1]; rfl)
  show V m c main_v1 (((cfg0.win 1).blk t).view.emb _) = _
  refine congrArg (V m c main_v1) ?_
  funext a; apply Fin.ext
  match a with
  | ⟨0, _⟩ => show win0_1.index t (0 : Fin 2) * 1024 + 1 * r.val = r.val; rw [e0]; omega
  | ⟨1, _⟩ => show win0_1.index t (1 : Fin 2) * 3072 + 1 * v.val = v.val; rw [e1]; omega

/-- Where a point writes. -/
theorem emb2 (t : Fin cfg0.N) (r : Fin 512) (j : Fin 1024) : ((cfg0.win 2).blk t).view.emb (ix2 r j) = ix2 (tk t.val r) j := by
  obtain ⟨e0, e1⟩ := idx2 t
  have ht := N8 t
  funext a; apply Fin.ext
  match a with
  | ⟨0, _⟩ => show win0_2.index t (0 : Fin 2) * 512 + 1 * r.val = (tk t.val r).val; rw [e0]; simp only [tk]; omega
  | ⟨1, _⟩ => show win0_2.index t (1 : Fin 2) * 1024 + 1 * j.val = j.val; rw [e1]; omega

/-- A point's tile is the product of its two blocks. -/
theorem out_eq (a : Vec Ideal S512x3072 .bf16) (b : Vec Ideal S1024x3072 .bf16) : out0_2 a b = k0_pay1 (F := Ideal) a b := by
  unfold out0_2
  have hz : (![0, 0] : Fin 2 → ℕ) = fun _ => 0 := funext fun a => by fin_cases a <;> rfl
  rw [View.canon_unit_zero hz, View.ld_unit_zero hz, View.ld_unit_zero hz]

/-- The call's array is the reference's product. -/
theorem array (x2 : FVec Ideal S4096x3072 .f32) (x1' : FVec Ideal S1024x3072 .f32)
    (h2 : m (c, Proc.devRef .tc main_arg2) = x2) (h1 : m (c, Proc.devRef .tc main_arg1) = x1') :
    (dats m 0 c).arrAt 2 cfg0.N = Cert.Reference7Ideal.Read.val_main_v3 (F := Ideal) x1' x2 := by
  refine (dats m 0 c).arrAt_eq_of_cover 2 _ (fun t _ => ?_) (fun y => ?_)
  · rw [flushed2, out_eq]
    funext y
    obtain ⟨r, j, rfl⟩ : ∃ (r : Fin 512) (j : Fin 1024), y = ix2 r j := ⟨y 0, y 1, Pool.eta2 y⟩
    show k0_pay1 (F := Ideal) (iblk m c 0 t) (iblk m c 1 t) (ix2 r j) = Cert.Reference7Ideal.Read.val_main_v3 (F := Ideal) x1' x2 (((cfg0.win 2).blk t).view.emb (ix2 r j))
    rw [emb2, pay_at, Cert.Reference7Ideal.Read.val_main_v3_apply]
    refine Finset.sum_congr rfl fun l _ => ?_
    rw [x0, x1, h2, h1]
    exact congrArg₂ (· * ·) (congrArg x2 (Pool.eta2 _).symm) (congrArg x1' (Pool.eta2 _).symm)
  · have hy : (y 0).val < 4096 := (y 0).isLt
    let t : Fin cfg0.N := ⟨(y 0).val / 512, show _ < 8 by omega⟩
    refine ⟨t, flush0_2 _, ?_⟩
    · refine (congrArg (· ∈ _) ?_).mp (View.emb_mem_set _ (ix2 ⟨(y 0).val % 512, by omega⟩ (y 1)))
      refine (emb2 t _ _).trans ?_
      refine (congrArg (fun u => ix2 u (y 1)) (Fin.ext ?_)).trans (Pool.eta2 y).symm
      show (y 0).val / 512 % 8 * 512 + (y 0).val % 512 = (y 0).val; omega

end

/-- The kernel's array is the reference's result, whenever the arguments agree. -/
theorem algebraic : Cert.algebraic_Kernel7Ideal_Reference7Ideal := by
  intro m ρ m' ρ' _ hag
  refine ⟨fun c => Cert.Reference7Ideal.Read.val_main_v3 (F := Ideal) (m' ((c.tc : Thread _ _).loc Cert.Reference7Ideal.main_arg1)) (m' ((c.tc : Thread _ _).loc Cert.Reference7Ideal.main_arg2)), ?_, ?_⟩
  · exact (θ_run Cert.Kernel7Ideal.defs _ _).mono (fun _ h c => ⟨((h c).1).trans (array m c _ _ (hag c).2.2.symm (hag c).2.1.symm), (h c).2⟩)
      (Cert.Kernel7Ideal.Value.run_blocks (F := Ideal) m ρ)
  · exact (θ_run Cert.Reference7Ideal.defs _ _).mono (fun _ h c => ⟨((h c).1).trans (Cert.Reference7Ideal.Read.val_main_v3_eq _ _), (h c).2⟩)
      (Cert.Reference7Ideal.Value.run (F := Ideal) m' ρ')

end Cert.Proof.Lin.ChunkTokens
-- ==== Proof.lean ====
/- The proof of the certificate's claim: the witnesses of the stated facts, the frames, and the value claims
   (`Claim/Equation.lean`, `Fwd/Equation.lean`, `Pool/Equation.lean` and the modules of `Lin/`) put together. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Claim.Equation
public import proofs.«01_k».proof.Proof.Fwd.Equation
public import proofs.«01_k».proof.Proof.Pool.Equation
public import proofs.«01_k».proof.Proof.Lin.Product
public import proofs.«01_k».proof.Proof.Lin.Tokens
public import proofs.«01_k».proof.Proof.Lin.Weights
public import proofs.«01_k».proof.Proof.Lin.ChunkProduct
public import proofs.«01_k».proof.Proof.Lin.ChunkTokens
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import Idealize.ShloMosaic.Adequacy
public import Idealize.ShloMosaic.Init

@[expose] public section

noncomputable section

namespace Cert.Proof

open Idealize.ShloMosaic Idealize.SL.Sem

/-- The reference runs, keeps its arguments and leaves every semaphore at zero: it declares none. -/
theorem reference_frame : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The forward reference runs, keeps its arguments and leaves every semaphore at zero: it declares none. -/
theorem reference2_frame : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- The pooling reference runs, keeps its arguments and leaves every semaphore at zero: it declares none. -/
theorem reference3_frame : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

/-- The references of the two projections run, keep their arguments and leave every semaphore at zero: they declare none. -/
theorem reference4_frame : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem reference5_frame : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)
theorem reference6_frame : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)
theorem reference7_frame : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem reference8_frame : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The certificate's claim. -/
theorem claim : Cert.Claim :=
  haveI := preFacts
  haveI := Fwd.preFacts
  haveI := Pool.preFacts
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, preFacts, Fwd.preFacts, Pool.preFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ,
    fun m ρ _ => Cert.Kernel2Ideal.Gen.frame m ρ, reference2_frame, fun m ρ _ => reference2_frame m ρ trivial,
    fun m ρ _ => Cert.Kernel3.Gen.frame m ρ, fun m ρ _ => Cert.Kernel3Ideal.Gen.frame m ρ,
    fun m ρ _ => Cert.Kernel3Ideal.Gen.frame m ρ, reference3_frame, fun m ρ _ => reference3_frame m ρ trivial,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    trivial, algebraic, trivial, Fwd.algebraic, trivial, Pool.algebraic, trivial, Lin.Tokens.algebraic,
    trivial, Lin.Weights.algebraic, trivial, Lin.Product.algebraic,
    trivial, Lin.ChunkTokens.algebraic, trivial, Lin.ChunkProduct.algebraic⟩

end Cert.Proof

end
